-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73_0)) (v1 : (c : Dev Cert.KernelIdeal.nD) → Buf (Elt Ideal) ((c.tc : Thread Cert.KernelIdeal.nD Cert.KernelIdeal.τ).loc Cert.KernelIdeal.main_v73_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73_0) = v0 c
          ∧ r.2.mem ((c.tc : Thread Cert.KernelIdeal.nD Cert.KernelIdeal.τ).loc Cert.KernelIdeal.main_v73_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_v115_5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v9) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v59) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v11)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v11) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v58) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v13_0)) (v1 : (c : Dev Cert.Kernel4Ideal.nD) → Buf (Elt Ideal) ((c.tc : Thread Cert.Kernel4Ideal.nD Cert.Kernel4Ideal.τ).loc Cert.Kernel4Ideal.main_v13_1)) (v2 : (c : Dev Cert.Kernel4Ideal.nD) → Buf (Elt Ideal) ((c.tc : Thread Cert.Kernel4Ideal.nD Cert.Kernel4Ideal.τ).loc Cert.Kernel4Ideal.main_v13_2)) (v3 : (c : Dev Cert.Kernel4Ideal.nD) → Buf (Elt Ideal) ((c.tc : Thread Cert.Kernel4Ideal.nD Cert.Kernel4Ideal.τ).loc Cert.Kernel4Ideal.main_v13_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v13_0) = v0 c
          ∧ r.2.mem ((c.tc : Thread Cert.Kernel4Ideal.nD Cert.Kernel4Ideal.τ).loc Cert.Kernel4Ideal.main_v13_1) = v1 c
          ∧ r.2.mem ((c.tc : Thread Cert.Kernel4Ideal.nD Cert.Kernel4Ideal.τ).loc Cert.Kernel4Ideal.main_v13_2) = v2 c
          ∧ r.2.mem ((c.tc : Thread Cert.Kernel4Ideal.nD Cert.Kernel4Ideal.τ).loc Cert.Kernel4Ideal.main_v13_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v36) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_v40) = v2 c
          ∧ r.2.mem ((c.tc : Thread Cert.Reference4Ideal.nD Cert.Reference4Ideal.τ).loc Cert.Reference4Ideal.main_v42) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)) →
    ∃ (v0 : (c : Dev Cert.Kernel5Ideal.nD) → Buf (Elt Ideal) ((c.tc : Thread Cert.Kernel5Ideal.nD Cert.Kernel5Ideal.τ).loc Cert.Kernel5Ideal.main_v31_1)) (v1 : (c : Dev Cert.Kernel5Ideal.nD) → Buf (Elt Ideal) ((c.tc : Thread Cert.Kernel5Ideal.nD Cert.Kernel5Ideal.τ).loc Cert.Kernel5Ideal.main_v31_2)) (v2 : (c : Dev Cert.Kernel5Ideal.nD) → Buf (Elt Ideal) ((c.tc : Thread Cert.Kernel5Ideal.nD Cert.Kernel5Ideal.τ).loc Cert.Kernel5Ideal.main_v31_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v31_1) = v0 c
          ∧ r.2.mem ((c.tc : Thread Cert.Kernel5Ideal.nD Cert.Kernel5Ideal.τ).loc Cert.Kernel5Ideal.main_v31_2) = v1 c
          ∧ r.2.mem ((c.tc : Thread Cert.Kernel5Ideal.nD Cert.Kernel5Ideal.τ).loc Cert.Kernel5Ideal.main_v31_3) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v107) = v0 c
          ∧ r.2.mem ((c.tc : Thread Cert.Reference5Ideal.nD Cert.Reference5Ideal.τ).loc Cert.Reference5Ideal.main_v109) = v1 c
          ∧ r.2.mem ((c.tc : Thread Cert.Reference5Ideal.nD Cert.Reference5Ideal.τ).loc Cert.Reference5Ideal.main_v111) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)) →
    ∃ (v0 : (c : Dev Cert.Kernel6Ideal.nD) → Buf (Elt Ideal) ((c.tc : Thread Cert.Kernel6Ideal.nD Cert.Kernel6Ideal.τ).loc Cert.Kernel6Ideal.main_v37)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v37) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v136) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_inputs.lean ====
abbrev S8x2048x1024 : Shape := ⟨3, ![8, 2048, 1024]⟩
abbrev S8x3x1024 : Shape := ⟨3, ![8, 3, 1024]⟩
abbrev S2x3x1024 : Shape := ⟨3, ![2, 3, 1024]⟩
abbrev S1x1024x6144 : Shape := ⟨3, ![1, 1024, 6144]⟩
abbrev S1x2048x1024 : Shape := ⟨3, ![1, 2048, 1024]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S8x3x1024 : S_.BroadcastsInDim S8x3x1024 (![] : Fin 0 → Fin S8x3x1024.rank)
  reducesTo_S8x3x1024_S_d0_1_2 : S8x3x1024.ReducesTo [0, 1, 2] S_
  bcast_S_S2x3x1024 : S_.BroadcastsInDim S2x3x1024 (![] : Fin 0 → Fin S2x3x1024.rank)
  reducesTo_S2x3x1024_S_d0_1_2 : S2x3x1024.ReducesTo [0, 1, 2] S_
  bcast_S_S1x1024x6144 : S_.BroadcastsInDim S1x1024x6144 (![] : Fin 0 → Fin S1x1024x6144.rank)
  reducesTo_S1x1024x6144_S_d0_1_2 : S1x1024x6144.ReducesTo [0, 1, 2] S_

variable [Facts]

def fn_part1 {F : FTy → Type} [FloatOps F] (main_v13 : IVec S_ 1) (main_v16 : IVec S1x1024x6144 1) : IVec S_ 1 :=
  let main_c_5 : IVec S_ 1 := constantI S_ 1 1#1
  let main_v17 : IVec S_ 1 := (fun x v => Host.reduce IntOp.andi x v reducesTo_S1x1024x6144_S_d0_1_2 h_S_) main_v16 main_c_5
  let main_v18 : IVec S_ 1 := andi main_v13 main_v17
  main_v18

def fn {F : FTy → Type} [FloatOps F] (main_arg0 : FVec F S8x2048x1024 .f32) (main_arg1 : FVec F S8x3x1024 .f32) (main_arg2 : FVec F S2x3x1024 .f32) (main_arg3 : FVec F S2x3x1024 .f32) (main_arg4 : FVec F S1x1024x6144 .f32) (main_arg5 : FVec F S1x2048x1024 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S8x3x1024 .f32 := Host.absf main_arg1
  let main_cst_0 : FVec F S_ .f32 := constant S_ .f32 0x7F800000#32
  let main_v5 : FVec F S8x3x1024 .f32 := broadcastInDim S8x3x1024 ![] bcast_S_S8x3x1024 main_cst_0
  let main_v6 : IVec S8x3x1024 1 := cmpf .olt main_v4 main_v5
  let main_c_1 : IVec S_ 1 := constantI S_ 1 1#1
  let main_v7 : IVec S_ 1 := (fun x v => Host.reduce IntOp.andi x v reducesTo_S8x3x1024_S_d0_1_2 h_S_) main_v6 main_c_1
  let main_v8 : IVec S_ 1 := andi main_v3 main_v7
  let main_v9 : FVec F S2x3x1024 .f32 := Host.absf main_arg2
  let main_cst_2 : FVec F S_ .f32 := constant S_ .f32 0x7F800000#32
  let main_v10 : FVec F S2x3x1024 .f32 := broadcastInDim S2x3x1024 ![] bcast_S_S2x3x1024 main_cst_2
  let main_v11 : IVec S2x3x1024 1 := cmpf .olt main_v9 main_v10
  let main_c_3 : IVec S_ 1 := constantI S_ 1 1#1
  let main_v12 : IVec S_ 1 := (fun x v => Host.reduce IntOp.andi x v reducesTo_S2x3x1024_S_d0_1_2 h_S_) main_v11 main_c_3
  let main_v13 : IVec S_ 1 := andi main_v8 main_v12
  let main_v14 : FVec F S1x1024x6144 .f32 := Host.absf main_arg4
  let main_cst_4 : FVec F S_ .f32 := constant S_ .f32 0x7F800000#32
  let main_v15 : FVec F S1x1024x6144 .f32 := broadcastInDim S1x1024x6144 ![] bcast_S_S1x1024x6144 main_cst_4
  let main_v16 : IVec S1x1024x6144 1 := cmpf .olt main_v14 main_v15
  fn_part1 (F := F) main_v13 main_v16
-- ==== Kernel.lean ====
abbrev S8x2048x1024 : Shape := ⟨3, ![8, 2048, 1024]⟩
abbrev S8x3x1024 : Shape := ⟨3, ![8, 3, 1024]⟩
abbrev S2x3x1024 : Shape := ⟨3, ![2, 3, 1024]⟩
abbrev S1x1024x6144 : Shape := ⟨3, ![1, 1024, 6144]⟩
abbrev S1x2048x1024 : Shape := ⟨3, ![1, 2048, 1024]⟩
abbrev S8x3x1x1024 : Shape := ⟨4, ![8, 3, 1, 1024]⟩
abbrev S1x1x1024 : Shape := ⟨3, ![1, 1, 1024]⟩
abbrev S1024 : Shape := ⟨1, ![1024]⟩
abbrev S1x1024 : Shape := ⟨2, ![1, 1024]⟩
abbrev S1024x6144 : Shape := ⟨2, ![1024, 6144]⟩
abbrev S2048x1024 : Shape := ⟨2, ![2048, 1024]⟩
abbrev S2048 : Shape := ⟨1, ![2048]⟩
abbrev S128 : Shape := ⟨1, ![128]⟩
abbrev S_ : Shape := ⟨0, ![]⟩
abbrev S2048x1 : Shape := ⟨2, ![2048, 1]⟩
abbrev S1x128 : Shape := ⟨2, ![1, 128]⟩
abbrev S2048x128 : Shape := ⟨2, ![2048, 128]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S8x4x256x512 : Shape := ⟨4, ![8, 4, 256, 512]⟩
abbrev S1x512x1024 : Shape := ⟨3, ![1, 512, 1024]⟩
abbrev S1x3x1x1024 : Shape := ⟨4, ![1, 3, 1, 1024]⟩
abbrev S512x128 : Shape := ⟨2, ![512, 128]⟩
abbrev S1x4x256x512 : Shape := ⟨4, ![1, 4, 256, 512]⟩
abbrev S512x2048 : Shape := ⟨2, ![512, 2048]⟩
abbrev S512x1024 : Shape := ⟨2, ![512, 1024]⟩
abbrev S512 : Shape := ⟨1, ![512]⟩
abbrev S512x1 : Shape := ⟨2, ![512, 1]⟩
abbrev S1x1x1x1024 : Shape := ⟨4, ![1, 1, 1, 1024]⟩
abbrev S1024x256 : Shape := ⟨2, ![1024, 256]⟩
abbrev S512x256 : Shape := ⟨2, ![512, 256]⟩
abbrev S1024x512 : Shape := ⟨2, ![1024, 512]⟩
abbrev S512x512 : Shape := ⟨2, ![512, 512]⟩
abbrev S256x512 : Shape := ⟨2, ![256, 512]⟩
abbrev S1x1x256x512 : Shape := ⟨4, ![1, 1, 256, 512]⟩
abbrev S1x256x1 : Shape := ⟨3, ![1, 256, 1]⟩
abbrev S1 : Shape := ⟨1, ![1]⟩

abbrev nBuf : Space → Nat
  | .hbm => 95
  | .vmem => 20
  | .smem => 1
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S2x3x1024, .f32⟩
  | .hbm, ⟨3, _⟩ => ⟨S2x3x1024, .f32⟩
  | .hbm, ⟨4, _⟩ => ⟨S1x1024x6144, .f32⟩
  | .hbm, ⟨5, _⟩ => ⟨S1x2048x1024, .f32⟩
  | .hbm, ⟨6, _⟩ => ⟨S8x3x1x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S1x1024x6144, .bf16⟩
  | .hbm, ⟨14, _⟩ => ⟨S1024x6144, .bf16⟩
  | .hbm, ⟨15, _⟩ => ⟨S1x2048x1024, .bf16⟩
  | .hbm, ⟨16, _⟩ => ⟨S2048x1024, .bf16⟩
  | .hbm, ⟨17, _⟩ => ⟨S2048, .f32⟩
  | .hbm, ⟨18, _⟩ => ⟨S128, .f32⟩
  | .hbm, ⟨19, _⟩ => ⟨S128, .f32⟩
  | .hbm, ⟨20, _⟩ => ⟨S_, .f32⟩
  | .hbm, ⟨21, _⟩ => ⟨S128, .f32⟩
  | .hbm, ⟨22, _⟩ => ⟨S128, .f32⟩
  | .hbm, ⟨23, _⟩ => ⟨S_, .f32⟩
  | .hbm, ⟨24, _⟩ => ⟨S128, .f32⟩
  | .hbm, ⟨25, _⟩ => ⟨S128, .f32⟩
  | .hbm, ⟨26, _⟩ => ⟨S2048x1, .f32⟩
  | .hbm, ⟨27, _⟩ => ⟨S1x128, .f32⟩
  | .hbm, ⟨28, _⟩ => ⟨S2048x128, .f32⟩
  | .hbm, ⟨29, _⟩ => ⟨S2048x128, .f32⟩
  | .hbm, ⟨30, _⟩ => ⟨S2048x128, .f32⟩
  | .hbm, ⟨31, _⟩ => ⟨S2048x128, .f32⟩
  | .hbm, ⟨32, _⟩ => ⟨S2048x128, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S4, .f32⟩
  | .hbm, ⟨39, _⟩ => ⟨S4, .f32⟩
  | .hbm, ⟨40, _⟩ => ⟨S4, .f32⟩
  | .hbm, ⟨41, _⟩ => ⟨S_, .f32⟩
  | .hbm, ⟨42, _⟩ => ⟨S4, .f32⟩
  | .hbm, ⟨43, _⟩ => ⟨S4, .f32⟩
  | .hbm, ⟨44, _⟩ => ⟨S4, .f32⟩
  | .hbm, ⟨45, _⟩ => ⟨S256, .f32⟩
  | .hbm, ⟨46, _⟩ => ⟨S256x1, .f32⟩
  | .hbm, ⟨47, _⟩ => ⟨S1x256, .f32⟩
  | .hbm, ⟨48, _⟩ => ⟨S256x256, .f32⟩
  | .hbm, ⟨49, _⟩ => ⟨S256x256, .f32⟩
  | .hbm, ⟨50, _⟩ => ⟨S256x256, .f32⟩
  | .hbm, ⟨51, _⟩ => ⟨S1x256x256, .f32⟩
  | .hbm, ⟨52, _⟩ => ⟨S_, .f32⟩
  | .hbm, ⟨53, _⟩ => ⟨S1x256x256, .f32⟩
  | .hbm, ⟨54, _⟩ => ⟨S1x256x256, .i1⟩
  | .hbm, ⟨55, _⟩ => ⟨S_, .f32⟩
  | .hbm, ⟨56, _⟩ => ⟨S256x256, .f32⟩
  | .hbm, ⟨57, _⟩ => ⟨S256x256, .f32⟩
  | .hbm, ⟨58, _⟩ => ⟨S1x256x256, .f32⟩
  | .hbm, ⟨59, _⟩ => ⟨S4x1x1, .f32⟩
  | .hbm, ⟨60, _⟩ => ⟨S4x256x256, .f32⟩
  | .hbm, ⟨61, _⟩ => ⟨S4x256x256, .f32⟩
  | .hbm, ⟨62, _⟩ => ⟨S4x256x256, .f32⟩
  | .hbm, ⟨63, _⟩ => ⟨S4x256x256, .f32⟩
  | .hbm, ⟨64, _⟩ => ⟨S_, .f32⟩
  | .hbm, ⟨65, _⟩ => ⟨S_, .f32⟩
  | .hbm, ⟨66, _⟩ => ⟨S4x256x256, .i1⟩
  | .hbm, ⟨67, _⟩ => ⟨S4x256x256, .f32⟩
  | .hbm, ⟨68, _⟩ => ⟨S4x256x256, .f32⟩
  | .hbm, ⟨69, _⟩ => ⟨S1x256, .f32⟩
  | .hbm, ⟨70, _⟩ => ⟨S_, .f32⟩
  | .hbm, ⟨71, _⟩ => ⟨S1x256, .f32⟩
  | .hbm, ⟨72, _⟩ => ⟨S1x256, .f32⟩
  | .hbm, ⟨73, _⟩ => ⟨S4x1, .f32⟩
  | .hbm, ⟨74, _⟩ => ⟨S4x256, .f32⟩
  | .hbm, ⟨75, _⟩ => ⟨S4x256, .f32⟩
  | .hbm, ⟨76, _⟩ => ⟨S4x256, .f32⟩
  | .hbm, ⟨77, _⟩ => ⟨S4x256, .f32⟩
  | .hbm, ⟨78, _⟩ => ⟨S4x256x1, .f32⟩
  | .hbm, ⟨79, _⟩ => ⟨S_, .f32⟩
  | .hbm, ⟨80, _⟩ => ⟨S256, .f32⟩
  | .hbm, ⟨81, _⟩ => ⟨S256, .f32⟩
  | .hbm, ⟨82, _⟩ => ⟨S1x256, .f32⟩
  | .hbm, ⟨83, _⟩ => ⟨S4x1, .f32⟩
  | .hbm, ⟨84, _⟩ => ⟨S4x256, .f32⟩
  | .hbm, ⟨85, _⟩ => ⟨S4x256, .f32⟩
  | .hbm, ⟨86, _⟩ => ⟨S4x256, .f32⟩
  | .hbm, ⟨87, _⟩ => ⟨S4x256, .f32⟩
  | .hbm, ⟨88, _⟩ => ⟨S4x256x1, .f32⟩
  | .hbm, ⟨89, _⟩ => ⟨S_, .f32⟩
  | .hbm, ⟨90, _⟩ => ⟨S4, .f32⟩
  | .hbm, ⟨91, _⟩ => ⟨S4, .f32⟩
  | .hbm, ⟨92, _⟩ => ⟨S4, .f32⟩
  | .hbm, ⟨93, _⟩ => ⟨S8x2048x1024, .f32⟩
  | .hbm, ⟨94, _⟩ => ⟨S8x4x256x512, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1x1024, .f32⟩
  | .local _ .vmem, ⟨3, _⟩ => ⟨S1x3x1x1024, .f32⟩
  | .local _ .vmem, ⟨4, _⟩ => ⟨S1x1024, .f32⟩
  | .local _ .vmem, ⟨5, _⟩ => ⟨S1x1024, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1024x6144, .bf16⟩
  | .local _ .vmem, ⟨11, _⟩ => ⟨S2048x1024, .bf16⟩
  | .local _ .vmem, ⟨12, _⟩ => ⟨S4x256x256, .f32⟩
  | .local _ .vmem, ⟨13, _⟩ => ⟨S4x256x1, .f32⟩
  | .local _ .vmem, ⟨14, _⟩ => ⟨S4x256x1, .f32⟩
  | .local _ .vmem, ⟨15, _⟩ => ⟨S1x512x1024, .f32⟩
  | .local _ .vmem, ⟨16, _⟩ => ⟨S1x512x1024, .f32⟩
  | .local _ .vmem, ⟨17, _⟩ => ⟨S1x4x256x512, .f32⟩
  | .local _ .vmem, ⟨18, _⟩ => ⟨S1x4x256x512, .f32⟩
  | .local _ .vmem, ⟨19, _⟩ => ⟨S512x2048, .bf16⟩
  | .local _ .smem, ⟨0, _⟩ => ⟨S4, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_cst_4 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_call0_v0 : Ref sig .tc := ⟨.hbm, 65, rfl⟩
abbrev main_call0_v1 : Ref sig .tc := ⟨.hbm, 66, rfl⟩
abbrev main_call0_v2 : Ref sig .tc := ⟨.hbm, 67, rfl⟩
abbrev main_v51 : Ref sig .tc := ⟨.hbm, 68, rfl⟩
abbrev main_v52 : Ref sig .tc := ⟨.hbm, 69, rfl⟩
abbrev main_cst_7 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_cst_9 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73_0 : Ref sig .tc := ⟨.hbm, 93, rfl⟩
abbrev main_v73_1 : Ref sig .tc := ⟨.hbm, 94, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem12_1 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨2, ![8, 4], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x6144 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S2048x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S4x256x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S4x256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== ReferenceIdeal.lean ====
abbrev S8x2048x1024 : Shape := ⟨3, ![8, 2048, 1024]⟩
abbrev S8x3x1024 : Shape := ⟨3, ![8, 3, 1024]⟩
abbrev S2x3x1024 : Shape := ⟨3, ![2, 3, 1024]⟩
abbrev S1x1024x6144 : Shape := ⟨3, ![1, 1024, 6144]⟩
abbrev S1x2048x1024 : Shape := ⟨3, ![1, 2048, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S8x1x1024 : Shape := ⟨3, ![8, 1, 1024]⟩
abbrev S8x1024 : Shape := ⟨2, ![8, 1024]⟩
abbrev S1024x6144 : Shape := ⟨2, ![1024, 6144]⟩
abbrev S2048x1024 : Shape := ⟨2, ![2048, 1024]⟩
abbrev S8x2048x6144 : Shape := ⟨3, ![8, 2048, 6144]⟩
abbrev S8x2048x2048 : Shape := ⟨3, ![8, 2048, 2048]⟩
abbrev S2048 : Shape := ⟨1, ![2048]⟩
abbrev S8x2048x4x256 : Shape := ⟨4, ![8, 2048, 4, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S8x2048x4x128 : Shape := ⟨4, ![8, 2048, 4, 128]⟩
abbrev S8x2048x4x512 : Shape := ⟨4, ![8, 2048, 4, 512]⟩
abbrev S4 : Shape := ⟨1, ![4]⟩
abbrev S8x4x256x512 : Shape := ⟨4, ![8, 4, 256, 512]⟩
abbrev S8x16x128x4x256 : Shape := ⟨5, ![8, 16, 128, 4, 256]⟩
abbrev S16x8x128x4x256 : Shape := ⟨5, ![16, 8, 128, 4, 256]⟩
abbrev S8x16x128x4x512 : Shape := ⟨5, ![8, 16, 128, 4, 512]⟩
abbrev S16x8x128x4x512 : Shape := ⟨5, ![16, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S128x1 : Shape := ⟨2, ![128, 1]⟩
abbrev S128x128 : Shape := ⟨2, ![128, 128]⟩
abbrev S1x128x128 : Shape := ⟨3, ![1, 128, 128]⟩
abbrev S4x1x1 : Shape := ⟨3, ![4, 1, 1]⟩
abbrev S4x128x128 : Shape := ⟨3, ![4, 128, 128]⟩
abbrev S8x4x128x128 : Shape := ⟨4, ![8, 4, 128, 128]⟩
abbrev S1x4x128x128 : Shape := ⟨4, ![1, 4, 128, 128]⟩
abbrev S8x4x512x128 : Shape := ⟨4, ![8, 4, 512, 128]⟩
abbrev S1x4 : Shape := ⟨2, ![1, 4]⟩
abbrev S128x4 : Shape := ⟨2, ![128, 4]⟩
abbrev S1x128x4x1 : Shape := ⟨4, ![1, 128, 4, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩

abbrev nBuf : Space → Nat
  | .hbm => 302
  | .vmem => 0
  | .smem => 0
  | _ => 0

abbrev hbmTy0_0 (i : Nat) : BufTy := match i % 128 with
  | 0 => ⟨S8x2048x1024, .f32⟩
  | 1 => ⟨S8x3x1024, .f32⟩
  | 2 => ⟨S2x3x1024, .f32⟩
  | 3 => ⟨S2x3x1024, .f32⟩
  | 4 => ⟨S1x1024x6144, .f32⟩
  | 5 => ⟨S1x2048x1024, .f32⟩
  | 6 => ⟨S1x1x1024, .f32⟩
  | 7 => ⟨S1024, .f32⟩
  | 8 => ⟨S8x2048x1024, .f32⟩
  | 9 => ⟨S_, .f32⟩
  | 10 => ⟨S8x2048, .f32⟩
  | 11 => ⟨S8x2048x1, .f32⟩
  | 12 => ⟨S_, .f32⟩
  | 13 => ⟨S8x2048x1, .f32⟩
  | 14 => ⟨S8x2048x1, .f32⟩
  | 15 => ⟨S_, .f32⟩
  | 16 => ⟨S8x2048x1, .f32⟩
  | 17 => ⟨S8x2048x1, .f32⟩
  | 18 => ⟨S8x2048x1, .f32⟩
  | 19 => ⟨S8x2048x1024, .f32⟩
  | 20 => ⟨S8x2048x1024, .f32⟩
  | 21 => ⟨S1x1x1024, .f32⟩
  | 22 => ⟨S8x2048x1024, .f32⟩
  | 23 => ⟨S8x2048x1024, .f32⟩
  | 24 => ⟨S8x1x1024, .f32⟩
  | 25 => ⟨S8x1024, .f32⟩
  | 26 => ⟨S8x1x1024, .f32⟩
  | 27 => ⟨S_, .f32⟩
  | 28 => ⟨S8x1x1024, .f32⟩
  | 29 => ⟨S8x1x1024, .f32⟩
  | 30 => ⟨S8x2048x1024, .f32⟩
  | 31 => ⟨S8x2048x1024, .f32⟩
  | 32 => ⟨S8x1x1024, .f32⟩
  | 33 => ⟨S8x1024, .f32⟩
  | 34 => ⟨S8x1x1024, .f32⟩
  | 35 => ⟨S8x2048x1024, .f32⟩
  | 36 => ⟨S8x2048x1024, .f32⟩
  | 37 => ⟨S1024x6144, .f32⟩
  | 38 => ⟨S2048x1024, .f32⟩
  | 39 => ⟨S8x2048x6144, .f32⟩
  | 40 => ⟨S8x2048x1024, .f32⟩
  | 41 => ⟨S8x2048x1024, .f32⟩
  | 42 => ⟨S8x2048x2048, .f32⟩
  | 43 => ⟨S8x2048x2048, .f32⟩
  | 44 => ⟨S2048, .f32⟩
  | 45 => ⟨S_, .f32⟩
  | 46 => ⟨S2048, .f32⟩
  | 47 => ⟨S2048, .f32⟩
  | 48 => ⟨S8x2048x4x256, .f32⟩
  | 49 => ⟨S128, .f32⟩
  | 50 => ⟨S128, .f32⟩
  | 51 => ⟨S_, .f32⟩
  | 52 => ⟨S128, .f32⟩
  | 53 => ⟨S128, .f32⟩
  | 54 => ⟨S_, .f32⟩
  | 55 => ⟨S128, .f32⟩
  | 56 => ⟨S128, .f32⟩
  | 57 => ⟨S2048x1, .f32⟩
  | 58 => ⟨S1x128, .f32⟩
  | 59 => ⟨S2048x128, .f32⟩
  | 60 => ⟨S2048x128, .f32⟩
  | 61 => ⟨S2048x128, .f32⟩
  | 62 => ⟨S2048x128, .f32⟩
  | 63 => ⟨S1x2048x1x128, .f32⟩
  | 64 => ⟨S2048x128, .f32⟩
  | 65 => ⟨S1x2048x1x128, .f32⟩
  | 66 => ⟨S8x2048x4x128, .f32⟩
  | 67 => ⟨S8x2048x4x128, .f32⟩
  | 68 => ⟨S8x2048x4x128, .f32⟩
  | 69 => ⟨S8x2048x4x128, .f32⟩
  | 70 => ⟨S8x2048x4x128, .f32⟩
  | 71 => ⟨S8x2048x4x128, .f32⟩
  | 72 => ⟨S8x2048x4x128, .f32⟩
  | 73 => ⟨S8x2048x4x128, .f32⟩
  | 74 => ⟨S8x2048x4x128, .f32⟩
  | 75 => ⟨S8x2048x4x128, .f32⟩
  | 76 => ⟨S8x2048x4x128, .f32⟩
  | 77 => ⟨S8x2048x4x128, .f32⟩
  | 78 => ⟨S8x2048x4x256, .f32⟩
  | 79 => ⟨S8x2048x4x256, .f32⟩
  | 80 => ⟨S128, .f32⟩
  | 81 => ⟨S128, .f32⟩
  | 82 => ⟨S_, .f32⟩
  | 83 => ⟨S128, .f32⟩
  | 84 => ⟨S128, .f32⟩
  | 85 => ⟨S_, .f32⟩
  | 86 => ⟨S128, .f32⟩
  | 87 => ⟨S128, .f32⟩
  | 88 => ⟨S2048x1, .f32⟩
  | 89 => ⟨S1x128, .f32⟩
  | 90 => ⟨S2048x128, .f32⟩
  | 91 => ⟨S2048x128, .f32⟩
  | 92 => ⟨S2048x128, .f32⟩
  | 93 => ⟨S2048x128, .f32⟩
  | 94 => ⟨S1x2048x1x128, .f32⟩
  | 95 => ⟨S2048x128, .f32⟩
  | 96 => ⟨S1x2048x1x128, .f32⟩
  | 97 => ⟨S8x2048x4x128, .f32⟩
  | 98 => ⟨S8x2048x4x128, .f32⟩
  | 99 => ⟨S8x2048x4x128, .f32⟩
  | 100 => ⟨S8x2048x4x128, .f32⟩
  | 101 => ⟨S8x2048x4x128, .f32⟩
  | 102 => ⟨S8x2048x4x128, .f32⟩
  | 103 => ⟨S8x2048x4x128, .f32⟩
  | 104 => ⟨S8x2048x4x128, .f32⟩
  | 105 => ⟨S8x2048x4x128, .f32⟩
  | 106 => ⟨S8x2048x4x128, .f32⟩
  | 107 => ⟨S8x2048x4x128, .f32⟩
  | 108 => ⟨S8x2048x4x128, .f32⟩
  | 109 => ⟨S8x2048x4x256, .f32⟩
  | 110 => ⟨S_, .f32⟩
  | 111 => ⟨S8x2048x4x256, .f32⟩
  | 112 => ⟨S8x2048x4x256, .f32⟩
  | 113 => ⟨S8x2048x4x512, .f32⟩
  | 114 => ⟨S4, .f32⟩
  | 115 => ⟨S_, .f32⟩
  | 116 => ⟨S4, .f32⟩
  | 117 => ⟨S4, .f32⟩
  | 118 => ⟨S_, .f32⟩
  | 119 => ⟨S4, .f32⟩
  | 120 => ⟨S4, .f32⟩
  | 121 => ⟨S4, .f32⟩
  | 122 => ⟨S_, .f32⟩
  | 123 => ⟨S4, .f32⟩
  | 124 => ⟨S4, .f32⟩
  | 125 => ⟨S4, .f32⟩
  | 126 => ⟨S_, .f32⟩
  | 127 => ⟨S8x4x256x512, .f32⟩
  | _ => ⟨S8x2048x1024, .f32⟩

abbrev hbmTy0_1 (i : Nat) : BufTy := match i % 128 with
  | 0 => ⟨S8x16x128x4x256, .f32⟩
  | 1 => ⟨S16x8x128x4x256, .f32⟩
  | 2 => ⟨S8x16x128x4x256, .f32⟩
  | 3 => ⟨S16x8x128x4x256, .f32⟩
  | 4 => ⟨S8x16x128x4x512, .f32⟩
  | 5 => ⟨S16x8x128x4x512, .f32⟩
  | 6 => ⟨S_, .f32⟩
  | 7 => ⟨S16x8x128x4x512, .f32⟩
  | 8 => ⟨S_, .i32⟩
  | 9 => ⟨S16x8x128x4x256, .f32⟩
  | 10 => ⟨S16x8x128x4x256, .f32⟩
  | 11 => ⟨S16x8x128x4x512, .f32⟩
  | 12 => ⟨S4, .f32⟩
  | 13 => ⟨S_, .i32⟩
  | 14 => ⟨S8x4x256x512, .f32⟩
  | 15 => ⟨S16x8x128x4x512, .f32⟩
  | 16 => ⟨S_, .i32⟩
  | 17 => ⟨S_, .i1⟩
  | 18 => ⟨S_, .i32⟩
  | 19 => ⟨S_, .i32⟩
  | 20 => ⟨S_, .i32⟩
  | 21 => ⟨S_, .i32⟩
  | 22 => ⟨S1x8x128x4x256, .f32⟩
  | 23 => ⟨S8x128x4x256, .f32⟩
  | 24 => ⟨S_, .i32⟩
  | 25 => ⟨S_, .i32⟩
  | 26 => ⟨S_, .i32⟩
  | 27 => ⟨S_, .i32⟩
  | 28 => ⟨S1x8x128x4x256, .f32⟩
  | 29 => ⟨S8x128x4x256, .f32⟩
  | 30 => ⟨S_, .i32⟩
  | 31 => ⟨S_, .i32⟩
  | 32 => ⟨S_, .i32⟩
  | 33 => ⟨S_, .i32⟩
  | 34 => ⟨S1x8x128x4x512, .f32⟩
  | 35 => ⟨S8x128x4x512, .f32⟩
  | 36 => ⟨S128, .f32⟩
  | 37 => ⟨S128x1, .f32⟩
  | 38 => ⟨S1x128, .f32⟩
  | 39 => ⟨S128x128, .f32⟩
  | 40 => ⟨S128x128, .f32⟩
  | 41 => ⟨S128x128, .f32⟩
  | 42 => ⟨S1x128x128, .f32⟩
  | 43 => ⟨S_, .f32⟩
  | 44 => ⟨S1x128x128, .f32⟩
  | 45 => ⟨S1x128x128, .i1⟩
  | 46 => ⟨S_, .f32⟩
  | 47 => ⟨S128x128, .f32⟩
  | 48 => ⟨S128x128, .f32⟩
  | 49 => ⟨S1x128x128, .f32⟩
  | 50 => ⟨S4x1x1, .f32⟩
  | 51 => ⟨S4x128x128, .f32⟩
  | 52 => ⟨S4x128x128, .f32⟩
  | 53 => ⟨S4x128x128, .f32⟩
  | 54 => ⟨S4x128x128, .f32⟩
  | 55 => ⟨S_, .f32⟩
  | 56 => ⟨S_, .f32⟩
  | 57 => ⟨S4x128x128, .i1⟩
  | 58 => ⟨S4x128x128, .f32⟩
  | 59 => ⟨S4x128x128, .f32⟩
  | 60 => ⟨S8x4x128x128, .f32⟩
  | 61 => ⟨S1x4x128x128, .f32⟩
  | 62 => ⟨S8x4x128x128, .f32⟩
  | 63 => ⟨S8x4x128x128, .f32⟩
  | 64 => ⟨S8x4x512x128, .f32⟩
  | 65 => ⟨S8x128x4x512, .f32⟩
  | 66 => ⟨S8x4x512x128, .f32⟩
  | 67 => ⟨S8x128x4x512, .f32⟩
  | 68 => ⟨S128x1, .f32⟩
  | 69 => ⟨S_, .f32⟩
  | 70 => ⟨S128x1, .f32⟩
  | 71 => ⟨S128x1, .f32⟩
  | 72 => ⟨S1x4, .f32⟩
  | 73 => ⟨S128x4, .f32⟩
  | 74 => ⟨S128x4, .f32⟩
  | 75 => ⟨S128x4, .f32⟩
  | 76 => ⟨S128x4, .f32⟩
  | 77 => ⟨S1x128x4x1, .f32⟩
  | 78 => ⟨S8x128x4x512, .f32⟩
  | 79 => ⟨S8x128x4x512, .f32⟩
  | 80 => ⟨S_, .f32⟩
  | 81 => ⟨S128, .f32⟩
  | 82 => ⟨S128, .f32⟩
  | 83 => ⟨S128x1, .f32⟩
  | 84 => ⟨S1x4, .f32⟩
  | 85 => ⟨S128x4, .f32⟩
  | 86 => ⟨S128x4, .f32⟩
  | 87 => ⟨S128x4, .f32⟩
  | 88 => ⟨S128x4, .f32⟩
  | 89 => ⟨S1x128x4x1, .f32⟩
  | 90 => ⟨S8x128x4x256, .f32⟩
  | 91 => ⟨S8x128x4x256, .f32⟩
  | 92 => ⟨S_, .f32⟩
  | 93 => ⟨S4, .f32⟩
  | 94 => ⟨S4, .f32⟩
  | 95 => ⟨S4, .f32⟩
  | 96 => ⟨S1x4x1x1, .f32⟩
  | 97 => ⟨S8x4x256x512, .f32⟩
  | 98 => ⟨S8x4x256x512, .f32⟩
  | 99 => ⟨S8x4x256x512, .f32⟩
  | 100 => ⟨S8x4x256x512, .f32⟩
  | 101 => ⟨S8x128x4x512, .f32⟩
  | 102 => ⟨S1x8x128x4x512, .f32⟩
  | 103 => ⟨S_, .i32⟩
  | 104 => ⟨S_, .i32⟩
  | 105 => ⟨S_, .i32⟩
  | 106 => ⟨S_, .i32⟩
  | 107 => ⟨S16x8x128x4x512, .f32⟩
  | 108 => ⟨S_, .i32⟩
  | 109 => ⟨S_, .i32⟩
  | 110 => ⟨S8x16x128x4x512, .f32⟩
  | 111 => ⟨S8x2048x4x512, .f32⟩
  | 112 => ⟨S_, .f32⟩
  | 113 => ⟨S8x2048x4, .f32⟩
  | 114 => ⟨S8x2048x4x1, .f32⟩
  | 115 => ⟨S_, .f32⟩
  | 116 => ⟨S8x2048x4x1, .f32⟩
  | 117 => ⟨S8x2048x4x1, .f32⟩
  | 118 => ⟨S8x2048x4x512, .f32⟩
  | 119 => ⟨S8x2048x4x512, .f32⟩
  | 120 => ⟨S8x2048x4x512, .f32⟩
  | 121 => ⟨S_, .f32⟩
  | 122 => ⟨S8x2048x4, .f32⟩
  | 123 => ⟨S8x2048x4x1, .f32⟩
  | 124 => ⟨S_, .f32⟩
  | 125 => ⟨S8x2048x4x1, .f32⟩
  | 126 => ⟨S8x2048x4x1, .f32⟩
  | 127 => ⟨S8x2048x4x512, .f32⟩
  | _ => ⟨S8x2048x1024, .f32⟩

abbrev hbmTy0_2 (i : Nat) : BufTy := match i % 128 with
  | 0 => ⟨S8x2048x4x512, .f32⟩
  | 1 => ⟨S_, .f32⟩
  | 2 => ⟨S8x2048x4x1, .f32⟩
  | 3 => ⟨S8x2048x4x1, .f32⟩
  | 4 => ⟨S8x2048x4x1, .f32⟩
  | 5 => ⟨S8x2048x4x512, .f32⟩
  | 6 => ⟨S8x2048x4x512, .f32⟩
  | 7 => ⟨S8x2048x2048, .f32⟩
  | 8 => ⟨S8x2048x2048, .f32⟩
  | 9 => ⟨S8x2048x2048, .f32⟩
  | 10 => ⟨S_, .f32⟩
  | 11 => ⟨S8x2048x2048, .f32⟩
  | 12 => ⟨S8x2048x2048, .f32⟩
  | 13 => ⟨S_, .f32⟩
  | 14 => ⟨S8x2048x2048, .f32⟩
  | 15 => ⟨S8x2048x2048, .f32⟩
  | 16 => ⟨S8x2048x2048, .f32⟩
  | 17 => ⟨S8x2048x2048, .f32⟩
  | 18 => ⟨S8x2048x1024, .f32⟩
  | 19 => ⟨S1x1x1024, .f32⟩
  | 20 => ⟨S1024, .f32⟩
  | 21 => ⟨S8x1x1024, .f32⟩
  | 22 => ⟨S8x1024, .f32⟩
  | 23 => ⟨S8x1x1024, .f32⟩
  | 24 => ⟨S_, .f32⟩
  | 25 => ⟨S8x1x1024, .f32⟩
  | 26 => ⟨S8x1x1024, .f32⟩
  | 27 => ⟨S8x2048x1024, .f32⟩
  | 28 => ⟨S_, .f32⟩
  | 29 => ⟨S8x2048, .f32⟩
  | 30 => ⟨S8x2048x1, .f32⟩
  | 31 => ⟨S_, .f32⟩
  | 32 => ⟨S8x2048x1, .f32⟩
  | 33 => ⟨S8x2048x1, .f32⟩
  | 34 => ⟨S_, .f32⟩
  | 35 => ⟨S8x2048x1, .f32⟩
  | 36 => ⟨S8x2048x1, .f32⟩
  | 37 => ⟨S8x2048x1, .f32⟩
  | 38 => ⟨S8x2048x1024, .f32⟩
  | 39 => ⟨S8x2048x1024, .f32⟩
  | 40 => ⟨S1x1x1024, .f32⟩
  | 41 => ⟨S8x2048x1024, .f32⟩
  | 42 => ⟨S8x2048x1024, .f32⟩
  | 43 => ⟨S8x2048x1024, .f32⟩
  | 44 => ⟨S8x2048x1024, .f32⟩
  | 45 => ⟨S8x2048x1024, .f32⟩
  | _ => ⟨S8x2048x1024, .f32⟩

abbrev hbmTy (i : Nat) : BufTy := match i / 128 with
  | 0 => hbmTy0_0 i
  | 1 => hbmTy0_1 i
  | 2 => hbmTy0_2 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_3 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_cst_5 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_v68 : Ref sig .tc := ⟨.hbm, 81, rfl⟩
abbrev main_cst_6 : Ref sig .tc := ⟨.hbm, 82, rfl⟩
abbrev main_v69 : Ref sig .tc := ⟨.hbm, 83, rfl⟩
abbrev main_v70 : Ref sig .tc := ⟨.hbm, 84, rfl⟩
abbrev main_cst_7 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_cst_8 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_cst_9 : Ref sig .tc := ⟨.hbm, 115, rfl⟩
abbrev main_v99 : Ref sig .tc := ⟨.hbm, 116, rfl⟩
abbrev main_v100 : Ref sig .tc := ⟨.hbm, 117, rfl⟩
abbrev main_cst_10 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_cst_11 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_cst_12 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_13 : Ref sig .tc := ⟨.hbm, 134, rfl⟩
abbrev main_v114 : Ref sig .tc := ⟨.hbm, 135, rfl⟩
abbrev main_c : Ref sig .tc := ⟨.hbm, 136, rfl⟩
abbrev main_v115_0 : Ref sig .tc := ⟨.hbm, 137, rfl⟩
abbrev main_v115_1 : Ref sig .tc := ⟨.hbm, 138, rfl⟩
abbrev main_v115_2 : Ref sig .tc := ⟨.hbm, 139, rfl⟩
abbrev main_v115_3 : Ref sig .tc := ⟨.hbm, 140, rfl⟩
abbrev main_v115_4 : Ref sig .tc := ⟨.hbm, 141, rfl⟩
abbrev main_v115_5 : Ref sig .tc := ⟨.hbm, 142, rfl⟩
abbrev main_v115_6 : Ref sig .tc := ⟨.hbm, 143, rfl⟩
abbrev main_while0c_c_29 : Ref sig .tc := ⟨.hbm, 144, rfl⟩
abbrev main_while0c_v163 : Ref sig .tc := ⟨.hbm, 145, rfl⟩
abbrev main_while0b_call0_c : Ref sig .tc := ⟨.hbm, 146, rfl⟩
abbrev main_while0b_call0_c_0 : Ref sig .tc := ⟨.hbm, 147, rfl⟩
abbrev main_while0b_call0_c_1 : Ref sig .tc := ⟨.hbm, 148, rfl⟩
abbrev main_while0b_call0_c_2 : Ref sig .tc := ⟨.hbm, 149, rfl⟩
abbrev main_while0b_call0_v0 : Ref sig .tc := ⟨.hbm, 150, rfl⟩
abbrev main_while0b_v163 : Ref sig .tc := ⟨.hbm, 151, rfl⟩
abbrev main_while0b_call1_c : Ref sig .tc := ⟨.hbm, 152, rfl⟩
abbrev main_while0b_call1_c_0 : Ref sig .tc := ⟨.hbm, 153, rfl⟩
abbrev main_while0b_call1_c_1 : Ref sig .tc := ⟨.hbm, 154, rfl⟩
abbrev main_while0b_call1_c_2 : Ref sig .tc := ⟨.hbm, 155, rfl⟩
abbrev main_while0b_call1_v0 : Ref sig .tc := ⟨.hbm, 156, rfl⟩
abbrev main_while0b_v164 : Ref sig .tc := ⟨.hbm, 157, rfl⟩
abbrev main_while0b_call2_c : Ref sig .tc := ⟨.hbm, 158, rfl⟩
abbrev main_while0b_call2_c_0 : Ref sig .tc := ⟨.hbm, 159, rfl⟩
abbrev main_while0b_call2_c_1 : Ref sig .tc := ⟨.hbm, 160, rfl⟩
abbrev main_while0b_call2_c_2 : Ref sig .tc := ⟨.hbm, 161, rfl⟩
abbrev main_while0b_call2_v0 : Ref sig .tc := ⟨.hbm, 162, rfl⟩
abbrev main_while0b_v165 : Ref sig .tc := ⟨.hbm, 163, rfl⟩
abbrev main_while0b_v166 : Ref sig .tc := ⟨.hbm, 164, rfl⟩
abbrev main_while0b_v167 : Ref sig .tc := ⟨.hbm, 165, rfl⟩
abbrev main_while0b_v168 : Ref sig .tc := ⟨.hbm, 166, rfl⟩
abbrev main_while0b_v169 : Ref sig .tc := ⟨.hbm, 167, rfl⟩
abbrev main_while0b_v170 : Ref sig .tc := ⟨.hbm, 168, rfl⟩
abbrev main_while0b_v171 : Ref sig .tc := ⟨.hbm, 169, rfl⟩
abbrev main_while0b_v172 : Ref sig .tc := ⟨.hbm, 170, rfl⟩
abbrev main_while0b_cst_29 : Ref sig .tc := ⟨.hbm, 171, rfl⟩
abbrev main_while0b_v173 : Ref sig .tc := ⟨.hbm, 172, rfl⟩
abbrev main_while0b_v174 : Ref sig .tc := ⟨.hbm, 173, rfl⟩
abbrev main_while0b_cst_30 : Ref sig .tc := ⟨.hbm, 174, rfl⟩
abbrev main_while0b_v175 : Ref sig .tc := ⟨.hbm, 175, rfl⟩
abbrev main_while0b_v176 : Ref sig .tc := ⟨.hbm, 176, rfl⟩
abbrev main_while0b_v177 : Ref sig .tc := ⟨.hbm, 177, rfl⟩
abbrev main_while0b_v178 : Ref sig .tc := ⟨.hbm, 178, rfl⟩
abbrev main_while0b_v179 : Ref sig .tc := ⟨.hbm, 179, rfl⟩
abbrev main_while0b_v180 : Ref sig .tc := ⟨.hbm, 180, rfl⟩
abbrev main_while0b_v181 : Ref sig .tc := ⟨.hbm, 181, rfl⟩
abbrev main_while0b_v182 : Ref sig .tc := ⟨.hbm, 182, rfl⟩
abbrev main_while0b_cst_31 : Ref sig .tc := ⟨.hbm, 183, rfl⟩
abbrev main_while0b_call3_v0 : Ref sig .tc := ⟨.hbm, 184, rfl⟩
abbrev main_while0b_call3_v1 : Ref sig .tc := ⟨.hbm, 185, rfl⟩
abbrev main_while0b_call3_v2 : Ref sig .tc := ⟨.hbm, 186, rfl⟩
abbrev main_while0b_v183 : Ref sig .tc := ⟨.hbm, 187, rfl⟩
abbrev main_while0b_v184 : Ref sig .tc := ⟨.hbm, 188, rfl⟩
abbrev main_while0b_v185 : Ref sig .tc := ⟨.hbm, 189, rfl⟩
abbrev main_while0b_v186 : Ref sig .tc := ⟨.hbm, 190, rfl⟩
abbrev main_while0b_v187 : Ref sig .tc := ⟨.hbm, 191, rfl⟩
abbrev main_while0b_v188 : Ref sig .tc := ⟨.hbm, 192, rfl⟩
abbrev main_while0b_v189 : Ref sig .tc := ⟨.hbm, 193, rfl⟩
abbrev main_while0b_v190 : Ref sig .tc := ⟨.hbm, 194, rfl⟩
abbrev main_while0b_v191 : Ref sig .tc := ⟨.hbm, 195, rfl⟩
abbrev main_while0b_v192 : Ref sig .tc := ⟨.hbm, 196, rfl⟩
abbrev main_while0b_cst_32 : Ref sig .tc := ⟨.hbm, 197, rfl⟩
abbrev main_while0b_v193 : Ref sig .tc := ⟨.hbm, 198, rfl⟩
abbrev main_while0b_v194 : Ref sig .tc := ⟨.hbm, 199, rfl⟩
abbrev main_while0b_v195 : Ref sig .tc := ⟨.hbm, 200, rfl⟩
abbrev main_while0b_v196 : Ref sig .tc := ⟨.hbm, 201, rfl⟩
abbrev main_while0b_v197 : Ref sig .tc := ⟨.hbm, 202, rfl⟩
abbrev main_while0b_v198 : Ref sig .tc := ⟨.hbm, 203, rfl⟩
abbrev main_while0b_v199 : Ref sig .tc := ⟨.hbm, 204, rfl⟩
abbrev main_while0b_v200 : Ref sig .tc := ⟨.hbm, 205, rfl⟩
abbrev main_while0b_v201 : Ref sig .tc := ⟨.hbm, 206, rfl⟩
abbrev main_while0b_v202 : Ref sig .tc := ⟨.hbm, 207, rfl⟩
abbrev main_while0b_cst_33 : Ref sig .tc := ⟨.hbm, 208, rfl⟩
abbrev main_while0b_v203 : Ref sig .tc := ⟨.hbm, 209, rfl⟩
abbrev main_while0b_v204 : Ref sig .tc := ⟨.hbm, 210, rfl⟩
abbrev main_while0b_v205 : Ref sig .tc := ⟨.hbm, 211, rfl⟩
abbrev main_while0b_v206 : Ref sig .tc := ⟨.hbm, 212, rfl⟩
abbrev main_while0b_v207 : Ref sig .tc := ⟨.hbm, 213, rfl⟩
abbrev main_while0b_v208 : Ref sig .tc := ⟨.hbm, 214, rfl⟩
abbrev main_while0b_v209 : Ref sig .tc := ⟨.hbm, 215, rfl⟩
abbrev main_while0b_v210 : Ref sig .tc := ⟨.hbm, 216, rfl⟩
abbrev main_while0b_v211 : Ref sig .tc := ⟨.hbm, 217, rfl⟩
abbrev main_while0b_v212 : Ref sig .tc := ⟨.hbm, 218, rfl⟩
abbrev main_while0b_v213 : Ref sig .tc := ⟨.hbm, 219, rfl⟩
abbrev main_while0b_cst_34 : Ref sig .tc := ⟨.hbm, 220, rfl⟩
abbrev main_while0b_v214 : Ref sig .tc := ⟨.hbm, 221, rfl⟩
abbrev main_while0b_v215 : Ref sig .tc := ⟨.hbm, 222, rfl⟩
abbrev main_while0b_v216 : Ref sig .tc := ⟨.hbm, 223, rfl⟩
abbrev main_while0b_v217 : Ref sig .tc := ⟨.hbm, 224, rfl⟩
abbrev main_while0b_v218 : Ref sig .tc := ⟨.hbm, 225, rfl⟩
abbrev main_while0b_v219 : Ref sig .tc := ⟨.hbm, 226, rfl⟩
abbrev main_while0b_v220 : Ref sig .tc := ⟨.hbm, 227, rfl⟩
abbrev main_while0b_v221 : Ref sig .tc := ⟨.hbm, 228, rfl⟩
abbrev main_while0b_v222 : Ref sig .tc := ⟨.hbm, 229, rfl⟩
abbrev main_while0b_call4_v0 : Ref sig .tc := ⟨.hbm, 230, rfl⟩
abbrev main_while0b_call4_c : Ref sig .tc := ⟨.hbm, 231, rfl⟩
abbrev main_while0b_call4_c_0 : Ref sig .tc := ⟨.hbm, 232, rfl⟩
abbrev main_while0b_call4_c_1 : Ref sig .tc := ⟨.hbm, 233, rfl⟩
abbrev main_while0b_call4_c_2 : Ref sig .tc := ⟨.hbm, 234, rfl⟩
abbrev main_while0b_v223 : Ref sig .tc := ⟨.hbm, 235, rfl⟩
abbrev main_while0b_c_35 : Ref sig .tc := ⟨.hbm, 236, rfl⟩
abbrev main_while0b_v224 : Ref sig .tc := ⟨.hbm, 237, rfl⟩
abbrev main_v116 : Ref sig .tc := ⟨.hbm, 238, rfl⟩
abbrev main_v117 : Ref sig .tc := ⟨.hbm, 239, rfl⟩
abbrev main_cst_14 : Ref sig .tc := ⟨.hbm, 240, rfl⟩
abbrev main_v118 : Ref sig .tc := ⟨.hbm, 241, rfl⟩
abbrev main_v119 : Ref sig .tc := ⟨.hbm, 242, rfl⟩
abbrev main_cst_15 : Ref sig .tc := ⟨.hbm, 243, rfl⟩
abbrev main_v120 : Ref sig .tc := ⟨.hbm, 244, rfl⟩
abbrev main_v121 : Ref sig .tc := ⟨.hbm, 245, rfl⟩
abbrev main_v122 : Ref sig .tc := ⟨.hbm, 246, rfl⟩
abbrev main_v123 : Ref sig .tc := ⟨.hbm, 247, rfl⟩
abbrev main_v124 : Ref sig .tc := ⟨.hbm, 248, rfl⟩
abbrev main_cst_16 : Ref sig .tc := ⟨.hbm, 249, rfl⟩
abbrev main_v125 : Ref sig .tc := ⟨.hbm, 250, rfl⟩
abbrev main_v126 : Ref sig .tc := ⟨.hbm, 251, rfl⟩
abbrev main_cst_17 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_cst_18 : Ref sig .tc := ⟨.hbm, 257, rfl⟩
abbrev main_v131 : Ref sig .tc := ⟨.hbm, 258, rfl⟩
abbrev main_v132 : Ref sig .tc := ⟨.hbm, 259, rfl⟩
abbrev main_v133 : Ref sig .tc := ⟨.hbm, 260, rfl⟩
abbrev main_v134 : Ref sig .tc := ⟨.hbm, 261, rfl⟩
abbrev main_v135 : Ref sig .tc := ⟨.hbm, 262, rfl⟩
abbrev main_v136 : Ref sig .tc := ⟨.hbm, 263, rfl⟩
abbrev main_call5_v0 : Ref sig .tc := ⟨.hbm, 264, rfl⟩
abbrev main_call5_v1 : Ref sig .tc := ⟨.hbm, 265, rfl⟩
abbrev main_call5_cst : Ref sig .tc := ⟨.hbm, 266, rfl⟩
abbrev main_call5_v2 : Ref sig .tc := ⟨.hbm, 267, rfl⟩
abbrev main_call5_v3 : Ref sig .tc := ⟨.hbm, 268, rfl⟩
abbrev main_call5_cst_0 : Ref sig .tc := ⟨.hbm, 269, rfl⟩
abbrev main_call5_v4 : Ref sig .tc := ⟨.hbm, 270, rfl⟩
abbrev main_call5_v5 : Ref sig .tc := ⟨.hbm, 271, rfl⟩
abbrev main_v137 : Ref sig .tc := ⟨.hbm, 272, rfl⟩
abbrev main_v138 : Ref sig .tc := ⟨.hbm, 273, rfl⟩
abbrev main_v139 : Ref sig .tc := ⟨.hbm, 274, rfl⟩
abbrev main_v140 : Ref sig .tc := ⟨.hbm, 275, rfl⟩
abbrev main_v141 : Ref sig .tc := ⟨.hbm, 276, rfl⟩
abbrev main_v142 : Ref sig .tc := ⟨.hbm, 277, rfl⟩
abbrev main_v143 : Ref sig .tc := ⟨.hbm, 278, rfl⟩
abbrev main_v144 : Ref sig .tc := ⟨.hbm, 279, rfl⟩
abbrev main_cst_19 : Ref sig .tc := ⟨.hbm, 280, rfl⟩
abbrev main_v145 : Ref sig .tc := ⟨.hbm, 281, rfl⟩
abbrev main_v146 : Ref sig .tc := ⟨.hbm, 282, rfl⟩
abbrev main_v147 : Ref sig .tc := ⟨.hbm, 283, rfl⟩
abbrev main_cst_20 : Ref sig .tc := ⟨.hbm, 284, rfl⟩
abbrev main_v148 : Ref sig .tc := ⟨.hbm, 285, rfl⟩
abbrev main_v149 : Ref sig .tc := ⟨.hbm, 286, rfl⟩
abbrev main_cst_21 : Ref sig .tc := ⟨.hbm, 287, rfl⟩
abbrev main_v150 : Ref sig .tc := ⟨.hbm, 288, rfl⟩
abbrev main_v151 : Ref sig .tc := ⟨.hbm, 289, rfl⟩
abbrev main_cst_22 : Ref sig .tc := ⟨.hbm, 290, rfl⟩
abbrev main_v152 : Ref sig .tc := ⟨.hbm, 291, rfl⟩
abbrev main_v153 : Ref sig .tc := ⟨.hbm, 292, rfl⟩
abbrev main_v154 : Ref sig .tc := ⟨.hbm, 293, rfl⟩
abbrev main_v155 : Ref sig .tc := ⟨.hbm, 294, rfl⟩
abbrev main_v156 : Ref sig .tc := ⟨.hbm, 295, rfl⟩
abbrev main_v157 : Ref sig .tc := ⟨.hbm, 296, rfl⟩
abbrev main_v158 : Ref sig .tc := ⟨.hbm, 297, rfl⟩
abbrev main_v159 : Ref sig .tc := ⟨.hbm, 298, rfl⟩
abbrev main_v160 : Ref sig .tc := ⟨.hbm, 299, rfl⟩
abbrev main_v161 : Ref sig .tc := ⟨.hbm, 300, rfl⟩
abbrev main_v162 : Ref sig .tc := ⟨.hbm, 301, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S8x3x1024 : Shape := ⟨3, ![8, 3, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S8x3x1x1024 : Shape := ⟨4, ![8, 3, 1, 1024]⟩
abbrev S1x1x1024 : Shape := ⟨3, ![1, 1, 1024]⟩
abbrev S1024 : Shape := ⟨1, ![1024]⟩
abbrev S1x1024 : Shape := ⟨2, ![1, 1024]⟩
abbrev S1x512x1024 : Shape := ⟨3, ![1, 512, 1024]⟩
abbrev S1x3x1x1024 : Shape := ⟨4, ![1, 3, 1, 1024]⟩
abbrev S1x1x1024x5632 : Shape := ⟨4, ![1, 1, 1024, 5632]⟩
abbrev S1x1x2816x1024 : Shape := ⟨4, ![1, 1, 2816, 1024]⟩
abbrev S512x1024 : Shape := ⟨2, ![512, 1024]⟩
abbrev S512 : Shape := ⟨1, ![512]⟩
abbrev S512x1 : Shape := ⟨2, ![512, 1]⟩
abbrev S1x1x1x1024 : Shape := ⟨4, ![1, 1, 1, 1024]⟩
abbrev S1024x5632 : Shape := ⟨2, ![1024, 5632]⟩
abbrev S512x5632 : Shape := ⟨2, ![512, 5632]⟩
abbrev S512x2816 : Shape := ⟨2, ![512, 2816]⟩
abbrev S2816x1024 : Shape := ⟨2, ![2816, 1024]⟩

abbrev nBuf : Space → Nat
  | .hbm => 16
  | .vmem => 10
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S8x3x1x1024, .f32⟩
  | .hbm, ⟨7, _⟩ => ⟨S1x1x1024, .f32⟩
  | .hbm, ⟨8, _⟩ => ⟨S1024, .f32⟩
  | .hbm, ⟨9, _⟩ => ⟨S1x1024, .f32⟩
  | .hbm, ⟨10, _⟩ => ⟨S1x1x1024, .f32⟩
  | .hbm, ⟨11, _⟩ => ⟨S1024, .f32⟩
  | .hbm, ⟨12, _⟩ => ⟨S1x1024, .f32⟩
  | .hbm, ⟨13, _⟩ => ⟨S2x2x1024x5632, .bf16⟩
  | .hbm, ⟨14, _⟩ => ⟨S2x2x2816x1024, .bf16⟩
  | .hbm, ⟨15, _⟩ => ⟨S8x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x3x1x1024, .f32⟩
  | .local _ .vmem, ⟨3, _⟩ => ⟨S1x3x1x1024, .f32⟩
  | .local _ .vmem, ⟨4, _⟩ => ⟨S1x1024, .f32⟩
  | .local _ .vmem, ⟨5, _⟩ => ⟨S1x1024, .f32⟩
  | .local _ .vmem, ⟨6, _⟩ => ⟨S1x1x1024x5632, .bf16⟩
  | .local _ .vmem, ⟨7, _⟩ => ⟨S1x1x2816x1024, .bf16⟩
  | .local _ .vmem, ⟨8, _⟩ => ⟨S1x512x1024, .f32⟩
  | .local _ .vmem, ⟨9, _⟩ => ⟨S1x512x1024, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference2Ideal.lean ====
abbrev S8x2048x1024 : Shape := ⟨3, ![8, 2048, 1024]⟩
abbrev S8x3x1024 : Shape := ⟨3, ![8, 3, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1x1024 : Shape := ⟨3, ![1, 1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S8x1x1024 : Shape := ⟨3, ![8, 1, 1024]⟩
abbrev S8x1024 : Shape := ⟨2, ![8, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S8x2048x5632 : Shape := ⟨3, ![8, 2048, 5632]⟩
abbrev S8x2048x2816 : Shape := ⟨3, ![8, 2048, 2816]⟩

abbrev nBuf : Space → Nat
  | .hbm => 82
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x3x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S1x1x1024, .f32⟩
  | .hbm, ⟨7, _⟩ => ⟨S1024, .f32⟩
  | .hbm, ⟨8, _⟩ => ⟨S8x2048x1024, .f32⟩
  | .hbm, ⟨9, _⟩ => ⟨S_, .f32⟩
  | .hbm, ⟨10, _⟩ => ⟨S8x2048, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S_, .f32⟩
  | .hbm, ⟨16, _⟩ => ⟨S8x2048x1, .f32⟩
  | .hbm, ⟨17, _⟩ => ⟨S8x2048x1, .f32⟩
  | .hbm, ⟨18, _⟩ => ⟨S8x2048x1, .f32⟩
  | .hbm, ⟨19, _⟩ => ⟨S8x2048x1024, .f32⟩
  | .hbm, ⟨20, _⟩ => ⟨S8x2048x1024, .f32⟩
  | .hbm, ⟨21, _⟩ => ⟨S1x1x1024, .f32⟩
  | .hbm, ⟨22, _⟩ => ⟨S8x2048x1024, .f32⟩
  | .hbm, ⟨23, _⟩ => ⟨S8x2048x1024, .f32⟩
  | .hbm, ⟨24, _⟩ => ⟨S8x1x1024, .f32⟩
  | .hbm, ⟨25, _⟩ => ⟨S8x1024, .f32⟩
  | .hbm, ⟨26, _⟩ => ⟨S8x1x1024, .f32⟩
  | .hbm, ⟨27, _⟩ => ⟨S_, .f32⟩
  | .hbm, ⟨28, _⟩ => ⟨S8x1x1024, .f32⟩
  | .hbm, ⟨29, _⟩ => ⟨S8x1x1024, .f32⟩
  | .hbm, ⟨30, _⟩ => ⟨S8x2048x1024, .f32⟩
  | .hbm, ⟨31, _⟩ => ⟨S8x2048x1024, .f32⟩
  | .hbm, ⟨32, _⟩ => ⟨S8x1x1024, .f32⟩
  | .hbm, ⟨33, _⟩ => ⟨S8x1024, .f32⟩
  | .hbm, ⟨34, _⟩ => ⟨S8x1x1024, .f32⟩
  | .hbm, ⟨35, _⟩ => ⟨S8x2048x1024, .f32⟩
  | .hbm, ⟨36, _⟩ => ⟨S8x2048x1024, .f32⟩
  | .hbm, ⟨37, _⟩ => ⟨S1x1x1024x5632, .f32⟩
  | .hbm, ⟨38, _⟩ => ⟨S1024x5632, .f32⟩
  | .hbm, ⟨39, _⟩ => ⟨S1x1x2816x1024, .f32⟩
  | .hbm, ⟨40, _⟩ => ⟨S2816x1024, .f32⟩
  | .hbm, ⟨41, _⟩ => ⟨S8x2048x5632, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S_, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x1024, .f32⟩
  | .hbm, ⟨55, _⟩ => ⟨S1x1x1024, .f32⟩
  | .hbm, ⟨56, _⟩ => ⟨S1024, .f32⟩
  | .hbm, ⟨57, _⟩ => ⟨S8x1x1024, .f32⟩
  | .hbm, ⟨58, _⟩ => ⟨S8x1024, .f32⟩
  | .hbm, ⟨59, _⟩ => ⟨S8x1x1024, .f32⟩
  | .hbm, ⟨60, _⟩ => ⟨S_, .f32⟩
  | .hbm, ⟨61, _⟩ => ⟨S8x1x1024, .f32⟩
  | .hbm, ⟨62, _⟩ => ⟨S8x1x1024, .f32⟩
  | .hbm, ⟨63, _⟩ => ⟨S8x2048x1024, .f32⟩
  | .hbm, ⟨64, _⟩ => ⟨S_, .f32⟩
  | .hbm, ⟨65, _⟩ => ⟨S8x2048, .f32⟩
  | .hbm, ⟨66, _⟩ => ⟨S8x2048x1, .f32⟩
  | .hbm, ⟨67, _⟩ => ⟨S_, .f32⟩
  | .hbm, ⟨68, _⟩ => ⟨S8x2048x1, .f32⟩
  | .hbm, ⟨69, _⟩ => ⟨S8x2048x1, .f32⟩
  | .hbm, ⟨70, _⟩ => ⟨S_, .f32⟩
  | .hbm, ⟨71, _⟩ => ⟨S8x2048x1, .f32⟩
  | .hbm, ⟨72, _⟩ => ⟨S8x2048x1, .f32⟩
  | .hbm, ⟨73, _⟩ => ⟨S8x2048x1, .f32⟩
  | .hbm, ⟨74, _⟩ => ⟨S8x2048x1024, .f32⟩
  | .hbm, ⟨75, _⟩ => ⟨S8x2048x1024, .f32⟩
  | .hbm, ⟨76, _⟩ => ⟨S1x1x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_3 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_cst_5 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩

abbrev nD : Nat := 1
abbrev τ : Topo := Topo.v7x

variable {F : FTy → Type} [FloatOps F]
-- ==== Kernel3.lean ====
abbrev S128x1x1024 : Shape := ⟨3, ![128, 1, 1024]⟩
abbrev S3x128x1024 : Shape := ⟨3, ![3, 128, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S128x1024 : Shape := ⟨2, ![128, 1024]⟩
abbrev S1x128x1024 : Shape := ⟨3, ![1, 128, 1024]⟩
abbrev S1x3x128x1024 : Shape := ⟨4, ![1, 3, 128, 1024]⟩
abbrev S1x1x1024 : Shape := ⟨3, ![1, 1, 1024]⟩
abbrev S1024 : Shape := ⟨1, ![1024]⟩
abbrev S1x1024 : Shape := ⟨2, ![1, 1024]⟩
abbrev S1x1x1024x5632 : Shape := ⟨4, ![1, 1, 1024, 5632]⟩
abbrev S1x1x2816x1024 : Shape := ⟨4, ![1, 1, 2816, 1024]⟩
abbrev S128 : Shape := ⟨1, ![128]⟩
abbrev S128x1 : Shape := ⟨2, ![128, 1]⟩
abbrev S1x1x128x1024 : Shape := ⟨4, ![1, 1, 128, 1024]⟩
abbrev S1024x5632 : Shape := ⟨2, ![1024, 5632]⟩
abbrev S128x5632 : Shape := ⟨2, ![128, 5632]⟩
abbrev S128x2816 : Shape := ⟨2, ![128, 2816]⟩
abbrev S2816x1024 : Shape := ⟨2, ![2816, 1024]⟩

abbrev nBuf : Space → Nat
  | .hbm => 18
  | .vmem => 7
  | .smem => 0
  | _ => 0

abbrev bufTy : (tb : Table) → Fin (tcTables nBuf tb) → BufTy
  | .hbm, ⟨0, _⟩ => ⟨S128x1x1024, .f32⟩
  | .hbm, ⟨1, _⟩ => ⟨S3x128x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S128x1024, .f32⟩
  | .hbm, ⟨7, _⟩ => ⟨S1x128x1024, .f32⟩
  | .hbm, ⟨8, _⟩ => ⟨S1x3x128x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1x1024, .f32⟩
  | .hbm, ⟨13, _⟩ => ⟨S1024, .f32⟩
  | .hbm, ⟨14, _⟩ => ⟨S1x1024, .f32⟩
  | .hbm, ⟨15, _⟩ => ⟨S2x2x1024x5632, .bf16⟩
  | .hbm, ⟨16, _⟩ => ⟨S2x2x2816x1024, .bf16⟩
  | .hbm, ⟨17, _⟩ => ⟨S1x128x1024, .f32⟩
  | .local _ .vmem, ⟨0, _⟩ => ⟨S1x128x1024, .f32⟩
  | .local _ .vmem, ⟨1, _⟩ => ⟨S1x3x128x1024, .f32⟩
  | .local _ .vmem, ⟨2, _⟩ => ⟨S1x1024, .f32⟩
  | .local _ .vmem, ⟨3, _⟩ => ⟨S1x1024, .f32⟩
  | .local _ .vmem, ⟨4, _⟩ => ⟨S1x1x1024x5632, .bf16⟩
  | .local _ .vmem, ⟨5, _⟩ => ⟨S1x1x2816x1024, .bf16⟩
  | .local _ .vmem, ⟨6, _⟩ => ⟨S1x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x3x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x5632 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]
-- ==== Reference3Ideal.lean ====
abbrev S128x1x1024 : Shape := ⟨3, ![128, 1, 1024]⟩
abbrev S3x128x1024 : Shape := ⟨3, ![3, 128, 1024]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S128x3x1024 : Shape := ⟨3, ![128, 3, 1024]⟩
abbrev S1x1x1024 : Shape := ⟨3, ![1, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S128x1024 : Shape := ⟨2, ![128, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S128x1x5632 : Shape := ⟨3, ![128, 1, 5632]⟩
abbrev S128x1x2816 : Shape := ⟨3, ![128, 1, 2816]⟩
abbrev S1x128x1024 : Shape := ⟨3, ![1, 128, 1024]⟩

abbrev nBuf : Space → Nat
  | .hbm => 81
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S3x128x1024, .f32⟩
  | .hbm, ⟨2, _⟩ => ⟨S2x3x1024, .f32⟩
  | .hbm, ⟨3, _⟩ => ⟨S2x3x1024, .f32⟩
  | .hbm, ⟨4, _⟩ => ⟨S2x2x1024x5632, .f32⟩
  | .hbm, ⟨5, _⟩ => ⟨S2x2x2816x1024, .f32⟩
  | .hbm, ⟨6, _⟩ => ⟨S128x3x1024, .f32⟩
  | .hbm, ⟨7, _⟩ => ⟨S1x1x1024, .f32⟩
  | .hbm, ⟨8, _⟩ => ⟨S1024, .f32⟩
  | .hbm, ⟨9, _⟩ => ⟨S128x1x1024, .f32⟩
  | .hbm, ⟨10, _⟩ => ⟨S_, .f32⟩
  | .hbm, ⟨11, _⟩ => ⟨S128x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S_, .f32⟩
  | .hbm, ⟨17, _⟩ => ⟨S128x1x1, .f32⟩
  | .hbm, ⟨18, _⟩ => ⟨S128x1x1, .f32⟩
  | .hbm, ⟨19, _⟩ => ⟨S128x1x1, .f32⟩
  | .hbm, ⟨20, _⟩ => ⟨S128x1x1024, .f32⟩
  | .hbm, ⟨21, _⟩ => ⟨S128x1x1024, .f32⟩
  | .hbm, ⟨22, _⟩ => ⟨S1x1x1024, .f32⟩
  | .hbm, ⟨23, _⟩ => ⟨S128x1x1024, .f32⟩
  | .hbm, ⟨24, _⟩ => ⟨S128x1x1024, .f32⟩
  | .hbm, ⟨25, _⟩ => ⟨S128x1x1024, .f32⟩
  | .hbm, ⟨26, _⟩ => ⟨S128x1024, .f32⟩
  | .hbm, ⟨27, _⟩ => ⟨S128x1x1024, .f32⟩
  | .hbm, ⟨28, _⟩ => ⟨S_, .f32⟩
  | .hbm, ⟨29, _⟩ => ⟨S128x1x1024, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S128x1024, .f32⟩
  | .hbm, ⟨34, _⟩ => ⟨S128x1x1024, .f32⟩
  | .hbm, ⟨35, _⟩ => ⟨S128x1x1024, .f32⟩
  | .hbm, ⟨36, _⟩ => ⟨S1x1x1024x5632, .f32⟩
  | .hbm, ⟨37, _⟩ => ⟨S1024x5632, .f32⟩
  | .hbm, ⟨38, _⟩ => ⟨S1x1x2816x1024, .f32⟩
  | .hbm, ⟨39, _⟩ => ⟨S2816x1024, .f32⟩
  | .hbm, ⟨40, _⟩ => ⟨S128x1x5632, .f32⟩
  | .hbm, ⟨41, _⟩ => ⟨S128x1x2816, .f32⟩
  | .hbm, ⟨42, _⟩ => ⟨S128x1x2816, .f32⟩
  | .hbm, ⟨43, _⟩ => ⟨S128x1x2816, .f32⟩
  | .hbm, ⟨44, _⟩ => ⟨S128x1x2816, .f32⟩
  | .hbm, ⟨45, _⟩ => ⟨S_, .f32⟩
  | .hbm, ⟨46, _⟩ => ⟨S128x1x2816, .f32⟩
  | .hbm, ⟨47, _⟩ => ⟨S128x1x2816, .f32⟩
  | .hbm, ⟨48, _⟩ => ⟨S_, .f32⟩
  | .hbm, ⟨49, _⟩ => ⟨S128x1x2816, .f32⟩
  | .hbm, ⟨50, _⟩ => ⟨S128x1x2816, .f32⟩
  | .hbm, ⟨51, _⟩ => ⟨S128x1x2816, .f32⟩
  | .hbm, ⟨52, _⟩ => ⟨S128x1x2816, .f32⟩
  | .hbm, ⟨53, _⟩ => ⟨S128x1x1024, .f32⟩
  | .hbm, ⟨54, _⟩ => ⟨S1x1x1024, .f32⟩
  | .hbm, ⟨55, _⟩ => ⟨S1024, .f32⟩
  | .hbm, ⟨56, _⟩ => ⟨S128x1x1024, .f32⟩
  | .hbm, ⟨57, _⟩ => ⟨S128x1024, .f32⟩
  | .hbm, ⟨58, _⟩ => ⟨S128x1x1024, .f32⟩
  | .hbm, ⟨59, _⟩ => ⟨S_, .f32⟩
  | .hbm, ⟨60, _⟩ => ⟨S128x1x1024, .f32⟩
  | .hbm, ⟨61, _⟩ => ⟨S128x1x1024, .f32⟩
  | .hbm, ⟨62, _⟩ => ⟨S128x1x1024, .f32⟩
  | .hbm, ⟨63, _⟩ => ⟨S_, .f32⟩
  | .hbm, ⟨64, _⟩ => ⟨S128x1, .f32⟩
  | .hbm, ⟨65, _⟩ => ⟨S128x1x1, .f32⟩
  | .hbm, ⟨66, _⟩ => ⟨S_, .f32⟩
  | .hbm, ⟨67, _⟩ => ⟨S128x1x1, .f32⟩
  | .hbm, ⟨68, _⟩ => ⟨S128x1x1, .f32⟩
  | .hbm, ⟨69, _⟩ => ⟨S_, .f32⟩
  | .hbm, ⟨70, _⟩ => ⟨S128x1x1, .f32⟩
  | .hbm, ⟨71, _⟩ => ⟨S128x1x1, .f32⟩
  | .hbm, ⟨72, _⟩ => ⟨S128x1x1, .f32⟩
  | .hbm, ⟨73, _⟩ => ⟨S128x1x1024, .f32⟩
  | .hbm, ⟨74, _⟩ => ⟨S128x1x1024, .f32⟩
  | .hbm, ⟨75, _⟩ => ⟨S1x1x1024, .f32⟩
  | .hbm, ⟨76, _⟩ => ⟨S128x1x1024, .f32⟩
  | .hbm, ⟨77, _⟩ => ⟨S128x1x1024, .f32⟩
  | .hbm, ⟨78, _⟩ => ⟨S128x1x1024, .f32⟩
  | .hbm, ⟨79, _⟩ => ⟨S128x1x1024, .f32⟩
  | .hbm, ⟨80, _⟩ => ⟨S1x128x1024, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_4 : Ref sig .tc := ⟨.hbm, 63, rfl⟩
abbrev main_v44 : Ref sig .tc := ⟨.hbm, 64, rfl⟩
abbrev main_v45 : Ref sig .tc := ⟨.hbm, 65, rfl⟩
abbrev main_cst_5 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel4.lean ====
abbrev S128x1x1024 : Shape := ⟨3, ![128, 1, 1024]⟩
abbrev S3x128x1024 : Shape := ⟨3, ![3, 128, 1024]⟩
abbrev S2x3x1024 : Shape := ⟨3, ![2, 3, 1024]⟩
abbrev S1x1024x2048 : Shape := ⟨3, ![1, 1024, 2048]⟩
abbrev S1x128x15x512 : Shape := ⟨4, ![1, 128, 15, 512]⟩
abbrev S1x4x128x128 : Shape := ⟨4, ![1, 4, 128, 128]⟩
abbrev S1x512 : Shape := ⟨2, ![1, 512]⟩
abbrev S128x1024 : Shape := ⟨2, ![128, 1024]⟩
abbrev S1x3x128x1024 : Shape := ⟨4, ![1, 3, 128, 1024]⟩
abbrev S1x1x1024 : Shape := ⟨3, ![1, 1, 1024]⟩
abbrev S1024 : Shape := ⟨1, ![1024]⟩
abbrev S1x1024 : Shape := ⟨2, ![1, 1024]⟩
abbrev S1024x2048 : Shape := ⟨2, ![1024, 2048]⟩
abbrev S128x15x512 : Shape := ⟨3, ![128, 15, 512]⟩
abbrev S15x128x512 : Shape := ⟨3, ![15, 128, 512]⟩
abbrev S4x128x128 : Shape := ⟨3, ![4, 128, 128]⟩
abbrev S512 : Shape := ⟨1, ![512]⟩
abbrev S128x512 : Shape := ⟨2, ![128, 512]⟩
abbrev S512x128 : Shape := ⟨2, ![512, 128]⟩
abbrev S128 : Shape := ⟨1, ![128]⟩
abbrev S128x1 : Shape := ⟨2, ![128, 1]⟩
abbrev S1x1x128x1024 : Shape := ⟨4, ![1, 1, 128, 1024]⟩
abbrev S128x2048 : Shape := ⟨2, ![128, 2048]⟩
abbrev S128x128 : Shape := ⟨2, ![128, 128]⟩
abbrev S1x128x128 : Shape := ⟨3, ![1, 128, 128]⟩
abbrev S1x128 : Shape := ⟨2, ![1, 128]⟩
abbrev S14x128x512 : Shape := ⟨3, ![14, 128, 512]⟩
abbrev S1x128x512 : Shape := ⟨3, ![1, 128, 512]⟩

abbrev nBuf : Space → Nat
  | .hbm => 25
  | .vmem => 12
  | .smem => 0
  | _ => 0

abbrev bufTy : (tb : Table) → Fin (tcTables nBuf tb) → BufTy
  | .hbm, ⟨0, _⟩ => ⟨S128x1x1024, .f32⟩
  | .hbm, ⟨1, _⟩ => ⟨S3x128x1024, .f32⟩
  | .hbm, ⟨2, _⟩ => ⟨S2x3x1024, .f32⟩
  | .hbm, ⟨3, _⟩ => ⟨S1x1024x2048, .f32⟩
  | .hbm, ⟨4, _⟩ => ⟨S1x128x15x512, .f32⟩
  | .hbm, ⟨5, _⟩ => ⟨S1x4x128x128, .f32⟩
  | .hbm, ⟨6, _⟩ => ⟨S1x512, .f32⟩
  | .hbm, ⟨7, _⟩ => ⟨S128x1024, .f32⟩
  | .hbm, ⟨8, _⟩ => ⟨S1x3x128x1024, .f32⟩
  | .hbm, ⟨9, _⟩ => ⟨S1x1x1024, .f32⟩
  | .hbm, ⟨10, _⟩ => ⟨S1024, .f32⟩
  | .hbm, ⟨11, _⟩ => ⟨S1x1024, .f32⟩
  | .hbm, ⟨12, _⟩ => ⟨S1x1024x2048, .bf16⟩
  | .hbm, ⟨13, _⟩ => ⟨S1024x2048, .bf16⟩
  | .hbm, ⟨14, _⟩ => ⟨S128x15x512, .f32⟩
  | .hbm, ⟨15, _⟩ => ⟨S15x128x512, .f32⟩
  | .hbm, ⟨16, _⟩ => ⟨S1x4x128x128, .bf16⟩
  | .hbm, ⟨17, _⟩ => ⟨S4x128x128, .bf16⟩
  | .hbm, ⟨18, _⟩ => ⟨S512, .f32⟩
  | .hbm, ⟨19, _⟩ => ⟨S1x512, .f32⟩
  | .hbm, ⟨20, _⟩ => ⟨S128x512, .f32⟩
  | .hbm, ⟨21, _⟩ => ⟨S512x128, .f32⟩
  | .hbm, ⟨22, _⟩ => ⟨S512x128, .f32⟩
  | .hbm, ⟨23, _⟩ => ⟨S15x128x512, .f32⟩
  | .hbm, ⟨24, _⟩ => ⟨S128x512, .bf16⟩
  | .local _ .vmem, ⟨0, _⟩ => ⟨S128x1024, .f32⟩
  | .local _ .vmem, ⟨1, _⟩ => ⟨S1x3x128x1024, .f32⟩
  | .local _ .vmem, ⟨2, _⟩ => ⟨S1x1024, .f32⟩
  | .local _ .vmem, ⟨3, _⟩ => ⟨S1024x2048, .bf16⟩
  | .local _ .vmem, ⟨4, _⟩ => ⟨S15x128x512, .f32⟩
  | .local _ .vmem, ⟨5, _⟩ => ⟨S4x128x128, .bf16⟩
  | .local _ .vmem, ⟨6, _⟩ => ⟨S1x512, .f32⟩
  | .local _ .vmem, ⟨7, _⟩ => ⟨S128x512, .f32⟩
  | .local _ .vmem, ⟨8, _⟩ => ⟨S512x128, .f32⟩
  | .local _ .vmem, ⟨9, _⟩ => ⟨S512x128, .f32⟩
  | .local _ .vmem, ⟨10, _⟩ => ⟨S15x128x512, .f32⟩
  | .local _ .vmem, ⟨11, _⟩ => ⟨S128x512, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev main_v13_3 : Ref sig .tc := ⟨.hbm, 23, rfl⟩
abbrev main_v13_4 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S15x128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S15x128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S128x512 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference4Ideal.lean ====
abbrev S128x1x1024 : Shape := ⟨3, ![128, 1, 1024]⟩
abbrev S3x128x1024 : Shape := ⟨3, ![3, 128, 1024]⟩
abbrev S2x3x1024 : Shape := ⟨3, ![2, 3, 1024]⟩
abbrev S1x1024x2048 : Shape := ⟨3, ![1, 1024, 2048]⟩
abbrev S1x128x15x512 : Shape := ⟨4, ![1, 128, 15, 512]⟩
abbrev S1x4x128x128 : Shape := ⟨4, ![1, 4, 128, 128]⟩
abbrev S1x512 : Shape := ⟨2, ![1, 512]⟩
abbrev S128x3x1024 : Shape := ⟨3, ![128, 3, 1024]⟩
abbrev S1x1x1024 : Shape := ⟨3, ![1, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S128x1024 : Shape := ⟨2, ![128, 1024]⟩
abbrev S1024x2048 : Shape := ⟨2, ![1024, 2048]⟩
abbrev S128x1x2048 : Shape := ⟨3, ![128, 1, 2048]⟩
abbrev S128x1x512 : Shape := ⟨3, ![128, 1, 512]⟩
abbrev S128x15x512 : Shape := ⟨3, ![128, 15, 512]⟩
abbrev S128x16x512 : Shape := ⟨3, ![128, 16, 512]⟩
abbrev S128x512 : Shape := ⟨2, ![128, 512]⟩
abbrev S512x128 : Shape := ⟨2, ![512, 128]⟩
abbrev S15x128x512 : Shape := ⟨3, ![15, 128, 512]⟩

abbrev nBuf : Space → Nat
  | .hbm => 55
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S3x128x1024, .f32⟩
  | .hbm, ⟨2, _⟩ => ⟨S2x3x1024, .f32⟩
  | .hbm, ⟨3, _⟩ => ⟨S1x1024x2048, .f32⟩
  | .hbm, ⟨4, _⟩ => ⟨S1x128x15x512, .f32⟩
  | .hbm, ⟨5, _⟩ => ⟨S1x4x128x128, .f32⟩
  | .hbm, ⟨6, _⟩ => ⟨S1x512, .f32⟩
  | .hbm, ⟨7, _⟩ => ⟨S128x3x1024, .f32⟩
  | .hbm, ⟨8, _⟩ => ⟨S1x1x1024, .f32⟩
  | .hbm, ⟨9, _⟩ => ⟨S1024, .f32⟩
  | .hbm, ⟨10, _⟩ => ⟨S128x1x1024, .f32⟩
  | .hbm, ⟨11, _⟩ => ⟨S_, .f32⟩
  | .hbm, ⟨12, _⟩ => ⟨S128x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S_, .f32⟩
  | .hbm, ⟨18, _⟩ => ⟨S128x1x1, .f32⟩
  | .hbm, ⟨19, _⟩ => ⟨S128x1x1, .f32⟩
  | .hbm, ⟨20, _⟩ => ⟨S128x1x1, .f32⟩
  | .hbm, ⟨21, _⟩ => ⟨S128x1x1024, .f32⟩
  | .hbm, ⟨22, _⟩ => ⟨S128x1x1024, .f32⟩
  | .hbm, ⟨23, _⟩ => ⟨S1x1x1024, .f32⟩
  | .hbm, ⟨24, _⟩ => ⟨S128x1x1024, .f32⟩
  | .hbm, ⟨25, _⟩ => ⟨S128x1x1024, .f32⟩
  | .hbm, ⟨26, _⟩ => ⟨S128x1x1024, .f32⟩
  | .hbm, ⟨27, _⟩ => ⟨S128x1024, .f32⟩
  | .hbm, ⟨28, _⟩ => ⟨S128x1x1024, .f32⟩
  | .hbm, ⟨29, _⟩ => ⟨S_, .f32⟩
  | .hbm, ⟨30, _⟩ => ⟨S128x1x1024, .f32⟩
  | .hbm, ⟨31, _⟩ => ⟨S128x1x1024, .f32⟩
  | .hbm, ⟨32, _⟩ => ⟨S128x1x1024, .f32⟩
  | .hbm, ⟨33, _⟩ => ⟨S128x1x1024, .f32⟩
  | .hbm, ⟨34, _⟩ => ⟨S128x1024, .f32⟩
  | .hbm, ⟨35, _⟩ => ⟨S128x1x1024, .f32⟩
  | .hbm, ⟨36, _⟩ => ⟨S128x1x1024, .f32⟩
  | .hbm, ⟨37, _⟩ => ⟨S1024x2048, .f32⟩
  | .hbm, ⟨38, _⟩ => ⟨S128x1x2048, .f32⟩
  | .hbm, ⟨39, _⟩ => ⟨S128x1x512, .f32⟩
  | .hbm, ⟨40, _⟩ => ⟨S128x1x512, .f32⟩
  | .hbm, ⟨41, _⟩ => ⟨S128x1x512, .f32⟩
  | .hbm, ⟨42, _⟩ => ⟨S128x1x512, .f32⟩
  | .hbm, ⟨43, _⟩ => ⟨S128x15x512, .f32⟩
  | .hbm, ⟨44, _⟩ => ⟨S128x16x512, .f32⟩
  | .hbm, ⟨45, _⟩ => ⟨S128x512, .f32⟩
  | .hbm, ⟨46, _⟩ => ⟨S_, .f32⟩
  | .hbm, ⟨47, _⟩ => ⟨S128x512, .f32⟩
  | .hbm, ⟨48, _⟩ => ⟨S128x512, .f32⟩
  | .hbm, ⟨49, _⟩ => ⟨S128x512, .f32⟩
  | .hbm, ⟨50, _⟩ => ⟨S512x128, .f32⟩
  | .hbm, ⟨51, _⟩ => ⟨S128x512, .f32⟩
  | .hbm, ⟨52, _⟩ => ⟨S512x128, .f32⟩
  | .hbm, ⟨53, _⟩ => ⟨S128x15x512, .f32⟩
  | .hbm, ⟨54, _⟩ => ⟨S15x128x512, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩

abbrev nD : Nat := 1
abbrev τ : Topo := Topo.v7x

variable {F : FTy → Type} [FloatOps F]
-- ==== Kernel5.lean ====
abbrev S128x1x1024 : Shape := ⟨3, ![128, 1, 1024]⟩
abbrev S8x1024 : Shape := ⟨2, ![8, 1024]⟩
abbrev S128x1024 : Shape := ⟨2, ![128, 1024]⟩
abbrev S2x1024x9216 : Shape := ⟨3, ![2, 1024, 9216]⟩
abbrev S2x9216 : Shape := ⟨2, ![2, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x2048 : Shape := ⟨3, ![1, 1024, 2048]⟩
abbrev S1x128x15x512 : Shape := ⟨4, ![1, 128, 15, 512]⟩
abbrev S1x4x128x128 : Shape := ⟨4, ![1, 4, 128, 128]⟩
abbrev S1x512 : Shape := ⟨2, ![1, 512]⟩
abbrev S2x9x1x1024 : Shape := ⟨4, ![2, 9, 1, 1024]⟩
abbrev S2x9x8x1024 : Shape := ⟨4, ![2, 9, 8, 1024]⟩
abbrev S2x9x128x1024 : Shape := ⟨4, ![2, 9, 128, 1024]⟩
abbrev S1x1024x1024 : Shape := ⟨3, ![1, 1024, 1024]⟩
abbrev S1x1x1x1024 : Shape := ⟨4, ![1, 1, 1, 1024]⟩
abbrev S1x1x8x1024 : Shape := ⟨4, ![1, 1, 8, 1024]⟩
abbrev S1x1x128x1024 : Shape := ⟨4, ![1, 1, 128, 1024]⟩
abbrev S1024x1024 : Shape := ⟨2, ![1024, 1024]⟩
abbrev S1x1024 : Shape := ⟨2, ![1, 1024]⟩
abbrev S1x128x1024 : Shape := ⟨3, ![1, 128, 1024]⟩
abbrev S1x3x128x1024 : Shape := ⟨4, ![1, 3, 128, 1024]⟩
abbrev S3x128x1024 : Shape := ⟨3, ![3, 128, 1024]⟩
abbrev S1x1x1024 : Shape := ⟨3, ![1, 1, 1024]⟩
abbrev S1024 : Shape := ⟨1, ![1024]⟩
abbrev S1x1x1024x5632 : Shape := ⟨4, ![1, 1, 1024, 5632]⟩
abbrev S1x1x2816x1024 : Shape := ⟨4, ![1, 1, 2816, 1024]⟩
abbrev S128 : Shape := ⟨1, ![128]⟩
abbrev S128x1 : Shape := ⟨2, ![128, 1]⟩
abbrev S1024x5632 : Shape := ⟨2, ![1024, 5632]⟩
abbrev S128x5632 : Shape := ⟨2, ![128, 5632]⟩
abbrev S128x2816 : Shape := ⟨2, ![128, 2816]⟩
abbrev S2816x1024 : Shape := ⟨2, ![2816, 1024]⟩
abbrev S1024x2048 : Shape := ⟨2, ![1024, 2048]⟩
abbrev S128x15x512 : Shape := ⟨3, ![128, 15, 512]⟩
abbrev S15x128x512 : Shape := ⟨3, ![15, 128, 512]⟩
abbrev S4x128x128 : Shape := ⟨3, ![4, 128, 128]⟩
abbrev S512 : Shape := ⟨1, ![512]⟩
abbrev S128x512 : Shape := ⟨2, ![128, 512]⟩
abbrev S512x128 : Shape := ⟨2, ![512, 128]⟩
abbrev S128x2048 : Shape := ⟨2, ![128, 2048]⟩
abbrev S128x128 : Shape := ⟨2, ![128, 128]⟩
abbrev S1x128x128 : Shape := ⟨3, ![1, 128, 128]⟩
abbrev S1x128 : Shape := ⟨2, ![1, 128]⟩
abbrev S14x128x512 : Shape := ⟨3, ![14, 128, 512]⟩
abbrev S1x128x512 : Shape := ⟨3, ![1, 128, 512]⟩

abbrev nBuf : Space → Nat
  | .hbm => 50
  | .vmem => 29
  | .smem => 0
  | _ => 0

abbrev bufTy : (tb : Table) → Fin (tcTables nBuf tb) → BufTy
  | .hbm, ⟨0, _⟩ => ⟨S128x1x1024, .f32⟩
  | .hbm, ⟨1, _⟩ => ⟨S8x1024, .f32⟩
  | .hbm, ⟨2, _⟩ => ⟨S128x1024, .f32⟩
  | .hbm, ⟨3, _⟩ => ⟨S2x1024x9216, .f32⟩
  | .hbm, ⟨4, _⟩ => ⟨S2x9216, .f32⟩
  | .hbm, ⟨5, _⟩ => ⟨S2x3x1024, .f32⟩
  | .hbm, ⟨6, _⟩ => ⟨S2x3x1024, .f32⟩
  | .hbm, ⟨7, _⟩ => ⟨S2x2x1024x5632, .f32⟩
  | .hbm, ⟨8, _⟩ => ⟨S2x2x2816x1024, .f32⟩
  | .hbm, ⟨9, _⟩ => ⟨S1x1024x2048, .f32⟩
  | .hbm, ⟨10, _⟩ => ⟨S1x128x15x512, .f32⟩
  | .hbm, ⟨11, _⟩ => ⟨S1x4x128x128, .f32⟩
  | .hbm, ⟨12, _⟩ => ⟨S1x512, .f32⟩
  | .hbm, ⟨13, _⟩ => ⟨S2x9x1x1024, .f32⟩
  | .hbm, ⟨14, _⟩ => ⟨S2x9x8x1024, .f32⟩
  | .hbm, ⟨15, _⟩ => ⟨S2x9x128x1024, .f32⟩
  | .hbm, ⟨16, _⟩ => ⟨S128x1024, .f32⟩
  | .hbm, ⟨17, _⟩ => ⟨S1x128x1024, .f32⟩
  | .hbm, ⟨18, _⟩ => ⟨S1x3x128x1024, .f32⟩
  | .hbm, ⟨19, _⟩ => ⟨S3x128x1024, .f32⟩
  | .hbm, ⟨20, _⟩ => ⟨S1x3x128x1024, .f32⟩
  | .hbm, ⟨21, _⟩ => ⟨S1x1x1024, .f32⟩
  | .hbm, ⟨22, _⟩ => ⟨S1024, .f32⟩
  | .hbm, ⟨23, _⟩ => ⟨S1x1024, .f32⟩
  | .hbm, ⟨24, _⟩ => ⟨S1x1x1024, .f32⟩
  | .hbm, ⟨25, _⟩ => ⟨S1024, .f32⟩
  | .hbm, ⟨26, _⟩ => ⟨S1x1024, .f32⟩
  | .hbm, ⟨27, _⟩ => ⟨S2x2x1024x5632, .bf16⟩
  | .hbm, ⟨28, _⟩ => ⟨S2x2x2816x1024, .bf16⟩
  | .hbm, ⟨29, _⟩ => ⟨S1x128x1024, .f32⟩
  | .hbm, ⟨30, _⟩ => ⟨S128x1024, .f32⟩
  | .hbm, ⟨31, _⟩ => ⟨S1x3x128x1024, .f32⟩
  | .hbm, ⟨32, _⟩ => ⟨S3x128x1024, .f32⟩
  | .hbm, ⟨33, _⟩ => ⟨S1x3x128x1024, .f32⟩
  | .hbm, ⟨34, _⟩ => ⟨S1x1x1024, .f32⟩
  | .hbm, ⟨35, _⟩ => ⟨S1024, .f32⟩
  | .hbm, ⟨36, _⟩ => ⟨S1x1024, .f32⟩
  | .hbm, ⟨37, _⟩ => ⟨S1x1024x2048, .bf16⟩
  | .hbm, ⟨38, _⟩ => ⟨S1024x2048, .bf16⟩
  | .hbm, ⟨39, _⟩ => ⟨S128x15x512, .f32⟩
  | .hbm, ⟨40, _⟩ => ⟨S15x128x512, .f32⟩
  | .hbm, ⟨41, _⟩ => ⟨S1x4x128x128, .bf16⟩
  | .hbm, ⟨42, _⟩ => ⟨S4x128x128, .bf16⟩
  | .hbm, ⟨43, _⟩ => ⟨S512, .f32⟩
  | .hbm, ⟨44, _⟩ => ⟨S1x512, .f32⟩
  | .hbm, ⟨45, _⟩ => ⟨S128x512, .f32⟩
  | .hbm, ⟨46, _⟩ => ⟨S512x128, .f32⟩
  | .hbm, ⟨47, _⟩ => ⟨S512x128, .f32⟩
  | .hbm, ⟨48, _⟩ => ⟨S15x128x512, .f32⟩
  | .hbm, ⟨49, _⟩ => ⟨S128x512, .bf16⟩
  | .local _ .vmem, ⟨0, _⟩ => ⟨S8x1024, .f32⟩
  | .local _ .vmem, ⟨1, _⟩ => ⟨S128x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1x1024, .f32⟩
  | .local _ .vmem, ⟨5, _⟩ => ⟨S1x1x1x1024, .f32⟩
  | .local _ .vmem, ⟨6, _⟩ => ⟨S1x1x8x1024, .f32⟩
  | .local _ .vmem, ⟨7, _⟩ => ⟨S1x1x8x1024, .f32⟩
  | .local _ .vmem, ⟨8, _⟩ => ⟨S1x1x128x1024, .f32⟩
  | .local _ .vmem, ⟨9, _⟩ => ⟨S1x1x128x1024, .f32⟩
  | .local _ .vmem, ⟨10, _⟩ => ⟨S1x128x1024, .f32⟩
  | .local _ .vmem, ⟨11, _⟩ => ⟨S1x3x128x1024, .f32⟩
  | .local _ .vmem, ⟨12, _⟩ => ⟨S1x1024, .f32⟩
  | .local _ .vmem, ⟨13, _⟩ => ⟨S1x1024, .f32⟩
  | .local _ .vmem, ⟨14, _⟩ => ⟨S1x1x1024x5632, .bf16⟩
  | .local _ .vmem, ⟨15, _⟩ => ⟨S1x1x2816x1024, .bf16⟩
  | .local _ .vmem, ⟨16, _⟩ => ⟨S1x128x1024, .f32⟩
  | .local _ .vmem, ⟨17, _⟩ => ⟨S128x1024, .f32⟩
  | .local _ .vmem, ⟨18, _⟩ => ⟨S1x3x128x1024, .f32⟩
  | .local _ .vmem, ⟨19, _⟩ => ⟨S1x1024, .f32⟩
  | .local _ .vmem, ⟨20, _⟩ => ⟨S1024x2048, .bf16⟩
  | .local _ .vmem, ⟨21, _⟩ => ⟨S15x128x512, .f32⟩
  | .local _ .vmem, ⟨22, _⟩ => ⟨S4x128x128, .bf16⟩
  | .local _ .vmem, ⟨23, _⟩ => ⟨S1x512, .f32⟩
  | .local _ .vmem, ⟨24, _⟩ => ⟨S128x512, .f32⟩
  | .local _ .vmem, ⟨25, _⟩ => ⟨S512x128, .f32⟩
  | .local _ .vmem, ⟨26, _⟩ => ⟨S512x128, .f32⟩
  | .local _ .vmem, ⟨27, _⟩ => ⟨S15x128x512, .f32⟩
  | .local _ .vmem, ⟨28, _⟩ => ⟨S128x512, .bf16⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1_0 : Ref sig .tc := ⟨.hbm, 14, rfl⟩
abbrev main_v1_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31_0 : Ref sig .tc := ⟨.hbm, 45, rfl⟩
abbrev main_v31_1 : Ref sig .tc := ⟨.hbm, 46, rfl⟩
abbrev main_v31_2 : Ref sig .tc := ⟨.hbm, 47, rfl⟩
abbrev main_v31_3 : Ref sig .tc := ⟨.hbm, 48, rfl⟩
abbrev main_v31_4 : Ref sig .tc := ⟨.hbm, 49, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .vmem S1x128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, true]

abbrev stage1_1 : Fin 1 → Memref sig .tc .vmem S1x3x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true, true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1x1024x5632 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x1x2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![true, true]

abbrev grid2 : Pipeline.Grid := .none

abbrev stage2_0 : Fin 1 → Memref sig .tc .vmem S128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x3x128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1024x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S15x128x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S4x128x128 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x512 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S128x512 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S512x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))

abbrev stage2_9 : Fin 1 → Memref sig .tc .vmem S512x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))

abbrev stage2_10 : Fin 1 → Memref sig .tc .vmem S15x128x512 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))

abbrev stage2_11 : Fin 1 → Memref sig .tc .vmem S128x512 .bf16 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
-- ==== Reference5Ideal.lean ====
abbrev S128x1x1024 : Shape := ⟨3, ![128, 1, 1024]⟩
abbrev S8x1024 : Shape := ⟨2, ![8, 1024]⟩
abbrev S128x1024 : Shape := ⟨2, ![128, 1024]⟩
abbrev S2x1024x9216 : Shape := ⟨3, ![2, 1024, 9216]⟩
abbrev S2x9216 : Shape := ⟨2, ![2, 9216]⟩
abbrev S2x3x1024 : Shape := ⟨3, ![2, 3, 1024]⟩
abbrev S2x2x1024x5632 : Shape := ⟨4, ![2, 2, 1024, 5632]⟩
abbrev S2x2x2816x1024 : Shape := ⟨4, ![2, 2, 2816, 1024]⟩
abbrev S1x1024x2048 : Shape := ⟨3, ![1, 1024, 2048]⟩
abbrev S1x128x15x512 : Shape := ⟨4, ![1, 128, 15, 512]⟩
abbrev S1x4x128x128 : Shape := ⟨4, ![1, 4, 128, 128]⟩
abbrev S1x512 : Shape := ⟨2, ![1, 512]⟩
abbrev S_ : Shape := ⟨0, ![]⟩
abbrev S1x1024x9216 : Shape := ⟨3, ![1, 1024, 9216]⟩
abbrev S1024x9216 : Shape := ⟨2, ![1024, 9216]⟩
abbrev S128x9216 : Shape := ⟨2, ![128, 9216]⟩
abbrev S1x9216 : Shape := ⟨2, ![1, 9216]⟩
abbrev S9216 : Shape := ⟨1, ![9216]⟩
abbrev S128x3x3x1024 : Shape := ⟨4, ![128, 3, 3, 1024]⟩
abbrev S128x1x3x1024 : Shape := ⟨4, ![128, 1, 3, 1024]⟩
abbrev S128x3x1024 : Shape := ⟨3, ![128, 3, 1024]⟩
abbrev S1x1x1024 : Shape := ⟨3, ![1, 1, 1024]⟩
abbrev S1024 : Shape := ⟨1, ![1024]⟩
abbrev S128x1 : Shape := ⟨2, ![128, 1]⟩
abbrev S128x1x1 : Shape := ⟨3, ![128, 1, 1]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S128x1x5632 : Shape := ⟨3, ![128, 1, 5632]⟩
abbrev S128x1x2816 : Shape := ⟨3, ![128, 1, 2816]⟩
abbrev S1024x2048 : Shape := ⟨2, ![1024, 2048]⟩
abbrev S128x1x2048 : Shape := ⟨3, ![128, 1, 2048]⟩
abbrev S128x1x512 : Shape := ⟨3, ![128, 1, 512]⟩
abbrev S128x15x512 : Shape := ⟨3, ![128, 15, 512]⟩
abbrev S128x16x512 : Shape := ⟨3, ![128, 16, 512]⟩
abbrev S128x512 : Shape := ⟨2, ![128, 512]⟩
abbrev S512x128 : Shape := ⟨2, ![512, 128]⟩
abbrev S15x128x512 : Shape := ⟨3, ![15, 128, 512]⟩

abbrev nBuf : Space → Nat
  | .hbm => 153
  | .vmem => 0
  | .smem => 0
  | _ => 0

abbrev hbmTy0_0 (i : Nat) : BufTy := match i % 128 with
  | 0 => ⟨S128x1x1024, .f32⟩
  | 1 => ⟨S8x1024, .f32⟩
  | 2 => ⟨S128x1024, .f32⟩
  | 3 => ⟨S2x1024x9216, .f32⟩
  | 4 => ⟨S2x9216, .f32⟩
  | 5 => ⟨S2x3x1024, .f32⟩
  | 6 => ⟨S2x3x1024, .f32⟩
  | 7 => ⟨S2x2x1024x5632, .f32⟩
  | 8 => ⟨S2x2x2816x1024, .f32⟩
  | 9 => ⟨S1x1024x2048, .f32⟩
  | 10 => ⟨S1x128x15x512, .f32⟩
  | 11 => ⟨S1x4x128x128, .f32⟩
  | 12 => ⟨S1x512, .f32⟩
  | 13 => ⟨S128x1024, .f32⟩
  | 14 => ⟨S128x1024, .f32⟩
  | 15 => ⟨S_, .f32⟩
  | 16 => ⟨S128x1024, .f32⟩
  | 17 => ⟨S128x1024, .f32⟩
  | 18 => ⟨S_, .f32⟩
  | 19 => ⟨S128x1024, .f32⟩
  | 20 => ⟨S128x1024, .f32⟩
  | 21 => ⟨S128x1024, .f32⟩
  | 22 => ⟨S1x1024x9216, .f32⟩
  | 23 => ⟨S1024x9216, .f32⟩
  | 24 => ⟨S128x9216, .f32⟩
  | 25 => ⟨S1x9216, .f32⟩
  | 26 => ⟨S9216, .f32⟩
  | 27 => ⟨S1x9216, .f32⟩
  | 28 => ⟨S128x9216, .f32⟩
  | 29 => ⟨S128x9216, .f32⟩
  | 30 => ⟨S128x3x3x1024, .f32⟩
  | 31 => ⟨S128x1x3x1024, .f32⟩
  | 32 => ⟨S128x3x1024, .f32⟩
  | 33 => ⟨S1x1x1024, .f32⟩
  | 34 => ⟨S1024, .f32⟩
  | 35 => ⟨S128x1x1024, .f32⟩
  | 36 => ⟨S_, .f32⟩
  | 37 => ⟨S128x1, .f32⟩
  | 38 => ⟨S128x1x1, .f32⟩
  | 39 => ⟨S_, .f32⟩
  | 40 => ⟨S128x1x1, .f32⟩
  | 41 => ⟨S128x1x1, .f32⟩
  | 42 => ⟨S_, .f32⟩
  | 43 => ⟨S128x1x1, .f32⟩
  | 44 => ⟨S128x1x1, .f32⟩
  | 45 => ⟨S128x1x1, .f32⟩
  | 46 => ⟨S128x1x1024, .f32⟩
  | 47 => ⟨S128x1x1024, .f32⟩
  | 48 => ⟨S1x1x1024, .f32⟩
  | 49 => ⟨S128x1x1024, .f32⟩
  | 50 => ⟨S128x1x1024, .f32⟩
  | 51 => ⟨S128x1x1024, .f32⟩
  | 52 => ⟨S128x1024, .f32⟩
  | 53 => ⟨S128x1x1024, .f32⟩
  | 54 => ⟨S_, .f32⟩
  | 55 => ⟨S128x1x1024, .f32⟩
  | 56 => ⟨S128x1x1024, .f32⟩
  | 57 => ⟨S128x1x1024, .f32⟩
  | 58 => ⟨S128x1x1024, .f32⟩
  | 59 => ⟨S128x1024, .f32⟩
  | 60 => ⟨S128x1x1024, .f32⟩
  | 61 => ⟨S128x1x1024, .f32⟩
  | 62 => ⟨S1x1x1024x5632, .f32⟩
  | 63 => ⟨S1024x5632, .f32⟩
  | 64 => ⟨S1x1x2816x1024, .f32⟩
  | 65 => ⟨S2816x1024, .f32⟩
  | 66 => ⟨S128x1x5632, .f32⟩
  | 67 => ⟨S128x1x2816, .f32⟩
  | 68 => ⟨S128x1x2816, .f32⟩
  | 69 => ⟨S128x1x2816, .f32⟩
  | 70 => ⟨S128x1x2816, .f32⟩
  | 71 => ⟨S_, .f32⟩
  | 72 => ⟨S128x1x2816, .f32⟩
  | 73 => ⟨S128x1x2816, .f32⟩
  | 74 => ⟨S_, .f32⟩
  | 75 => ⟨S128x1x2816, .f32⟩
  | 76 => ⟨S128x1x2816, .f32⟩
  | 77 => ⟨S128x1x2816, .f32⟩
  | 78 => ⟨S128x1x2816, .f32⟩
  | 79 => ⟨S128x1x1024, .f32⟩
  | 80 => ⟨S128x1x3x1024, .f32⟩
  | 81 => ⟨S128x3x1024, .f32⟩
  | 82 => ⟨S1x1x1024, .f32⟩
  | 83 => ⟨S1024, .f32⟩
  | 84 => ⟨S128x1x1024, .f32⟩
  | 85 => ⟨S128x1024, .f32⟩
  | 86 => ⟨S128x1x1024, .f32⟩
  | 87 => ⟨S_, .f32⟩
  | 88 => ⟨S128x1x1024, .f32⟩
  | 89 => ⟨S128x1x1024, .f32⟩
  | 90 => ⟨S128x1x1024, .f32⟩
  | 91 => ⟨S_, .f32⟩
  | 92 => ⟨S128x1, .f32⟩
  | 93 => ⟨S128x1x1, .f32⟩
  | 94 => ⟨S_, .f32⟩
  | 95 => ⟨S128x1x1, .f32⟩
  | 96 => ⟨S128x1x1, .f32⟩
  | 97 => ⟨S_, .f32⟩
  | 98 => ⟨S128x1x1, .f32⟩
  | 99 => ⟨S128x1x1, .f32⟩
  | 100 => ⟨S128x1x1, .f32⟩
  | 101 => ⟨S128x1x1024, .f32⟩
  | 102 => ⟨S128x1x1024, .f32⟩
  | 103 => ⟨S1x1x1024, .f32⟩
  | 104 => ⟨S128x1x1024, .f32⟩
  | 105 => ⟨S128x1x1024, .f32⟩
  | 106 => ⟨S128x1x1024, .f32⟩
  | 107 => ⟨S128x1x1024, .f32⟩
  | 108 => ⟨S128x1x3x1024, .f32⟩
  | 109 => ⟨S128x3x1024, .f32⟩
  | 110 => ⟨S1x1x1024, .f32⟩
  | 111 => ⟨S1024, .f32⟩
  | 112 => ⟨S128x1x1024, .f32⟩
  | 113 => ⟨S_, .f32⟩
  | 114 => ⟨S128x1, .f32⟩
  | 115 => ⟨S128x1x1, .f32⟩
  | 116 => ⟨S_, .f32⟩
  | 117 => ⟨S128x1x1, .f32⟩
  | 118 => ⟨S128x1x1, .f32⟩
  | 119 => ⟨S_, .f32⟩
  | 120 => ⟨S128x1x1, .f32⟩
  | 121 => ⟨S128x1x1, .f32⟩
  | 122 => ⟨S128x1x1, .f32⟩
  | 123 => ⟨S128x1x1024, .f32⟩
  | 124 => ⟨S128x1x1024, .f32⟩
  | 125 => ⟨S1x1x1024, .f32⟩
  | 126 => ⟨S128x1x1024, .f32⟩
  | 127 => ⟨S128x1x1024, .f32⟩
  | _ => ⟨S128x1x1024, .f32⟩

abbrev hbmTy0_1 (i : Nat) : BufTy := match i % 128 with
  | 0 => ⟨S128x1x1024, .f32⟩
  | 1 => ⟨S128x1024, .f32⟩
  | 2 => ⟨S128x1x1024, .f32⟩
  | 3 => ⟨S_, .f32⟩
  | 4 => ⟨S128x1x1024, .f32⟩
  | 5 => ⟨S128x1x1024, .f32⟩
  | 6 => ⟨S128x1x1024, .f32⟩
  | 7 => ⟨S128x1x1024, .f32⟩
  | 8 => ⟨S128x1024, .f32⟩
  | 9 => ⟨S128x1x1024, .f32⟩
  | 10 => ⟨S128x1x1024, .f32⟩
  | 11 => ⟨S1024x2048, .f32⟩
  | 12 => ⟨S128x1x2048, .f32⟩
  | 13 => ⟨S128x1x512, .f32⟩
  | 14 => ⟨S128x1x512, .f32⟩
  | 15 => ⟨S128x1x512, .f32⟩
  | 16 => ⟨S128x1x512, .f32⟩
  | 17 => ⟨S128x15x512, .f32⟩
  | 18 => ⟨S128x16x512, .f32⟩
  | 19 => ⟨S128x512, .f32⟩
  | 20 => ⟨S512x128, .f32⟩
  | 21 => ⟨S128x512, .f32⟩
  | 22 => ⟨S512x128, .f32⟩
  | 23 => ⟨S128x15x512, .f32⟩
  | 24 => ⟨S15x128x512, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_cst_1 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_2 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_call1_v0 : Ref sig .tc := ⟨.hbm, 69, rfl⟩
abbrev main_call1_v1 : Ref sig .tc := ⟨.hbm, 70, rfl⟩
abbrev main_call1_cst : Ref sig .tc := ⟨.hbm, 71, rfl⟩
abbrev main_call1_v2 : Ref sig .tc := ⟨.hbm, 72, rfl⟩
abbrev main_call1_v3 : Ref sig .tc := ⟨.hbm, 73, rfl⟩
abbrev main_call1_cst_0 : Ref sig .tc := ⟨.hbm, 74, rfl⟩
abbrev main_call1_v4 : Ref sig .tc := ⟨.hbm, 75, rfl⟩
abbrev main_call1_v5 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_3 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_cst_4 : Ref sig .tc := ⟨.hbm, 91, rfl⟩
abbrev main_v57 : Ref sig .tc := ⟨.hbm, 92, rfl⟩
abbrev main_v58 : Ref sig .tc := ⟨.hbm, 93, rfl⟩
abbrev main_cst_5 : Ref sig .tc := ⟨.hbm, 94, rfl⟩
abbrev main_v59 : Ref sig .tc := ⟨.hbm, 95, rfl⟩
abbrev main_v60 : Ref sig .tc := ⟨.hbm, 96, rfl⟩
abbrev main_cst_6 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_cst_7 : Ref sig .tc := ⟨.hbm, 113, rfl⟩
abbrev main_v76 : Ref sig .tc := ⟨.hbm, 114, rfl⟩
abbrev main_v77 : Ref sig .tc := ⟨.hbm, 115, rfl⟩
abbrev main_cst_8 : Ref sig .tc := ⟨.hbm, 116, rfl⟩
abbrev main_v78 : Ref sig .tc := ⟨.hbm, 117, rfl⟩
abbrev main_v79 : Ref sig .tc := ⟨.hbm, 118, rfl⟩
abbrev main_cst_9 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_cst_10 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩

abbrev nD : Nat := 1
abbrev τ : Topo := Topo.v7x

variable {F : FTy → Type} [FloatOps F]
-- ==== Kernel6.lean ====
abbrev S128x1x1024 : Shape := ⟨3, ![128, 1, 1024]⟩
abbrev S128x2048 : Shape := ⟨2, ![128, 2048]⟩
abbrev S3x128x1024 : Shape := ⟨3, ![3, 128, 1024]⟩
abbrev S2x3x1024 : Shape := ⟨3, ![2, 3, 1024]⟩
abbrev S1x1024x6144 : Shape := ⟨3, ![1, 1024, 6144]⟩
abbrev S1x2048x1024 : Shape := ⟨3, ![1, 2048, 1024]⟩
abbrev S2x2x1024x5632 : Shape := ⟨4, ![2, 2, 1024, 5632]⟩
abbrev S2x2x2816x1024 : Shape := ⟨4, ![2, 2, 2816, 1024]⟩
abbrev S128x1024 : Shape := ⟨2, ![128, 1024]⟩
abbrev S1x3x128x1024 : Shape := ⟨4, ![1, 3, 128, 1024]⟩
abbrev S_ : Shape := ⟨0, ![]⟩
abbrev S1 : Shape := ⟨1, ![1]⟩
abbrev S128 : Shape := ⟨1, ![128]⟩
abbrev S1x1 : Shape := ⟨2, ![1, 1]⟩
abbrev S1x128 : Shape := ⟨2, ![1, 128]⟩
abbrev S1x1x1024 : Shape := ⟨3, ![1, 1, 1024]⟩
abbrev S1024 : Shape := ⟨1, ![1024]⟩
abbrev S1x1024 : Shape := ⟨2, ![1, 1024]⟩
abbrev S1024x6144 : Shape := ⟨2, ![1024, 6144]⟩
abbrev S128x1 : Shape := ⟨2, ![128, 1]⟩
abbrev S1x1x128x1024 : Shape := ⟨4, ![1, 1, 128, 1024]⟩
abbrev S1024x256 : Shape := ⟨2, ![1024, 256]⟩
abbrev S128x256 : Shape := ⟨2, ![128, 256]⟩
abbrev S128x128 : Shape := ⟨2, ![128, 128]⟩
abbrev S1024x2048 : Shape := ⟨2, ![1024, 2048]⟩
abbrev S2048x1024 : Shape := ⟨2, ![2048, 1024]⟩
abbrev S128x512 : Shape := ⟨2, ![128, 512]⟩
abbrev S1x128x1024 : Shape := ⟨3, ![1, 128, 1024]⟩
abbrev S1x1x1024x5632 : Shape := ⟨4, ![1, 1, 1024, 5632]⟩
abbrev S1x1x2816x1024 : Shape := ⟨4, ![1, 1, 2816, 1024]⟩
abbrev S1024x5632 : Shape := ⟨2, ![1024, 5632]⟩
abbrev S128x5632 : Shape := ⟨2, ![128, 5632]⟩
abbrev S128x2816 : Shape := ⟨2, ![128, 2816]⟩
abbrev S2816x1024 : Shape := ⟨2, ![2816, 1024]⟩

abbrev nBuf : Space → Nat
  | .hbm => 54
  | .vmem => 25
  | .smem => 0
  | _ => 0

abbrev bufTy : (tb : Table) → Fin (tcTables nBuf tb) → BufTy
  | .hbm, ⟨0, _⟩ => ⟨S128x1x1024, .f32⟩
  | .hbm, ⟨1, _⟩ => ⟨S128x2048, .f32⟩
  | .hbm, ⟨2, _⟩ => ⟨S3x128x1024, .f32⟩
  | .hbm, ⟨3, _⟩ => ⟨S3x128x1024, .f32⟩
  | .hbm, ⟨4, _⟩ => ⟨S2x3x1024, .f32⟩
  | .hbm, ⟨5, _⟩ => ⟨S2x3x1024, .f32⟩
  | .hbm, ⟨6, _⟩ => ⟨S1x1024x6144, .f32⟩
  | .hbm, ⟨7, _⟩ => ⟨S1x2048x1024, .f32⟩
  | .hbm, ⟨8, _⟩ => ⟨S2x2x1024x5632, .f32⟩
  | .hbm, ⟨9, _⟩ => ⟨S2x2x2816x1024, .f32⟩
  | .hbm, ⟨10, _⟩ => ⟨S128x1024, .f32⟩
  | .hbm, ⟨11, _⟩ => ⟨S1x3x128x1024, .f32⟩
  | .hbm, ⟨12, _⟩ => ⟨S_, .f32⟩
  | .hbm, ⟨13, _⟩ => ⟨S1, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S128, .f32⟩
  | .hbm, ⟨18, _⟩ => ⟨S128, .f32⟩
  | .hbm, ⟨19, _⟩ => ⟨S_, .f32⟩
  | .hbm, ⟨20, _⟩ => ⟨S128, .f32⟩
  | .hbm, ⟨21, _⟩ => ⟨S128, .f32⟩
  | .hbm, ⟨22, _⟩ => ⟨S1x1, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S1x1x1024, .f32⟩
  | .hbm, ⟨29, _⟩ => ⟨S1024, .f32⟩
  | .hbm, ⟨30, _⟩ => ⟨S1x1024, .f32⟩
  | .hbm, ⟨31, _⟩ => ⟨S1x1024x6144, .bf16⟩
  | .hbm, ⟨32, _⟩ => ⟨S1024x6144, .bf16⟩
  | .hbm, ⟨33, _⟩ => ⟨S128x1024, .f32⟩
  | .hbm, ⟨34, _⟩ => ⟨S128x1024, .f32⟩
  | .hbm, ⟨35, _⟩ => ⟨S128x2048, .f32⟩
  | .hbm, ⟨36, _⟩ => ⟨S128x2048, .f32⟩
  | .hbm, ⟨37, _⟩ => ⟨S1x1x1024, .f32⟩
  | .hbm, ⟨38, _⟩ => ⟨S1024, .f32⟩
  | .hbm, ⟨39, _⟩ => ⟨S1x1024, .f32⟩
  | .hbm, ⟨40, _⟩ => ⟨S1x2048x1024, .bf16⟩
  | .hbm, ⟨41, _⟩ => ⟨S2048x1024, .bf16⟩
  | .hbm, ⟨42, _⟩ => ⟨S128x1024, .f32⟩
  | .hbm, ⟨43, _⟩ => ⟨S1x128x1024, .f32⟩
  | .hbm, ⟨44, _⟩ => ⟨S1x3x128x1024, .f32⟩
  | .hbm, ⟨45, _⟩ => ⟨S1x1x1024, .f32⟩
  | .hbm, ⟨46, _⟩ => ⟨S1024, .f32⟩
  | .hbm, ⟨47, _⟩ => ⟨S1x1024, .f32⟩
  | .hbm, ⟨48, _⟩ => ⟨S1x1x1024, .f32⟩
  | .hbm, ⟨49, _⟩ => ⟨S1024, .f32⟩
  | .hbm, ⟨50, _⟩ => ⟨S1x1024, .f32⟩
  | .hbm, ⟨51, _⟩ => ⟨S2x2x1024x5632, .bf16⟩
  | .hbm, ⟨52, _⟩ => ⟨S2x2x2816x1024, .bf16⟩
  | .hbm, ⟨53, _⟩ => ⟨S1x128x1024, .f32⟩
  | .local _ .vmem, ⟨0, _⟩ => ⟨S128x1024, .f32⟩
  | .local _ .vmem, ⟨1, _⟩ => ⟨S1x3x128x1024, .f32⟩
  | .local _ .vmem, ⟨2, _⟩ => ⟨S1x1024, .f32⟩
  | .local _ .vmem, ⟨3, _⟩ => ⟨S1x128, .f32⟩
  | .local _ .vmem, ⟨4, _⟩ => ⟨S1x128, .f32⟩
  | .local _ .vmem, ⟨5, _⟩ => ⟨S1024x6144, .bf16⟩
  | .local _ .vmem, ⟨6, _⟩ => ⟨S128x1024, .f32⟩
  | .local _ .vmem, ⟨7, _⟩ => ⟨S128x1024, .f32⟩
  | .local _ .vmem, ⟨8, _⟩ => ⟨S128x2048, .f32⟩
  | .local _ .vmem, ⟨9, _⟩ => ⟨S128x2048, .f32⟩
  | .local _ .vmem, ⟨10, _⟩ => ⟨S128x1024, .f32⟩
  | .local _ .vmem, ⟨11, _⟩ => ⟨S1x3x128x1024, .f32⟩
  | .local _ .vmem, ⟨12, _⟩ => ⟨S1x1024, .f32⟩
  | .local _ .vmem, ⟨13, _⟩ => ⟨S128x2048, .f32⟩
  | .local _ .vmem, ⟨14, _⟩ => ⟨S128x2048, .f32⟩
  | .local _ .vmem, ⟨15, _⟩ => ⟨S2048x1024, .bf16⟩
  | .local _ .vmem, ⟨16, _⟩ => ⟨S128x1024, .f32⟩
  | .local _ .vmem, ⟨17, _⟩ => ⟨S128x2048, .bf16⟩
  | .local _ .vmem, ⟨18, _⟩ => ⟨S1x128x1024, .f32⟩
  | .local _ .vmem, ⟨19, _⟩ => ⟨S1x3x128x1024, .f32⟩
  | .local _ .vmem, ⟨20, _⟩ => ⟨S1x1024, .f32⟩
  | .local _ .vmem, ⟨21, _⟩ => ⟨S1x1024, .f32⟩
  | .local _ .vmem, ⟨22, _⟩ => ⟨S1x1x1024x5632, .bf16⟩
  | .local _ .vmem, ⟨23, _⟩ => ⟨S1x1x2816x1024, .bf16⟩
  | .local _ .vmem, ⟨24, _⟩ => ⟨S1x128x1024, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20_0 : Ref sig .tc := ⟨.hbm, 33, rfl⟩
abbrev main_v20_1 : Ref sig .tc := ⟨.hbm, 34, rfl⟩
abbrev main_v20_2 : Ref sig .tc := ⟨.hbm, 35, rfl⟩
abbrev main_v20_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg6_0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 17
abbrev cc2_sem1_0 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x6144 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S128x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S128x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := .none

abbrev stage1_0 : Fin 1 → Memref sig .tc .vmem S128x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x3x128x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S128x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S128x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S2048x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S128x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev grid2 : Pipeline.Grid := ⟨2, ![1, 1], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc2_transform_5 (i : grid2.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .vmem S1x128x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, true]

abbrev stage2_1 : Fin 1 → Memref sig .tc .vmem S1x3x128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![true, true]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1x1024x5632 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x1x2816x1024 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1x128x1024 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![true, true]
-- ==== Reference6Ideal.lean ====
abbrev S128x1x1024 : Shape := ⟨3, ![128, 1, 1024]⟩
abbrev S128x2048 : Shape := ⟨2, ![128, 2048]⟩
abbrev S3x128x1024 : Shape := ⟨3, ![3, 128, 1024]⟩
abbrev S2x3x1024 : Shape := ⟨3, ![2, 3, 1024]⟩
abbrev S1x1024x6144 : Shape := ⟨3, ![1, 1024, 6144]⟩
abbrev S1x2048x1024 : Shape := ⟨3, ![1, 2048, 1024]⟩
abbrev S2x2x1024x5632 : Shape := ⟨4, ![2, 2, 1024, 5632]⟩
abbrev S2x2x2816x1024 : Shape := ⟨4, ![2, 2, 2816, 1024]⟩
abbrev S128x3x1024 : Shape := ⟨3, ![128, 3, 1024]⟩
abbrev S1x1x1024 : Shape := ⟨3, ![1, 1, 1024]⟩
abbrev S1024 : Shape := ⟨1, ![1024]⟩
abbrev S_ : Shape := ⟨0, ![]⟩
abbrev S128x1 : Shape := ⟨2, ![128, 1]⟩
abbrev S128x1x1 : Shape := ⟨3, ![128, 1, 1]⟩
abbrev S128x1024 : Shape := ⟨2, ![128, 1024]⟩
abbrev S1024x6144 : Shape := ⟨2, ![1024, 6144]⟩
abbrev S128x1x6144 : Shape := ⟨3, ![128, 1, 6144]⟩
abbrev S128x1x2048 : Shape := ⟨3, ![128, 1, 2048]⟩
abbrev S128x1x4x512 : Shape := ⟨4, ![128, 1, 4, 512]⟩
abbrev S128x1x4 : Shape := ⟨3, ![128, 1, 4]⟩
abbrev S128x1x4x1 : Shape := ⟨4, ![128, 1, 4, 1]⟩
abbrev S2048x1024 : Shape := ⟨2, ![2048, 1024]⟩
abbrev S1x1x1024x5632 : Shape := ⟨4, ![1, 1, 1024, 5632]⟩
abbrev S1024x5632 : Shape := ⟨2, ![1024, 5632]⟩
abbrev S1x1x2816x1024 : Shape := ⟨4, ![1, 1, 2816, 1024]⟩
abbrev S2816x1024 : Shape := ⟨2, ![2816, 1024]⟩
abbrev S128x1x5632 : Shape := ⟨3, ![128, 1, 5632]⟩
abbrev S128x1x2816 : Shape := ⟨3, ![128, 1, 2816]⟩
abbrev S1x128x1024 : Shape := ⟨3, ![1, 128, 1024]⟩

abbrev nBuf : Space → Nat
  | .hbm => 184
  | .vmem => 0
  | .smem => 0
  | _ => 0

abbrev hbmTy0_0 (i : Nat) : BufTy := match i % 128 with
  | 0 => ⟨S128x1x1024, .f32⟩
  | 1 => ⟨S128x2048, .f32⟩
  | 2 => ⟨S3x128x1024, .f32⟩
  | 3 => ⟨S3x128x1024, .f32⟩
  | 4 => ⟨S2x3x1024, .f32⟩
  | 5 => ⟨S2x3x1024, .f32⟩
  | 6 => ⟨S1x1024x6144, .f32⟩
  | 7 => ⟨S1x2048x1024, .f32⟩
  | 8 => ⟨S2x2x1024x5632, .f32⟩
  | 9 => ⟨S2x2x2816x1024, .f32⟩
  | 10 => ⟨S128x3x1024, .f32⟩
  | 11 => ⟨S1x1x1024, .f32⟩
  | 12 => ⟨S1024, .f32⟩
  | 13 => ⟨S128x1x1024, .f32⟩
  | 14 => ⟨S_, .f32⟩
  | 15 => ⟨S128x1, .f32⟩
  | 16 => ⟨S128x1x1, .f32⟩
  | 17 => ⟨S_, .f32⟩
  | 18 => ⟨S128x1x1, .f32⟩
  | 19 => ⟨S128x1x1, .f32⟩
  | 20 => ⟨S_, .f32⟩
  | 21 => ⟨S128x1x1, .f32⟩
  | 22 => ⟨S128x1x1, .f32⟩
  | 23 => ⟨S128x1x1, .f32⟩
  | 24 => ⟨S128x1x1024, .f32⟩
  | 25 => ⟨S128x1x1024, .f32⟩
  | 26 => ⟨S1x1x1024, .f32⟩
  | 27 => ⟨S128x1x1024, .f32⟩
  | 28 => ⟨S128x1x1024, .f32⟩
  | 29 => ⟨S128x1x1024, .f32⟩
  | 30 => ⟨S128x1024, .f32⟩
  | 31 => ⟨S128x1x1024, .f32⟩
  | 32 => ⟨S_, .f32⟩
  | 33 => ⟨S128x1x1024, .f32⟩
  | 34 => ⟨S128x1x1024, .f32⟩
  | 35 => ⟨S128x1x1024, .f32⟩
  | 36 => ⟨S128x1x1024, .f32⟩
  | 37 => ⟨S128x1024, .f32⟩
  | 38 => ⟨S128x1x1024, .f32⟩
  | 39 => ⟨S128x1x1024, .f32⟩
  | 40 => ⟨S1024x6144, .f32⟩
  | 41 => ⟨S128x1x6144, .f32⟩
  | 42 => ⟨S128x1x1024, .f32⟩
  | 43 => ⟨S128x1x1024, .f32⟩
  | 44 => ⟨S128x1x2048, .f32⟩
  | 45 => ⟨S128x1x2048, .f32⟩
  | 46 => ⟨S128x1x4x512, .f32⟩
  | 47 => ⟨S_, .f32⟩
  | 48 => ⟨S128x1x4, .f32⟩
  | 49 => ⟨S128x1x4x1, .f32⟩
  | 50 => ⟨S_, .f32⟩
  | 51 => ⟨S128x1x4x1, .f32⟩
  | 52 => ⟨S128x1x4x1, .f32⟩
  | 53 => ⟨S128x1x4x512, .f32⟩
  | 54 => ⟨S128x1x4x512, .f32⟩
  | 55 => ⟨S128x1x4x512, .f32⟩
  | 56 => ⟨S_, .f32⟩
  | 57 => ⟨S128x1x4, .f32⟩
  | 58 => ⟨S128x1x4x1, .f32⟩
  | 59 => ⟨S_, .f32⟩
  | 60 => ⟨S128x1x4x1, .f32⟩
  | 61 => ⟨S128x1x4x1, .f32⟩
  | 62 => ⟨S128x1x4x512, .f32⟩
  | 63 => ⟨S128x1x4x512, .f32⟩
  | 64 => ⟨S_, .f32⟩
  | 65 => ⟨S128x1x4x1, .f32⟩
  | 66 => ⟨S128x1x4x1, .f32⟩
  | 67 => ⟨S128x1x4x1, .f32⟩
  | 68 => ⟨S128x1x4x512, .f32⟩
  | 69 => ⟨S128x1x4x512, .f32⟩
  | 70 => ⟨S128x1x2048, .f32⟩
  | 71 => ⟨S128x1x2048, .f32⟩
  | 72 => ⟨S128x1x2048, .f32⟩
  | 73 => ⟨S_, .f32⟩
  | 74 => ⟨S128x1x2048, .f32⟩
  | 75 => ⟨S128x1x2048, .f32⟩
  | 76 => ⟨S_, .f32⟩
  | 77 => ⟨S128x1x2048, .f32⟩
  | 78 => ⟨S128x1x2048, .f32⟩
  | 79 => ⟨S128x1x2048, .f32⟩
  | 80 => ⟨S128x1x2048, .f32⟩
  | 81 => ⟨S2048x1024, .f32⟩
  | 82 => ⟨S128x1x1024, .f32⟩
  | 83 => ⟨S1x1x1024, .f32⟩
  | 84 => ⟨S1024, .f32⟩
  | 85 => ⟨S128x1x1024, .f32⟩
  | 86 => ⟨S128x1024, .f32⟩
  | 87 => ⟨S128x1x1024, .f32⟩
  | 88 => ⟨S_, .f32⟩
  | 89 => ⟨S128x1x1024, .f32⟩
  | 90 => ⟨S128x1x1024, .f32⟩
  | 91 => ⟨S128x1x1024, .f32⟩
  | 92 => ⟨S_, .f32⟩
  | 93 => ⟨S128x1, .f32⟩
  | 94 => ⟨S128x1x1, .f32⟩
  | 95 => ⟨S_, .f32⟩
  | 96 => ⟨S128x1x1, .f32⟩
  | 97 => ⟨S128x1x1, .f32⟩
  | 98 => ⟨S_, .f32⟩
  | 99 => ⟨S128x1x1, .f32⟩
  | 100 => ⟨S128x1x1, .f32⟩
  | 101 => ⟨S128x1x1, .f32⟩
  | 102 => ⟨S128x1x1024, .f32⟩
  | 103 => ⟨S128x1x1024, .f32⟩
  | 104 => ⟨S1x1x1024, .f32⟩
  | 105 => ⟨S128x1x1024, .f32⟩
  | 106 => ⟨S128x1x1024, .f32⟩
  | 107 => ⟨S128x1x1024, .f32⟩
  | 108 => ⟨S128x1x1024, .f32⟩
  | 109 => ⟨S128x3x1024, .f32⟩
  | 110 => ⟨S1x1x1024, .f32⟩
  | 111 => ⟨S1024, .f32⟩
  | 112 => ⟨S128x1x1024, .f32⟩
  | 113 => ⟨S_, .f32⟩
  | 114 => ⟨S128x1, .f32⟩
  | 115 => ⟨S128x1x1, .f32⟩
  | 116 => ⟨S_, .f32⟩
  | 117 => ⟨S128x1x1, .f32⟩
  | 118 => ⟨S128x1x1, .f32⟩
  | 119 => ⟨S_, .f32⟩
  | 120 => ⟨S128x1x1, .f32⟩
  | 121 => ⟨S128x1x1, .f32⟩
  | 122 => ⟨S128x1x1, .f32⟩
  | 123 => ⟨S128x1x1024, .f32⟩
  | 124 => ⟨S128x1x1024, .f32⟩
  | 125 => ⟨S1x1x1024, .f32⟩
  | 126 => ⟨S128x1x1024, .f32⟩
  | 127 => ⟨S128x1x1024, .f32⟩
  | _ => ⟨S128x1x1024, .f32⟩

abbrev hbmTy0_1 (i : Nat) : BufTy := match i % 128 with
  | 0 => ⟨S128x1x1024, .f32⟩
  | 1 => ⟨S128x1024, .f32⟩
  | 2 => ⟨S128x1x1024, .f32⟩
  | 3 => ⟨S_, .f32⟩
  | 4 => ⟨S128x1x1024, .f32⟩
  | 5 => ⟨S128x1x1024, .f32⟩
  | 6 => ⟨S128x1x1024, .f32⟩
  | 7 => ⟨S128x1x1024, .f32⟩
  | 8 => ⟨S128x1024, .f32⟩
  | 9 => ⟨S128x1x1024, .f32⟩
  | 10 => ⟨S128x1x1024, .f32⟩
  | 11 => ⟨S1x1x1024x5632, .f32⟩
  | 12 => ⟨S1024x5632, .f32⟩
  | 13 => ⟨S1x1x2816x1024, .f32⟩
  | 14 => ⟨S2816x1024, .f32⟩
  | 15 => ⟨S128x1x5632, .f32⟩
  | 16 => ⟨S128x1x2816, .f32⟩
  | 17 => ⟨S128x1x2816, .f32⟩
  | 18 => ⟨S128x1x2816, .f32⟩
  | 19 => ⟨S128x1x2816, .f32⟩
  | 20 => ⟨S_, .f32⟩
  | 21 => ⟨S128x1x2816, .f32⟩
  | 22 => ⟨S128x1x2816, .f32⟩
  | 23 => ⟨S_, .f32⟩
  | 24 => ⟨S128x1x2816, .f32⟩
  | 25 => ⟨S128x1x2816, .f32⟩
  | 26 => ⟨S128x1x2816, .f32⟩
  | 27 => ⟨S128x1x2816, .f32⟩
  | 28 => ⟨S128x1x1024, .f32⟩
  | 29 => ⟨S1x1x1024, .f32⟩
  | 30 => ⟨S1024, .f32⟩
  | 31 => ⟨S128x1x1024, .f32⟩
  | 32 => ⟨S128x1024, .f32⟩
  | 33 => ⟨S128x1x1024, .f32⟩
  | 34 => ⟨S_, .f32⟩
  | 35 => ⟨S128x1x1024, .f32⟩
  | 36 => ⟨S128x1x1024, .f32⟩
  | 37 => ⟨S128x1x1024, .f32⟩
  | 38 => ⟨S_, .f32⟩
  | 39 => ⟨S128x1, .f32⟩
  | 40 => ⟨S128x1x1, .f32⟩
  | 41 => ⟨S_, .f32⟩
  | 42 => ⟨S128x1x1, .f32⟩
  | 43 => ⟨S128x1x1, .f32⟩
  | 44 => ⟨S_, .f32⟩
  | 45 => ⟨S128x1x1, .f32⟩
  | 46 => ⟨S128x1x1, .f32⟩
  | 47 => ⟨S128x1x1, .f32⟩
  | 48 => ⟨S128x1x1024, .f32⟩
  | 49 => ⟨S128x1x1024, .f32⟩
  | 50 => ⟨S1x1x1024, .f32⟩
  | 51 => ⟨S128x1x1024, .f32⟩
  | 52 => ⟨S128x1x1024, .f32⟩
  | 53 => ⟨S128x1x1024, .f32⟩
  | 54 => ⟨S128x1x1024, .f32⟩
  | 55 => ⟨S1x128x1024, .f32⟩
  | _ => ⟨S128x1x1024, .f32⟩

abbrev hbmTy (i : Nat) : BufTy := match i / 128 with
  | 0 => hbmTy0_0 i
  | 1 => hbmTy0_1 i
  | _ => ⟨S128x1x1024, .f32⟩

abbrev bufTy : (tb : Table) → Fin (tcTables nBuf tb) → BufTy
  | .hbm, ⟨i, _⟩ => hbmTy i
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_5 : Ref sig .tc := ⟨.hbm, 56, rfl⟩
abbrev main_v40 : Ref sig .tc := ⟨.hbm, 57, rfl⟩
abbrev main_v41 : Ref sig .tc := ⟨.hbm, 58, rfl⟩
abbrev main_cst_6 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_call0_v0 : Ref sig .tc := ⟨.hbm, 71, rfl⟩
abbrev main_call0_v1 : Ref sig .tc := ⟨.hbm, 72, rfl⟩
abbrev main_call0_cst : Ref sig .tc := ⟨.hbm, 73, rfl⟩
abbrev main_call0_v2 : Ref sig .tc := ⟨.hbm, 74, rfl⟩
abbrev main_call0_v3 : Ref sig .tc := ⟨.hbm, 75, rfl⟩
abbrev main_call0_cst_0 : Ref sig .tc := ⟨.hbm, 76, rfl⟩
abbrev main_call0_v4 : Ref sig .tc := ⟨.hbm, 77, rfl⟩
abbrev main_call0_v5 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_8 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_9 : Ref sig .tc := ⟨.hbm, 92, rfl⟩
abbrev main_v64 : Ref sig .tc := ⟨.hbm, 93, rfl⟩
abbrev main_v65 : Ref sig .tc := ⟨.hbm, 94, rfl⟩
abbrev main_cst_10 : Ref sig .tc := ⟨.hbm, 95, rfl⟩
abbrev main_v66 : Ref sig .tc := ⟨.hbm, 96, rfl⟩
abbrev main_v67 : Ref sig .tc := ⟨.hbm, 97, rfl⟩
abbrev main_cst_11 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_12 : Ref sig .tc := ⟨.hbm, 113, rfl⟩
abbrev main_v82 : Ref sig .tc := ⟨.hbm, 114, rfl⟩
abbrev main_v83 : Ref sig .tc := ⟨.hbm, 115, rfl⟩
abbrev main_cst_13 : Ref sig .tc := ⟨.hbm, 116, rfl⟩
abbrev main_v84 : Ref sig .tc := ⟨.hbm, 117, rfl⟩
abbrev main_v85 : Ref sig .tc := ⟨.hbm, 118, rfl⟩
abbrev main_cst_14 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_cst_15 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_call1_v0 : Ref sig .tc := ⟨.hbm, 146, rfl⟩
abbrev main_call1_v1 : Ref sig .tc := ⟨.hbm, 147, rfl⟩
abbrev main_call1_cst : Ref sig .tc := ⟨.hbm, 148, rfl⟩
abbrev main_call1_v2 : Ref sig .tc := ⟨.hbm, 149, rfl⟩
abbrev main_call1_v3 : Ref sig .tc := ⟨.hbm, 150, rfl⟩
abbrev main_call1_cst_0 : Ref sig .tc := ⟨.hbm, 151, rfl⟩
abbrev main_call1_v4 : Ref sig .tc := ⟨.hbm, 152, rfl⟩
abbrev main_call1_v5 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_cst_16 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_cst_17 : Ref sig .tc := ⟨.hbm, 166, rfl⟩
abbrev main_v122 : Ref sig .tc := ⟨.hbm, 167, rfl⟩
abbrev main_v123 : Ref sig .tc := ⟨.hbm, 168, rfl⟩
abbrev main_cst_18 : Ref sig .tc := ⟨.hbm, 169, rfl⟩
abbrev main_v124 : Ref sig .tc := ⟨.hbm, 170, rfl⟩
abbrev main_v125 : Ref sig .tc := ⟨.hbm, 171, rfl⟩
abbrev main_cst_19 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩

abbrev nD : Nat := 1
abbrev τ : Topo := Topo.v7x

variable {F : FTy → Type} [FloatOps F]
-- ==== Proof.KernelBlock.lean ====
module
public import proofs.«01_k».proof.Proof.Gen.KernelIdeal.Value
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelIdeal.Value
open Idealize.ShloMosaic Idealize.ShloMosaic.TcCoe Idealize.SL.Sem Cert.KernelIdeal.Gen
variable {F : FTy → Type} [FloatOps F]

/-- The two halves of the projected columns, each multiplied by the angles' cosine and sine: the rotary positions. -/
def rotF (h : FVec F S512x1024 .bf16) (cs sn : FVec F S512x128 .f32) (w : Vec F S1024x256 .bf16) : FVec F S512x256 .f32 :=
  let p := matmul dot_S512x1024_S1024x256_S512x256_1_0_0_1_n_n none h (shapeCast S1024x256 w shapeCasts_S1024x256_S1024x256)
    (constant S512x256 .f32 0x00000000#32)
  let a := extractStridedSlice S512x128 ![0, 0] p slices_S512x256_o0_0_S512x128
  let b := extractStridedSlice S512x128 ![0, 128] p slices_S512x256_o0_128_S512x128
  concatenate S512x256 1 [⟨S512x128, subf (mulf a cs) (mulf b sn)⟩, ⟨S512x128, addf (mulf a sn) (mulf b cs)⟩]
    concatenates_S512x128_S512x128_S512x256_d1

/-- A head's queries: the rotated columns. -/
def qF (h : FVec F S512x1024 .bf16) (cs sn : FVec F S512x128 .f32) (w : Vec F S1024x256 .bf16) : FVec F S512x256 .bf16 :=
  truncf .bf16 (rotF h cs sn w) bitsLt_bf16_f32

/-- A head's keys: the rotated columns, divided by sixteen. -/
def kF (h : FVec F S512x1024 .bf16) (cs sn : FVec F S512x128 .f32) (w : Vec F S1024x256 .bf16) : FVec F S512x256 .f32 :=
  mulf (rotF h cs sn w) (broadcast S512x256 (Scalar.ofBits .f32 0x3D800000#32))

/-- A head's gate columns: the plain projection. -/
def gF (h : FVec F S512x1024 .bf16) (w : Vec F S1024x512 .bf16) : FVec F S512x512 .f32 :=
  matmul dot_S512x1024_S1024x512_S512x512_1_0_0_1_n_n none h (shapeCast S1024x512 w shapeCasts_S1024x512_S1024x512)
    (constant S512x512 .f32 0x00000000#32)

/-- A head's values: the plain projection. -/
def vF (h : FVec F S512x1024 .bf16) (w : Vec F S1024x512 .bf16) : FVec F S512x512 .bf16 :=
  truncf .bf16 (gF h w) bitsLt_bf16_f32

/-- The state after a chunk of 256 positions: the old state decayed by the whole chunk, plus the chunk's keys, each
decayed to the chunk's end, against its values. -/
def sF (k : FVec F S256x256 .f32) (v : FVec F S256x512 .bf16) (S : Vec F S1x1x256x512 .f32) (kd : Vec F S1x256x1 .f32)
    (full : Elt F .f32) : FVec F S1x1x256x512 .f32 :=
  shapeCast S1x1x256x512
    (addf (mulf (broadcast S256x512 full) (shapeCast S256x512 S shapeCasts_S1x1x256x512_S256x512))
      (matmul dot_S256x256_S256x512_S256x512_0_0_1_1_n_n none
        (truncf .bf16 (mulf k (broadcastTo S256x256 (shapeCast S256x1 kd shapeCasts_S1x256x1_S256x1) broadcasts_S256x1_S256x256))
          bitsLt_bf16_f32) v (constant S256x512 .f32 0x00000000#32)))
    shapeCasts_S256x512_S1x1x256x512

/-- The outputs of a chunk: the decayed scores inside the chunk against its values, plus the queries against the
state that comes in, decayed to each position. -/
def oF (q : FVec F S256x256 .bf16) (k : FVec F S256x256 .f32) (v : FVec F S256x512 .bf16) (dec : Vec F S1x256x256 .f32)
    (S : Vec F S1x1x256x512 .f32) (cr : Vec F S1x256x1 .f32) : FVec F S256x512 .f32 :=
  addf
    (matmul dot_S256x256_S256x512_S256x512_1_0_0_1_n_n none
      (truncf .bf16
        (mulf (matmul dot_S256x256_S256x256_S256x256_1_1_0_0_n_n none q (truncf .bf16 k bitsLt_bf16_f32)
          (constant S256x256 .f32 0x00000000#32)) (shapeCast S256x256 dec shapeCasts_S1x256x256_S256x256)) bitsLt_bf16_f32)
      v (constant S256x512 .f32 0x00000000#32))
    (mulf
      (matmul dot_S256x256_S256x512_S256x512_1_0_0_1_n_n none q
        (truncf .bf16 (shapeCast S256x512 S shapeCasts_S1x1x256x512_S256x512) bitsLt_bf16_f32)
        (constant S256x512 .f32 0x00000000#32))
      (broadcastTo S256x512 (shapeCast S256x1 cr shapeCasts_S1x256x1_S256x1) broadcasts_S256x1_S256x512))

/-- The outputs of a chunk, normalised over the head's columns and multiplied by the gate. -/
def nF (g : FVec F S256x512 .f32) (o : FVec F S256x512 .f32) : FVec F S256x512 .bf16 :=
  let c := subf o (broadcastTo S256x512
    (divf (shapeCast S256x1 (multiReduction .add [1] S256 o 0x00000000#32 reduces_S256x512_S256 (.inl rfl) rfl) shapeCasts_S256_S256x1)
      (broadcast S256x1 (Scalar.ofBits .f32 0x44000000#32))) broadcasts_S256x1_S256x512)
  let r := rsqrt (addf
    (divf (shapeCast S256x1 (multiReduction .add [1] S256 (mulf c c) 0x00000000#32 reduces_S256x512_S256 (.inl rfl) rfl) shapeCasts_S256_S256x1)
      (broadcast S256x1 (Scalar.ofBits .f32 0x44000000#32)))
    (broadcast S256x1 (Scalar.ofBits .f32 0x3727C5AC#32)))
  shapeCast S256x512 (truncf .bf16 (mulf (mulf c (broadcastTo S256x512 r broadcasts_S256x1_S256x512)) (mulf g (logistic g))) bitsLt_bf16_f32)
    shapeCasts_S256x512_S256x512

/-- The normalised, modulated rows a block starts from. -/
def hF (x1 : Vec F S1x512x1024 .f32) (x2 : Vec F S1x3x1x1024 .f32) (x3 : Vec F S1x1024 .f32) : FVec F S512x1024 .bf16 :=
  k0_pay4 x1 x3 (View.ld x2 (Rect.unit ![0, 1, 0, 0] ![1, 1, 1, 1024] inb_S1x3x1x1024_S1x1x1x1024_0_1_0_0))
    (View.ld x2 (Rect.unit ![0, 0, 0, 0] ![1, 1, 1, 1024] inb_S1x3x1x1024_S1x1x1x1024_0_0_0_0))

/-- Head 0's queries of the block. -/
def qH0 (h : FVec F S512x1024 .bf16) (x5 x6 : Vec F S512x128 .f32) (x7 : Vec F S1024x6144 .bf16) : FVec F S512x256 .bf16 :=
  qF h (k0_pay5 x5) (k0_pay6 x6) (View.ld x7 (Rect.unit ![0, 0] ![1024, 256] inb_S1024x6144_S1024x256_0_0))

/-- Head 0's keys of the block. -/
def kH0 (h : FVec F S512x1024 .bf16) (x5 x6 : Vec F S512x128 .f32) (x7 : Vec F S1024x6144 .bf16) : FVec F S512x256 .f32 :=
  kF h (k0_pay5 x5) (k0_pay6 x6) (View.ld x7 (Rect.unit ![0, 1024] ![1024, 256] inb_S1024x6144_S1024x256_0_1024))

/-- Head 0's values of the block. -/
def vH0 (h : FVec F S512x1024 .bf16) (x7 : Vec F S1024x6144 .bf16) : FVec F S512x512 .bf16 :=
  vF h (View.ld x7 (Rect.unit ![0, 2048] ![1024, 512] inb_S1024x6144_S1024x512_0_2048))

/-- Head 0's gate columns of the block. -/
def gH0 (h : FVec F S512x1024 .bf16) (x7 : Vec F S1024x6144 .bf16) : FVec F S512x512 .f32 :=
  gF h (View.ld x7 (Rect.unit ![0, 4096] ![1024, 512] inb_S1024x6144_S1024x512_0_4096))

/-- Head 1's queries of the block. -/
def qH1 (h : FVec F S512x1024 .bf16) (x5 x6 : Vec F S512x128 .f32) (x7 : Vec F S1024x6144 .bf16) : FVec F S512x256 .bf16 :=
  qF h (k0_pay5 x5) (k0_pay6 x6) (View.ld x7 (Rect.unit ![0, 256] ![1024, 256] inb_S1024x6144_S1024x256_0_256))

/-- Head 1's keys of the block. -/
def kH1 (h : FVec F S512x1024 .bf16) (x5 x6 : Vec F S512x128 .f32) (x7 : Vec F S1024x6144 .bf16) : FVec F S512x256 .f32 :=
  kF h (k0_pay5 x5) (k0_pay6 x6) (View.ld x7 (Rect.unit ![0, 1280] ![1024, 256] inb_S1024x6144_S1024x256_0_1280))

/-- Head 1's values of the block. -/
def vH1 (h : FVec F S512x1024 .bf16) (x7 : Vec F S1024x6144 .bf16) : FVec F S512x512 .bf16 :=
  vF h (View.ld x7 (Rect.unit ![0, 2560] ![1024, 512] inb_S1024x6144_S1024x512_0_2560))

/-- Head 1's gate columns of the block. -/
def gH1 (h : FVec F S512x1024 .bf16) (x7 : Vec F S1024x6144 .bf16) : FVec F S512x512 .f32 :=
  gF h (View.ld x7 (Rect.unit ![0, 4608] ![1024, 512] inb_S1024x6144_S1024x512_0_4608))

/-- Head 2's queries of the block. -/
def qH2 (h : FVec F S512x1024 .bf16) (x5 x6 : Vec F S512x128 .f32) (x7 : Vec F S1024x6144 .bf16) : FVec F S512x256 .bf16 :=
  qF h (k0_pay5 x5) (k0_pay6 x6) (View.ld x7 (Rect.unit ![0, 512] ![1024, 256] inb_S1024x6144_S1024x256_0_512))

/-- Head 2's keys of the block. -/
def kH2 (h : FVec F S512x1024 .bf16) (x5 x6 : Vec F S512x128 .f32) (x7 : Vec F S1024x6144 .bf16) : FVec F S512x256 .f32 :=
  kF h (k0_pay5 x5) (k0_pay6 x6) (View.ld x7 (Rect.unit ![0, 1536] ![1024, 256] inb_S1024x6144_S1024x256_0_1536))

/-- Head 2's values of the block. -/
def vH2 (h : FVec F S512x1024 .bf16) (x7 : Vec F S1024x6144 .bf16) : FVec F S512x512 .bf16 :=
  vF h (View.ld x7 (Rect.unit ![0, 3072] ![1024, 512] inb_S1024x6144_S1024x512_0_3072))

/-- Head 2's gate columns of the block. -/
def gH2 (h : FVec F S512x1024 .bf16) (x7 : Vec F S1024x6144 .bf16) : FVec F S512x512 .f32 :=
  gF h (View.ld x7 (Rect.unit ![0, 5120] ![1024, 512] inb_S1024x6144_S1024x512_0_5120))

/-- Head 3's queries of the block. -/
def qH3 (h : FVec F S512x1024 .bf16) (x5 x6 : Vec F S512x128 .f32) (x7 : Vec F S1024x6144 .bf16) : FVec F S512x256 .bf16 :=
  qF h (k0_pay5 x5) (k0_pay6 x6) (View.ld x7 (Rect.unit ![0, 768] ![1024, 256] inb_S1024x6144_S1024x256_0_768))

/-- Head 3's keys of the block. -/
def kH3 (h : FVec F S512x1024 .bf16) (x5 x6 : Vec F S512x128 .f32) (x7 : Vec F S1024x6144 .bf16) : FVec F S512x256 .f32 :=
  kF h (k0_pay5 x5) (k0_pay6 x6) (View.ld x7 (Rect.unit ![0, 1792] ![1024, 256] inb_S1024x6144_S1024x256_0_1792))

/-- Head 3's values of the block. -/
def vH3 (h : FVec F S512x1024 .bf16) (x7 : Vec F S1024x6144 .bf16) : FVec F S512x512 .bf16 :=
  vF h (View.ld x7 (Rect.unit ![0, 3584] ![1024, 512] inb_S1024x6144_S1024x512_0_3584))

/-- Head 3's gate columns of the block. -/
def gH3 (h : FVec F S512x1024 .bf16) (x7 : Vec F S1024x6144 .bf16) : FVec F S512x512 .f32 :=
  gF h (View.ld x7 (Rect.unit ![0, 5632] ![1024, 512] inb_S1024x6144_S1024x512_0_5632))

/-- The upper 256 rows of a block of keys or queries. -/
def up {e : FTy} (v : FVec F S512x256 e) : FVec F S256x256 e := extractStridedSlice S256x256 ![0, 0] v slices_S512x256_o0_0_S256x256

/-- The lower 256 rows of a block of keys or queries. -/
def lo {e : FTy} (v : FVec F S512x256 e) : FVec F S256x256 e := extractStridedSlice S256x256 ![256, 0] v slices_S512x256_o256_0_S256x256

/-- The upper 256 rows of a block of values or gates. -/
def upV {e : FTy} (v : FVec F S512x512 e) : FVec F S256x512 e := extractStridedSlice S256x512 ![0, 0] v slices_S512x512_o0_0_S256x512

/-- The lower 256 rows of a block of values or gates. -/
def loV {e : FTy} (v : FVec F S512x512 e) : FVec F S256x512 e := extractStridedSlice S256x512 ![256, 0] v slices_S512x512_o256_0_S256x512

/-- Head 0's state after the block's first chunk, from the state `S` before the block. -/
def mid0 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (up (kH0 h x5 x6 x7)) (upV (vH0 h x7)) S (View.ld x11 (Rect.unit ![0, 0, 0] ![1, 256, 1] inb_S4x256x1_S1x256x1_0_0_0)) (View.ld x0 (Rect.unit ![0] ![1] inb_S4_S1_0) (Shape.Idx.first (by decide))))

/-- Head 0's state after the block's second chunk. -/
def fin0 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (lo (kH0 h x5 x6 x7)) (loV (vH0 h x7)) (mid0 h x0 x5 x6 x7 x11 S) (View.ld x11 (Rect.unit ![0, 0, 0] ![1, 256, 1] inb_S4x256x1_S1x256x1_0_0_0)) (View.ld x0 (Rect.unit ![0] ![1] inb_S4_S1_0) (Shape.Idx.first (by decide))))

/-- Head 1's state after the block's first chunk, from the state `S` before the block. -/
def mid1 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (up (kH1 h x5 x6 x7)) (upV (vH1 h x7)) S (View.ld x11 (Rect.unit ![1, 0, 0] ![1, 256, 1] inb_S4x256x1_S1x256x1_1_0_0)) (View.ld x0 (Rect.unit ![1] ![1] inb_S4_S1_1) (Shape.Idx.first (by decide))))

/-- Head 1's state after the block's second chunk. -/
def fin1 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (lo (kH1 h x5 x6 x7)) (loV (vH1 h x7)) (mid1 h x0 x5 x6 x7 x11 S) (View.ld x11 (Rect.unit ![1, 0, 0] ![1, 256, 1] inb_S4x256x1_S1x256x1_1_0_0)) (View.ld x0 (Rect.unit ![1] ![1] inb_S4_S1_1) (Shape.Idx.first (by decide))))

/-- Head 2's state after the block's first chunk, from the state `S` before the block. -/
def mid2 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (up (kH2 h x5 x6 x7)) (upV (vH2 h x7)) S (View.ld x11 (Rect.unit ![2, 0, 0] ![1, 256, 1] inb_S4x256x1_S1x256x1_2_0_0)) (View.ld x0 (Rect.unit ![2] ![1] inb_S4_S1_2) (Shape.Idx.first (by decide))))

/-- Head 2's state after the block's second chunk. -/
def fin2 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (lo (kH2 h x5 x6 x7)) (loV (vH2 h x7)) (mid2 h x0 x5 x6 x7 x11 S) (View.ld x11 (Rect.unit ![2, 0, 0] ![1, 256, 1] inb_S4x256x1_S1x256x1_2_0_0)) (View.ld x0 (Rect.unit ![2] ![1] inb_S4_S1_2) (Shape.Idx.first (by decide))))

/-- Head 3's state after the block's first chunk, from the state `S` before the block. -/
def mid3 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (up (kH3 h x5 x6 x7)) (upV (vH3 h x7)) S (View.ld x11 (Rect.unit ![3, 0, 0] ![1, 256, 1] inb_S4x256x1_S1x256x1_3_0_0)) (View.ld x0 (Rect.unit ![3] ![1] inb_S4_S1_3) (Shape.Idx.first (by decide))))

/-- Head 3's state after the block's second chunk. -/
def fin3 (h : FVec F S512x1024 .bf16) (x0 : Vec F S4 .f32) (x5 x6 : Vec F S512x128 .f32) (x7 : Vec F S1024x6144 .bf16) (x11 : Vec F S4x256x1 .f32) (S : Vec F S1x1x256x512 .f32) : FVec F S1x1x256x512 .f32 :=
  (sF (lo (kH3 h x5 x6 x7)) (loV (vH3 h x7)) (mid3 h x0 x5 x6 x7 x11 S) (View.ld x11 (Rect.unit ![3, 0, 0] ![1, 256, 1] inb_S4x256x1_S1x256x1_3_0_0)) (View.ld x0 (Rect.unit ![3] ![1] inb_S4_S1_3) (Shape.Idx.first (by decide))))

/-- The writes of the state of a block: each head's last state over its first. -/
def sList (h : FVec F S512x1024 .bf16) (x0 : Vec F S4 .f32) (x5 x6 : Vec F S512x128 .f32) (x7 : Vec F S1024x6144 .bf16) (x11 : Vec F S4x256x1 .f32) (S0 S1 S2 S3 : Vec F S1x1x256x512 .f32) : List (View.Piece (Elt F) S1x4x256x512 .f32) :=
  [⟨Rect.unit ![0, 3, 0, 0] ![1, 1, 256, 512] inb_S1x4x256x512_S1x1x256x512_0_3_0_0, fin3 h x0 x5 x6 x7 x11 S3⟩, ⟨Rect.unit ![0, 2, 0, 0] ![1, 1, 256, 512] inb_S1x4x256x512_S1x1x256x512_0_2_0_0, fin2 h x0 x5 x6 x7 x11 S2⟩, ⟨Rect.unit ![0, 1, 0, 0] ![1, 1, 256, 512] inb_S1x4x256x512_S1x1x256x512_0_1_0_0, fin1 h x0 x5 x6 x7 x11 S1⟩, ⟨Rect.unit ![0, 0, 0, 0] ![1, 1, 256, 512] inb_S1x4x256x512_S1x1x256x512_0_0_0_0, fin0 h x0 x5 x6 x7 x11 S0⟩,
   ⟨Rect.unit ![0, 3, 0, 0] ![1, 1, 256, 512] inb_S1x4x256x512_S1x1x256x512_0_3_0_0, mid3 h x0 x5 x6 x7 x11 S3⟩, ⟨Rect.unit ![0, 2, 0, 0] ![1, 1, 256, 512] inb_S1x4x256x512_S1x1x256x512_0_2_0_0, mid2 h x0 x5 x6 x7 x11 S2⟩, ⟨Rect.unit ![0, 1, 0, 0] ![1, 1, 256, 512] inb_S1x4x256x512_S1x1x256x512_0_1_0_0, mid1 h x0 x5 x6 x7 x11 S1⟩, ⟨Rect.unit ![0, 0, 0, 0] ![1, 1, 256, 512] inb_S1x4x256x512_S1x1x256x512_0_0_0_0, mid0 h x0 x5 x6 x7 x11 S0⟩]

/-- Head 0's gated outputs of the block's first chunk. -/
def fst0 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (upV (gH0 h x7)) (oF (up (qH0 h x5 x6 x7)) (up (kH0 h x5 x6 x7)) (upV (vH0 h x7)) (View.ld x9 (Rect.unit ![0, 0, 0] ![1, 256, 256] inb_S4x256x256_S1x256x256_0_0_0)) S (View.ld x10 (Rect.unit ![0, 0, 0] ![1, 256, 1] inb_S4x256x1_S1x256x1_0_0_0)))

/-- Head 0's gated outputs of the block's second chunk. -/
def snd0 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (loV (gH0 h x7)) (oF (lo (qH0 h x5 x6 x7)) (lo (kH0 h x5 x6 x7)) (loV (vH0 h x7)) (View.ld x9 (Rect.unit ![0, 0, 0] ![1, 256, 256] inb_S4x256x256_S1x256x256_0_0_0)) (mid0 h x0 x5 x6 x7 x11 S) (View.ld x10 (Rect.unit ![0, 0, 0] ![1, 256, 1] inb_S4x256x1_S1x256x1_0_0_0)))

/-- Head 1's gated outputs of the block's first chunk. -/
def fst1 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (upV (gH1 h x7)) (oF (up (qH1 h x5 x6 x7)) (up (kH1 h x5 x6 x7)) (upV (vH1 h x7)) (View.ld x9 (Rect.unit ![1, 0, 0] ![1, 256, 256] inb_S4x256x256_S1x256x256_1_0_0)) S (View.ld x10 (Rect.unit ![1, 0, 0] ![1, 256, 1] inb_S4x256x1_S1x256x1_1_0_0)))

/-- Head 1's gated outputs of the block's second chunk. -/
def snd1 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (loV (gH1 h x7)) (oF (lo (qH1 h x5 x6 x7)) (lo (kH1 h x5 x6 x7)) (loV (vH1 h x7)) (View.ld x9 (Rect.unit ![1, 0, 0] ![1, 256, 256] inb_S4x256x256_S1x256x256_1_0_0)) (mid1 h x0 x5 x6 x7 x11 S) (View.ld x10 (Rect.unit ![1, 0, 0] ![1, 256, 1] inb_S4x256x1_S1x256x1_1_0_0)))

/-- Head 2's gated outputs of the block's first chunk. -/
def fst2 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (upV (gH2 h x7)) (oF (up (qH2 h x5 x6 x7)) (up (kH2 h x5 x6 x7)) (upV (vH2 h x7)) (View.ld x9 (Rect.unit ![2, 0, 0] ![1, 256, 256] inb_S4x256x256_S1x256x256_2_0_0)) S (View.ld x10 (Rect.unit ![2, 0, 0] ![1, 256, 1] inb_S4x256x1_S1x256x1_2_0_0)))

/-- Head 2's gated outputs of the block's second chunk. -/
def snd2 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (loV (gH2 h x7)) (oF (lo (qH2 h x5 x6 x7)) (lo (kH2 h x5 x6 x7)) (loV (vH2 h x7)) (View.ld x9 (Rect.unit ![2, 0, 0] ![1, 256, 256] inb_S4x256x256_S1x256x256_2_0_0)) (mid2 h x0 x5 x6 x7 x11 S) (View.ld x10 (Rect.unit ![2, 0, 0] ![1, 256, 1] inb_S4x256x1_S1x256x1_2_0_0)))

/-- Head 3's gated outputs of the block's first chunk. -/
def fst3 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (upV (gH3 h x7)) (oF (up (qH3 h x5 x6 x7)) (up (kH3 h x5 x6 x7)) (upV (vH3 h x7)) (View.ld x9 (Rect.unit ![3, 0, 0] ![1, 256, 256] inb_S4x256x256_S1x256x256_3_0_0)) S (View.ld x10 (Rect.unit ![3, 0, 0] ![1, 256, 1] inb_S4x256x1_S1x256x1_3_0_0)))

/-- Head 3's gated outputs of the block's second chunk. -/
def snd3 (h : FVec F S512x1024 .bf16) (x0 : Vec F S4 .f32) (x5 x6 : Vec F S512x128 .f32) (x7 : Vec F S1024x6144 .bf16) (x9 : Vec F S4x256x256 .f32) (x10 x11 : Vec F S4x256x1 .f32) (S : Vec F S1x1x256x512 .f32) : FVec F S256x512 .bf16 :=
  nF (loV (gH3 h x7)) (oF (lo (qH3 h x5 x6 x7)) (lo (kH3 h x5 x6 x7)) (loV (vH3 h x7)) (View.ld x9 (Rect.unit ![3, 0, 0] ![1, 256, 256] inb_S4x256x256_S1x256x256_3_0_0)) (mid3 h x0 x5 x6 x7 x11 S) (View.ld x10 (Rect.unit ![3, 0, 0] ![1, 256, 1] inb_S4x256x1_S1x256x1_3_0_0)))

/-- The writes of the gated outputs of a block. -/
def oList (h : FVec F S512x1024 .bf16) (x0 : Vec F S4 .f32) (x5 x6 : Vec F S512x128 .f32) (x7 : Vec F S1024x6144 .bf16) (x9 : Vec F S4x256x256 .f32) (x10 x11 : Vec F S4x256x1 .f32) (S0 S1 S2 S3 : Vec F S1x1x256x512 .f32) : List (View.Piece (Elt F) S512x2048 .bf16) :=
  [⟨Rect.unit ![256, 1536] ![256, 512] inb_S512x2048_S256x512_256_1536, snd3 h x0 x5 x6 x7 x9 x10 x11 S3⟩, ⟨Rect.unit ![256, 1024] ![256, 512] inb_S512x2048_S256x512_256_1024, snd2 h x0 x5 x6 x7 x9 x10 x11 S2⟩, ⟨Rect.unit ![256, 512] ![256, 512] inb_S512x2048_S256x512_256_512, snd1 h x0 x5 x6 x7 x9 x10 x11 S1⟩, ⟨Rect.unit ![256, 0] ![256, 512] inb_S512x2048_S256x512_256_0, snd0 h x0 x5 x6 x7 x9 x10 x11 S0⟩,
   ⟨Rect.unit ![0, 1536] ![256, 512] inb_S512x2048_S256x512_0_1536, fst3 h x0 x5 x6 x7 x9 x10 x11 S3⟩, ⟨Rect.unit ![0, 1024] ![256, 512] inb_S512x2048_S256x512_0_1024, fst2 h x0 x5 x6 x7 x9 x10 x11 S2⟩, ⟨Rect.unit ![0, 512] ![256, 512] inb_S512x2048_S256x512_0_512, fst1 h x0 x5 x6 x7 x9 x10 x11 S1⟩, ⟨Rect.unit ![0, 0] ![256, 512] inb_S512x2048_S256x512_0_0, fst0 h x0 x5 x6 x7 x9 x10 x11 S0⟩]

/-- The block of the result: the rows plus the gated, normalised projection of the outputs. -/
def xF (x1 : Vec F S1x512x1024 .f32) (x2 : Vec F S1x3x1x1024 .f32) (x4 : Vec F S1x1024 .f32) (x8 : Vec F S2048x1024 .bf16)
    (o : Vec F S512x2048 .bf16) : FVec F S1x512x1024 .f32 :=
  k0_pay1 (k0_pay3 x1) (k0_pay102 o x8)
    (k0_pay103 (View.ld x2 (Rect.unit ![0, 2, 0, 0] ![1, 1, 1, 1024] inb_S1x3x1x1024_S1x1x1x1024_0_2_0_0))) x4

end Cert.KernelIdeal.Value
-- ==== Proof.KernelFold.lean ====
module
public import proofs.«01_k».proof.Proof.Gen.KernelIdeal.Value
public import proofs.«01_k».proof.Proof.KernelBlock
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelIdeal.Value
open Idealize.ShloMosaic Idealize.ShloMosaic.TcCoe Idealize.SL.Sem Cert.KernelIdeal.Gen
variable {F : FTy → Type} [FloatOps F]

/-- Head 0's queries, as the block computes them. -/
theorem queries0 (h : FVec F S512x1024 .bf16) (c s : FVec F S512x128 .f32) (w : Vec F S1024x256 .bf16) :
    k0_pay7 h c s w = qF h c s w := rfl

/-- Head 1's queries, as the block computes them. -/
theorem queries1 (h : FVec F S512x1024 .bf16) (c s : FVec F S512x128 .f32) (w : Vec F S1024x256 .bf16) :
    k0_pay17 (k0_pay14 h c s w) (k0_pay15 h s w) (k0_pay16 h c w) = qF h c s w := rfl

/-- Head 2's queries, as the block computes them. -/
theorem queries2 (h : FVec F S512x1024 .bf16) (c s : FVec F S512x128 .f32) (w : Vec F S1024x256 .bf16) :
    k0_pay21 h c s w = qF h c s w := rfl

/-- Head 3's queries, as the block computes them. -/
theorem queries3 (h : FVec F S512x1024 .bf16) (c s : FVec F S512x128 .f32) (w : Vec F S1024x256 .bf16) :
    k0_pay30 h c s w = qF h c s w := rfl

/-- Head 0's keys, as the block computes them. -/
theorem keys0 (h : FVec F S512x1024 .bf16) (c s : FVec F S512x128 .f32) (w : Vec F S1024x256 .bf16) :
    k0_pay8 h c s w = kF h c s w := rfl

/-- Head 1's keys, as the block computes them. -/
theorem keys1 (h : FVec F S512x1024 .bf16) (c s : FVec F S512x128 .f32) (w : Vec F S1024x256 .bf16) :
    k0_pay18 h c s w = kF h c s w := rfl

/-- Head 2's keys, as the block computes them. -/
theorem keys2 (h : FVec F S512x1024 .bf16) (c s : FVec F S512x128 .f32) (w : Vec F S1024x256 .bf16) :
    k0_pay27 c s (k0_pay23 h w) (k0_pay24 h w) (k0_pay25 h c w) (k0_pay26 h s w) = kF h c s w := rfl

/-- Head 3's keys, as the block computes them. -/
theorem keys3 (h : FVec F S512x1024 .bf16) (c s : FVec F S512x128 .f32) (w : Vec F S1024x256 .bf16) :
    k0_pay31 h c s w = kF h c s w := rfl

/-- Head 0's values, as the block computes them. -/
theorem values0 (h : FVec F S512x1024 .bf16) (w : Vec F S1024x512 .bf16) :
    k0_pay9 h w = vF h w := rfl

/-- Head 1's values, as the block computes them. -/
theorem values1 (h : FVec F S512x1024 .bf16) (w : Vec F S1024x512 .bf16) :
    k0_pay19 h w = vF h w := rfl

/-- Head 2's values, as the block computes them. -/
theorem values2 (h : FVec F S512x1024 .bf16) (w : Vec F S1024x512 .bf16) :
    k0_pay28 h w = vF h w := rfl

/-- Head 3's values, as the block computes them. -/
theorem values3 (h : FVec F S512x1024 .bf16) (w : Vec F S1024x512 .bf16) :
    k0_pay33 h (k0_pay32 w) (constant S512x512 .f32 0x00000000#32) = vF h w := rfl

/-- Head 0's gate columns, as the block computes them. -/
theorem gates0 (h : FVec F S512x1024 .bf16) (w : Vec F S1024x512 .bf16) :
    k0_pay10 h w = gF h w := rfl

/-- Head 1's gate columns, as the block computes them. -/
theorem gates1 (h : FVec F S512x1024 .bf16) (w : Vec F S1024x512 .bf16) :
    k0_pay20 h w = gF h w := rfl

/-- Head 2's gate columns, as the block computes them. -/
theorem gates2 (h : FVec F S512x1024 .bf16) (w : Vec F S1024x512 .bf16) :
    k0_pay29 h w = gF h w := rfl

/-- Head 3's gate columns, as the block computes them. -/
theorem gates3 (h : FVec F S512x1024 .bf16) (w : Vec F S1024x512 .bf16) :
    k0_pay34 h w = gF h w := rfl

/-- Head 0's state after the first chunk, as the block computes them. -/
theorem mids0 (k : FVec F S512x256 .f32) (v : FVec F S512x512 .bf16) (S : Vec F S1x1x256x512 .f32) (kd : Vec F S1x256x1 .f32) (full : Elt F .f32) :
    k0_pay40 (k0_pay39 k v S kd full) = sF (up k) (upV v) S kd full := rfl

/-- Head 1's state after the first chunk, as the block computes them. -/
theorem mids1 (k : FVec F S512x256 .f32) (v : FVec F S512x512 .bf16) (S : Vec F S1x1x256x512 .f32) (kd : Vec F S1x256x1 .f32) (full : Elt F .f32) :
    k0_pay48 (k0_pay43 k) (k0_pay44 v) (k0_pay45 S) kd full = sF (up k) (upV v) S kd full := rfl

/-- Head 2's state after the first chunk, as the block computes them. -/
theorem mids2 (k : FVec F S512x256 .f32) (v : FVec F S512x512 .bf16) (S : Vec F S1x1x256x512 .f32) (kd : Vec F S1x256x1 .f32) (full : Elt F .f32) :
    k0_pay55 k v S kd full = sF (up k) (upV v) S kd full := rfl

/-- Head 3's state after the first chunk, as the block computes them. -/
theorem mids3 (k : FVec F S512x256 .f32) (v : FVec F S512x512 .bf16) (S : Vec F S1x1x256x512 .f32) (kd : Vec F S1x256x1 .f32) (full : Elt F .f32) :
    k0_pay65 (k0_pay60 k) (k0_pay61 v) (k0_pay62 S) kd full = sF (up k) (upV v) S kd full := rfl

/-- Head 0's state after the second chunk, as the block computes them. -/
theorem fins0 (k : FVec F S512x256 .f32) (v : FVec F S512x512 .bf16) (S : Vec F S1x1x256x512 .f32) (kd : Vec F S1x256x1 .f32) (full : Elt F .f32) :
    k0_pay72 (k0_pay68 k) (k0_pay69 v) S kd full = sF (lo k) (loV v) S kd full := rfl

/-- Head 1's state after the second chunk, as the block computes them. -/
theorem fins1 (k : FVec F S512x256 .f32) (v : FVec F S512x512 .bf16) (S : Vec F S1x1x256x512 .f32) (kd : Vec F S1x256x1 .f32) (full : Elt F .f32) :
    k0_pay81 (k0_pay76 k) (k0_pay77 v) (k0_pay78 S) (k0_pay80 kd) full = sF (lo k) (loV v) S kd full := rfl

/-- Head 2's state after the second chunk, as the block computes them. -/
theorem fins2 (k : FVec F S512x256 .f32) (v : FVec F S512x512 .bf16) (S : Vec F S1x1x256x512 .f32) (kd : Vec F S1x256x1 .f32) (full : Elt F .f32) :
    k0_pay88 (k0_pay84 k) (k0_pay85 v) S kd full = sF (lo k) (loV v) S kd full := rfl

/-- Head 3's state after the second chunk, as the block computes them. -/
theorem fins3 (k : FVec F S512x256 .f32) (v : FVec F S512x512 .bf16) (S : Vec F S1x1x256x512 .f32) (kd : Vec F S1x256x1 .f32) (full : Elt F .f32) :
    k0_pay100 (k0_pay95 v) (k0_pay96 S) (k0_pay98 k kd) (k0_pay99 full) = sF (lo k) (loV v) S kd full := rfl

/-- Head 0's gated outputs of the first chunk, as the block computes them. -/
theorem outs0 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay41 g (k0_pay38 q k v dec S cr) = nF (upV g) (oF (up q) (up k) (upV v) dec S cr) := rfl

/-- Head 1's gated outputs of the first chunk, as the block computes them. -/
theorem outs1 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay50 (k0_pay49 g (k0_pay46 q k v dec) (k0_pay47 q S) cr) = nF (upV g) (oF (up q) (up k) (upV v) dec S cr) := rfl

/-- Head 2's gated outputs of the first chunk, as the block computes them. -/
theorem outs2 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay58 (k0_pay54 q k v dec S cr) (k0_pay56 g) (k0_pay57 q k v dec S cr) = nF (upV g) (oF (up q) (up k) (upV v) dec S cr) := rfl

/-- Head 3's gated outputs of the first chunk, as the block computes them. -/
theorem outs3 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay66 g (k0_pay63 q k v dec) (k0_pay64 q S cr) = nF (upV g) (oF (up q) (up k) (upV v) dec S cr) := rfl

/-- Head 0's gated outputs of the second chunk, as the block computes them. -/
theorem outs'0 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay75 (k0_pay73 g) (k0_pay74 (k0_pay67 q) (k0_pay69 v) (k0_pay70 k) dec S cr) = nF (loV g) (oF (lo q) (lo k) (loV v) dec S cr) := rfl

/-- Head 1's gated outputs of the second chunk, as the block computes them. -/
theorem outs'1 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay82 g (k0_pay79 q k v dec S cr) = nF (loV g) (oF (lo q) (lo k) (loV v) dec S cr) := rfl

/-- Head 2's gated outputs of the second chunk, as the block computes them. -/
theorem outs'2 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay93 (k0_pay89 g) (k0_pay90 (k0_pay83 q) (k0_pay85 v) (k0_pay86 q k) dec S cr) (k0_pay91 (k0_pay83 q) (k0_pay85 v) (k0_pay86 q k) dec S cr) k0_pay92 = nF (loV g) (oF (lo q) (lo k) (loV v) dec S cr) := rfl

/-- Head 3's gated outputs of the second chunk, as the block computes them. -/
theorem outs'3 (q : FVec F S512x256 .bf16) (k : FVec F S512x256 .f32) (v : FVec F S512x512 .bf16) (g : FVec F S512x512 .f32) (dec : Vec F S1x256x256 .f32) (S : Vec F S1x1x256x512 .f32) (cr : Vec F S1x256x1 .f32) :
    k0_pay101 g (k0_pay97 q k v dec S cr) = nF (loV g) (oF (lo q) (lo k) (loV v) dec S cr) := rfl

end Cert.KernelIdeal.Value
-- ==== Proof.KernelOpen.lean ====
module
public import proofs.«01_k».proof.Proof.Gen.KernelIdeal.Value
public import proofs.«01_k».proof.Proof.KernelFold
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelIdeal.Value
open Idealize.ShloMosaic Idealize.ShloMosaic.TcCoe Idealize.SL.Sem Cert.KernelIdeal.Gen
variable {F : FTy → Type} [FloatOps F]

/-- The state of a head at a sequence's first block: zero everywhere. -/
def zS : FVec F S1x1x256x512 .f32 := broadcast S1x1x256x512 (Scalar.ofBits .f32 0x00000000#32)

/-- A load of the whole scratch array reads what its writes leave. -/
theorem readCov_all {sig : RefSig} {κ : Kind} {sp : Space} (v : View sig κ sp S512x2048 .bf16)
    (L : List (View.Piece (Elt F) S512x2048 .bf16)) :
    v.readCov L (Rect.unit ![0, 0] ![512, 2048] inb_S512x2048_S512x2048_0_0).toLoadRect = View.canon L := by
  rw [View.readCov_eq_canon']
  funext j
  congr 1
  funext a
  apply Fin.ext
  fin_cases a <;> simp [LoadRect.idx, Rect.toLoadRect, Rect.unit]

/-- The state window after a later block: the heads' last states. -/
theorem out0_B_13_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x3x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1024x6144 .bf16) (harg9 : arg9.IsWhole) (arg10 : Memref sig .tc .vmem S2048x1024 .bf16) (harg10 : arg10.IsWhole) (arg11 : Memref sig .tc .vmem S4x256x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S1x512x1024 .f32) (harg14 : arg14.IsWhole) (arg15 : Memref sig .tc .vmem S1x4x256x512 .f32) (harg15 : arg15.IsWhole) (arg16 : Memref sig .tc .vmem S512x2048 .bf16) (harg16 : arg16.IsWhole) (hc0 : ¬cond0_0 i)
    (x0 : Vec F S4 .f32) (x1 : Vec F S1x512x1024 .f32) (x2 : Vec F S1x3x1x1024 .f32) (x3 : Vec F S1x1024 .f32) (x4 : Vec F S1x1024 .f32) (x5 : Vec F S512x128 .f32) (x6 : Vec F S512x128 .f32) (x7 : Vec F S1024x6144 .bf16) (x8 : Vec F S2048x1024 .bf16) (x9 : Vec F S4x256x256 .f32) (x10 : Vec F S4x256x1 .f32) (x11 : Vec F S4x256x1 .f32) (xo13 : Vec F S1x4x256x512 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 =
      View.canon (sList (hF x1 x2 x3) x0 x5 x6 x7 x11 (View.ld xo13 (Rect.unit ![0, 0, 0, 0] ![1, 1, 256, 512] inb_S1x4x256x512_S1x1x256x512_0_0_0_0)) (View.ld xo13 (Rect.unit ![0, 1, 0, 0] ![1, 1, 256, 512] inb_S1x4x256x512_S1x1x256x512_0_1_0_0)) (View.ld xo13 (Rect.unit ![0, 2, 0, 0] ![1, 1, 256, 512] inb_S1x4x256x512_S1x1x256x512_0_2_0_0)) (View.ld xo13 (Rect.unit ![0, 3, 0, 0] ![1, 1, 256, 512] inb_S1x4x256x512_S1x1x256x512_0_3_0_0))) := by
  frame_open
  simp (disch := decide) only [↓ View.readCov_skip, ↓ View.readCov_cons_toLoadRect, ↓ View.readCov_fill]
  frame_out
  rfl

set_option maxHeartbeats 2000000 in
/-- The result window after a later block: the rows plus the projected outputs. -/
theorem out0_B_12_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x3x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1024x6144 .bf16) (harg9 : arg9.IsWhole) (arg10 : Memref sig .tc .vmem S2048x1024 .bf16) (harg10 : arg10.IsWhole) (arg11 : Memref sig .tc .vmem S4x256x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S1x512x1024 .f32) (harg14 : arg14.IsWhole) (arg15 : Memref sig .tc .vmem S1x4x256x512 .f32) (harg15 : arg15.IsWhole) (arg16 : Memref sig .tc .vmem S512x2048 .bf16) (harg16 : arg16.IsWhole) (hc0 : ¬cond0_0 i)
    (x0 : Vec F S4 .f32) (x1 : Vec F S1x512x1024 .f32) (x2 : Vec F S1x3x1x1024 .f32) (x3 : Vec F S1x1024 .f32) (x4 : Vec F S1x1024 .f32) (x5 : Vec F S512x128 .f32) (x6 : Vec F S512x128 .f32) (x7 : Vec F S1024x6144 .bf16) (x8 : Vec F S2048x1024 .bf16) (x9 : Vec F S4x256x256 .f32) (x10 : Vec F S4x256x1 .f32) (x11 : Vec F S4x256x1 .f32) (xo13 : Vec F S1x4x256x512 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 xo13 =
      xF x1 x2 x4 x8 (View.canon (oList (hF x1 x2 x3) x0 x5 x6 x7 x9 x10 x11 (View.ld xo13 (Rect.unit ![0, 0, 0, 0] ![1, 1, 256, 512] inb_S1x4x256x512_S1x1x256x512_0_0_0_0)) (View.ld xo13 (Rect.unit ![0, 1, 0, 0] ![1, 1, 256, 512] inb_S1x4x256x512_S1x1x256x512_0_1_0_0)) (View.ld xo13 (Rect.unit ![0, 2, 0, 0] ![1, 1, 256, 512] inb_S1x4x256x512_S1x1x256x512_0_2_0_0)) (View.ld xo13 (Rect.unit ![0, 3, 0, 0] ![1, 1, 256, 512] inb_S1x4x256x512_S1x1x256x512_0_3_0_0)))) := by
  frame_open
  simp (disch := decide) only [↓ View.readCov_skip, ↓ View.readCov_cons_toLoadRect, ↓ View.readCov_fill]
  frame_out
  simp only [readCov_all, queries0, queries1, queries2, queries3, keys0, keys1, keys2, keys3, values0, values1, values2, values3,
    gates0, gates1, gates2, gates3, mids0, mids1, mids2, mids3, fins0, fins1, fins2, fins3, outs0, outs1, outs2,
    outs3, outs'0, outs'1, outs'2, outs'3]
  rfl

/-- The state window after a sequence's first block: the heads' last states. -/
theorem out0_A_13_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x3x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1024x6144 .bf16) (harg9 : arg9.IsWhole) (arg10 : Memref sig .tc .vmem S2048x1024 .bf16) (harg10 : arg10.IsWhole) (arg11 : Memref sig .tc .vmem S4x256x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S1x512x1024 .f32) (harg14 : arg14.IsWhole) (arg15 : Memref sig .tc .vmem S1x4x256x512 .f32) (harg15 : arg15.IsWhole) (arg16 : Memref sig .tc .vmem S512x2048 .bf16) (harg16 : arg16.IsWhole) (hc0 : cond0_0 i)
    (x0 : Vec F S4 .f32) (x1 : Vec F S1x512x1024 .f32) (x2 : Vec F S1x3x1x1024 .f32) (x3 : Vec F S1x1024 .f32) (x4 : Vec F S1x1024 .f32) (x5 : Vec F S512x128 .f32) (x6 : Vec F S512x128 .f32) (x7 : Vec F S1024x6144 .bf16) (x8 : Vec F S2048x1024 .bf16) (x9 : Vec F S4x256x256 .f32) (x10 : Vec F S4x256x1 .f32) (x11 : Vec F S4x256x1 .f32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 =
      View.canon (sList (hF x1 x2 x3) x0 x5 x6 x7 x11 zS zS zS zS ++ [⟨Rect.unit ![0, 0, 0, 0] ![1, 4, 256, 512] inb_S1x4x256x512_S1x4x256x512_0_0_0_0, k0_pay2⟩]) := by
  frame_open
  simp (disch := decide) only [↓ View.readCov_skip, ↓ View.readCov_cons_toLoadRect, ↓ View.readCov_fill]
  frame_out
  rfl

set_option maxHeartbeats 2000000 in
/-- The result window after a sequence's first block: the rows plus the projected outputs. -/
theorem out0_A_12_eq (c : Dev nD) (i : grid0.Coords) (arg2 : Memref sig .tc .smem S4 .f32) (harg2 : arg2.IsWhole) (arg3 : Memref sig .tc .vmem S1x512x1024 .f32) (harg3 : arg3.IsWhole) (arg4 : Memref sig .tc .vmem S1x3x1x1024 .f32) (harg4 : arg4.IsWhole) (arg5 : Memref sig .tc .vmem S1x1024 .f32) (harg5 : arg5.IsWhole) (arg6 : Memref sig .tc .vmem S1x1024 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S1024x6144 .bf16) (harg9 : arg9.IsWhole) (arg10 : Memref sig .tc .vmem S2048x1024 .bf16) (harg10 : arg10.IsWhole) (arg11 : Memref sig .tc .vmem S4x256x256 .f32) (harg11 : arg11.IsWhole) (arg12 : Memref sig .tc .vmem S4x256x1 .f32) (harg12 : arg12.IsWhole) (arg13 : Memref sig .tc .vmem S4x256x1 .f32) (harg13 : arg13.IsWhole) (arg14 : Memref sig .tc .vmem S1x512x1024 .f32) (harg14 : arg14.IsWhole) (arg15 : Memref sig .tc .vmem S1x4x256x512 .f32) (harg15 : arg15.IsWhole) (arg16 : Memref sig .tc .vmem S512x2048 .bf16) (harg16 : arg16.IsWhole) (hc0 : cond0_0 i)
    (x0 : Vec F S4 .f32) (x1 : Vec F S1x512x1024 .f32) (x2 : Vec F S1x3x1x1024 .f32) (x3 : Vec F S1x1024 .f32) (x4 : Vec F S1x1024 .f32) (x5 : Vec F S512x128 .f32) (x6 : Vec F S512x128 .f32) (x7 : Vec F S1024x6144 .bf16) (x8 : Vec F S2048x1024 .bf16) (x9 : Vec F S4x256x256 .f32) (x10 : Vec F S4x256x1 .f32) (x11 : Vec F S4x256x1 .f32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 x9 x10 x11 =
      xF x1 x2 x4 x8 (View.canon (oList (hF x1 x2 x3) x0 x5 x6 x7 x9 x10 x11 zS zS zS zS)) := by
  frame_open
  simp (disch := decide) only [↓ View.readCov_skip, ↓ View.readCov_cons_toLoadRect, ↓ View.readCov_fill]
  frame_out
  simp only [readCov_all, queries0, queries1, queries2, queries3, keys0, keys1, keys2, keys3, values0, values1, values2, values3,
    gates0, gates1, gates2, gates3, mids0, mids1, mids2, mids3, fins0, fins1, fins2, fins3, outs0, outs1, outs2,
    outs3, outs'0, outs'1, outs'2, outs'3]
  rfl

end Cert.KernelIdeal.Value
-- ==== Proof.RetMath.lean ====
/-
  The recurrence of retention over the real numbers: the state after `n` tokens and the output of a token as sums over
  all earlier tokens, and the step that takes both over one chunk of any length. The kernel's chunk and the reference's
  chunk are two instances.
-/
module

public import Idealize.ShloMosaic.PureOps.Ideal

@[expose] public section

noncomputable section

namespace Cert.Ret

/-- One entry of the retention state after the first `n` tokens: `k` is the key's lane, `v` the value's lane. -/
def st (lg : ℝ) (k v : ℕ → ℝ) (n : ℕ) : ℝ :=
  ∑ m ∈ Finset.range n, k m * Real.exp (((n : ℝ) - 1 - m) * lg) * v m

/-- One entry of the retention output of token `t`, whose query is `q`. -/
def out {D : ℕ} (lg : ℝ) (q : Fin D → ℝ) (k : Fin D → ℕ → ℝ) (v : ℕ → ℝ) (t : ℕ) : ℝ :=
  ∑ m ∈ Finset.range (t + 1), (∑ d, q d * k d m) * Real.exp (((t : ℝ) - m) * lg) * v m

/-- No token has been seen: the state is zero. -/
theorem st_zero (lg : ℝ) (k v : ℕ → ℝ) : st lg k v 0 = 0 := by simp [st]

/-- The state after one more chunk of `C` tokens. -/
theorem st_step (lg : ℝ) (k v : ℕ → ℝ) (C n : ℕ) :
    Real.exp ((C : ℝ) * lg) * st lg k v n
        + ∑ r : Fin C, (k (n + r) * Real.exp (((C : ℝ) - 1 - (r : ℕ)) * lg)) * v (n + r)
      = st lg k v (n + C) := by
  unfold st
  rw [Finset.sum_range_add, Finset.mul_sum, ← Fin.sum_univ_eq_sum_range
    (fun r => k (n + r) * Real.exp ((((n + C : ℕ) : ℝ) - 1 - ((n + r : ℕ) : ℝ)) * lg) * v (n + r))]
  congr 1
  · refine Finset.sum_congr rfl fun m _ => ?_
    rw [show (((n + C : ℕ) : ℝ) - 1 - m) * lg = (C : ℝ) * lg + ((n : ℝ) - 1 - m) * lg by push_cast; ring,
      Real.exp_add]
    ring
  · refine Finset.sum_congr rfl fun r _ => ?_
    rw [show (((n + C : ℕ) : ℝ) - 1 - ((n + (r : ℕ) : ℕ) : ℝ)) * lg = ((C : ℝ) - 1 - (r : ℕ)) * lg by push_cast; ring]

/-- The decay between token `m` and token `r` of one chunk. -/
def dec (lg : ℝ) (r m : ℕ) : ℝ := if m ≤ r then Real.exp (((r : ℝ) - m) * lg) else 0

/-- The output of token `r` of a chunk that starts at token `n`: the part inside the chunk plus the state's part. -/
theorem out_step {D : ℕ} (lg : ℝ) (q : Fin D → ℝ) (k : Fin D → ℕ → ℝ) (v : ℕ → ℝ) (C n : ℕ) (r : Fin C) :
    (∑ m : Fin C, ((∑ d, q d * k d (n + m)) * dec lg r m) * v (n + m))
        + (∑ d, q d * st lg (k d) v n) * Real.exp ((((r : ℕ) : ℝ) + 1) * lg)
      = out lg q k v (n + r) := by
  have hsplit : out lg q k v (n + r)
      = ∑ m ∈ Finset.range (n + C), if m ≤ n + r then
          (∑ d, q d * k d m) * Real.exp ((((n + (r : ℕ) : ℕ) : ℝ) - m) * lg) * v m else 0 := by
    unfold out
    rw [← Finset.sum_filter]
    refine Finset.sum_congr ?_ fun _ _ => rfl
    ext m
    simp only [Finset.mem_range, Finset.mem_filter]
    have := r.isLt
    omega
  rw [hsplit, Finset.sum_range_add, add_comm, ← Fin.sum_univ_eq_sum_range (fun m => if n + m ≤ n + r then
          (∑ d, q d * k d (n + m)) * Real.exp ((((n + (r : ℕ) : ℕ) : ℝ) - ((n + m : ℕ) : ℝ)) * lg) * v (n + m) else 0)]
  congr 1
  · unfold st
    simp only [Finset.mul_sum]
    rw [Finset.sum_comm, Finset.sum_mul]
    refine Finset.sum_congr rfl fun m hm => ?_
    have hm' := Finset.mem_range.mp hm
    rw [if_pos (by omega), show (((n + (r : ℕ) : ℕ) : ℝ) - m) * lg
      = ((n : ℝ) - 1 - m) * lg + (((r : ℕ) : ℝ) + 1) * lg by push_cast; ring, Real.exp_add]
    simp only [Finset.sum_mul]
    refine Finset.sum_congr rfl fun d _ => ?_
    ring
  · refine Finset.sum_congr rfl fun m _ => ?_
    unfold dec
    by_cases h : (m : ℕ) ≤ r
    · rw [if_pos h, if_pos (by omega), show (((n + (r : ℕ) : ℕ) : ℝ) - ((n + (m : ℕ) : ℕ) : ℝ)) * lg
        = (((r : ℕ) : ℝ) - (m : ℕ)) * lg by push_cast; ring]
    · rw [if_neg h, if_neg (by omega)]
      ring

end Cert.Ret
-- ==== Proof.Layer.lean ====
/-
  The layer's mathematics at one index, from the layer's inputs: the normalised row, the projections, the rotated query
  and key, the value, the gate, the group norm, the sublayer's tail. Both programs are shown to compute these. Below,
  that every one of them up to the retention output is a real number where the inputs are real numbers.
-/
module

public import proofs.«01_k».proof.Proof.RetMath
public import Idealize.ShloMosaic.Lib.IdealHost
public import Idealize.ShloMosaic.Lib.Pointwise

@[expose] public section

noncomputable section

namespace Cert.Ret

open Idealize.ShloMosaic

/-- The layer's inputs, entry by entry. -/
structure Inp where
  /-- the hidden states: batch, token, lane -/
  X : Fin 8 → Fin 2048 → Fin 1024 → EReal
  /-- shift, scale and gate: batch, which of the three, lane -/
  M : Fin 8 → Fin 3 → Fin 1024 → EReal
  /-- the weight of the norm before the sublayer -/
  GP : Fin 1024 → EReal
  /-- the weight of the norm after the sublayer -/
  GQ : Fin 1024 → EReal
  /-- the joint projection -/
  WI : Fin 1024 → Fin 6144 → EReal
  /-- the output projection -/
  WO : Fin 2048 → Fin 1024 → EReal

/-- The inputs of the layer, from a program's six arguments. -/
def Inp.of (x : (⟨3, ![8, 2048, 1024]⟩ : Shape).Idx → EReal) (m : (⟨3, ![8, 3, 1024]⟩ : Shape).Idx → EReal)
    (gp gq : (⟨3, ![2, 3, 1024]⟩ : Shape).Idx → EReal) (wi : (⟨3, ![1, 1024, 6144]⟩ : Shape).Idx → EReal)
    (wo : (⟨3, ![1, 2048, 1024]⟩ : Shape).Idx → EReal) : Inp where
  X b t n := x (ix3 b t n)
  M b i n := m (ix3 b i n)
  GP n := gp (ix3 1 1 n)
  GQ n := gq (ix3 1 1 n)
  WI n c := wi (ix3 0 n c)
  WO j n := wo (ix3 0 j n)

/-- A number of tokens, heads or lanes as a float. -/
def nat (n : ℕ) : EReal := FloatOps.sitofp (F := Ideal) FTy.f32 (BitVec.ofNat 32 n)

/-- The root mean square's reciprocal of a row of 1024 lanes. -/
def rinv (y : Fin 1024 → EReal) : EReal :=
  Ideal.rsqrt (Ideal.div (∑ x, y x * y x) (Ideal.ofBits FTy.f32 1149239296#32) + Ideal.ofBits FTy.f32 897988541#32)

/-- The normalised and modulated row. -/
def H (I : Inp) (b : Fin 8) (t : Fin 2048) (n : Fin 1024) : EReal :=
  I.X b t n * rinv (I.X b t) * I.GP n * (1 + I.M b 1 n) + I.M b 0 n

/-- The joint projection. -/
def P (I : Inp) (b : Fin 8) (t : Fin 2048) (col : Fin 6144) : EReal := ∑ x, H I b t x * I.WI x col

/-- The rotation's angle of a token at a lane. -/
def ang (t : Fin 2048) (d : Fin 128) : EReal :=
  nat t * Ideal.pow (Ideal.ofBits FTy.f32 1176256512#32) (Ideal.div (-nat d) (Ideal.ofBits FTy.f32 1124073472#32))

/-- The rotated 256 lanes that start at column `o` of the projection. -/
def rot (I : Inp) (b : Fin 8) (t : Fin 2048) (o : ℕ) (ho : o + 256 ≤ 6144) (d : Fin 256) : EReal :=
  if h : (d : ℕ) < 128 then
    P I b t ⟨o + d, by omega⟩ * Ideal.cos (ang t ⟨d, h⟩) - P I b t ⟨o + (128 + d), by omega⟩ * Ideal.sin (ang t ⟨d, h⟩)
  else
    P I b t ⟨o + (d - 128), by omega⟩ * Ideal.sin (ang t ⟨d - 128, by omega⟩)
      + P I b t ⟨o + (128 + (d - 128)), by omega⟩ * Ideal.cos (ang t ⟨d - 128, by omega⟩)

/-- The query of a head. -/
def Q (I : Inp) (b : Fin 8) (h : Fin 4) (t : Fin 2048) (d : Fin 256) : EReal := rot I b t (h * 256) (by omega) d

/-- The key of a head, scaled. -/
def K (I : Inp) (b : Fin 8) (h : Fin 4) (t : Fin 2048) (d : Fin 256) : EReal :=
  rot I b t (1024 + h * 256) (by omega) d * Ideal.ofBits FTy.f32 0x3D800000#32

/-- The value of a head. -/
def V (I : Inp) (b : Fin 8) (h : Fin 4) (t : Fin 2048) (e : Fin 512) : EReal := P I b t ⟨2048 + (h * 512 + e), by omega⟩

/-- The gate, over all heads' lanes. -/
def G (I : Inp) (b : Fin 8) (t : Fin 2048) (j : Fin 2048) : EReal := P I b t ⟨4096 + j, by omega⟩

/-- The logarithm of a head's decay. -/
def LG (h : Fin 4) : EReal :=
  Ideal.log (1 - Ideal.exp (Ideal.ofBits FTy.f32 1060205080#32 * (Ideal.ofBits FTy.f32 3231711232#32 - nat h)))

/-- The mean of a head's 512 lanes. -/
def mean (o : Fin 512 → EReal) : EReal := Ideal.div (∑ x, o x) (Ideal.ofBits FTy.f32 1140850688#32)

/-- The group norm of a head's 512 lanes. -/
def gn (o : Fin 512 → EReal) (e : Fin 512) : EReal :=
  (o e - mean o) * Ideal.rsqrt (Ideal.div (∑ x, (o x - mean o) * (o x - mean o)) (Ideal.ofBits FTy.f32 1140850688#32)
    + Ideal.ofBits FTy.f32 925353388#32)

/-- The gate's activation. -/
def silu (g : EReal) : EReal := g * Ideal.logistic g

/-- A head's group norm, gated: lane `e` of head `h`. -/
def gated (I : Inp) (O : Fin 8 → Fin 4 → Fin 2048 → Fin 512 → EReal) (b : Fin 8) (t : Fin 2048) (h : Fin 4)
    (e : Fin 512) : EReal :=
  gn (O b h t) e * silu (G I b t ⟨h * 512 + e, by omega⟩)

/-- The output projection of the gated heads. -/
def Y (I : Inp) (O : Fin 8 → Fin 4 → Fin 2048 → Fin 512 → EReal) (b : Fin 8) (t : Fin 2048) (n : Fin 1024) : EReal :=
  ∑ j : Fin 2048, gated I O b t ⟨j / 512, by omega⟩ ⟨j % 512, by omega⟩ * I.WO j n

/-- The sublayer's result: the residual plus the gated norm of the output projection. -/
def tail (I : Inp) (O : Fin 8 → Fin 4 → Fin 2048 → Fin 512 → EReal) (b : Fin 8) (t : Fin 2048) (n : Fin 1024) : EReal :=
  I.X b t n + I.M b 2 n * (Y I O b t n * rinv (Y I O b t) * I.GQ n)

/-! ## Real numbers -/

/-- An extended real that is a real number. -/
def R (x : EReal) : Prop := ∃ r : ℝ, x = r

/-- A real number is one. -/
theorem R.coe (r : ℝ) : R (r : EReal) := ⟨r, rfl⟩
/-- The real number itself. -/
theorem R.eq {x : EReal} (h : R x) : x = ((x.toReal : ℝ) : EReal) := by obtain ⟨r, rfl⟩ := h; rfl
/-- Sums of two. -/
theorem R.add {x y : EReal} (hx : R x) (hy : R y) : R (x + y) := by
  obtain ⟨r, rfl⟩ := hx; obtain ⟨s, rfl⟩ := hy; exact ⟨r + s, (EReal.coe_add r s).symm⟩
/-- Differences. -/
theorem R.sub {x y : EReal} (hx : R x) (hy : R y) : R (x - y) := by
  obtain ⟨r, rfl⟩ := hx; obtain ⟨s, rfl⟩ := hy; exact ⟨r - s, (EReal.coe_sub r s).symm⟩
/-- Products. -/
theorem R.mul {x y : EReal} (hx : R x) (hy : R y) : R (x * y) := by
  obtain ⟨r, rfl⟩ := hx; obtain ⟨s, rfl⟩ := hy; exact ⟨r * s, (EReal.coe_mul r s).symm⟩

/-- A sum of reals in the extended reals. -/
theorem coe_sum {ι : Type*} [Fintype ι] (f : ι → ℝ) : ((∑ i, f i : ℝ) : EReal) = ∑ i, (f i : EReal) := by
  classical
  induction (Finset.univ : Finset ι) using Finset.induction with
  | empty => simp
  | insert a s ha ih => rw [Finset.sum_insert ha, Finset.sum_insert ha, EReal.coe_add, ih]

/-- Sums. -/
theorem R.sum {ι : Type*} [Fintype ι] {f : ι → EReal} (h : ∀ i, R (f i)) : R (∑ i, f i) := by
  choose g hg using h
  exact ⟨∑ i, g i, by rw [coe_sum]; exact Finset.sum_congr rfl fun i _ => hg i⟩

/-- A count is a real number. -/
theorem nat_eq (n : ℕ) (h : n < 2 ^ 31) : nat n = ((n : ℝ) : EReal) := by
  unfold nat
  show (((BitVec.ofNat 32 n).toInt : ℝ) : EReal) = _
  have hn : (BitVec.ofNat 32 n).toNat = n := by rw [BitVec.toNat_ofNat]; exact Nat.mod_eq_of_lt (by omega)
  rw [BitVec.toInt_eq_toNat_of_lt (by omega), hn]
  norm_cast

/-- The pattern of 1024. -/
theorem ofBits_1024 : Ideal.ofBits FTy.f32 1149239296#32 = ((1024 : ℝ) : EReal) := by
  simp [Ideal.ofBits, Ideal.ieee, -EReal.coe_mul]; norm_num
/-- The norm's small constant is a positive real. -/
theorem ofBits_eps : ∃ r : ℝ, 0 < r ∧ Ideal.ofBits FTy.f32 897988541#32 = (r : EReal) := by
  refine ⟨_, ?_, by simp [Ideal.ofBits, Ideal.ieee, -EReal.coe_mul]; rfl⟩; positivity
/-- The pattern of the natural logarithm of 2, rounded, is a positive real. -/
theorem ofBits_ln2 : ∃ r : ℝ, 0 < r ∧ Ideal.ofBits FTy.f32 1060205080#32 = (r : EReal) := by
  refine ⟨_, ?_, by simp [Ideal.ofBits, Ideal.ieee, -EReal.coe_mul]; rfl⟩; positivity
/-- The pattern of -5. -/
theorem ofBits_m5 : Ideal.ofBits FTy.f32 3231711232#32 = ((-5 : ℝ) : EReal) := by
  simp [Ideal.ofBits, Ideal.ieee, -EReal.coe_mul, -EReal.coe_neg]; norm_num
/-- The pattern of 10000. -/
theorem ofBits_10000 : Ideal.ofBits FTy.f32 1176256512#32 = ((10000 : ℝ) : EReal) := by
  simp [Ideal.ofBits, Ideal.ieee, -EReal.coe_mul]; norm_num
/-- The pattern of 128. -/
theorem ofBits_128 : Ideal.ofBits FTy.f32 1124073472#32 = ((128 : ℝ) : EReal) := by
  simp [Ideal.ofBits, Ideal.ieee, -EReal.coe_mul]; norm_num
/-- The pattern of 127. -/
theorem ofBits_127 : Ideal.ofBits FTy.f32 1123942400#32 = ((127 : ℝ) : EReal) := by
  simp [Ideal.ofBits, Ideal.ieee, -EReal.coe_mul]; norm_num
/-- The pattern of 256. -/
theorem ofBits_256 : Ideal.ofBits FTy.f32 1132462080#32 = ((256 : ℝ) : EReal) := by
  simp [Ideal.ofBits, Ideal.ieee, -EReal.coe_mul]; norm_num
/-- The pattern of 255. -/
theorem ofBits_255 : Ideal.ofBits FTy.f32 1132396544#32 = ((255 : ℝ) : EReal) := by
  simp [Ideal.ofBits, Ideal.ieee, -EReal.coe_mul]; norm_num
/-- The pattern of 1/16. -/
theorem ofBits_sixteenth : Ideal.ofBits FTy.f32 0x3D800000#32 = ((1 / 16 : ℝ) : EReal) := by
  simp [Ideal.ofBits, Ideal.ieee, -EReal.coe_mul]; norm_num

/-- The root mean square's reciprocal of a real row is real. -/
theorem R.rinv {y : Fin 1024 → EReal} (h : ∀ n, R (y n)) : R (rinv y) := by
  choose g hg using h
  obtain ⟨ε, hε, he⟩ := ofBits_eps
  unfold Ret.rinv
  have hs : (∑ x, y x * y x) = ((∑ x, g x * g x : ℝ) : EReal) := by
    rw [coe_sum]; exact Finset.sum_congr rfl fun x _ => by rw [hg, EReal.coe_mul]
  have hp : 0 ≤ ∑ x, g x * g x := Finset.sum_nonneg fun x _ => mul_self_nonneg _
  rw [hs, he, ofBits_1024, Ideal.div_coe (by norm_num), ← EReal.coe_mul, ← EReal.coe_add, Ideal.rsqrt_coe,
    if_neg (not_lt.mpr (by positivity)), if_neg (ne_of_gt (by positivity))]
  exact R.coe _

/-- A head's decay is between 0 and 1, so its logarithm is real. -/
theorem R.LG (h : Fin 4) : R (LG h) := by
  obtain ⟨l, hl, e⟩ := ofBits_ln2
  unfold Ret.LG
  rw [e, ofBits_m5, nat_eq _ (by omega), ← EReal.coe_sub, ← EReal.coe_mul, Ideal.exp_coe, ← EReal.coe_one,
    ← EReal.coe_sub, Ideal.log_coe, if_neg]
  · exact R.coe _
  · have : Real.exp (l * (-5 - ((h : ℕ) : ℝ))) < 1 := by
      rw [Real.exp_lt_one_iff]
      have : (0 : ℝ) ≤ ((h : ℕ) : ℝ) := by positivity
      nlinarith
    exact not_le.mpr (by linarith)

/-- The rotation's angle is real. -/
theorem R.ang (t : Fin 2048) (d : Fin 128) : R (ang t d) := by
  unfold Ret.ang
  rw [nat_eq _ (by omega), nat_eq _ (by omega), ofBits_10000, ofBits_128, ← EReal.coe_neg,
    Ideal.div_coe (by norm_num), ← EReal.coe_mul, Ideal.pow_coe_coe, ← EReal.coe_mul]
  exact R.coe _

/-- Its cosine. -/
theorem R.cos {x : EReal} (h : R x) : R (Ideal.cos x) := by obtain ⟨r, rfl⟩ := h; exact ⟨_, Ideal.cos_coe r⟩
/-- Its sine. -/
theorem R.sin {x : EReal} (h : R x) : R (Ideal.sin x) := by obtain ⟨r, rfl⟩ := h; exact ⟨_, Ideal.sin_coe r⟩

/-- The inputs that reach the retention are real numbers. -/
structure Inp.Real (I : Inp) : Prop where
  X : ∀ b t n, R (I.X b t n)
  M : ∀ b i n, R (I.M b i n)
  GP : ∀ n, R (I.GP n)
  WI : ∀ n c, R (I.WI n c)

variable {I : Inp} (hI : I.Real)
include hI

/-- The normalised row is real. -/
theorem R.H (b : Fin 8) (t : Fin 2048) (n : Fin 1024) : R (H I b t n) :=
  ((((hI.X b t n).mul (R.rinv (hI.X b t))).mul (hI.GP n)).mul ((R.coe 1).add (hI.M b 1 n))).add (hI.M b 0 n)

/-- The projection is real. -/
theorem R.P (b : Fin 8) (t : Fin 2048) (c : Fin 6144) : R (P I b t c) := R.sum fun x => (R.H hI b t x).mul (hI.WI x c)

/-- The rotated lanes are real. -/
theorem R.rot (b : Fin 8) (t : Fin 2048) (o : ℕ) (ho : o + 256 ≤ 6144) (d : Fin 256) : R (rot I b t o ho d) := by
  unfold Ret.rot
  split
  · exact ((R.P hI b t _).mul (R.ang t _).cos).sub ((R.P hI b t _).mul (R.ang t _).sin)
  · exact ((R.P hI b t _).mul (R.ang t _).sin).add ((R.P hI b t _).mul (R.ang t _).cos)

/-- The query is real. -/
theorem R.Q (b : Fin 8) (h : Fin 4) (t : Fin 2048) (d : Fin 256) : R (Q I b h t d) := R.rot hI b t _ _ d
/-- The key is real. -/
theorem R.K (b : Fin 8) (h : Fin 4) (t : Fin 2048) (d : Fin 256) : R (K I b h t d) :=
  (R.rot hI b t _ _ d).mul ⟨_, ofBits_sixteenth⟩
/-- The value is real. -/
theorem R.V (b : Fin 8) (h : Fin 4) (t : Fin 2048) (e : Fin 512) : R (V I b h t e) := R.P hI b t _

omit hI

/-! ## The retention of the layer -/

/-- The logarithm of a head's decay, as a real number. -/
def lgR (h : Fin 4) : ℝ := (LG h).toReal
/-- A head's query lane of a token, as a real number (zero past the last token). -/
def qR (I : Inp) (b : Fin 8) (h : Fin 4) (d : Fin 256) (t : ℕ) : ℝ :=
  if ht : t < 2048 then (Q I b h ⟨t, ht⟩ d).toReal else 0
/-- A head's key lane of a token, as a real number (zero past the last token). -/
def kR (I : Inp) (b : Fin 8) (h : Fin 4) (d : Fin 256) (t : ℕ) : ℝ :=
  if ht : t < 2048 then (K I b h ⟨t, ht⟩ d).toReal else 0
/-- A head's value lane of a token, as a real number (zero past the last token). -/
def vR (I : Inp) (b : Fin 8) (h : Fin 4) (e : Fin 512) (t : ℕ) : ℝ :=
  if ht : t < 2048 then (V I b h ⟨t, ht⟩ e).toReal else 0

/-- One entry of the layer's state after `n` tokens. -/
def S (I : Inp) (b : Fin 8) (h : Fin 4) (n : ℕ) (d : Fin 256) (e : Fin 512) : EReal :=
  ((st (lgR h) (kR I b h d) (vR I b h e) n : ℝ) : EReal)

/-- One entry of the layer's retention output of token `t`. -/
def O (I : Inp) (b : Fin 8) (h : Fin 4) (t : Fin 2048) (e : Fin 512) : EReal :=
  ((out (lgR h) (fun d => qR I b h d t) (fun d => kR I b h d) (vR I b h e) t : ℝ) : EReal)

/-- Before the first token the state is zero. -/
theorem S_zero (b : Fin 8) (h : Fin 4) (d : Fin 256) (e : Fin 512) : S I b h 0 d e = 0 := by
  unfold S; rw [st_zero]; rfl

/-- The logarithm of the decay. -/
theorem LG_eq (h : Fin 4) : LG h = (lgR h : EReal) := (R.LG h).eq

/-- The decay between two tokens of a chunk, as both programs compute it. -/
theorem dec_eq (h : Fin 4) (r m : ℕ) (hr : r < 2 ^ 31) (hm : m < 2 ^ 31) :
    (if 0 ≤ nat r - nat m then Ideal.exp (max (nat r - nat m) 0 * LG h) else 0) = ((dec (lgR h) r m : ℝ) : EReal) := by
  rw [nat_eq r hr, nat_eq m hm, LG_eq, ← EReal.coe_sub, dec]
  have hle : (0 : EReal) ≤ (((r : ℝ) - m : ℝ) : EReal) ↔ m ≤ r := by
    rw [← EReal.coe_zero, EReal.coe_le_coe_iff, sub_nonneg, Nat.cast_le]
  by_cases hh : m ≤ r
  · rw [if_pos (hle.mpr hh), if_pos hh, max_eq_left (hle.mpr hh), ← EReal.coe_mul, Ideal.exp_coe]
  · rw [if_neg (fun h => hh (hle.mp h)), if_neg hh]; rfl

/-- A chunk's key lane is the layer's. -/
theorem K_eq {I : Inp} (hI : I.Real) (b : Fin 8) (h : Fin 4) (t : ℕ) (ht : t < 2048) (d : Fin 256) :
    K I b h ⟨t, ht⟩ d = (kR I b h d t : EReal) := by
  unfold kR; rw [dif_pos ht]; exact (R.K hI b h _ d).eq
/-- A chunk's query lane is the layer's. -/
theorem Q_eq {I : Inp} (hI : I.Real) (b : Fin 8) (h : Fin 4) (t : ℕ) (ht : t < 2048) (d : Fin 256) :
    Q I b h ⟨t, ht⟩ d = (qR I b h d t : EReal) := by
  unfold qR; rw [dif_pos ht]; exact (R.Q hI b h _ d).eq
/-- A chunk's value lane is the layer's. -/
theorem V_eq {I : Inp} (hI : I.Real) (b : Fin 8) (h : Fin 4) (t : ℕ) (ht : t < 2048) (e : Fin 512) :
    V I b h ⟨t, ht⟩ e = (vR I b h e t : EReal) := by
  unfold vR; rw [dif_pos ht]; exact (R.V hI b h _ e).eq

/-- One chunk of any length takes the state on by that many tokens. -/
theorem S_step {I : Inp} (hI : I.Real) (b : Fin 8) (h : Fin 4) (n C : ℕ) (hC : n + C ≤ 2048) (d : Fin 256)
    (e : Fin 512) (full S0 : EReal) (k kd v : Fin C → EReal)
    (hf : full = Ideal.exp (((C : ℝ) : EReal) * LG h)) (hS : S0 = S I b h n d e)
    (hk : ∀ r : Fin C, k r = K I b h ⟨n + r, by omega⟩ d)
    (hkd : ∀ r : Fin C, kd r = Ideal.exp (((((C : ℝ) - 1 : ℝ) : EReal) - nat r) * LG h))
    (hv : ∀ r : Fin C, v r = V I b h ⟨n + r, by omega⟩ e) :
    full * S0 + ∑ r, k r * kd r * v r = S I b h (n + C) d e := by
  have e1 : (∑ r, k r * kd r * v r) = ((∑ r : Fin C, (kR I b h d (n + r)
      * Real.exp (((C : ℝ) - 1 - (r : ℕ)) * lgR h)) * vR I b h e (n + r) : ℝ) : EReal) := by
    rw [coe_sum]
    refine Finset.sum_congr rfl fun r _ => ?_
    rw [hk, hkd, hv, K_eq hI, V_eq hI, nat_eq _ (by omega), LG_eq, ← EReal.coe_sub, ← EReal.coe_mul, Ideal.exp_coe,
      ← EReal.coe_mul, ← EReal.coe_mul]
  rw [e1, hf, hS, S, LG_eq, ← EReal.coe_mul, Ideal.exp_coe, ← EReal.coe_mul, ← EReal.coe_add, st_step, S]

/-- The output of one token of a chunk of any length. -/
theorem O_step {I : Inp} (hI : I.Real) (b : Fin 8) (h : Fin 4) (n C : ℕ) (hC : n + C ≤ 2048) (r : Fin C)
    (e : Fin 512) (q S0 : Fin 256 → EReal) (k : Fin C → Fin 256 → EReal) (dc v : Fin C → EReal) (cr : EReal)
    (hq : ∀ d, q d = Q I b h ⟨n + r, by omega⟩ d) (hS : ∀ d, S0 d = S I b h n d e)
    (hk : ∀ (m : Fin C) d, k m d = K I b h ⟨n + m, by omega⟩ d)
    (hdc : ∀ m : Fin C, dc m = if 0 ≤ nat r - nat m then Ideal.exp (max (nat r - nat m) 0 * LG h) else 0)
    (hv : ∀ m : Fin C, v m = V I b h ⟨n + m, by omega⟩ e)
    (hcr : cr = Ideal.exp ((nat r + 1) * LG h)) :
    (∑ m, (∑ d, q d * k m d) * dc m * v m) + (∑ d, q d * S0 d) * cr = O I b h ⟨n + r, by omega⟩ e := by
  have e1 : (∑ m, (∑ d, q d * k m d) * dc m * v m) = ((∑ m : Fin C, ((∑ d, qR I b h d (n + r) * kR I b h d (n + m))
      * dec (lgR h) r m) * vR I b h e (n + m) : ℝ) : EReal) := by
    rw [coe_sum]
    refine Finset.sum_congr rfl fun m _ => ?_
    rw [hdc, dec_eq _ _ _ (by omega) (by omega), hv, V_eq hI, EReal.coe_mul, EReal.coe_mul, coe_sum]
    congr 2
    refine Finset.sum_congr rfl fun d _ => ?_
    rw [hq, hk, Q_eq hI, K_eq hI, EReal.coe_mul]
  have e2 : (∑ d, q d * S0 d) = ((∑ d, qR I b h d (n + r) * st (lgR h) (kR I b h d) (vR I b h e) n : ℝ) : EReal) := by
    rw [coe_sum]
    refine Finset.sum_congr rfl fun d _ => ?_
    rw [hq, hS, Q_eq hI, EReal.coe_mul, S]
  have e3 : cr = ((Real.exp ((((r : ℕ) : ℝ) + 1) * lgR h) : ℝ) : EReal) := by
    rw [hcr, nat_eq _ (by omega), LG_eq, ← EReal.coe_one, ← EReal.coe_add, ← EReal.coe_mul, Ideal.exp_coe]
  rw [e1, e2, e3, ← EReal.coe_mul, ← EReal.coe_add, out_step, O]

end Cert.Ret
-- ==== Proof.KernelHeads.lean ====
module
public import proofs.«01_k».proof.Proof.KernelOpen
public import proofs.«01_k».proof.Proof.Layer
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelIdeal.Value
open Idealize.ShloMosaic Idealize.ShloMosaic.TcCoe Idealize.SL.Sem Cert.KernelIdeal.Gen
open Cert.Ret (Inp)

/-- A block's operands, read against the layer's inputs: sequence `b`, tokens from `n`. -/
structure Blk (I : Inp) (b : Fin 8) (n : ℕ) (hn : n + 512 ≤ 2048) (x0 : Vec Ideal S4 .f32)
    (x1 : Vec Ideal S1x512x1024 .f32) (x2 : Vec Ideal S1x3x1x1024 .f32) (x3 x4 : Vec Ideal S1x1024 .f32)
    (x5 x6 : Vec Ideal S512x128 .f32) (x7 : Vec Ideal S1024x6144 .bf16) (x8 : Vec Ideal S2048x1024 .bf16)
    (x9 : Vec Ideal S4x256x256 .f32) (x10 x11 : Vec Ideal S4x256x1 .f32) : Prop where
  full : ∀ h : Fin 4, x0 (ix1 h) = Ideal.exp (((256 : ℝ) : EReal) * Ret.LG h)
  rows : ∀ (r : Fin 512) (k : Fin 1024), x1 (ix3 0 r k) = I.X b ⟨n + r, by omega⟩ k
  mods : ∀ (s : Fin 3) (k : Fin 1024), x2 (ix4 0 s 0 k) = I.M b s k
  pre : ∀ k : Fin 1024, x3 (ix2 0 k) = I.GP k
  post : ∀ k : Fin 1024, x4 (ix2 0 k) = I.GQ k
  cs : ∀ (r : Fin 512) (d : Fin 128), x5 (ix2 r d) = Ideal.cos (Ret.ang ⟨n + r, by omega⟩ d)
  sn : ∀ (r : Fin 512) (d : Fin 128), x6 (ix2 r d) = Ideal.sin (Ret.ang ⟨n + r, by omega⟩ d)
  win : ∀ (k : Fin 1024) (l : Fin 6144), x7 (ix2 k l) = I.WI k l
  wout : ∀ (k : Fin 2048) (l : Fin 1024), x8 (ix2 k l) = I.WO k l
  dcy : ∀ (h : Fin 4) (r s : Fin 256), x9 (ix3 h r s)
    = if 0 ≤ Ret.nat r - Ret.nat s then Ideal.exp (max (Ret.nat r - Ret.nat s) 0 * Ret.LG h) else 0
  crs : ∀ (h : Fin 4) (r : Fin 256), x10 (ix3 h r 0) = Ideal.exp ((Ret.nat r + 1) * Ret.LG h)
  kdc : ∀ (h : Fin 4) (r : Fin 256), x11 (ix3 h r 0) = Ideal.exp ((((256 : ℝ) - 1 : ℝ) - Ret.nat r) * Ret.LG h)

section block
variable {I : Inp} {b : Fin 8} {n : ℕ} {hn : n + 512 ≤ 2048} {x0 : Vec Ideal S4 .f32}
    {x1 : Vec Ideal S1x512x1024 .f32} {x2 : Vec Ideal S1x3x1x1024 .f32} {x3 x4 : Vec Ideal S1x1024 .f32}
    {x5 x6 : Vec Ideal S512x128 .f32} {x7 : Vec Ideal S1024x6144 .bf16} {x8 : Vec Ideal S2048x1024 .bf16}
    {x9 : Vec Ideal S4x256x256 .f32} {x10 x11 : Vec Ideal S4x256x1 .f32}
    (B : Blk I b n hn x0 x1 x2 x3 x4 x5 x6 x7 x8 x9 x10 x11)
include B

/-- The block's rows, normalised and modulated. -/
theorem Blk.h_eq (r : Fin 512) (k : Fin 1024) : hF x1 x2 x3 (ix2 r k) = Ret.H I b ⟨n + r, by omega⟩ k := by
  unfold Ret.H Ret.rinv
  simp only [← B.rows, ← B.mods, ← B.pre]
  pointwise [hF, k0_pay4, k0_pay3]
  try rfl

/-- A product of the rows with 256 columns of the joint projection, at a column. -/
theorem Blk.cols {w : Vec Ideal S1024x256 .bf16} {o : ℕ} (ho : o + 256 ≤ 6144)
    (hw : ∀ (k : Fin 1024) (l : Fin 256), w (ix2 k l) = x7 (ix2 k ⟨o + l, by omega⟩)) (r : Fin 512) (l : Fin 256) :
    (∑ k : Fin 1024, hF x1 x2 x3 (ix2 r k) * w (ix2 k l)) = Ret.P I b ⟨n + r, by omega⟩ ⟨o + l, by omega⟩ := by
  refine Finset.sum_congr rfl fun k _ => ?_
  rw [B.h_eq, hw, B.win]

/-- The rotated columns that start at column `o`. -/
theorem Blk.rot_eq {w : Vec Ideal S1024x256 .bf16} {o : ℕ} (ho : o + 256 ≤ 6144)
    (hw : ∀ (k : Fin 1024) (l : Fin 256), w (ix2 k l) = x7 (ix2 k ⟨o + l, by omega⟩)) (r : Fin 512) (l : Fin 256) :
    rotF (hF x1 x2 x3) (k0_pay5 x5) (k0_pay6 x6) w (ix2 r l) = Ret.rot I b ⟨n + r, by omega⟩ o ho l := by
  unfold Ret.rot
  pointwise [rotF, k0_pay5, k0_pay6]
  simp only [B.cols ho hw, B.cs, B.sn]
  try rfl

/-- The plain columns that start at column `o`. -/
theorem Blk.plain_eq {w : Vec Ideal S1024x512 .bf16} {o : ℕ} (ho : o + 512 ≤ 6144)
    (hw : ∀ (k : Fin 1024) (l : Fin 512), w (ix2 k l) = x7 (ix2 k ⟨o + l, by omega⟩)) (r : Fin 512) (l : Fin 512) :
    gF (hF x1 x2 x3) w (ix2 r l) = Ret.P I b ⟨n + r, by omega⟩ ⟨o + l, by omega⟩ := by
  pointwise [gF]
  refine Finset.sum_congr rfl fun k _ => ?_
  rw [B.h_eq, hw, B.win]
end block

/-- A head's queries, keys, values and gate columns of a block, read against the layer's. -/
structure Head (I : Inp) (b : Fin 8) (h : Fin 4) (n : ℕ) (hn : n + 512 ≤ 2048) (q : FVec Ideal S512x256 .bf16)
    (k : FVec Ideal S512x256 .f32) (v : FVec Ideal S512x512 .bf16) (g : FVec Ideal S512x512 .f32) : Prop where
  q : ∀ (r : Fin 512) (d : Fin 256), q (ix2 r d) = Ret.Q I b h ⟨n + r, by omega⟩ d
  k : ∀ (r : Fin 512) (d : Fin 256), k (ix2 r d) = Ret.K I b h ⟨n + r, by omega⟩ d
  v : ∀ (r : Fin 512) (e : Fin 512), v (ix2 r e) = Ret.V I b h ⟨n + r, by omega⟩ e
  g : ∀ (r : Fin 512) (e : Fin 512), g (ix2 r e) = Ret.G I b ⟨n + r, by omega⟩ ⟨h * 512 + e, by omega⟩

section heads
variable {I : Inp} {b : Fin 8} {n : ℕ} {hn : n + 512 ≤ 2048} {x0 : Vec Ideal S4 .f32}
    {x1 : Vec Ideal S1x512x1024 .f32} {x2 : Vec Ideal S1x3x1x1024 .f32} {x3 x4 : Vec Ideal S1x1024 .f32}
    {x5 x6 : Vec Ideal S512x128 .f32} {x7 : Vec Ideal S1024x6144 .bf16} {x8 : Vec Ideal S2048x1024 .bf16}
    {x9 : Vec Ideal S4x256x256 .f32} {x10 x11 : Vec Ideal S4x256x1 .f32}
    (B : Blk I b n hn x0 x1 x2 x3 x4 x5 x6 x7 x8 x9 x10 x11)
include B

/-- Head 0 of a block. -/
theorem Blk.head0 : Head I b 0 n hn (qH0 (hF x1 x2 x3) x5 x6 x7) (kH0 (hF x1 x2 x3) x5 x6 x7) (vH0 (hF x1 x2 x3) x7)
    (gH0 (hF x1 x2 x3) x7) where
  q := fun r d => (B.rot_eq (o := 0) (by decide) (fun k l => by pointwise []) r d)
  k := fun r d => congrArg (· * Ideal.ofBits FTy.f32 0x3D800000#32) (B.rot_eq (o := 1024) (by decide) (fun k l => by pointwise []) r d)
  v := fun r e => (B.plain_eq (o := 2048) (by decide) (fun k l => by pointwise []) r e).trans (by
    unfold Ret.V; congr 1; exact Fin.ext (by show 2048 + e.val = 2048 + (0 * 512 + e.val); omega))
  g := fun r e => (B.plain_eq (o := 4096) (by decide) (fun k l => by pointwise []) r e).trans (by
    unfold Ret.G; congr 1; exact Fin.ext (by show 4096 + e.val = 4096 + (0 * 512 + e.val); omega))

/-- Head 1 of a block. -/
theorem Blk.head1 : Head I b 1 n hn (qH1 (hF x1 x2 x3) x5 x6 x7) (kH1 (hF x1 x2 x3) x5 x6 x7) (vH1 (hF x1 x2 x3) x7)
    (gH1 (hF x1 x2 x3) x7) where
  q := fun r d => (B.rot_eq (o := 256) (by decide) (fun k l => by pointwise []) r d)
  k := fun r d => congrArg (· * Ideal.ofBits FTy.f32 0x3D800000#32) (B.rot_eq (o := 1280) (by decide) (fun k l => by pointwise []) r d)
  v := fun r e => (B.plain_eq (o := 2560) (by decide) (fun k l => by pointwise []) r e).trans (by
    unfold Ret.V; congr 1; exact Fin.ext (by show 2560 + e.val = 2048 + (1 * 512 + e.val); omega))
  g := fun r e => (B.plain_eq (o := 4608) (by decide) (fun k l => by pointwise []) r e).trans (by
    unfold Ret.G; congr 1; exact Fin.ext (by show 4608 + e.val = 4096 + (1 * 512 + e.val); omega))

/-- Head 2 of a block. -/
theorem Blk.head2 : Head I b 2 n hn (qH2 (hF x1 x2 x3) x5 x6 x7) (kH2 (hF x1 x2 x3) x5 x6 x7) (vH2 (hF x1 x2 x3) x7)
    (gH2 (hF x1 x2 x3) x7) where
  q := fun r d => (B.rot_eq (o := 512) (by decide) (fun k l => by pointwise []) r d)
  k := fun r d => congrArg (· * Ideal.ofBits FTy.f32 0x3D800000#32) (B.rot_eq (o := 1536) (by decide) (fun k l => by pointwise []) r d)
  v := fun r e => (B.plain_eq (o := 3072) (by decide) (fun k l => by pointwise []) r e).trans (by
    unfold Ret.V; congr 1; exact Fin.ext (by show 3072 + e.val = 2048 + (2 * 512 + e.val); omega))
  g := fun r e => (B.plain_eq (o := 5120) (by decide) (fun k l => by pointwise []) r e).trans (by
    unfold Ret.G; congr 1; exact Fin.ext (by show 5120 + e.val = 4096 + (2 * 512 + e.val); omega))

/-- Head 3 of a block. -/
theorem Blk.head3 : Head I b 3 n hn (qH3 (hF x1 x2 x3) x5 x6 x7) (kH3 (hF x1 x2 x3) x5 x6 x7) (vH3 (hF x1 x2 x3) x7)
    (gH3 (hF x1 x2 x3) x7) where
  q := fun r d => (B.rot_eq (o := 768) (by decide) (fun k l => by pointwise []) r d)
  k := fun r d => congrArg (· * Ideal.ofBits FTy.f32 0x3D800000#32) (B.rot_eq (o := 1792) (by decide) (fun k l => by pointwise []) r d)
  v := fun r e => (B.plain_eq (o := 3584) (by decide) (fun k l => by pointwise []) r e).trans (by
    unfold Ret.V; congr 1; exact Fin.ext (by show 3584 + e.val = 2048 + (3 * 512 + e.val); omega))
  g := fun r e => (B.plain_eq (o := 5632) (by decide) (fun k l => by pointwise []) r e).trans (by
    unfold Ret.G; congr 1; exact Fin.ext (by show 5632 + e.val = 4096 + (3 * 512 + e.val); omega))
end heads
end Cert.KernelIdeal.Value
-- ==== Proof.KernelStep.lean ====
module
public import proofs.«01_k».proof.Proof.KernelHeads
public import proofs.«01_k».proof.Proof.Layer
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelIdeal.Value
open Idealize.ShloMosaic Idealize.ShloMosaic.TcCoe Idealize.SL.Sem Cert.KernelIdeal.Gen
open Cert.Ret (Inp)

section chunk
variable {I : Inp} (hI : I.Real) (b : Fin 8) (h : Fin 4) (n : ℕ) (hn : n + 256 ≤ 2048)
include hI

/-- The state after a chunk of 256 tokens. -/
theorem sF_eq (k : FVec Ideal S256x256 .f32) (v : FVec Ideal S256x512 .bf16) (S : Vec Ideal S1x1x256x512 .f32)
    (kd : Vec Ideal S1x256x1 .f32) (full : Elt Ideal .f32)
    (hk : ∀ (r d : Fin 256), k (ix2 r d) = Ret.K I b h ⟨n + r, by omega⟩ d)
    (hv : ∀ (r : Fin 256) (e : Fin 512), v (ix2 r e) = Ret.V I b h ⟨n + r, by omega⟩ e)
    (hS : ∀ (d : Fin 256) (e : Fin 512), S (ix4 0 0 d e) = Ret.S I b h n d e)
    (hkd : ∀ r : Fin 256, kd (ix3 0 r 0) = Ideal.exp ((((256 : ℝ) - 1 : ℝ) - Ret.nat r) * Ret.LG h))
    (hf : full = Ideal.exp (((256 : ℝ) : EReal) * Ret.LG h)) (d : Fin 256) (e : Fin 512) :
    sF k v S kd full (ix4 0 0 d e) = Ret.S I b h (n + 256) d e := by
  refine Eq.trans ?_ (Ret.S_step hI b h n 256 hn d e full (S (ix4 0 0 d e)) (fun r => k (ix2 r d))
    (fun r => kd (ix3 0 r 0)) (fun r => v (ix2 r e)) ?_ (hS d e) (fun r => hk r d) (fun r => ?_) (fun r => hv r e))
  · pointwise [sF]
    try rfl
  · rw [hf]; norm_num
  · rw [hkd]; norm_num

/-- The outputs of a chunk of 256 tokens. -/
theorem oF_eq (q : FVec Ideal S256x256 .bf16) (k : FVec Ideal S256x256 .f32) (v : FVec Ideal S256x512 .bf16)
    (dc : Vec Ideal S1x256x256 .f32) (S : Vec Ideal S1x1x256x512 .f32) (cr : Vec Ideal S1x256x1 .f32)
    (hq : ∀ (r d : Fin 256), q (ix2 r d) = Ret.Q I b h ⟨n + r, by omega⟩ d)
    (hk : ∀ (r d : Fin 256), k (ix2 r d) = Ret.K I b h ⟨n + r, by omega⟩ d)
    (hv : ∀ (r : Fin 256) (e : Fin 512), v (ix2 r e) = Ret.V I b h ⟨n + r, by omega⟩ e)
    (hdc : ∀ r s : Fin 256, dc (ix3 0 r s)
      = if 0 ≤ Ret.nat r - Ret.nat s then Ideal.exp (max (Ret.nat r - Ret.nat s) 0 * Ret.LG h) else 0)
    (hS : ∀ (d : Fin 256) (e : Fin 512), S (ix4 0 0 d e) = Ret.S I b h n d e)
    (hcr : ∀ r : Fin 256, cr (ix3 0 r 0) = Ideal.exp ((Ret.nat r + 1) * Ret.LG h)) (r : Fin 256) (e : Fin 512) :
    oF q k v dc S cr (ix2 r e) = Ret.O I b h ⟨n + r, by omega⟩ e := by
  refine Eq.trans ?_ (Ret.O_step hI b h n 256 hn r e (fun d => q (ix2 r d)) (fun d => S (ix4 0 0 d e))
    (fun m d => k (ix2 m d)) (fun m => dc (ix3 0 r m)) (fun m => v (ix2 m e)) (cr (ix3 0 r 0)) (fun d => hq r d)
    (fun d => hS d e) (fun m d => hk m d) (fun m => hdc r m) (fun m => hv m e) (hcr r))
  pointwise [oF]
  try rfl
omit hI

/-- The gated group norm of a chunk's outputs. -/
theorem nF_eq (g o : FVec Ideal S256x512 .f32) (r : Fin 256) (e : Fin 512) :
    nF g o (ix2 r e) = Ret.gn (fun e => o (ix2 r e)) e * Ret.silu (g (ix2 r e)) := by
  pointwise [nF]
  try rfl

/-- The gated group norm, read against the layer's. -/
theorem nF_gated (g o : FVec Ideal S256x512 .f32) (t : Fin 2048) (r : Fin 256)
    (ho : ∀ e : Fin 512, o (ix2 r e) = Ret.O I b h t e)
    (hg : ∀ e : Fin 512, g (ix2 r e) = Ret.G I b t ⟨h * 512 + e, by omega⟩) (e : Fin 512) :
    nF g o (ix2 r e) = Ret.gated I (Ret.O I) b t h e := by
  rw [nF_eq, hg]
  unfold Ret.gated
  rw [show (fun e => o (ix2 r e)) = Ret.O I b h t from funext ho]
end chunk

section rows
variable {e : FTy}
/-- The upper rows, at an index. -/
theorem up_eq (v : FVec Ideal S512x256 e) (r d : Fin 256) : up v (ix2 r d) = v (ix2 ⟨r, by omega⟩ d) := by
  pointwise [up]
  try rfl
/-- The lower rows, at an index. -/
theorem lo_eq (v : FVec Ideal S512x256 e) (r d : Fin 256) : lo v (ix2 r d) = v (ix2 ⟨256 + r, by omega⟩ d) := by
  pointwise [lo]
  try rfl
/-- The upper rows, at an index. -/
theorem upV_eq (v : FVec Ideal S512x512 e) (r : Fin 256) (d : Fin 512) : upV v (ix2 r d) = v (ix2 ⟨r, by omega⟩ d) := by
  pointwise [upV]
  try rfl
/-- The lower rows, at an index. -/
theorem loV_eq (v : FVec Ideal S512x512 e) (r : Fin 256) (d : Fin 512) : loV v (ix2 r d) = v (ix2 ⟨256 + r, by omega⟩ d) := by
  pointwise [loV]
  try rfl
end rows

/-- A token of the lower half of a block. -/
theorem tok_lo (n : ℕ) (hn : n + 512 ≤ 2048) (r : Fin 256) :
    (⟨n + (⟨256 + r.val, by omega⟩ : Fin 512).val, by show n + (256 + r.val) < 2048; omega⟩ : Fin 2048) = ⟨n + 256 + r.val, by omega⟩ :=
  Fin.ext (by show n + (256 + r.val) = n + 256 + r.val; omega)

section whole
variable {I : Inp} {b : Fin 8} {h : Fin 4} {n : ℕ} {hn : n + 512 ≤ 2048} {q : FVec Ideal S512x256 .bf16}
    {k : FVec Ideal S512x256 .f32} {v : FVec Ideal S512x512 .bf16} {g : FVec Ideal S512x512 .f32}
    (hI : I.Real) (H : Head I b h n hn q k v g) {S : Vec Ideal S1x1x256x512 .f32} {kd : Vec Ideal S1x256x1 .f32}
    {full : Elt Ideal .f32} {dc : Vec Ideal S1x256x256 .f32} {cr : Vec Ideal S1x256x1 .f32}
    (hkd : ∀ r : Fin 256, kd (ix3 0 r 0) = Ideal.exp ((((256 : ℝ) - 1 : ℝ) - Ret.nat r) * Ret.LG h))
    (hf : full = Ideal.exp (((256 : ℝ) : EReal) * Ret.LG h))
    (hdc : ∀ r s : Fin 256, dc (ix3 0 r s)
      = if 0 ≤ Ret.nat r - Ret.nat s then Ideal.exp (max (Ret.nat r - Ret.nat s) 0 * Ret.LG h) else 0)
    (hcr : ∀ r : Fin 256, cr (ix3 0 r 0) = Ideal.exp ((Ret.nat r + 1) * Ret.LG h))
include hI H

include hkd hf in
/-- The state after the block's first chunk. -/
theorem Head.mid (hS : ∀ (d : Fin 256) (e : Fin 512), S (ix4 0 0 d e) = Ret.S I b h n d e) (d : Fin 256) (e : Fin 512) :
    sF (up k) (upV v) S kd full (ix4 0 0 d e) = Ret.S I b h (n + 256) d e :=
  sF_eq hI b h n (by omega) _ _ _ _ _ (fun r d => (up_eq k r d).trans (H.k _ d))
    (fun r e => (upV_eq v r e).trans (H.v _ e)) hS hkd hf d e

include hkd hf in
/-- The state after the block's second chunk. -/
theorem Head.fin (hS : ∀ (d : Fin 256) (e : Fin 512), S (ix4 0 0 d e) = Ret.S I b h (n + 256) d e) (d : Fin 256)
    (e : Fin 512) : sF (lo k) (loV v) S kd full (ix4 0 0 d e) = Ret.S I b h (n + 512) d e :=
  sF_eq hI b h (n + 256) (by omega) _ _ _ _ _ (fun r d => ((lo_eq k r d).trans (H.k _ d)).trans (by rw [tok_lo n hn]))
    (fun r e => ((loV_eq v r e).trans (H.v _ e)).trans (by rw [tok_lo n hn])) hS hkd hf d e

include hdc hcr in
/-- The gated outputs of the block's first chunk. -/
theorem Head.fst (hS : ∀ (d : Fin 256) (e : Fin 512), S (ix4 0 0 d e) = Ret.S I b h n d e) (r : Fin 256) (e : Fin 512) :
    nF (upV g) (oF (up q) (up k) (upV v) dc S cr) (ix2 r e) = Ret.gated I (Ret.O I) b ⟨n + r, by omega⟩ h e := by
  have ho : ∀ e : Fin 512, oF (up q) (up k) (upV v) dc S cr (ix2 r e) = Ret.O I b h ⟨n + r, by omega⟩ e :=
    fun e => oF_eq hI b h n (by omega) _ _ _ _ _ _ (fun r d => (up_eq q r d).trans (H.q _ d))
      (fun r d => (up_eq k r d).trans (H.k _ d)) (fun r e => (upV_eq v r e).trans (H.v _ e)) hdc hS hcr r e
  have hg : ∀ e : Fin 512, upV g (ix2 r e) = Ret.G I b ⟨n + r, by omega⟩ ⟨h * 512 + e, by omega⟩ :=
    fun e => (upV_eq g r e).trans (H.g _ e)
  exact nF_gated b h n (upV g) (oF (up q) (up k) (upV v) dc S cr) ⟨n + r, by omega⟩ r ho hg e

include hdc hcr in
/-- The gated outputs of the block's second chunk. -/
theorem Head.snd (hS : ∀ (d : Fin 256) (e : Fin 512), S (ix4 0 0 d e) = Ret.S I b h (n + 256) d e) (r : Fin 256) (e : Fin 512) :
    nF (loV g) (oF (lo q) (lo k) (loV v) dc S cr) (ix2 r e) = Ret.gated I (Ret.O I) b ⟨n + 256 + r, by omega⟩ h e := by
  have ho : ∀ e : Fin 512, oF (lo q) (lo k) (loV v) dc S cr (ix2 r e) = Ret.O I b h ⟨n + 256 + r, by omega⟩ e :=
    fun e => oF_eq hI b h (n + 256) (by omega) _ _ _ _ _ _
      (fun r d => ((lo_eq q r d).trans (H.q _ d)).trans (by rw [tok_lo n hn]))
      (fun r d => ((lo_eq k r d).trans (H.k _ d)).trans (by rw [tok_lo n hn]))
      (fun r e => ((loV_eq v r e).trans (H.v _ e)).trans (by rw [tok_lo n hn])) hdc hS hcr r e
  have hg : ∀ e : Fin 512, loV g (ix2 r e) = Ret.G I b ⟨n + 256 + r, by omega⟩ ⟨h * 512 + e, by omega⟩ :=
    fun e => ((loV_eq g r e).trans (H.g _ e)).trans (by rw [tok_lo n hn])
  exact nF_gated b h n (loV g) (oF (lo q) (lo k) (loV v) dc S cr) ⟨n + 256 + r, by omega⟩ r ho hg e
end whole

section heads
variable {I : Inp} {b : Fin 8} {n : ℕ} {hn : n + 512 ≤ 2048} {x0 : Vec Ideal S4 .f32}
    {x1 : Vec Ideal S1x512x1024 .f32} {x2 : Vec Ideal S1x3x1x1024 .f32} {x3 x4 : Vec Ideal S1x1024 .f32}
    {x5 x6 : Vec Ideal S512x128 .f32} {x7 : Vec Ideal S1024x6144 .bf16} {x8 : Vec Ideal S2048x1024 .bf16}
    {x9 : Vec Ideal S4x256x256 .f32} {x10 x11 : Vec Ideal S4x256x1 .f32}
    (hI : I.Real) (B : Blk I b n hn x0 x1 x2 x3 x4 x5 x6 x7 x8 x9 x10 x11)
include hI B

omit hI in
/-- Head 0's decay over a chunk, as the block loads it. -/
theorem Blk.full0 : View.ld x0 (Rect.unit ![0] ![1] inb_S4_S1_0) (Shape.Idx.first (by decide)) = Ideal.exp (((256 : ℝ) : EReal) * Ret.LG 0) := by
  rw [← B.full 0]
  refine congrArg x0 (funext fun a => ?_)
  fin_cases a
  rfl
omit hI in
/-- Head 0's key decays, as the block loads them. -/
theorem Blk.kd0 (r : Fin 256) : View.ld x11 (Rect.unit ![0, 0, 0] ![1, 256, 1] inb_S4x256x1_S1x256x1_0_0_0) (ix3 0 r 0)
    = Ideal.exp ((((256 : ℝ) - 1 : ℝ) - Ret.nat r) * Ret.LG 0) := by
  rw [← B.kdc 0]
  pointwise []
omit hI in
/-- Head 0's state decays, as the block loads them. -/
theorem Blk.cr0 (r : Fin 256) : View.ld x10 (Rect.unit ![0, 0, 0] ![1, 256, 1] inb_S4x256x1_S1x256x1_0_0_0) (ix3 0 r 0)
    = Ideal.exp ((Ret.nat r + 1) * Ret.LG 0) := by
  rw [← B.crs 0]
  pointwise []
omit hI in
/-- Head 0's decays inside a chunk, as the block loads them. -/
theorem Blk.dc0 (r s : Fin 256) : View.ld x9 (Rect.unit ![0, 0, 0] ![1, 256, 256] inb_S4x256x256_S1x256x256_0_0_0) (ix3 0 r s)
    = if 0 ≤ Ret.nat r - Ret.nat s then Ideal.exp (max (Ret.nat r - Ret.nat s) 0 * Ret.LG 0) else 0 := by
  rw [← B.dcy 0]
  pointwise []

/-- Head 0's state after the block's first chunk. -/
theorem Blk.mid0 {S : Vec Ideal S1x1x256x512 .f32} (hS : ∀ (d : Fin 256) (e : Fin 512), S (ix4 0 0 d e) = Ret.S I b 0 n d e)
    (d : Fin 256) (e : Fin 512) : mid0 (hF x1 x2 x3) x0 x5 x6 x7 x11 S (ix4 0 0 d e) = Ret.S I b 0 (n + 256) d e :=
  B.head0.mid hI B.kd0 B.full0 hS d e

/-- Head 0's state after the block's second chunk. -/
theorem Blk.fin0 {S : Vec Ideal S1x1x256x512 .f32} (hS : ∀ (d : Fin 256) (e : Fin 512), S (ix4 0 0 d e) = Ret.S I b 0 n d e)
    (d : Fin 256) (e : Fin 512) : fin0 (hF x1 x2 x3) x0 x5 x6 x7 x11 S (ix4 0 0 d e) = Ret.S I b 0 (n + 512) d e :=
  B.head0.fin hI B.kd0 B.full0 (B.mid0 hI hS) d e

/-- Head 0's gated outputs of the block's first chunk. -/
theorem Blk.fst0 {S : Vec Ideal S1x1x256x512 .f32} (hS : ∀ (d : Fin 256) (e : Fin 512), S (ix4 0 0 d e) = Ret.S I b 0 n d e)
    (r : Fin 256) (e : Fin 512) :
    fst0 (hF x1 x2 x3) x0 x5 x6 x7 x9 x10 x11 S (ix2 r e) = Ret.gated I (Ret.O I) b ⟨n + r, by omega⟩ 0 e :=
  B.head0.fst hI B.dc0 B.cr0 hS r e

/-- Head 0's gated outputs of the block's second chunk. -/
theorem Blk.snd0 {S : Vec Ideal S1x1x256x512 .f32} (hS : ∀ (d : Fin 256) (e : Fin 512), S (ix4 0 0 d e) = Ret.S I b 0 n d e)
    (r : Fin 256) (e : Fin 512) :
    snd0 (hF x1 x2 x3) x0 x5 x6 x7 x9 x10 x11 S (ix2 r e) = Ret.gated I (Ret.O I) b ⟨n + 256 + r, by omega⟩ 0 e :=
  B.head0.snd hI B.dc0 B.cr0 (B.mid0 hI hS) r e

omit hI in
/-- Head 1's decay over a chunk, as the block loads it. -/
theorem Blk.full1 : View.ld x0 (Rect.unit ![1] ![1] inb_S4_S1_1) (Shape.Idx.first (by decide)) = Ideal.exp (((256 : ℝ) : EReal) * Ret.LG 1) := by
  rw [← B.full 1]
  refine congrArg x0 (funext fun a => ?_)
  fin_cases a
  rfl
omit hI in
/-- Head 1's key decays, as the block loads them. -/
theorem Blk.kd1 (r : Fin 256) : View.ld x11 (Rect.unit ![1, 0, 0] ![1, 256, 1] inb_S4x256x1_S1x256x1_1_0_0) (ix3 0 r 0)
    = Ideal.exp ((((256 : ℝ) - 1 : ℝ) - Ret.nat r) * Ret.LG 1) := by
  rw [← B.kdc 1]
  pointwise []
omit hI in
/-- Head 1's state decays, as the block loads them. -/
theorem Blk.cr1 (r : Fin 256) : View.ld x10 (Rect.unit ![1, 0, 0] ![1, 256, 1] inb_S4x256x1_S1x256x1_1_0_0) (ix3 0 r 0)
    = Ideal.exp ((Ret.nat r + 1) * Ret.LG 1) := by
  rw [← B.crs 1]
  pointwise []
omit hI in
/-- Head 1's decays inside a chunk, as the block loads them. -/
theorem Blk.dc1 (r s : Fin 256) : View.ld x9 (Rect.unit ![1, 0, 0] ![1, 256, 256] inb_S4x256x256_S1x256x256_1_0_0) (ix3 0 r s)
    = if 0 ≤ Ret.nat r - Ret.nat s then Ideal.exp (max (Ret.nat r - Ret.nat s) 0 * Ret.LG 1) else 0 := by
  rw [← B.dcy 1]
  pointwise []

/-- Head 1's state after the block's first chunk. -/
theorem Blk.mid1 {S : Vec Ideal S1x1x256x512 .f32} (hS : ∀ (d : Fin 256) (e : Fin 512), S (ix4 0 0 d e) = Ret.S I b 1 n d e)
    (d : Fin 256) (e : Fin 512) : mid1 (hF x1 x2 x3) x0 x5 x6 x7 x11 S (ix4 0 0 d e) = Ret.S I b 1 (n + 256) d e :=
  B.head1.mid hI B.kd1 B.full1 hS d e

/-- Head 1's state after the block's second chunk. -/
theorem Blk.fin1 {S : Vec Ideal S1x1x256x512 .f32} (hS : ∀ (d : Fin 256) (e : Fin 512), S (ix4 0 0 d e) = Ret.S I b 1 n d e)
    (d : Fin 256) (e : Fin 512) : fin1 (hF x1 x2 x3) x0 x5 x6 x7 x11 S (ix4 0 0 d e) = Ret.S I b 1 (n + 512) d e :=
  B.head1.fin hI B.kd1 B.full1 (B.mid1 hI hS) d e

/-- Head 1's gated outputs of the block's first chunk. -/
theorem Blk.fst1 {S : Vec Ideal S1x1x256x512 .f32} (hS : ∀ (d : Fin 256) (e : Fin 512), S (ix4 0 0 d e) = Ret.S I b 1 n d e)
    (r : Fin 256) (e : Fin 512) :
    fst1 (hF x1 x2 x3) x0 x5 x6 x7 x9 x10 x11 S (ix2 r e) = Ret.gated I (Ret.O I) b ⟨n + r, by omega⟩ 1 e :=
  B.head1.fst hI B.dc1 B.cr1 hS r e

/-- Head 1's gated outputs of the block's second chunk. -/
theorem Blk.snd1 {S : Vec Ideal S1x1x256x512 .f32} (hS : ∀ (d : Fin 256) (e : Fin 512), S (ix4 0 0 d e) = Ret.S I b 1 n d e)
    (r : Fin 256) (e : Fin 512) :
    snd1 (hF x1 x2 x3) x0 x5 x6 x7 x9 x10 x11 S (ix2 r e) = Ret.gated I (Ret.O I) b ⟨n + 256 + r, by omega⟩ 1 e :=
  B.head1.snd hI B.dc1 B.cr1 (B.mid1 hI hS) r e

omit hI in
/-- Head 2's decay over a chunk, as the block loads it. -/
theorem Blk.full2 : View.ld x0 (Rect.unit ![2] ![1] inb_S4_S1_2) (Shape.Idx.first (by decide)) = Ideal.exp (((256 : ℝ) : EReal) * Ret.LG 2) := by
  rw [← B.full 2]
  refine congrArg x0 (funext fun a => ?_)
  fin_cases a
  rfl
omit hI in
/-- Head 2's key decays, as the block loads them. -/
theorem Blk.kd2 (r : Fin 256) : View.ld x11 (Rect.unit ![2, 0, 0] ![1, 256, 1] inb_S4x256x1_S1x256x1_2_0_0) (ix3 0 r 0)
    = Ideal.exp ((((256 : ℝ) - 1 : ℝ) - Ret.nat r) * Ret.LG 2) := by
  rw [← B.kdc 2]
  pointwise []
omit hI in
/-- Head 2's state decays, as the block loads them. -/
theorem Blk.cr2 (r : Fin 256) : View.ld x10 (Rect.unit ![2, 0, 0] ![1, 256, 1] inb_S4x256x1_S1x256x1_2_0_0) (ix3 0 r 0)
    = Ideal.exp ((Ret.nat r + 1) * Ret.LG 2) := by
  rw [← B.crs 2]
  pointwise []
omit hI in
/-- Head 2's decays inside a chunk, as the block loads them. -/
theorem Blk.dc2 (r s : Fin 256) : View.ld x9 (Rect.unit ![2, 0, 0] ![1, 256, 256] inb_S4x256x256_S1x256x256_2_0_0) (ix3 0 r s)
    = if 0 ≤ Ret.nat r - Ret.nat s then Ideal.exp (max (Ret.nat r - Ret.nat s) 0 * Ret.LG 2) else 0 := by
  rw [← B.dcy 2]
  pointwise []

/-- Head 2's state after the block's first chunk. -/
theorem Blk.mid2 {S : Vec Ideal S1x1x256x512 .f32} (hS : ∀ (d : Fin 256) (e : Fin 512), S (ix4 0 0 d e) = Ret.S I b 2 n d e)
    (d : Fin 256) (e : Fin 512) : mid2 (hF x1 x2 x3) x0 x5 x6 x7 x11 S (ix4 0 0 d e) = Ret.S I b 2 (n + 256) d e :=
  B.head2.mid hI B.kd2 B.full2 hS d e

/-- Head 2's state after the block's second chunk. -/
theorem Blk.fin2 {S : Vec Ideal S1x1x256x512 .f32} (hS : ∀ (d : Fin 256) (e : Fin 512), S (ix4 0 0 d e) = Ret.S I b 2 n d e)
    (d : Fin 256) (e : Fin 512) : fin2 (hF x1 x2 x3) x0 x5 x6 x7 x11 S (ix4 0 0 d e) = Ret.S I b 2 (n + 512) d e :=
  B.head2.fin hI B.kd2 B.full2 (B.mid2 hI hS) d e

/-- Head 2's gated outputs of the block's first chunk. -/
theorem Blk.fst2 {S : Vec Ideal S1x1x256x512 .f32} (hS : ∀ (d : Fin 256) (e : Fin 512), S (ix4 0 0 d e) = Ret.S I b 2 n d e)
    (r : Fin 256) (e : Fin 512) :
    fst2 (hF x1 x2 x3) x0 x5 x6 x7 x9 x10 x11 S (ix2 r e) = Ret.gated I (Ret.O I) b ⟨n + r, by omega⟩ 2 e :=
  B.head2.fst hI B.dc2 B.cr2 hS r e

/-- Head 2's gated outputs of the block's second chunk. -/
theorem Blk.snd2 {S : Vec Ideal S1x1x256x512 .f32} (hS : ∀ (d : Fin 256) (e : Fin 512), S (ix4 0 0 d e) = Ret.S I b 2 n d e)
    (r : Fin 256) (e : Fin 512) :
    snd2 (hF x1 x2 x3) x0 x5 x6 x7 x9 x10 x11 S (ix2 r e) = Ret.gated I (Ret.O I) b ⟨n + 256 + r, by omega⟩ 2 e :=
  B.head2.snd hI B.dc2 B.cr2 (B.mid2 hI hS) r e

omit hI in
/-- Head 3's decay over a chunk, as the block loads it. -/
theorem Blk.full3 : View.ld x0 (Rect.unit ![3] ![1] inb_S4_S1_3) (Shape.Idx.first (by decide)) = Ideal.exp (((256 : ℝ) : EReal) * Ret.LG 3) := by
  rw [← B.full 3]
  refine congrArg x0 (funext fun a => ?_)
  fin_cases a
  rfl
omit hI in
/-- Head 3's key decays, as the block loads them. -/
theorem Blk.kd3 (r : Fin 256) : View.ld x11 (Rect.unit ![3, 0, 0] ![1, 256, 1] inb_S4x256x1_S1x256x1_3_0_0) (ix3 0 r 0)
    = Ideal.exp ((((256 : ℝ) - 1 : ℝ) - Ret.nat r) * Ret.LG 3) := by
  rw [← B.kdc 3]
  pointwise []
omit hI in
/-- Head 3's state decays, as the block loads them. -/
theorem Blk.cr3 (r : Fin 256) : View.ld x10 (Rect.unit ![3, 0, 0] ![1, 256, 1] inb_S4x256x1_S1x256x1_3_0_0) (ix3 0 r 0)
    = Ideal.exp ((Ret.nat r + 1) * Ret.LG 3) := by
  rw [← B.crs 3]
  pointwise []
omit hI in
/-- Head 3's decays inside a chunk, as the block loads them. -/
theorem Blk.dc3 (r s : Fin 256) : View.ld x9 (Rect.unit ![3, 0, 0] ![1, 256, 256] inb_S4x256x256_S1x256x256_3_0_0) (ix3 0 r s)
    = if 0 ≤ Ret.nat r - Ret.nat s then Ideal.exp (max (Ret.nat r - Ret.nat s) 0 * Ret.LG 3) else 0 := by
  rw [← B.dcy 3]
  pointwise []

/-- Head 3's state after the block's first chunk. -/
theorem Blk.mid3 {S : Vec Ideal S1x1x256x512 .f32} (hS : ∀ (d : Fin 256) (e : Fin 512), S (ix4 0 0 d e) = Ret.S I b 3 n d e)
    (d : Fin 256) (e : Fin 512) : mid3 (hF x1 x2 x3) x0 x5 x6 x7 x11 S (ix4 0 0 d e) = Ret.S I b 3 (n + 256) d e :=
  B.head3.mid hI B.kd3 B.full3 hS d e

/-- Head 3's state after the block's second chunk. -/
theorem Blk.fin3 {S : Vec Ideal S1x1x256x512 .f32} (hS : ∀ (d : Fin 256) (e : Fin 512), S (ix4 0 0 d e) = Ret.S I b 3 n d e)
    (d : Fin 256) (e : Fin 512) : fin3 (hF x1 x2 x3) x0 x5 x6 x7 x11 S (ix4 0 0 d e) = Ret.S I b 3 (n + 512) d e :=
  B.head3.fin hI B.kd3 B.full3 (B.mid3 hI hS) d e

/-- Head 3's gated outputs of the block's first chunk. -/
theorem Blk.fst3 {S : Vec Ideal S1x1x256x512 .f32} (hS : ∀ (d : Fin 256) (e : Fin 512), S (ix4 0 0 d e) = Ret.S I b 3 n d e)
    (r : Fin 256) (e : Fin 512) :
    fst3 (hF x1 x2 x3) x0 x5 x6 x7 x9 x10 x11 S (ix2 r e) = Ret.gated I (Ret.O I) b ⟨n + r, by omega⟩ 3 e :=
  B.head3.fst hI B.dc3 B.cr3 hS r e

/-- Head 3's gated outputs of the block's second chunk. -/
theorem Blk.snd3 {S : Vec Ideal S1x1x256x512 .f32} (hS : ∀ (d : Fin 256) (e : Fin 512), S (ix4 0 0 d e) = Ret.S I b 3 n d e)
    (r : Fin 256) (e : Fin 512) :
    snd3 (hF x1 x2 x3) x0 x5 x6 x7 x9 x10 x11 S (ix2 r e) = Ret.gated I (Ret.O I) b ⟨n + 256 + r, by omega⟩ 3 e :=
  B.head3.snd hI B.dc3 B.cr3 (B.mid3 hI hS) r e
end heads
end Cert.KernelIdeal.Value
-- ==== Proof.KernelRows.lean ====
module
public import proofs.«01_k».proof.Proof.KernelStep
public import proofs.«01_k».proof.Proof.Layer
public import Idealize.ShloMosaic.Lib.Pointwise
public import Idealize.ShloMosaic.Lib.Pipeline.ValueKit
public import Idealize.ShloMosaic.Lib.Pipeline.ReadBack
@[expose] public section
set_option maxRecDepth 16384
noncomputable section
namespace Cert.KernelIdeal.Value
open Idealize.ShloMosaic Idealize.ShloMosaic.TcCoe Idealize.SL.Sem Cert.KernelIdeal.Gen
open Cert.Ret (Inp)

/-- An index of a head's state. -/
theorem idx_state (x : S1x1x256x512.Idx) : x = ix4 (0 : Fin 1) (0 : Fin 1) (x 2 : Fin 256) (x 3 : Fin 512) := by
  funext a
  fin_cases a
  · exact Subsingleton.elim (α := Fin 1) _ _
  · exact Subsingleton.elim (α := Fin 1) _ _
  · rfl
  · rfl

/-- An index of a chunk's outputs. -/
theorem idx_out (x : S256x512.Idx) : x = ix2 (x 0 : Fin 256) (x 1 : Fin 512) := by
  funext a
  fin_cases a <;> rfl

/-- The states of the four heads after a block, as an array. -/
def stG (I : Inp) (b : Fin 8) (n : ℕ) : S1x4x256x512.Idx → EReal := fun y => Ret.S I b (y 1 : Fin 4) n (y 2 : Fin 256) (y 3 : Fin 512)

/-- The gated outputs of the four heads of a block, as an array. -/
def outG (I : Inp) (b : Fin 8) (n : ℕ) (hn : n + 512 ≤ 2048) : S512x2048.Idx → EReal := fun y =>
  Ret.gated I (Ret.O I) b ⟨n + (y 0 : Fin 512).val, by have h : (y 0 : Fin 512).val < 512 := (y 0 : Fin 512).isLt; omega⟩
    ⟨(y 1 : Fin 2048).val / 512, by have h : (y 1 : Fin 2048).val < 2048 := (y 1 : Fin 2048).isLt; omega⟩ ⟨(y 1 : Fin 2048).val % 512, Nat.mod_lt _ (by decide)⟩

/-- Head 0's rectangle of the state window. -/
theorem emb_state0 (d : Fin 256) (e : Fin 512) : (Rect.unit (s := S1x4x256x512) ![0, 0, 0, 0] ![1, 1, 256, 512] inb_S1x4x256x512_S1x1x256x512_0_0_0_0).emb (ix4 0 0 d e) = ix4 0 0 d e := by
  funext a
  apply Fin.ext
  fin_cases a <;> simp [Rect.emb, LoadRect.idx, Rect.toLoadRect, Rect.unit]
/-- Head 1's rectangle of the state window. -/
theorem emb_state1 (d : Fin 256) (e : Fin 512) : (Rect.unit (s := S1x4x256x512) ![0, 1, 0, 0] ![1, 1, 256, 512] inb_S1x4x256x512_S1x1x256x512_0_1_0_0).emb (ix4 0 0 d e) = ix4 0 1 d e := by
  funext a
  apply Fin.ext
  fin_cases a <;> simp [Rect.emb, LoadRect.idx, Rect.toLoadRect, Rect.unit]
/-- Head 2's rectangle of the state window. -/
theorem emb_state2 (d : Fin 256) (e : Fin 512) : (Rect.unit (s := S1x4x256x512) ![0, 2, 0, 0] ![1, 1, 256, 512] inb_S1x4x256x512_S1x1x256x512_0_2_0_0).emb (ix4 0 0 d e) = ix4 0 2 d e := by
  funext a
  apply Fin.ext
  fin_cases a <;> simp [Rect.emb, LoadRect.idx, Rect.toLoadRect, Rect.unit]
/-- Head 3's rectangle of the state window. -/
theorem emb_state3 (d : Fin 256) (e : Fin 512) : (Rect.unit (s := S1x4x256x512) ![0, 3, 0, 0] ![1, 1, 256, 512] inb_S1x4x256x512_S1x1x256x512_0_3_0_0).emb (ix4 0 0 d e) = ix4 0 3 d e := by
  funext a
  apply Fin.ext
  fin_cases a <;> simp [Rect.emb, LoadRect.idx, Rect.toLoadRect, Rect.unit]
/-- Head 0's rectangle of the outputs' scratch, rows from 0. -/
theorem emb_out0_0 (r : Fin 256) (e : Fin 512) : (Rect.unit (s := S512x2048) ![0, 0] ![256, 512] inb_S512x2048_S256x512_0_0).emb (ix2 r e) = ix2 ⟨0 + r, by omega⟩ ⟨0 + e, by omega⟩ := by
  funext a
  apply Fin.ext
  fin_cases a <;> simp [Rect.emb, LoadRect.idx, Rect.toLoadRect, Rect.unit]
/-- Head 1's rectangle of the outputs' scratch, rows from 0. -/
theorem emb_out0_1 (r : Fin 256) (e : Fin 512) : (Rect.unit (s := S512x2048) ![0, 512] ![256, 512] inb_S512x2048_S256x512_0_512).emb (ix2 r e) = ix2 ⟨0 + r, by omega⟩ ⟨512 + e, by omega⟩ := by
  funext a
  apply Fin.ext
  fin_cases a <;> simp [Rect.emb, LoadRect.idx, Rect.toLoadRect, Rect.unit]
/-- Head 2's rectangle of the outputs' scratch, rows from 0. -/
theorem emb_out0_2 (r : Fin 256) (e : Fin 512) : (Rect.unit (s := S512x2048) ![0, 1024] ![256, 512] inb_S512x2048_S256x512_0_1024).emb (ix2 r e) = ix2 ⟨0 + r, by omega⟩ ⟨1024 + e, by omega⟩ := by
  funext a
  apply Fin.ext
  fin_cases a <;> simp [Rect.emb, LoadRect.idx, Rect.toLoadRect, Rect.unit]
/-- Head 3's rectangle of the outputs' scratch, rows from 0. -/
theorem emb_out0_3 (r : Fin 256) (e : Fin 512) : (Rect.unit (s := S512x2048) ![0, 1536] ![256, 512] inb_S512x2048_S256x512_0_1536).emb (ix2 r e) = ix2 ⟨0 + r, by omega⟩ ⟨1536 + e, by omega⟩ := by
  funext a
  apply Fin.ext
  fin_cases a <;> simp [Rect.emb, LoadRect.idx, Rect.toLoadRect, Rect.unit]
/-- Head 0's rectangle of the outputs' scratch, rows from 256. -/
theorem emb_out256_0 (r : Fin 256) (e : Fin 512) : (Rect.unit (s := S512x2048) ![256, 0] ![256, 512] inb_S512x2048_S256x512_256_0).emb (ix2 r e) = ix2 ⟨256 + r, by omega⟩ ⟨0 + e, by omega⟩ := by
  funext a
  apply Fin.ext
  fin_cases a <;> simp [Rect.emb, LoadRect.idx, Rect.toLoadRect, Rect.unit]
/-- Head 1's rectangle of the outputs' scratch, rows from 256. -/
theorem emb_out256_1 (r : Fin 256) (e : Fin 512) : (Rect.unit (s := S512x2048) ![256, 512] ![256, 512] inb_S512x2048_S256x512_256_512).emb (ix2 r e) = ix2 ⟨256 + r, by omega⟩ ⟨512 + e, by omega⟩ := by
  funext a
  apply Fin.ext
  fin_cases a <;> simp [Rect.emb, LoadRect.idx, Rect.toLoadRect, Rect.unit]
/-- Head 2's rectangle of the outputs' scratch, rows from 256. -/
theorem emb_out256_2 (r : Fin 256) (e : Fin 512) : (Rect.unit (s := S512x2048) ![256, 1024] ![256, 512] inb_S512x2048_S256x512_256_1024).emb (ix2 r e) = ix2 ⟨256 + r, by omega⟩ ⟨1024 + e, by omega⟩ := by
  funext a
  apply Fin.ext
  fin_cases a <;> simp [Rect.emb, LoadRect.idx, Rect.toLoadRect, Rect.unit]
/-- Head 3's rectangle of the outputs' scratch, rows from 256. -/
theorem emb_out256_3 (r : Fin 256) (e : Fin 512) : (Rect.unit (s := S512x2048) ![256, 1536] ![256, 512] inb_S512x2048_S256x512_256_1536).emb (ix2 r e) = ix2 ⟨256 + r, by omega⟩ ⟨1536 + e, by omega⟩ := by
  funext a
  apply Fin.ext
  fin_cases a <;> simp [Rect.emb, LoadRect.idx, Rect.toLoadRect, Rect.unit]
/-- The gated outputs at a row and a head's lane. -/
theorem outG_at (I : Inp) (b : Fin 8) (n : ℕ) (hn : n + 512 ≤ 2048) (o : ℕ) (h : Fin 4) (ho : o + 256 ≤ 512) (r : Fin 256) (e : Fin 512)
    (p : o + r.val < 512) (p' : 512 * h.val + e.val < 2048) (p'' : n + o + r.val < 2048) :
    outG I b n hn (ix2 ⟨o + r, p⟩ ⟨512 * h + e, p'⟩) = Ret.gated I (Ret.O I) b ⟨n + o + r, p''⟩ h e := by
  show Ret.gated I (Ret.O I) b ⟨n + (o + r.val), _⟩ ⟨(512 * h.val + e.val) / 512, _⟩ ⟨(512 * h.val + e.val) % 512, _⟩ = _
  have e1 : (⟨n + (o + r.val), by omega⟩ : Fin 2048) = ⟨n + o + r.val, p''⟩ := Fin.ext (by show n + (o + r.val) = n + o + r.val; omega)
  have e2 : (⟨(512 * h.val + e.val) / 512, by omega⟩ : Fin 4) = h := Fin.ext (by show (512 * h.val + e.val) / 512 = h.val; omega)
  have e3 : (⟨(512 * h.val + e.val) % 512, by omega⟩ : Fin 512) = e := Fin.ext (by show (512 * h.val + e.val) % 512 = e.val; omega)
  rw [e1, e2, e3]
/-- Head 0's indices of the state window. -/
theorem mem_state0 (d : Fin 256) (e : Fin 512) : ix4 0 0 d e ∈ (Rect.unit (s := S1x4x256x512) ![0, 0, 0, 0] ![1, 1, 256, 512] inb_S1x4x256x512_S1x1x256x512_0_0_0_0).set := by
  rw [Rect.mem_set_unit]
  intro a
  fin_cases a <;> simp
/-- Head 1's indices of the state window. -/
theorem mem_state1 (d : Fin 256) (e : Fin 512) : ix4 0 1 d e ∈ (Rect.unit (s := S1x4x256x512) ![0, 1, 0, 0] ![1, 1, 256, 512] inb_S1x4x256x512_S1x1x256x512_0_1_0_0).set := by
  rw [Rect.mem_set_unit]
  intro a
  fin_cases a <;> simp
/-- Head 2's indices of the state window. -/
theorem mem_state2 (d : Fin 256) (e : Fin 512) : ix4 0 2 d e ∈ (Rect.unit (s := S1x4x256x512) ![0, 2, 0, 0] ![1, 1, 256, 512] inb_S1x4x256x512_S1x1x256x512_0_2_0_0).set := by
  rw [Rect.mem_set_unit]
  intro a
  fin_cases a <;> simp
/-- Head 3's indices of the state window. -/
theorem mem_state3 (d : Fin 256) (e : Fin 512) : ix4 0 3 d e ∈ (Rect.unit (s := S1x4x256x512) ![0, 3, 0, 0] ![1, 1, 256, 512] inb_S1x4x256x512_S1x1x256x512_0_3_0_0).set := by
  rw [Rect.mem_set_unit]
  intro a
  fin_cases a <;> simp
/-- Head 0's indices of the outputs' scratch, rows from 0. -/
theorem mem_out0_0 (r : Fin 512) (j : Fin 2048) (hr : 0 ≤ r.val ∧ r.val < 256) (hj : 0 ≤ j.val ∧ j.val < 512) :
    ix2 r j ∈ (Rect.unit (s := S512x2048) ![0, 0] ![256, 512] inb_S512x2048_S256x512_0_0).set := by
  rw [Rect.mem_set_unit]
  intro a
  fin_cases a
  · show 0 ≤ r.val ∧ r.val < 0 + 256
    omega
  · show 0 ≤ j.val ∧ j.val < 0 + 512
    omega
/-- Head 1's indices of the outputs' scratch, rows from 0. -/
theorem mem_out0_1 (r : Fin 512) (j : Fin 2048) (hr : 0 ≤ r.val ∧ r.val < 256) (hj : 512 ≤ j.val ∧ j.val < 1024) :
    ix2 r j ∈ (Rect.unit (s := S512x2048) ![0, 512] ![256, 512] inb_S512x2048_S256x512_0_512).set := by
  rw [Rect.mem_set_unit]
  intro a
  fin_cases a
  · show 0 ≤ r.val ∧ r.val < 0 + 256
    omega
  · show 512 ≤ j.val ∧ j.val < 512 + 512
    omega
/-- Head 2's indices of the outputs' scratch, rows from 0. -/
theorem mem_out0_2 (r : Fin 512) (j : Fin 2048) (hr : 0 ≤ r.val ∧ r.val < 256) (hj : 1024 ≤ j.val ∧ j.val < 1536) :
    ix2 r j ∈ (Rect.unit (s := S512x2048) ![0, 1024] ![256, 512] inb_S512x2048_S256x512_0_1024).set := by
  rw [Rect.mem_set_unit]
  intro a
  fin_cases a
  · show 0 ≤ r.val ∧ r.val < 0 + 256
    omega
  · show 1024 ≤ j.val ∧ j.val < 1024 + 512
    omega
/-- Head 3's indices of the outputs' scratch, rows from 0. -/
theorem mem_out0_3 (r : Fin 512) (j : Fin 2048) (hr : 0 ≤ r.val ∧ r.val < 256) (hj : 1536 ≤ j.val ∧ j.val < 2048) :
    ix2 r j ∈ (Rect.unit (s := S512x2048) ![0, 1536] ![256, 512] inb_S512x2048_S256x512_0_1536).set := by
  rw [Rect.mem_set_unit]
  intro a
  fin_cases a
  · show 0 ≤ r.val ∧ r.val < 0 + 256
    omega
  · show 1536 ≤ j.val ∧ j.val < 1536 + 512
    omega
/-- Head 0's indices of the outputs' scratch, rows from 256. -/
theorem mem_out256_0 (r : Fin 512) (j : Fin 2048) (hr : 256 ≤ r.val ∧ r.val < 512) (hj : 0 ≤ j.val ∧ j.val < 512) :
    ix2 r j ∈ (Rect.unit (s := S512x2048) ![256, 0] ![256, 512] inb_S512x2048_S256x512_256_0).set := by
  rw [Rect.mem_set_unit]
  intro a
  fin_cases a
  · show 256 ≤ r.val ∧ r.val < 256 + 256
    omega
  · show 0 ≤ j.val ∧ j.val < 0 + 512
    omega
/-- Head 1's indices of the outputs' scratch, rows from 256. -/
theorem mem_out256_1 (r : Fin 512) (j : Fin 2048) (hr : 256 ≤ r.val ∧ r.val < 512) (hj : 512 ≤ j.val ∧ j.val < 1024) :
    ix2 r j ∈ (Rect.unit (s := S512x2048) ![256, 512] ![256, 512] inb_S512x2048_S256x512_256_512).set := by
  rw [Rect.mem_set_unit]
  intro a
  fin_cases a
  · show 256 ≤ r.val ∧ r.val < 256 + 256
    omega
  · show 512 ≤ j.val ∧ j.val < 512 + 512
    omega
/-- Head 2's indices of the outputs' scratch, rows from 256. -/
theorem mem_out256_2 (r : Fin 512) (j : Fin 2048) (hr : 256 ≤ r.val ∧ r.val < 512) (hj : 1024 ≤ j.val ∧ j.val < 1536) :
    ix2 r j ∈ (Rect.unit (s := S512x2048) ![256, 1024] ![256, 512] inb_S512x2048_S256x512_256_1024).set := by
  rw [Rect.mem_set_unit]
  intro a
  fin_cases a
  · show 256 ≤ r.val ∧ r.val < 256 + 256
    omega
  · show 1024 ≤ j.val ∧ j.val < 1024 + 512
    omega
/-- Head 3's indices of the outputs' scratch, rows from 256. -/
theorem mem_out256_3 (r : Fin 512) (j : Fin 2048) (hr : 256 ≤ r.val ∧ r.val < 512) (hj : 1536 ≤ j.val ∧ j.val < 2048) :
    ix2 r j ∈ (Rect.unit (s := S512x2048) ![256, 1536] ![256, 512] inb_S512x2048_S256x512_256_1536).set := by
  rw [Rect.mem_set_unit]
  intro a
  fin_cases a
  · show 256 ≤ r.val ∧ r.val < 256 + 256
    omega
  · show 1536 ≤ j.val ∧ j.val < 1536 + 512
    omega
section canon
variable {I : Inp} {b : Fin 8} {n : ℕ} {hn : n + 512 ≤ 2048} {x0 : Vec Ideal S4 .f32}
    {x1 : Vec Ideal S1x512x1024 .f32} {x2 : Vec Ideal S1x3x1x1024 .f32} {x3 x4 : Vec Ideal S1x1024 .f32}
    {x5 x6 : Vec Ideal S512x128 .f32} {x7 : Vec Ideal S1024x6144 .bf16} {x8 : Vec Ideal S2048x1024 .bf16}
    {x9 : Vec Ideal S4x256x256 .f32} {x10 x11 : Vec Ideal S4x256x1 .f32}
    (hI : I.Real) (B : Blk I b n hn x0 x1 x2 x3 x4 x5 x6 x7 x8 x9 x10 x11)
    {S0 S1 S2 S3 : Vec Ideal S1x1x256x512 .f32}
    (h0 : ∀ (d : Fin 256) (e : Fin 512), S0 (ix4 0 0 d e) = Ret.S I b 0 n d e)
    (h1 : ∀ (d : Fin 256) (e : Fin 512), S1 (ix4 0 0 d e) = Ret.S I b 1 n d e)
    (h2 : ∀ (d : Fin 256) (e : Fin 512), S2 (ix4 0 0 d e) = Ret.S I b 2 n d e)
    (h3 : ∀ (d : Fin 256) (e : Fin 512), S3 (ix4 0 0 d e) = Ret.S I b 3 n d e)
include hI B h0 h1 h2 h3

/-- The state window after a block, whatever was written below. -/
theorem Blk.states (L : List (View.Piece (Elt Ideal) S1x4x256x512 .f32)) (h : Fin 4) (d : Fin 256) (e : Fin 512) :
    View.canon (sList (hF x1 x2 x3) x0 x5 x6 x7 x11 S0 S1 S2 S3 ++ L) (ix4 0 h d e) = Ret.S I b h (n + 512) d e := by
  refine (View.canon_append_of_piecesOf (stG I b (n + 512)) (List.drop 4 (sList (hF x1 x2 x3) x0 x5 x6 x7 x11 S0 S1 S2 S3) ++ L)
    (List.take 4 (sList (hF x1 x2 x3) x0 x5 x6 x7 x11 S0 S1 S2 S3)) ?_ (ix4 0 h d e) ?_).trans rfl
  · refine ⟨fun x => ?_, fun x => ?_, fun x => ?_, fun x => ?_, trivial⟩
    · rw [idx_state x]
      exact (B.fin3 hI h3 (x 2) (x 3)).trans (congrArg (stG I b (n + 512)) (emb_state3 (x 2) (x 3))).symm
    · rw [idx_state x]
      exact (B.fin2 hI h2 (x 2) (x 3)).trans (congrArg (stG I b (n + 512)) (emb_state2 (x 2) (x 3))).symm
    · rw [idx_state x]
      exact (B.fin1 hI h1 (x 2) (x 3)).trans (congrArg (stG I b (n + 512)) (emb_state1 (x 2) (x 3))).symm
    · rw [idx_state x]
      exact (B.fin0 hI h0 (x 2) (x 3)).trans (congrArg (stG I b (n + 512)) (emb_state0 (x 2) (x 3))).symm
  · fin_cases h
    · exact ⟨_, .tail _ (.tail _ (.tail _ (.head _))), mem_state0 d e⟩
    · exact ⟨_, .tail _ (.tail _ (.head _)), mem_state1 d e⟩
    · exact ⟨_, .tail _ (.head _), mem_state2 d e⟩
    · exact ⟨_, .head _, mem_state3 d e⟩

/-- The outputs' scratch after a block. -/
theorem Blk.outs (r : Fin 512) (j : Fin 2048) :
    View.canon (oList (hF x1 x2 x3) x0 x5 x6 x7 x9 x10 x11 S0 S1 S2 S3) (ix2 r j)
      = Ret.gated I (Ret.O I) b ⟨n + r, by omega⟩ ⟨j / 512, by omega⟩ ⟨j % 512, by omega⟩ := by
  refine (View.canon_append_of_piecesOf (outG I b n hn) []
    (oList (hF x1 x2 x3) x0 x5 x6 x7 x9 x10 x11 S0 S1 S2 S3) ?_ (ix2 r j) ?_).trans rfl
  · refine ⟨fun x => ?_, fun x => ?_, fun x => ?_, fun x => ?_, fun x => ?_, fun x => ?_, fun x => ?_, fun x => ?_, trivial⟩
    · rw [idx_out x]
      refine (B.snd3 hI h3 (x 0) (x 1)).trans (Eq.trans ?_ (congrArg (outG I b n hn) (emb_out256_3 (x 0) (x 1))).symm)
      exact (outG_at I b n hn 256 3 (by decide) (x 0) (x 1) _ _ _).symm
    · rw [idx_out x]
      refine (B.snd2 hI h2 (x 0) (x 1)).trans (Eq.trans ?_ (congrArg (outG I b n hn) (emb_out256_2 (x 0) (x 1))).symm)
      exact (outG_at I b n hn 256 2 (by decide) (x 0) (x 1) _ _ _).symm
    · rw [idx_out x]
      refine (B.snd1 hI h1 (x 0) (x 1)).trans (Eq.trans ?_ (congrArg (outG I b n hn) (emb_out256_1 (x 0) (x 1))).symm)
      exact (outG_at I b n hn 256 1 (by decide) (x 0) (x 1) _ _ _).symm
    · rw [idx_out x]
      refine (B.snd0 hI h0 (x 0) (x 1)).trans (Eq.trans ?_ (congrArg (outG I b n hn) (emb_out256_0 (x 0) (x 1))).symm)
      exact (outG_at I b n hn 256 0 (by decide) (x 0) (x 1) _ _ _).symm
    · rw [idx_out x]
      refine (B.fst3 hI h3 (x 0) (x 1)).trans (Eq.trans ?_ (congrArg (outG I b n hn) (emb_out0_3 (x 0) (x 1))).symm)
      exact (outG_at I b n hn 0 3 (by decide) (x 0) (x 1) _ _ _).symm
    · rw [idx_out x]
      refine (B.fst2 hI h2 (x 0) (x 1)).trans (Eq.trans ?_ (congrArg (outG I b n hn) (emb_out0_2 (x 0) (x 1))).symm)
      exact (outG_at I b n hn 0 2 (by decide) (x 0) (x 1) _ _ _).symm
    · rw [idx_out x]
      refine (B.fst1 hI h1 (x 0) (x 1)).trans (Eq.trans ?_ (congrArg (outG I b n hn) (emb_out0_1 (x 0) (x 1))).symm)
      exact (outG_at I b n hn 0 1 (by decide) (x 0) (x 1) _ _ _).symm
    · rw [idx_out x]
      refine (B.fst0 hI h0 (x 0) (x 1)).trans (Eq.trans ?_ (congrArg (outG I b n hn) (emb_out0_0 (x 0) (x 1))).symm)
      exact (outG_at I b n hn 0 0 (by decide) (x 0) (x 1) _ _ _).symm
  · by_cases hr : r.val < 256
    · by_cases hj : j.val < 1024
      · by_cases hk : j.val < 512
        · exact ⟨_, .tail _ (.tail _ (.tail _ (.tail _ (.tail _ (.tail _ (.tail _ (.head _))))))), mem_out0_0 r j (by omega) (by omega)⟩
        · exact ⟨_, .tail _ (.tail _ (.tail _ (.tail _ (.tail _ (.tail _ (.head _)))))), mem_out0_1 r j (by omega) (by omega)⟩
      · by_cases hk : j.val < 1536
        · exact ⟨_, .tail _ (.tail _ (.tail _ (.tail _ (.tail _ (.head _))))), mem_out0_2 r j (by omega) (by omega)⟩
        · exact ⟨_, .tail _ (.tail _ (.tail _ (.tail _ (.head _)))), mem_out0_3 r j (by omega) (by omega)⟩
    · by_cases hj : j.val < 1024
      · by_cases hk : j.val < 512
        · exact ⟨_, .tail _ (.tail _ (.tail _ (.head _))), mem_out256_0 r j (by omega) (by omega)⟩
        · exact ⟨_, .tail _ (.tail _ (.head _)), mem_out256_1 r j (by omega) (by omega)⟩
      · by_cases hk : j.val < 1536
        · exact ⟨_, .tail _ (.head _), mem_out256_2 r j (by omega) (by omega)⟩
        · exact ⟨_, .head _, mem_out256_3 r j (by omega) (by omega)⟩

/-- The result window after a block. -/
theorem Blk.result (r : Fin 512) (k : Fin 1024) :
    xF x1 x2 x4 x8 (View.canon (oList (hF x1 x2 x3) x0 x5 x6 x7 x9 x10 x11 S0 S1 S2 S3)) (ix3 0 r k)
      = Ret.tail I (Ret.O I) b ⟨n + r, by omega⟩ k := by
  have hO := B.outs hI h0 h1 h2 h3
  generalize View.canon (oList (hF x1 x2 x3) x0 x5 x6 x7 x9 x10 x11 S0 S1 S2 S3) = o at hO ⊢
  have hY : (fun l : Fin 1024 => ∑ j : Fin 2048, o (ix2 r j) * x8 (ix2 j l)) = Ret.Y I (Ret.O I) b ⟨n + r, by omega⟩ := by
    funext l
    refine Finset.sum_congr rfl fun j _ => ?_
    rw [hO, B.wout]
  unfold Ret.tail Ret.rinv
  simp only [← hY, ← B.rows, ← B.mods, ← B.post]
  pointwise [xF, k0_pay1, k0_pay3, k0_pay102, k0_pay103]
  try rfl
end canon
end Cert.KernelIdeal.Value
-- ==== Proof.KernelReads.lean ====
/-
  What the kernel's grid points read: each window's block at a grid point, at an index, in terms of the layer's
  mathematics.
-/
module
public import proofs.«01_k».proof.Proof.KernelHeads
public import Idealize.ShloMosaic.Lib.Pipeline.ValueKit
public import Idealize.ShloMosaic.Lib.StableHlo.ReadAt
public import Idealize.ShloMosaic.Lib.Claim
@[expose] public section
set_option maxRecDepth 16384
noncomputable section
namespace Cert.KernelIdeal.Value
open Idealize.ShloMosaic Idealize.ShloMosaic.TcCoe Idealize.SL.Sem Cert.KernelIdeal.Gen
open Idealize.ShloMosaic.StableHlo
open Cert.Ret (Inp)

variable (m : (ℓ : Loc nD τ sig) → Buf (Elt Ideal) ℓ) (c : Dev nD)

/-- The layer's inputs of device `c`, from the kernel's arguments. -/
def inpK : Inp :=
  Inp.of (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-! ### The placement of every block -/

/-- Where window 0's block stands at a point. -/
theorem idx0 : ∀ t : Fin grid0.N, win0_0.index t = ![0] := by decide +kernel
/-- Where window 1's block stands at a point. -/
theorem idx1 : ∀ t : Fin grid0.N, win0_1.index t = ![t.val / 4, t.val % 4, 0] := by decide +kernel
/-- Where window 2's block stands at a point. -/
theorem idx2 : ∀ t : Fin grid0.N, win0_2.index t = ![t.val / 4, 0, 0, 0] := by decide +kernel
/-- Where window 3's block stands at a point. -/
theorem idx3 : ∀ t : Fin grid0.N, win0_3.index t = ![0, 0] := by decide +kernel
/-- Where window 4's block stands at a point. -/
theorem idx4 : ∀ t : Fin grid0.N, win0_4.index t = ![0, 0] := by decide +kernel
/-- Where window 5's block stands at a point. -/
theorem idx5 : ∀ t : Fin grid0.N, win0_5.index t = ![t.val % 4, 0] := by decide +kernel
/-- Where window 6's block stands at a point. -/
theorem idx6 : ∀ t : Fin grid0.N, win0_6.index t = ![t.val % 4, 0] := by decide +kernel
/-- Where window 7's block stands at a point. -/
theorem idx7 : ∀ t : Fin grid0.N, win0_7.index t = ![0, 0] := by decide +kernel
/-- Where window 8's block stands at a point. -/
theorem idx8 : ∀ t : Fin grid0.N, win0_8.index t = ![0, 0] := by decide +kernel
/-- Where window 9's block stands at a point. -/
theorem idx9 : ∀ t : Fin grid0.N, win0_9.index t = ![0, 0, 0] := by decide +kernel
/-- Where window 10's block stands at a point. -/
theorem idx10 : ∀ t : Fin grid0.N, win0_10.index t = ![0, 0, 0] := by decide +kernel
/-- Where window 11's block stands at a point. -/
theorem idx11 : ∀ t : Fin grid0.N, win0_11.index t = ![0, 0, 0] := by decide +kernel

/-- A point's batch row. -/
theorem gB (t : Fin cfg0.N) : t.val / 4 < 8 := by have := t.isLt; have : cfg0.N = 32 := N_0; omega
/-- A point's rows are rows of the array. -/
theorem gN (t : Fin cfg0.N) : t.val % 4 * 512 + 512 ≤ 2048 := by omega
/-- A point's row is a row of the array. -/
theorem gR (t : Fin cfg0.N) (r : Fin 512) : t.val % 4 * 512 + r.val < 2048 := by omega

/-- Window 0's block, at an index. -/
theorem rd0 (t : Fin cfg0.N) (h : Fin 4) : iblk m c 0 t (ix1 h) = V m c main_v72 (ix1 h) := by
  blk_point [iblk, idx0 t]

set_option maxHeartbeats 4000000 in
/-- The array window 0 reads, at an index. -/
theorem ar0 (h : Fin 4) : V m c main_v72 (ix1 h) = Ideal.exp (((256 : ℝ) : EReal) * Ret.LG h) := by
  unfold V
  after_reads_at
  rw [← Ret.ofBits_256]
  rfl

/-- Window 1's block, at an index. -/
theorem rd1 (t : Fin cfg0.N) (r : Fin 512) (k : Fin 1024) : iblk m c 1 t (ix3 0 r k) = V m c main_arg0 (ix3 ⟨t.val / 4, gB t⟩ ⟨t.val % 4 * 512 + r.val, gR t r⟩ k) := by
  blk_point [iblk, idx1 t]

set_option maxHeartbeats 4000000 in
/-- The array window 1 reads, at an index. -/
theorem ar1 (b : Fin 8) (r : Fin 2048) (k : Fin 1024) : V m c main_arg0 (ix3 b r k) = (inpK m c).X b r k := by
  unfold V
  after_reads_at
  rfl

/-- Window 2's block, at an index. -/
theorem rd2 (t : Fin cfg0.N) (s : Fin 3) (k : Fin 1024) : iblk m c 2 t (ix4 0 s 0 k) = V m c main_v0 (ix4 ⟨t.val / 4, gB t⟩ s 0 k) := by
  blk_point [iblk, idx2 t]

set_option maxHeartbeats 4000000 in
/-- The array window 2 reads, at an index. -/
theorem ar2 (b : Fin 8) (s : Fin 3) (k : Fin 1024) : V m c main_v0 (ix4 b s 0 k) = (inpK m c).M b s k := by
  unfold V
  after_reads_at
  rfl

/-- Window 3's block, at an index. -/
theorem rd3 (t : Fin cfg0.N) (k : Fin 1024) : iblk m c 3 t (ix2 0 k) = V m c main_v3 (ix2 0 k) := by
  blk_point [iblk, idx3 t]

set_option maxHeartbeats 4000000 in
/-- The array window 3 reads, at an index. -/
theorem ar3 (k : Fin 1024) : V m c main_v3 (ix2 0 k) = (inpK m c).GP k := by
  unfold V
  after_reads_at
  rfl

/-- Window 4's block, at an index. -/
theorem rd4 (t : Fin cfg0.N) (k : Fin 1024) : iblk m c 4 t (ix2 0 k) = V m c main_v6 (ix2 0 k) := by
  blk_point [iblk, idx4 t]

set_option maxHeartbeats 4000000 in
/-- The array window 4 reads, at an index. -/
theorem ar4 (k : Fin 1024) : V m c main_v6 (ix2 0 k) = (inpK m c).GQ k := by
  unfold V
  after_reads_at
  rfl

/-- Window 5's block, at an index. -/
theorem rd5 (t : Fin cfg0.N) (r : Fin 512) (d : Fin 128) : iblk m c 5 t (ix2 r d) = V m c main_v23 (ix2 ⟨t.val % 4 * 512 + r.val, gR t r⟩ d) := by
  blk_point [iblk, idx5 t]

set_option maxHeartbeats 4000000 in
/-- The array window 5 reads, at an index. -/
theorem ar5 (r : Fin 2048) (d : Fin 128) : V m c main_v23 (ix2 r d) = Ideal.cos (Ret.ang r d) := by
  unfold V
  after_reads_at
  rfl

/-- Window 6's block, at an index. -/
theorem rd6 (t : Fin cfg0.N) (r : Fin 512) (d : Fin 128) : iblk m c 6 t (ix2 r d) = V m c main_v24 (ix2 ⟨t.val % 4 * 512 + r.val, gR t r⟩ d) := by
  blk_point [iblk, idx6 t]

set_option maxHeartbeats 4000000 in
/-- The array window 6 reads, at an index. -/
theorem ar6 (r : Fin 2048) (d : Fin 128) : V m c main_v24 (ix2 r d) = Ideal.sin (Ret.ang r d) := by
  unfold V
  after_reads_at
  rfl

/-- Window 7's block, at an index. -/
theorem rd7 (t : Fin cfg0.N) (k : Fin 1024) (l : Fin 6144) : iblk m c 7 t (ix2 k l) = V m c main_v8 (ix2 k l) := by
  blk_point [iblk, idx7 t]

set_option maxHeartbeats 4000000 in
/-- The array window 7 reads, at an index. -/
theorem ar7 (k : Fin 1024) (l : Fin 6144) : V m c main_v8 (ix2 k l) = (inpK m c).WI k l := by
  unfold V
  after_reads_at
  rfl

/-- Window 8's block, at an index. -/
theorem rd8 (t : Fin cfg0.N) (k : Fin 2048) (l : Fin 1024) : iblk m c 8 t (ix2 k l) = V m c main_v10 (ix2 k l) := by
  blk_point [iblk, idx8 t]

set_option maxHeartbeats 4000000 in
/-- The array window 8 reads, at an index. -/
theorem ar8 (k : Fin 2048) (l : Fin 1024) : V m c main_v10 (ix2 k l) = (inpK m c).WO k l := by
  unfold V
  after_reads_at
  rfl

/-- Window 9's block, at an index. -/
theorem rd9 (t : Fin cfg0.N) (h : Fin 4) (r s : Fin 256) : iblk m c 9 t (ix3 h r s) = V m c main_v51 (ix3 h r s) := by
  blk_point [iblk, idx9 t]

set_option maxHeartbeats 4000000 in
/-- The array window 9 reads, at an index. -/
theorem ar9 (h : Fin 4) (r s : Fin 256) : V m c main_v51 (ix3 h r s) = if 0 ≤ Ret.nat r - Ret.nat s then Ideal.exp (max (Ret.nat r - Ret.nat s) 0 * Ret.LG h) else 0 := by
  unfold V
  after_reads_at
  rw [show id (constant (F := Ideal) S_ FTy.f32 0#32) ix0 = 0 from by show Ideal.ofBits FTy.f32 0#32 = 0; simp [Ideal.ofBits, Ideal.ieee]]
  rfl

/-- Window 10's block, at an index. -/
theorem rd10 (t : Fin cfg0.N) (h : Fin 4) (r : Fin 256) : iblk m c 10 t (ix3 h r 0) = V m c main_v60 (ix3 h r 0) := by
  blk_point [iblk, idx10 t]

set_option maxHeartbeats 4000000 in
/-- The array window 10 reads, at an index. -/
theorem ar10 (h : Fin 4) (r : Fin 256) : V m c main_v60 (ix3 h r 0) = Ideal.exp ((Ret.nat r + 1) * Ret.LG h) := by
  unfold V
  after_reads_at
  rfl

/-- Window 11's block, at an index. -/
theorem rd11 (t : Fin cfg0.N) (h : Fin 4) (r : Fin 256) : iblk m c 11 t (ix3 h r 0) = V m c main_v69 (ix3 h r 0) := by
  blk_point [iblk, idx11 t]

set_option maxHeartbeats 4000000 in
/-- The array window 11 reads, at an index. -/
theorem ar11 (h : Fin 4) (r : Fin 256) : V m c main_v69 (ix3 h r 0) = Ideal.exp ((((256 : ℝ) - 1 : ℝ) - Ret.nat r) * Ret.LG h) := by
  unfold V
  after_reads_at
  rw [show ((256 : ℝ) - 1 : ℝ) = 255 by norm_num, ← Ret.ofBits_255]
  rfl

/-- What point `t` reads. -/
theorem blk (t : Fin cfg0.N) : Blk (inpK m c) ⟨t.val / 4, gB t⟩ (t.val % 4 * 512) (gN t) (iblk m c 0 t) (iblk m c 1 t)
    (iblk m c 2 t) (iblk m c 3 t) (iblk m c 4 t) (iblk m c 5 t) (iblk m c 6 t) (iblk m c 7 t) (iblk m c 8 t)
    (iblk m c 9 t) (iblk m c 10 t) (iblk m c 11 t) where
  full h := (rd0 m c t h).trans (ar0 m c h)
  rows r k := (rd1 m c t r k).trans (ar1 m c _ _ k)
  mods s k := (rd2 m c t s k).trans (ar2 m c _ s k)
  pre k := (rd3 m c t k).trans (ar3 m c k)
  post k := (rd4 m c t k).trans (ar4 m c k)
  cs r d := (rd5 m c t r d).trans (ar5 m c _ d)
  sn r d := (rd6 m c t r d).trans (ar6 m c _ d)
  win k l := (rd7 m c t k l).trans (ar7 m c k l)
  wout k l := (rd8 m c t k l).trans (ar8 m c k l)
  dcy h r s := (rd9 m c t h r s).trans (ar9 m c h r s)
  crs h r := (rd10 m c t h r).trans (ar10 m c h r)
  kdc h r := (rd11 m c t h r).trans (ar11 m c h r)

end Cert.KernelIdeal.Value
-- ==== Proof.KernelRun.lean ====
/-
  What the kernel's grid points leave in the result windows: the rows of the layer's result, and the state after the
  block's last token.
-/
module
public import proofs.«01_k».proof.Proof.KernelRows
public import proofs.«01_k».proof.Proof.KernelReads
@[expose] public section
set_option maxRecDepth 16384
noncomputable section
namespace Cert.KernelIdeal.Value
open Idealize.ShloMosaic Idealize.ShloMosaic.TcCoe Idealize.SL.Sem Cert.KernelIdeal.Gen
open Idealize.ShloMosaic.StableHlo
open Cert.Ret (Inp)

variable (m : (ℓ : Loc nD τ sig) → Buf (Elt Ideal) ℓ) (c : Dev nD)

/-- A sequence's first block starts from the zero state. -/
theorem zS_eq (I : Inp) (b : Fin 8) (h : Fin 4) (n : ℕ) (hn : n = 0) (d : Fin 256) (e : Fin 512) :
    (zS : FVec Ideal S1x1x256x512 .f32) (ix4 0 0 d e) = Ret.S I b h n d e := by
  rw [hn, Ret.S_zero]
  show Ideal.ofBits FTy.f32 0#32 = 0
  simp [Ideal.ofBits, Ideal.ieee]

/-- Head 0 of a state window, at an index. -/
theorem ld_state0 (w : Vec Ideal S1x4x256x512 .f32) (d : Fin 256) (e : Fin 512) :
    View.ld w (Rect.unit ![0, 0, 0, 0] ![1, 1, 256, 512] inb_S1x4x256x512_S1x1x256x512_0_0_0_0) (ix4 0 0 d e)
      = w (ix4 0 0 d e) := by
  pointwise []

/-- Head 1 of a state window, at an index. -/
theorem ld_state1 (w : Vec Ideal S1x4x256x512 .f32) (d : Fin 256) (e : Fin 512) :
    View.ld w (Rect.unit ![0, 1, 0, 0] ![1, 1, 256, 512] inb_S1x4x256x512_S1x1x256x512_0_1_0_0) (ix4 0 0 d e)
      = w (ix4 0 1 d e) := by
  pointwise []

/-- Head 2 of a state window, at an index. -/
theorem ld_state2 (w : Vec Ideal S1x4x256x512 .f32) (d : Fin 256) (e : Fin 512) :
    View.ld w (Rect.unit ![0, 2, 0, 0] ![1, 1, 256, 512] inb_S1x4x256x512_S1x1x256x512_0_2_0_0) (ix4 0 0 d e)
      = w (ix4 0 2 d e) := by
  pointwise []

/-- Head 3 of a state window, at an index. -/
theorem ld_state3 (w : Vec Ideal S1x4x256x512 .f32) (d : Fin 256) (e : Fin 512) :
    View.ld w (Rect.unit ![0, 3, 0, 0] ![1, 1, 256, 512] inb_S1x4x256x512_S1x1x256x512_0_3_0_0) (ix4 0 0 d e)
      = w (ix4 0 3 d e) := by
  pointwise []

/-- The state window after a sequence's first block. -/
theorem first13 (hI : (inpK m c).Real) (t : Fin cfg0.N) (h0 : t.val % 4 = 0) (h : Fin 4) (d : Fin 256) (e : Fin 512) :
    (outsAt0 m c t.val t.isLt).2 (ix4 0 h d e) = Ret.S (inpK m c) ⟨t.val / 4, gB t⟩ h (t.val % 4 * 512 + 512) d e := by
  have z : ∀ (j : Fin 4) (d : Fin 256) (e : Fin 512), (zS : FVec Ideal S1x1x256x512 .f32) (ix4 0 0 d e)
      = Ret.S (inpK m c) ⟨t.val / 4, gB t⟩ j (t.val % 4 * 512) d e := fun j => zS_eq _ _ j _ (by omega)
  rw [outsAt0_A m c t h0]
  dsimp only
  rw [out0_A_13_eq]
  exact (blk m c t).states hI (z 0) (z 1) (z 2) (z 3) _ h d e

/-- The state window after a later block. -/
theorem later13 (hI : (inpK m c).Real) (t : Fin cfg0.N) (h0 : ¬t.val % 4 = 0)
    (hp : ∀ (h : Fin 4) (d : Fin 256) (e : Fin 512),
      (outsAt0 m c (t.val - 1) (Nat.lt_of_le_of_lt (Nat.sub_le _ _) t.isLt)).2 (ix4 0 h d e)
        = Ret.S (inpK m c) ⟨t.val / 4, gB t⟩ h (t.val % 4 * 512) d e) (h : Fin 4) (d : Fin 256) (e : Fin 512) :
    (outsAt0 m c t.val t.isLt).2 (ix4 0 h d e) = Ret.S (inpK m c) ⟨t.val / 4, gB t⟩ h (t.val % 4 * 512 + 512) d e := by
  rw [outsAt0_B m c t h0]
  dsimp only
  rw [out0_B_13_eq]
  rw [← List.append_nil (sList _ _ _ _ _ _ _ _ _ _)]
  exact (blk m c t).states hI (fun d e => (ld_state0 _ d e).trans (hp 0 d e)) (fun d e => (ld_state1 _ d e).trans (hp 1 d e)) (fun d e => (ld_state2 _ d e).trans (hp 2 d e)) (fun d e => (ld_state3 _ d e).trans (hp 3 d e)) _ h d e

/-- The result window after a sequence's first block. -/
theorem first12 (hI : (inpK m c).Real) (t : Fin cfg0.N) (h0 : t.val % 4 = 0) (r : Fin 512) (k : Fin 1024) :
    (outsAt0 m c t.val t.isLt).1 (ix3 0 r k) = Ret.tail (inpK m c) (Ret.O (inpK m c)) ⟨t.val / 4, gB t⟩ ⟨t.val % 4 * 512 + r.val, gR t r⟩ k := by
  have z : ∀ (j : Fin 4) (d : Fin 256) (e : Fin 512), (zS : FVec Ideal S1x1x256x512 .f32) (ix4 0 0 d e)
      = Ret.S (inpK m c) ⟨t.val / 4, gB t⟩ j (t.val % 4 * 512) d e := fun j => zS_eq _ _ j _ (by omega)
  rw [outsAt0_A m c t h0]
  dsimp only
  rw [out0_A_12_eq]
  exact (blk m c t).result hI (z 0) (z 1) (z 2) (z 3) r k

/-- The result window after a later block. -/
theorem later12 (hI : (inpK m c).Real) (t : Fin cfg0.N) (h0 : ¬t.val % 4 = 0)
    (hp : ∀ (h : Fin 4) (d : Fin 256) (e : Fin 512),
      (outsAt0 m c (t.val - 1) (Nat.lt_of_le_of_lt (Nat.sub_le _ _) t.isLt)).2 (ix4 0 h d e)
        = Ret.S (inpK m c) ⟨t.val / 4, gB t⟩ h (t.val % 4 * 512) d e) (r : Fin 512) (k : Fin 1024) :
    (outsAt0 m c t.val t.isLt).1 (ix3 0 r k) = Ret.tail (inpK m c) (Ret.O (inpK m c)) ⟨t.val / 4, gB t⟩ ⟨t.val % 4 * 512 + r.val, gR t r⟩ k := by
  rw [outsAt0_B m c t h0]
  dsimp only
  rw [out0_B_12_eq]
  skip
  exact (blk m c t).result hI (fun d e => (ld_state0 _ d e).trans (hp 0 d e)) (fun d e => (ld_state1 _ d e).trans (hp 1 d e)) (fun d e => (ld_state2 _ d e).trans (hp 2 d e)) (fun d e => (ld_state3 _ d e).trans (hp 3 d e)) r k

/-- The state window after every point: the state after the block's last token. -/
theorem states_at (hI : (inpK m c).Real) : ∀ (n : ℕ) (hn : n < cfg0.N) (h : Fin 4) (d : Fin 256) (e : Fin 512),
    (outsAt0 m c n hn).2 (ix4 0 h d e) = Ret.S (inpK m c) ⟨n / 4, gB ⟨n, hn⟩⟩ h (n % 4 * 512 + 512) d e
  | 0, hn, h, d, e => first13 m c hI ⟨0, hn⟩ rfl h d e
  | n + 1, hn, h, d, e => by
    by_cases h0 : (n + 1) % 4 = 0
    · exact first13 m c hI ⟨n + 1, hn⟩ h0 h d e
    · refine later13 m c hI ⟨n + 1, hn⟩ h0 (fun h d e => ?_) h d e
      refine (states_at hI n (Nat.lt_of_succ_lt hn) h d e).trans ?_
      have hb : (⟨n / 4, gB ⟨n, Nat.lt_of_succ_lt hn⟩⟩ : Fin 8) = ⟨(n + 1) / 4, gB ⟨n + 1, hn⟩⟩ := Fin.ext (by show n / 4 = (n + 1) / 4; omega)
      have hs : n % 4 * 512 + 512 = (n + 1) % 4 * 512 := by omega
      rw [hb, hs]

/-- The result window after every point: the rows of the layer's result. -/
theorem results_at (hI : (inpK m c).Real) (t : Fin cfg0.N) (r : Fin 512) (k : Fin 1024) :
    (outsAt0 m c t.val t.isLt).1 (ix3 0 r k)
      = Ret.tail (inpK m c) (Ret.O (inpK m c)) ⟨t.val / 4, gB t⟩ ⟨t.val % 4 * 512 + r.val, gR t r⟩ k := by
  by_cases h0 : t.val % 4 = 0
  · exact first12 m c hI t h0 r k
  · refine later12 m c hI t h0 (fun h d e => ?_) r k
    have ht := t.isLt
    refine (states_at m c hI (t.val - 1) (Nat.lt_of_le_of_lt (Nat.sub_le _ _) ht) h d e).trans ?_
    have hb : (⟨(t.val - 1) / 4, gB ⟨t.val - 1, Nat.lt_of_le_of_lt (Nat.sub_le _ _) ht⟩⟩ : Fin 8) = ⟨t.val / 4, gB t⟩ :=
      Fin.ext (by show (t.val - 1) / 4 = t.val / 4; omega)
    have hs : (t.val - 1) % 4 * 512 + 512 = t.val % 4 * 512 := by omega
    rw [hb, hs]

end Cert.KernelIdeal.Value
-- ==== Proof.KernelArr.lean ====
/-
  The kernel's two results as arrays: every index is in the block of a point that writes it back.
-/
module
public import proofs.«01_k».proof.Proof.KernelRun
public import proofs.«01_k».proof.Proof.Gen.KernelIdeal.Value
public import Idealize.ShloMosaic.Lib.Pipeline.ValueKit
@[expose] public section
set_option maxRecDepth 16384
noncomputable section
namespace Cert.KernelIdeal.Value
open Idealize.ShloMosaic Idealize.ShloMosaic.TcCoe Idealize.SL.Sem Cert.KernelIdeal.Gen
open Idealize.ShloMosaic.Pipeline (Dat)
open Cert.Ret (Inp)

/-- The layer's result, as an array. -/
def xoG (I : Inp) : S8x2048x1024.Idx → EReal := fun i => Ret.tail I (Ret.O I) (i 0) (i 1) (i 2)

/-- The state after the last token, as an array. -/
def finG (I : Inp) : S8x4x256x512.Idx → EReal := fun i => Ret.S I (i 0) (i 1) 2048 (i 2) (i 3)

variable (m : (ℓ : Loc nD τ sig) → Buf (Elt Ideal) ℓ) (c : Dev nD)

/-- Where the result window's block stands at a point. -/
theorem idx12 : ∀ t : Fin grid0.N, win0_12.index t = ![t.val / 4, t.val % 4, 0] := by decide +kernel
/-- Where the state window's block stands at a point. -/
theorem idx13 : ∀ t : Fin grid0.N, win0_13.index t = ![t.val / 4, 0, 0, 0] := by decide +kernel

/-- An index of a result block. -/
theorem ix_out (y : S1x512x1024.Idx) : y = ix3 (0 : Fin 1) (y 1 : Fin 512) (y 2 : Fin 1024) := by
  funext a; match a with
  | ⟨0, _⟩ => exact Subsingleton.elim (α := Fin 1) _ _
  | ⟨1, _⟩ => rfl
  | ⟨2, _⟩ => rfl

/-- An index of a state block. -/
theorem ix_st (y : S1x4x256x512.Idx) : y = ix4 (0 : Fin 1) (y 1 : Fin 4) (y 2 : Fin 256) (y 3 : Fin 512) := by
  funext a; match a with
  | ⟨0, _⟩ => exact Subsingleton.elim (α := Fin 1) _ _
  | ⟨1, _⟩ => rfl
  | ⟨2, _⟩ => rfl
  | ⟨3, _⟩ => rfl

/-- A result block read through its placement. -/
theorem emb12 {α : Type} (f : S8x2048x1024.Idx → α) (t : Fin cfg0.N) (r : Fin 512) (k : Fin 1024) :
    f (((cfg0.win 12).blk t).view.emb (ix3 (0 : Fin 1) r k)) = f (ix3 ⟨t.val / 4, gB t⟩ ⟨t.val % 4 * 512 + r.val, gR t r⟩ k) := by
  blk_ext [idx12 t]

/-- A state block read through its placement. -/
theorem emb13 {α : Type} (f : S8x4x256x512.Idx → α) (t : Fin cfg0.N) (h : Fin 4) (d : Fin 256) (e : Fin 512) :
    f (((cfg0.win 13).blk t).view.emb (ix4 (0 : Fin 1) h d e)) = f (ix4 ⟨t.val / 4, gB t⟩ h d e) := by
  blk_ext [idx13 t]

/-- What a point writes back to the result. -/
theorem flushed12_eq (hI : (inpK m c).Real) (t : Fin cfg0.N) (_hf : (cfg0.win 12).flush t = true) :
    (dats m 0 c).flushed 12 t = ((cfg0.win 12).blk t).view.read (Elt Ideal) (xoG (inpK m c)) := by
  rw [flushed12]
  funext y
  have hy := ix_out y
  refine Eq.trans (b := (outsAt0 m c t.val t.isLt).1 y) rfl (Eq.trans ?_ (rfl : xoG (inpK m c) (((cfg0.win 12).blk t).view.emb y) = _))
  rw [hy]
  refine (results_at m c hI t _ _).trans ?_
  exact (emb12 (xoG (inpK m c)) t _ _).symm

/-- What a sequence's last point writes back to the state. -/
theorem flushed13_eq (hI : (inpK m c).Real) (t : Fin cfg0.N) (hf : (cfg0.win 13).flush t = true) :
    (dats m 0 c).flushed 13 t = ((cfg0.win 13).blk t).view.read (Elt Ideal) (finG (inpK m c)) := by
  have h3 : t.val % 4 * 512 + 512 = 2048 := by have := (flush0_13 t).mp hf; omega
  rw [flushed13]
  funext y
  have hy := ix_st y
  refine Eq.trans (b := (outsAt0 m c t.val t.isLt).2 y) rfl (Eq.trans ?_ (rfl : finG (inpK m c) (((cfg0.win 13).blk t).view.emb y) = _))
  rw [hy]
  refine (states_at m c hI t.val t.isLt _ _ _).trans ?_
  rw [h3]
  exact (emb13 (finG (inpK m c)) t _ _ _).symm

/-- Every index of the result is in the block of a point that writes it back. -/
theorem cover12 (i : S8x2048x1024.Idx) :
    ∃ t : Fin cfg0.N, (cfg0.win 12).flush t = true ∧ i ∈ ((cfg0.win 12).blk t).view.set := by
  have h0 : (i 0 : Nat) < 8 := (i 0).isLt
  have h1 : (i 1 : Nat) < 2048 := (i 1).isLt
  have h2 : (i 2 : Nat) < 1024 := (i 2).isLt
  have hN : cfg0.N = 32 := N_0
  have ht : (i 0 : Nat) * 4 + (i 1 : Nat) / 512 < cfg0.N := by omega
  generalize hn : (i 0 : Nat) * 4 + (i 1 : Nat) / 512 = n at ht
  refine ⟨⟨n, ht⟩, flush0_12 _, ?_⟩
  have e := emb12 id ⟨n, ht⟩ ⟨(i 1 : Nat) % 512, by omega⟩ (i 2 : Fin 1024)
  have e' : i = ix3 (⟨n / 4, by omega⟩ : Fin 8) (⟨n % 4 * 512 + (i 1 : Nat) % 512, by omega⟩ : Fin 2048) (i 2 : Fin 1024) := by
    funext a
    match a with
    | ⟨0, _⟩ => exact Fin.ext (show (i 0 : Nat) = n / 4 by omega)
    | ⟨1, _⟩ => exact Fin.ext (show (i 1 : Nat) = n % 4 * 512 + (i 1 : Nat) % 512 by omega)
    | ⟨2, _⟩ => rfl
  have e2 := e.trans e'.symm
  have := ((cfg0.win 12).blk ⟨n, ht⟩).view.emb_mem_set (ix3 (0 : Fin 1) (⟨(i 1 : Nat) % 512, by omega⟩ : Fin 512) (i 2 : Fin 1024))
  exact e2 ▸ this

/-- Every index of the state is in the block of a point that writes it back. -/
theorem cover13 (i : S8x4x256x512.Idx) :
    ∃ t : Fin cfg0.N, (cfg0.win 13).flush t = true ∧ i ∈ ((cfg0.win 13).blk t).view.set := by
  have h0 : (i 0 : Nat) < 8 := (i 0).isLt
  have hN : cfg0.N = 32 := N_0
  have ht : (i 0 : Nat) * 4 + 3 < cfg0.N := by omega
  generalize hn : (i 0 : Nat) * 4 + 3 = n at ht
  refine ⟨⟨n, ht⟩, (flush0_13 _).mpr (show n % 4 = 3 by omega), ?_⟩
  have e := emb13 id ⟨n, ht⟩ (i 1 : Fin 4) (i 2 : Fin 256) (i 3 : Fin 512)
  have e' : i = ix4 (⟨n / 4, by omega⟩ : Fin 8) (i 1 : Fin 4) (i 2 : Fin 256) (i 3 : Fin 512) := by
    funext a
    match a with
    | ⟨0, _⟩ => exact Fin.ext (show (i 0 : Nat) = n / 4 by omega)
    | ⟨1, _⟩ => rfl
    | ⟨2, _⟩ => rfl
    | ⟨3, _⟩ => rfl
  have e2 := e.trans e'.symm
  have := ((cfg0.win 13).blk ⟨n, ht⟩).view.emb_mem_set (ix4 (0 : Fin 1) (i 1 : Fin 4) (i 2 : Fin 256) (i 3 : Fin 512))
  exact e2 ▸ this

/-- The kernel's first result is the layer's result. -/
theorem arr12 (hI : (inpK m c).Real) : (dats m 0 c).arrAt 12 cfg0.N = xoG (inpK m c) :=
  (dats m 0 c).arrAt_eq_of_cover 12 (xoG (inpK m c)) (flushed12_eq m c hI) cover12

/-- The kernel's second result is the state after the last token. -/
theorem arr13 (hI : (inpK m c).Real) : (dats m 0 c).arrAt 13 cfg0.N = finG (inpK m c) :=
  (dats m 0 c).arrAt_eq_of_cover 13 (finG (inpK m c)) (flushed13_eq m c hI) cover13

end Cert.KernelIdeal.Value
-- ==== Proof.RefEntry.lean ====
/-
  The reference's buffers where its loop begins: the stack of queries, the stack of values, the decay, the state, the
  gate, each at an index and in terms of the layer's mathematics.
-/
module
public import proofs.«01_k».proof.Proof.Gen.ReferenceIdeal.Run
public import proofs.«01_k».proof.Proof.Layer
public import Idealize.ShloMosaic.Lib.Pointwise
public import Idealize.ShloMosaic.Lib.DynamicIndex
public import Idealize.ShloMosaic.Lib.StableHlo.ReadAt
public import Idealize.ShloMosaic.Lib.Claim
@[expose] public section
set_option maxRecDepth 16384
noncomputable section
namespace Cert.ReferenceIdeal.Value
open Idealize.ShloMosaic Idealize.ShloMosaic.TcCoe Idealize.SL.Sem Cert.ReferenceIdeal.Gen
open Idealize.ShloMosaic.Pipeline
open Idealize.ShloMosaic.StableHlo
open Cert.Ret (Inp)

variable (m : (ℓ : Loc nD τ sig) → Buf (Elt Ideal) ℓ)

/-- The layer's inputs of device `c`, from the reference's arguments. -/
def inp (c : Dev nD) : Inp :=
  Inp.of (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-- The buffers at the loop's entry. -/
theorem entry_eq (c : Dev nD) : entryContents preI m c = after hostOps0 (launchContents m c) := rfl

set_option maxHeartbeats 4000000 in
/-- The first half of the rotated query. -/
theorem entry_v59 (c : Dev nD) (b : Fin 8) (t : Fin 2048) (h : Fin 4) (d : Fin 128) :
    upto hostOps0 (launchContents m c) 72 (Proc.devRef .tc main_v59) (ix4 b t h d)
      = Ret.P (inp m c) b t ⟨h * 256 + d, by omega⟩ * Ideal.cos (Ret.ang t d)
        - Ret.P (inp m c) b t ⟨h * 256 + (128 + d), by omega⟩ * Ideal.sin (Ret.ang t d) := by
  after_reads_at
  rfl

set_option maxHeartbeats 4000000 in
/-- The second half of the rotated query. -/
theorem entry_v64 (c : Dev nD) (b : Fin 8) (t : Fin 2048) (h : Fin 4) (d : Fin 128) :
    upto hostOps0 (launchContents m c) 72 (Proc.devRef .tc main_v64) (ix4 b t h d)
      = Ret.P (inp m c) b t ⟨h * 256 + d, by omega⟩ * Ideal.sin (Ret.ang t d)
        + Ret.P (inp m c) b t ⟨h * 256 + (128 + d), by omega⟩ * Ideal.cos (Ret.ang t d) := by
  after_reads_at
  rfl

set_option maxHeartbeats 4000000 in
/-- The stack of queries at the loop's entry. -/
theorem entry_q (c : Dev nD) (a : Fin 16) (b : Fin 8) (r : Fin 128) (h : Fin 4) (d : Fin 256) :
    entryContents preI m c (Proc.devRef .tc main_v115_0) (ix5 a b r h d) = Ret.Q (inp m c) b h ⟨a * 128 + r, by omega⟩ d := by
  rw [entry_eq]
  after_reads_at
  simp only [id]
  pointwise []
  rw [Ret.Q, Ret.rot]
  split
  · exact entry_v59 m c _ _ _ _
  · exact entry_v64 m c _ _ _ _

set_option maxHeartbeats 4000000 in
/-- The stack of values at the loop's entry. -/
theorem entry_v (c : Dev nD) (a : Fin 16) (b : Fin 8) (r : Fin 128) (h : Fin 4) (e : Fin 512) :
    entryContents preI m c (Proc.devRef .tc main_v115_2) (ix5 a b r h e) = Ret.V (inp m c) b h ⟨a * 128 + r, by omega⟩ e := by
  rw [entry_eq]
  after_reads_at
  simp only [id]
  pointwise []
  rfl

set_option maxHeartbeats 4000000 in
/-- The logarithm of the decay at the loop's entry. -/
theorem entry_lg (c : Dev nD) (h : Fin 4) :
    entryContents preI m c (Proc.devRef .tc main_v115_3) (ix1 h) = Ret.LG h := by
  rw [entry_eq]
  after_reads_at
  simp only [id]
  pointwise []
  rfl

set_option maxHeartbeats 4000000 in
/-- The state at the loop's entry. -/
theorem entry_s (c : Dev nD) (b : Fin 8) (h : Fin 4) (d : Fin 256) (e : Fin 512) :
    entryContents preI m c (Proc.devRef .tc main_v115_5) (ix4 b h d e) = Ret.S (inp m c) b h 0 d e := by
  rw [entry_eq, Ret.S_zero]
  after_reads_at
  simp only [id]
  pointwise []

set_option maxHeartbeats 4000000 in
/-- The gate. -/
theorem entry_g (c : Dev nD) (b : Fin 8) (t : Fin 2048) (j : Fin 2048) :
    entryContents preI m c (Proc.devRef .tc main_v33) (ix3 b t j) = Ret.G (inp m c) b t j := by
  rw [entry_eq]
  after_reads_at
  rfl

set_option maxHeartbeats 4000000 in
/-- The output projection's weights. -/
theorem entry_wo (c : Dev nD) (j : Fin 2048) (n : Fin 1024) :
    entryContents preI m c (Proc.devRef .tc main_v28) (ix2 j n) = (inp m c).WO j n := by
  rw [entry_eq]
  after_reads_at
  rfl

/-- The arguments at the loop's entry. -/
theorem entry_arg (c : Dev nD) (j : Ref sig .tc) (hj : j ∉ hostOps0_W) :
    entryContents preI m c (Proc.devRef .tc j) = m (c, Proc.devRef .tc j) := by
  rw [entry_eq]
  exact after_of_writes_sub hostOps0 _ hostOps0_writes hj

end Cert.ReferenceIdeal.Value
-- ==== Proof.RefEntryKey.lean ====
/-
  The reference's stack of keys where its loop begins, at an index.
-/
module
public import proofs.«01_k».proof.Proof.Gen.ReferenceIdeal.Run
public import proofs.«01_k».proof.Proof.RefEntry
public import Idealize.ShloMosaic.Lib.Pointwise
public import Idealize.ShloMosaic.Lib.DynamicIndex
public import Idealize.ShloMosaic.Lib.StableHlo.ReadAt
public import Idealize.ShloMosaic.Lib.Claim
@[expose] public section
set_option maxRecDepth 16384
noncomputable section
namespace Cert.ReferenceIdeal.Value
open Idealize.ShloMosaic Idealize.ShloMosaic.TcCoe Idealize.SL.Sem Cert.ReferenceIdeal.Gen
open Idealize.ShloMosaic.Pipeline
open Idealize.ShloMosaic.StableHlo
open Cert.Ret (Inp)

variable (m : (ℓ : Loc nD τ sig) → Buf (Elt Ideal) ℓ)

set_option maxHeartbeats 4000000 in
/-- The first half of the rotated key. -/
theorem entry_v88 (c : Dev nD) (b : Fin 8) (t : Fin 2048) (h : Fin 4) (d : Fin 128) :
    upto hostOps0 (launchContents m c) 103 (Proc.devRef .tc main_v88) (ix4 b t h d)
      = Ret.P (inp m c) b t ⟨1024 + (h * 256 + d), by omega⟩ * Ideal.cos (Ret.ang t d)
        - Ret.P (inp m c) b t ⟨1024 + (h * 256 + (128 + d)), by omega⟩ * Ideal.sin (Ret.ang t d) := by
  after_reads_at
  rfl

set_option maxHeartbeats 4000000 in
/-- The second half of the rotated key. -/
theorem entry_v93 (c : Dev nD) (b : Fin 8) (t : Fin 2048) (h : Fin 4) (d : Fin 128) :
    upto hostOps0 (launchContents m c) 103 (Proc.devRef .tc main_v93) (ix4 b t h d)
      = Ret.P (inp m c) b t ⟨1024 + (h * 256 + d), by omega⟩ * Ideal.sin (Ret.ang t d)
        + Ret.P (inp m c) b t ⟨1024 + (h * 256 + (128 + d)), by omega⟩ * Ideal.cos (Ret.ang t d) := by
  after_reads_at
  rfl

set_option maxHeartbeats 4000000 in
/-- The stack of keys at the loop's entry. -/
theorem entry_k (c : Dev nD) (a : Fin 16) (b : Fin 8) (r : Fin 128) (h : Fin 4) (d : Fin 256) :
    entryContents preI m c (Proc.devRef .tc main_v115_1) (ix5 a b r h d) = Ret.K (inp m c) b h ⟨a * 128 + r, by omega⟩ d := by
  rw [entry_eq]
  after_reads_at
  simp only [id]
  pointwise []
  rw [Ret.K, Ret.rot]
  congr 1
  split
  · refine (entry_v88 m c _ _ _ _).trans ?_
    simp only [Nat.add_assoc]
  · refine (entry_v93 m c _ _ _ _).trans ?_
    simp only [Nat.add_assoc]

end Cert.ReferenceIdeal.Value
-- ==== Proof.RefLoop.lean ====
module
public import proofs.«01_k».proof.Proof.Gen.ReferenceIdeal.Run
public import proofs.«01_k».proof.Proof.RefEntry
public import proofs.«01_k».proof.Proof.RefEntryKey
public import Idealize.ShloMosaic.Lib.Pointwise
public import Idealize.ShloMosaic.Lib.DynamicIndex
public import Idealize.ShloMosaic.Lib.StableHlo.ReadAt
public import Idealize.ShloMosaic.Lib.Claim
@[expose] public section
set_option maxRecDepth 16384
noncomputable section
namespace Cert.ReferenceIdeal.Value
open Idealize.ShloMosaic Idealize.ShloMosaic.TcCoe Idealize.SL.Sem Cert.ReferenceIdeal.Gen
open Idealize.ShloMosaic.Pipeline
open Idealize.ShloMosaic.StableHlo
open Cert.Ret (Inp)

/-- The trip's query of batch `b`, row `r`, head `h`. -/
abbrev tq (V0 : Valuation τ sig (Elt Ideal)) (b : Fin 8) (r : Fin 128) (h : Fin 4) (d : Fin 256) : EReal :=
  res_main_while0b_v163 V0 (ix4 b r h d)
/-- The trip's key of batch `b`, row `r`, head `h`. -/
abbrev tk (V0 : Valuation τ sig (Elt Ideal)) (b : Fin 8) (r : Fin 128) (h : Fin 4) (d : Fin 256) : EReal :=
  res_main_while0b_v164 V0 (ix4 b r h d)
/-- The trip's value of batch `b`, row `r`, head `h`. -/
abbrev tv (V0 : Valuation τ sig (Elt Ideal)) (b : Fin 8) (r : Fin 128) (h : Fin 4) (e : Fin 512) : EReal :=
  res_main_while0b_v165 V0 (ix4 b r h e)
/-- The logarithm of the head's decay the trip reads. -/
abbrev tl (V0 : Valuation τ sig (Elt Ideal)) (h : Fin 4) : EReal := V0 (Proc.devRef .tc main_v115_3) (ix1 h)
/-- The state the trip enters with. -/
abbrev ts (V0 : Valuation τ sig (Elt Ideal)) (b : Fin 8) (h : Fin 4) (d : Fin 256) (e : Fin 512) : EReal :=
  V0 (Proc.devRef .tc main_v115_5) (ix4 b h d e)

section trip
variable (V0 : Valuation τ sig (Elt Ideal)) (k : ℕ) (hk : k < 16)
  (hctr : V0 (Proc.devRef .tc main_v115_4) = fun _ => Scf.iv 0#32 1#32 k)
include hctr hk

/-- The counter, read signed. -/
theorem ctr_toInt : BitVec.toInt (V0 (Proc.devRef .tc main_v115_4) (Shape.Idx.first h_S_)) = (k : Int) := by
  rw [hctr]
  interval_cases k <;> rfl

/-- The five starts of the loop's slices. -/
theorem starts (i : Fin 5) : BitVec.toInt ((![V0 (Proc.devRef .tc main_v115_4), constantI S_ 32 0#32,
    constantI S_ 32 0#32, constantI S_ 32 0#32, constantI S_ 32 0#32] : Fin 5 → (⟨S_, .i32⟩ : BufTy).Contents (Elt Ideal)) i (Shape.Idx.first h_S_))
      = (((![k, 0, 0, 0, 0] : Fin 5 → ℕ) i : ℕ) : Int) := by
  have hc := ctr_toInt V0 k hk hctr
  fin_cases i
  · exact hc
  all_goals rfl

/-- The slice of one chunk of queries or keys stays inside the stack. -/
theorem slices_qk : S16x8x128x4x256.Slices ![k, 0, 0, 0, 0] S1x8x128x4x256 := by
  interval_cases k <;> decide
/-- The slice of one chunk of values stays inside the stack. -/
theorem slices_v : S16x8x128x4x512.Slices ![k, 0, 0, 0, 0] S1x8x128x4x512 := by
  interval_cases k <;> decide

/-- The trip's queries are the stack's at the counter. -/
theorem trip_q (b : Fin 8) (r : Fin 128) (h : Fin 4) (d : Fin 256) :
    res_main_while0b_v163 V0 (ix4 b r h d) = V0 (Proc.devRef .tc main_v115_0) (ix5 ⟨k, hk⟩ b r h d) := by
  unfold res_main_while0b_v163
  rw [Host.dynamicSlice_eq_extractStridedSlice (off := ![k, 0, 0, 0, 0]) (hoff := slices_qk V0 k hk hctr)
    (hs := starts V0 k hk hctr)]
  pointwise []

/-- The trip's keys are the stack's at the counter. -/
theorem trip_k (b : Fin 8) (r : Fin 128) (h : Fin 4) (d : Fin 256) :
    res_main_while0b_v164 V0 (ix4 b r h d) = V0 (Proc.devRef .tc main_v115_1) (ix5 ⟨k, hk⟩ b r h d) := by
  unfold res_main_while0b_v164
  rw [Host.dynamicSlice_eq_extractStridedSlice (off := ![k, 0, 0, 0, 0]) (hoff := slices_qk V0 k hk hctr)
    (hs := starts V0 k hk hctr)]
  pointwise []

/-- The trip's values are the stack's at the counter. -/
theorem trip_v (b : Fin 8) (r : Fin 128) (h : Fin 4) (d : Fin 512) :
    res_main_while0b_v165 V0 (ix4 b r h d) = V0 (Proc.devRef .tc main_v115_2) (ix5 ⟨k, hk⟩ b r h d) := by
  unfold res_main_while0b_v165
  rw [Host.dynamicSlice_eq_extractStridedSlice (off := ![k, 0, 0, 0, 0]) (hoff := slices_v V0 k hk hctr)
    (hs := starts V0 k hk hctr)]
  pointwise []

/-- The slice of one chunk of outputs stays inside the stack, each start being what the clamp leaves. -/
theorem starts_out (i : Fin 5) : (min (max (BitVec.toInt ((![V0 (Proc.devRef .tc main_v115_4), constantI S_ 32 0#32,
    constantI S_ 32 0#32, constantI S_ 32 0#32, constantI S_ 32 0#32] : Fin 5 → (⟨S_, .i32⟩ : BufTy).Contents (Elt Ideal)) i (Shape.Idx.first h_S_))) 0)
      ((S16x8x128x4x512.size i - S1x8x128x4x512.size i : ℕ) : Int)).toNat = (![k, 0, 0, 0, 0] : Fin 5 → ℕ) i := by
  rw [starts V0 k hk hctr i]
  fin_cases i
  · show (min (max ((k : ℕ) : Int) 0) ((15 : ℕ) : Int)).toNat = k
    omega
  all_goals rfl

set_option maxHeartbeats 4000000 in
/-- One trip's outputs at the counter's chunk. -/
theorem step_out_self (b : Fin 8) (r : Fin 128) (h : Fin 4) (e : Fin 512) :
    step_main_v115_6 V0 (ix5 ⟨k, hk⟩ b r h e)
      = (∑ x : Fin 128, tv V0 b x h e *
            ((∑ y : Fin 256, tq V0 b r h y * tk V0 b x h y) *
              if 0 ≤ Ret.nat r - Ret.nat x then
                Ideal.exp (max (Ret.nat r - Ret.nat x) 0 * tl V0 h) else 0)) +
        (∑ x : Fin 256, ts V0 b h x e * tq V0 b r h x) *
          Ideal.exp ((Ret.nat r + 1) * tl V0 h) := by
  unfold step_main_v115_6 res_main_while0b_v171 res_main_while0b_v166
  simp only [id]
  rw [Host.dynamicUpdateSlice_eq_updateSlice (adj := ![k, 0, 0, 0, 0]) (h' := slices_v V0 k hk hctr)
    (hadj := fun a => starts_out V0 k hk hctr a)]
  pointwise []
  refine (dif_pos ?_).trans rfl
  intro a
  fin_cases a
  · exact ⟨le_refl k, Nat.lt_succ_self k⟩
  · exact ⟨Nat.zero_le _, by show b.val < 0 + 8; omega⟩
  · exact ⟨Nat.zero_le _, by show r.val < 0 + 128; omega⟩
  · exact ⟨Nat.zero_le _, by show h.val < 0 + 4; omega⟩
  · exact ⟨Nat.zero_le _, by show e.val < 0 + 512; omega⟩

set_option maxHeartbeats 4000000 in
/-- One trip keeps the outputs at the other chunks. -/
theorem step_out_ne (a : Fin 16) (ha : a.val ≠ k) (b : Fin 8) (r : Fin 128) (h : Fin 4) (e : Fin 512) :
    step_main_v115_6 V0 (ix5 a b r h e) = V0 (Proc.devRef .tc main_v115_6) (ix5 a b r h e) := by
  unfold step_main_v115_6 res_main_while0b_v171 res_main_while0b_v166
  simp only [id]
  rw [Host.dynamicUpdateSlice_eq_updateSlice (adj := ![k, 0, 0, 0, 0]) (h' := slices_v V0 k hk hctr)
    (hadj := fun a => starts_out V0 k hk hctr a)]
  pointwise []
  refine dif_neg ?_
  intro H
  have h0 := H ⟨0, by decide⟩
  have h1 : k ≤ a.val := h0.1
  have h2 : a.val < k + 1 := h0.2
  omega
end trip

/-- One trip's states. -/
theorem step_state (V0 : Valuation τ sig (Elt Ideal)) (b : Fin 8) (h : Fin 4) (d : Fin 256) (e : Fin 512) :
    step_main_v115_5 V0 (ix4 b h d e)
      = Ideal.exp (Ideal.ofBits .f32 1124073472#32 * tl V0 h)
          * ts V0 b h d e
        + ∑ x : Fin 128, tk V0 b x h d
            * Ideal.exp ((Ideal.ofBits .f32 1123942400#32 - Ret.nat x) * tl V0 h)
            * tv V0 b x h e := by
  unfold step_main_v115_5 res_main_while0b_v166
  simp only [id]
  pointwise []
  rfl

/-- What holds before trip `k`: the stacks, the counter, the states after `128 k` tokens, the outputs of the chunks
    before `k`. -/
structure Inv (I : Inp) (k : ℕ) (V : Valuation τ sig (Elt Ideal)) : Prop where
  ctr : V (Proc.devRef .tc main_v115_4) = fun _ => Scf.iv 0#32 1#32 k
  queries : ∀ (a : Fin 16) (b : Fin 8) (r : Fin 128) (h : Fin 4) (d : Fin 256),
    V (Proc.devRef .tc main_v115_0) (ix5 a b r h d) = Ret.Q I b h ⟨a.val * 128 + r.val, by omega⟩ d
  keys : ∀ (a : Fin 16) (b : Fin 8) (r : Fin 128) (h : Fin 4) (d : Fin 256),
    V (Proc.devRef .tc main_v115_1) (ix5 a b r h d) = Ret.K I b h ⟨a.val * 128 + r.val, by omega⟩ d
  vals : ∀ (a : Fin 16) (b : Fin 8) (r : Fin 128) (h : Fin 4) (e : Fin 512),
    V (Proc.devRef .tc main_v115_2) (ix5 a b r h e) = Ret.V I b h ⟨a.val * 128 + r.val, by omega⟩ e
  lg : ∀ h : Fin 4, V (Proc.devRef .tc main_v115_3) (ix1 h) = Ret.LG h
  s : ∀ (b : Fin 8) (h : Fin 4) (d : Fin 256) (e : Fin 512),
    V (Proc.devRef .tc main_v115_5) (ix4 b h d e) = Ret.S I b h (k * 128) d e
  o : ∀ (a : Fin 16) (b : Fin 8) (r : Fin 128) (h : Fin 4) (e : Fin 512), a.val < k →
    V (Proc.devRef .tc main_v115_6) (ix5 a b r h e) = Ret.O I b h ⟨a.val * 128 + r.val, by omega⟩ e

/-- Contents that agree on the carried buffers satisfy the same invariant. -/
theorem Inv.congr {I : Inp} {k : ℕ} {V V' : Valuation τ sig (Elt Ideal)} (hV : Agree V V') (i : Inv I k V) : Inv I k V' where
  ctr := by rw [← hV main_v115_4 (by simp [carriedRefs])]; exact i.ctr
  queries := by intro a b r h d; rw [← hV main_v115_0 (by simp [carriedRefs])]; exact i.queries a b r h d
  keys := by intro a b r h d; rw [← hV main_v115_1 (by simp [carriedRefs])]; exact i.keys a b r h d
  vals := by intro a b r h d; rw [← hV main_v115_2 (by simp [carriedRefs])]; exact i.vals a b r h d
  lg := by intro h; rw [← hV main_v115_3 (by simp [carriedRefs])]; exact i.lg h
  s := by intro b h d e; rw [← hV main_v115_5 (by simp [carriedRefs])]; exact i.s b h d e
  o := by intro a b r h e hk; rw [← hV main_v115_6 (by simp [carriedRefs])]; exact i.o a b r h e hk

/-- The trip's queries, from the invariant. -/
theorem Inv.ofQueries {I : Inp} {k : ℕ} (hk : k < 16) {V : Valuation τ sig (Elt Ideal)} (i : Inv I k V) (b : Fin 8)
    (r : Fin 128) (h : Fin 4) (d : Fin 256) : tq V b r h d = Ret.Q I b h ⟨k * 128 + r.val, by omega⟩ d :=
  (trip_q V k hk i.ctr b r h d).trans (i.queries ⟨k, hk⟩ b r h d)
/-- The trip's keys, from the invariant. -/
theorem Inv.ofKeys {I : Inp} {k : ℕ} (hk : k < 16) {V : Valuation τ sig (Elt Ideal)} (i : Inv I k V) (b : Fin 8)
    (r : Fin 128) (h : Fin 4) (d : Fin 256) : tk V b r h d = Ret.K I b h ⟨k * 128 + r.val, by omega⟩ d :=
  (trip_k V k hk i.ctr b r h d).trans (i.keys ⟨k, hk⟩ b r h d)
/-- The trip's values, from the invariant. -/
theorem Inv.ofVaLogss {I : Inp} {k : ℕ} (hk : k < 16) {V : Valuation τ sig (Elt Ideal)} (i : Inv I k V) (b : Fin 8)
    (r : Fin 128) (h : Fin 4) (e : Fin 512) : tv V b r h e = Ret.V I b h ⟨k * 128 + r.val, by omega⟩ e :=
  (trip_v V k hk i.ctr b r h e).trans (i.vals ⟨k, hk⟩ b r h e)
/-- The trip's decay logarithm, from the invariant. -/
theorem Inv.ofLogs {I : Inp} {k : ℕ} {V : Valuation τ sig (Elt Ideal)} (i : Inv I k V) (h : Fin 4) : tl V h = Ret.LG h :=
  i.lg h

/-- One trip's states, from the invariant. -/
theorem Inv.step_s {I : Inp} (hI : I.Real) {k : ℕ} (hk : k < 16) {V : Valuation τ sig (Elt Ideal)} (i : Inv I k V)
    (b : Fin 8) (h : Fin 4) (d : Fin 256) (e : Fin 512) :
    step_main_v115_5 V (ix4 b h d e) = Ret.S I b h ((k + 1) * 128) d e := by
  rw [step_state, Nat.succ_mul]
  refine Ret.S_step hI b h (k * 128) 128 (by omega) d e _ _
    (fun x => tk V b x h d) _ (fun x => tv V b x h e) ?_ (i.s b h d e)
    (fun r => ?_) (fun r => ?_) (fun r => ?_)
  · rw [i.ofLogs, Ret.ofBits_128]; norm_num
  · exact i.ofKeys hk b r h d
  · rw [i.ofLogs, Ret.ofBits_127]; norm_num
  · exact i.ofVaLogss hk b r h e

/-- One trip's outputs, from the invariant. -/
theorem Inv.step_o {I : Inp} (hI : I.Real) {k : ℕ} (hk : k < 16) {V : Valuation τ sig (Elt Ideal)} (i : Inv I k V)
    (b : Fin 8) (r : Fin 128) (h : Fin 4) (e : Fin 512) :
    step_main_v115_6 V (ix5 ⟨k, hk⟩ b r h e) = Ret.O I b h ⟨k * 128 + r.val, by omega⟩ e := by
  rw [step_out_self V k hk i.ctr]
  rw [← Ret.O_step hI b h (k * 128) 128 (by omega) r e
    (fun y => tq V b r h y) (fun y => ts V b h y e)
    (fun x y => tk V b x h y) _ (fun x => tv V b x h e) _
    (fun d => i.ofQueries hk b r h d) (fun d => i.s b h d e) (fun m d => i.ofKeys hk b m h d)
    (fun m => rfl) (fun m => i.ofVaLogss hk b m h e) rfl]
  rw [i.ofLogs]
  refine congrArg₂ (· + ·) (Finset.sum_congr rfl fun x _ => mul_comm _ _)
    (congrArg (· * _) (Finset.sum_congr rfl fun x _ => mul_comm _ _))

/-- One trip keeps the invariant. -/
theorem Inv.step {I : Inp} (hI : I.Real) {k : ℕ} (hk : k < 16) {V : Valuation τ sig (Elt Ideal)} (i : Inv I k V)
    (hc : STEP V (Proc.devRef .tc main_v115_4) = fun _ => Scf.iv 0#32 1#32 (k + 1)) : Inv I (k + 1) (STEP V) where
  ctr := hc
  queries := by intro a b r h d; rw [STEP_main_v115_0]; exact i.queries a b r h d
  keys := by intro a b r h d; rw [STEP_main_v115_1]; exact i.keys a b r h d
  vals := by intro a b r h d; rw [STEP_main_v115_2]; exact i.vals a b r h d
  lg := by intro h; rw [STEP_main_v115_3]; exact i.lg h
  s := by intro b h d e; rw [STEP_main_v115_5]; exact i.step_s hI hk b h d e
  o := by
    intro a b r h e ha
    rw [STEP_main_v115_6]
    rcases Nat.lt_succ_iff_lt_or_eq.mp ha with h1 | h1
    · rw [step_out_ne V k hk i.ctr a (by omega)]; exact i.o a b r h e h1
    · have : a = ⟨k, hk⟩ := Fin.ext h1
      subst this
      exact i.step_o hI hk b r h e

/-- The invariant before every trip and after the last. -/
theorem inv_atK (m : (ℓ : Loc nD τ sig) → Buf (Elt Ideal) ℓ) (c : Dev nD) (hI : (inp m c).Real) :
    ∀ k, k ≤ 16 → Inv (inp m c) k (atK m k c)
  | 0, _ => {
      ctr := atK_ctr m c 0
      queries := fun a b r h d => entry_q m c a b r h d
      keys := fun a b r h d => entry_k m c a b r h d
      vals := fun a b r h e => entry_v m c a b r h e
      lg := fun h => entry_lg m c h
      s := fun b h d e => by rw [Nat.zero_mul]; exact entry_s m c b h d e
      o := fun a b r h e ha => absurd ha (Nat.not_lt_zero _) }
  | k + 1, hk => by
      have ih := inv_atK m c hI k (by omega)
      have ha : Agree (atK m (k + 1) c) (STEP (atK m k c)) := trip_agree (atK m k c)
      refine Inv.congr (V := STEP (atK m k c)) (fun j hj => (ha j hj).symm) (ih.step hI (by omega) ?_)
      rw [← ha main_v115_4 (by simp [carriedRefs])]
      exact atK_ctr m c (k + 1)
end Cert.ReferenceIdeal.Value
-- ==== Proof.RefTail.lean ====
module
public import proofs.«01_k».proof.Proof.Gen.ReferenceIdeal.Run
public import proofs.«01_k».proof.Proof.RefEntry
public import proofs.«01_k».proof.Proof.RefLoop
public import Idealize.ShloMosaic.Lib.Pointwise
public import Idealize.ShloMosaic.Lib.DynamicIndex
public import Idealize.ShloMosaic.Lib.StableHlo.ReadAt
public import Idealize.ShloMosaic.Lib.Claim
@[expose] public section
set_option maxRecDepth 16384
noncomputable section
namespace Cert.ReferenceIdeal.Value
open Idealize.ShloMosaic Idealize.ShloMosaic.TcCoe Idealize.SL.Sem Cert.ReferenceIdeal.Gen
open Idealize.ShloMosaic.Pipeline
open Idealize.ShloMosaic.StableHlo
open Cert.Ret (Inp)
variable (m : (ℓ : Loc nD τ sig) → Buf (Elt Ideal) ℓ) (c : Dev nD)

/-- A buffer that neither the loop's condition nor its body writes is after any number of trips what the loop entered with. -/
theorem atK_keep (j : Ref sig .tc) (hc : j ∉ condOps_W) (h0 : j ∉ while0Ops0_W) (h1 : j ∉ while0Ops0_1_W)
    (h2 : j ∉ while0Ops0_2_W) (h3 : j ∉ while0Ops0_3_W) (h4 : j ∉ while0Ops0_4_W) (h5 : j ∉ while0Ops0_5_W)
    (h6 : j ∉ while0Ops0_6_W) (h7 : j ∉ while0Ops0_7_W) :
    ∀ k, atK m k c (Proc.devRef .tc j) = entryContents preI m c (Proc.devRef .tc j)
  | 0 => rfl
  | k + 1 => by
    rw [show atK m (k + 1) c = afterL bodyI (after condOps (atK m k c)) from rfl]
    simp only [afterL_cons, afterL_nil]
    rw [after_of_writes_sub _ _ while0Ops0_7_writes h7, after_of_writes_sub _ _ while0Ops0_6_writes h6,
      after_of_writes_sub _ _ while0Ops0_5_writes h5, after_of_writes_sub _ _ while0Ops0_4_writes h4,
      after_of_writes_sub _ _ while0Ops0_3_writes h3, after_of_writes_sub _ _ while0Ops0_2_writes h2,
      after_of_writes_sub _ _ while0Ops0_1_writes h1, after_of_writes_sub _ _ while0Ops0_writes h0,
      after_of_writes_sub _ _ condOps_writes hc, atK_keep j hc h0 h1 h2 h3 h4 h5 h6 h7 k]
    rfl

/-- The contents the operations after the loop start from. -/
def leave : Valuation τ sig (Elt Ideal) := after condOps (atK m 16 c)

/-- What the operations after the loop find of such a buffer. -/
theorem leave_keep (j : Ref sig .tc) (hc : j ∉ condOps_W) (h0 : j ∉ while0Ops0_W) (h1 : j ∉ while0Ops0_1_W)
    (h2 : j ∉ while0Ops0_2_W) (h3 : j ∉ while0Ops0_3_W) (h4 : j ∉ while0Ops0_4_W) (h5 : j ∉ while0Ops0_5_W)
    (h6 : j ∉ while0Ops0_6_W) (h7 : j ∉ while0Ops0_7_W) :
    leave m c (Proc.devRef .tc j) = entryContents preI m c (Proc.devRef .tc j) := by
  rw [leave, after_of_writes_sub _ _ condOps_writes hc, atK_keep m c j hc h0 h1 h2 h3 h4 h5 h6 h7]

/-- The gate's projection after the loop. -/
theorem leave_v33 : leave m c (Proc.devRef .tc main_v33) = entryContents preI m c (Proc.devRef .tc main_v33) :=
  leave_keep m c main_v33 (by decide) (by decide) (by decide) (by decide) (by decide) (by decide) (by decide) (by decide) (by decide)
/-- The output weight after the loop. -/
theorem leave_v28 : leave m c (Proc.devRef .tc main_v28) = entryContents preI m c (Proc.devRef .tc main_v28) :=
  leave_keep m c main_v28 (by decide) (by decide) (by decide) (by decide) (by decide) (by decide) (by decide) (by decide) (by decide)
/-- The hidden states after the loop. -/
theorem leave_arg0 : leave m c (Proc.devRef .tc main_arg0) = entryContents preI m c (Proc.devRef .tc main_arg0) :=
  leave_keep m c main_arg0 (by decide) (by decide) (by decide) (by decide) (by decide) (by decide) (by decide) (by decide) (by decide)
/-- The modulation after the loop. -/
theorem leave_arg1 : leave m c (Proc.devRef .tc main_arg1) = entryContents preI m c (Proc.devRef .tc main_arg1) :=
  leave_keep m c main_arg1 (by decide) (by decide) (by decide) (by decide) (by decide) (by decide) (by decide) (by decide) (by decide)
/-- The norms' weights after the loop. -/
theorem leave_arg3 : leave m c (Proc.devRef .tc main_arg3) = entryContents preI m c (Proc.devRef .tc main_arg3) :=
  leave_keep m c main_arg3 (by decide) (by decide) (by decide) (by decide) (by decide) (by decide) (by decide) (by decide) (by decide)

/-- What the loop leaves on the carried buffers. -/
theorem leave_inv (hI : (inp m c).Real) : Inv (inp m c) 16 (leave m c) :=
  Inv.congr (V := atK m 16 c) (fun j hj => (cond_keeps (atK m 16 c) j hj).symm) (inv_atK m c hI 16 (le_refl _))

/-- The stack's outputs, at a token and a head. -/
abbrev stackOut (W : Valuation τ sig (Elt Ideal)) (b : Fin 8) (h : Fin 4) (t : Fin 2048) (e : Fin 512) : EReal :=
  W (Proc.devRef .tc main_v115_6) (ix5 ⟨t.val / 128, by omega⟩ b ⟨t.val % 128, by omega⟩ h e)

/-- The heads' outputs after the loop. -/
theorem leave_out (hI : (inp m c).Real) (b : Fin 8) (h : Fin 4) (t : Fin 2048) (e : Fin 512) :
    stackOut (leave m c) b h t e = Ret.O (inp m c) b h t e := by
  refine ((leave_inv m c hI).o ⟨t.val / 128, by omega⟩ b ⟨t.val % 128, by omega⟩ h e (by show t.val / 128 < 16; omega)).trans ?_
  congr 1
  exact Fin.ext (by show t.val / 128 * 128 + t.val % 128 = t.val; omega)

/-- The stored group norm at a lane. -/
def rN (W : Valuation τ sig (Elt Ideal)) (b : Fin 8) (t : Fin 2048) (j : Fin 2048) : EReal :=
  W (Proc.devRef .tc main_v136) (ix3 b t j)
/-- The stored activation at a lane. -/
def rA (W : Valuation τ sig (Elt Ideal)) (b : Fin 8) (t : Fin 2048) (j : Fin 2048) : EReal :=
  W (Proc.devRef .tc main_v137) (ix3 b t j)
/-- The stored gate at a lane. -/
def rG (W : Valuation τ sig (Elt Ideal)) (b : Fin 8) (t : Fin 2048) (j : Fin 2048) : EReal :=
  W (Proc.devRef .tc main_v33) (ix3 b t j)
/-- The output weight. -/
def rW (W : Valuation τ sig (Elt Ideal)) (j : Fin 2048) (n : Fin 1024) : EReal :=
  W (Proc.devRef .tc main_v28) (ix2 j n)
/-- The hidden states. -/
def rX (W : Valuation τ sig (Elt Ideal)) (b : Fin 8) (t : Fin 2048) (n : Fin 1024) : EReal :=
  W (Proc.devRef .tc main_arg0) (ix3 b t n)
/-- The modulation's gate. -/
def rM (W : Valuation τ sig (Elt Ideal)) (b : Fin 8) (n : Fin 1024) : EReal :=
  W (Proc.devRef .tc main_arg1) (ix3 b 2 n)
/-- The weight of the norm after the sublayer. -/
def rQ (W : Valuation τ sig (Elt Ideal)) (n : Fin 1024) : EReal :=
  W (Proc.devRef .tc main_arg3) (ix3 1 1 n)
/-- The sublayer's result at a lane. -/
def rO (W : Valuation τ sig (Elt Ideal)) (b : Fin 8) (t : Fin 2048) (n : Fin 1024) : EReal :=
  W (Proc.devRef .tc main_v162) (ix3 b t n)
/-- The states. -/
def rS (W : Valuation τ sig (Elt Ideal)) (b : Fin 8) (h : Fin 4) (d : Fin 256) (e : Fin 512) : EReal :=
  W (Proc.devRef .tc main_v115_5) (ix4 b h d e)
/-- The output projection of the stored gated heads. -/
def projOf (W : Valuation τ sig (Elt Ideal)) (b : Fin 8) (t : Fin 2048) (n : Fin 1024) : EReal :=
  ∑ x : Fin 2048, rN W b t x * rA W b t x * rW W x n

set_option maxHeartbeats 4000000 in
/-- The group norm of the heads' outputs. -/
theorem tail_gn (W : Valuation τ sig (Elt Ideal)) (b : Fin 8) (t : Fin 2048) (j : Fin 2048) :
    rN (after hostOps0_1 W) b t j = Ret.gn (stackOut W b ⟨j.val / 512, by omega⟩ t) ⟨j.val % 512, by omega⟩ := by
  unfold rN
  after_reads_at
  rfl

set_option maxHeartbeats 4000000 in
/-- The gate's activation. -/
theorem tail_silu (W : Valuation τ sig (Elt Ideal)) (b : Fin 8) (t : Fin 2048) (j : Fin 2048) :
    rA (after hostOps0_2 W) b t j = Ret.silu (rG W b t j) := by
  unfold rA rG
  after_reads_at
  rfl

set_option maxHeartbeats 4000000 in
/-- The last operations: projection, norm, gate and residual. -/
theorem tail_last (W : Valuation τ sig (Elt Ideal)) (b : Fin 8) (t : Fin 2048) (n : Fin 1024) :
    rO (after hostOps0_3 W) b t n
      = rX W b t n + rM W b n * (projOf W b t n * Ret.rinv (projOf W b t) * rQ W n) := by
  unfold rO
  after_reads_at
  rfl

/-- `rG` is kept by the group norm's operations. -/
theorem rG_past1 (W : Valuation τ sig (Elt Ideal)) (b : Fin 8) (t : Fin 2048) (j : Fin 2048) : rG (after hostOps0_1 W) b t j = rG W b t j := by
  unfold rG
  after_reads_at

/-- `rN` is kept by the activation's operations. -/
theorem rN_past2 (W : Valuation τ sig (Elt Ideal)) (b : Fin 8) (t : Fin 2048) (j : Fin 2048) : rN (after hostOps0_2 W) b t j = rN W b t j := by
  unfold rN
  after_reads_at

/-- `rW` is kept by the group norm's operations. -/
theorem rW_past1 (W : Valuation τ sig (Elt Ideal)) (j : Fin 2048) (n : Fin 1024) : rW (after hostOps0_1 W) j n = rW W j n := by
  unfold rW
  after_reads_at

/-- `rX` is kept by the group norm's operations. -/
theorem rX_past1 (W : Valuation τ sig (Elt Ideal)) (b : Fin 8) (t : Fin 2048) (n : Fin 1024) : rX (after hostOps0_1 W) b t n = rX W b t n := by
  unfold rX
  after_reads_at

/-- `rM` is kept by the group norm's operations. -/
theorem rM_past1 (W : Valuation τ sig (Elt Ideal)) (b : Fin 8) (n : Fin 1024) : rM (after hostOps0_1 W) b n = rM W b n := by
  unfold rM
  after_reads_at

/-- `rQ` is kept by the group norm's operations. -/
theorem rQ_past1 (W : Valuation τ sig (Elt Ideal)) (n : Fin 1024) : rQ (after hostOps0_1 W) n = rQ W n := by
  unfold rQ
  after_reads_at

/-- `rW` is kept by the activation's operations. -/
theorem rW_past2 (W : Valuation τ sig (Elt Ideal)) (j : Fin 2048) (n : Fin 1024) : rW (after hostOps0_2 W) j n = rW W j n := by
  unfold rW
  after_reads_at

/-- `rX` is kept by the activation's operations. -/
theorem rX_past2 (W : Valuation τ sig (Elt Ideal)) (b : Fin 8) (t : Fin 2048) (n : Fin 1024) : rX (after hostOps0_2 W) b t n = rX W b t n := by
  unfold rX
  after_reads_at

/-- `rM` is kept by the activation's operations. -/
theorem rM_past2 (W : Valuation τ sig (Elt Ideal)) (b : Fin 8) (n : Fin 1024) : rM (after hostOps0_2 W) b n = rM W b n := by
  unfold rM
  after_reads_at

/-- `rQ` is kept by the activation's operations. -/
theorem rQ_past2 (W : Valuation τ sig (Elt Ideal)) (n : Fin 1024) : rQ (after hostOps0_2 W) n = rQ W n := by
  unfold rQ
  after_reads_at

/-- `rS` is kept by the group norm's operations. -/
theorem rS_past1 (W : Valuation τ sig (Elt Ideal)) (b : Fin 8) (h : Fin 4) (d : Fin 256) (e : Fin 512) : rS (after hostOps0_1 W) b h d e = rS W b h d e := by
  unfold rS
  after_reads_at

/-- `rS` is kept by the activation's operations. -/
theorem rS_past2 (W : Valuation τ sig (Elt Ideal)) (b : Fin 8) (h : Fin 4) (d : Fin 256) (e : Fin 512) : rS (after hostOps0_2 W) b h d e = rS W b h d e := by
  unfold rS
  after_reads_at

/-- `rS` is kept by the last operations. -/
theorem rS_past3 (W : Valuation τ sig (Elt Ideal)) (b : Fin 8) (h : Fin 4) (d : Fin 256) (e : Fin 512) : rS (after hostOps0_3 W) b h d e = rS W b h d e := by
  unfold rS
  after_reads_at

/-- `rG` after the loop. -/
theorem rG_leave (b : Fin 8) (t : Fin 2048) (j : Fin 2048) : rG (leave m c) b t j = Ret.G (inp m c) b t j := by
  unfold rG
  rw [leave_v33, entry_g m c b t j]

/-- `rW` after the loop. -/
theorem rW_leave (j : Fin 2048) (n : Fin 1024) : rW (leave m c) j n = (inp m c).WO j n := by
  unfold rW
  rw [leave_v28, entry_wo m c j n]

/-- `rX` after the loop. -/
theorem rX_leave (b : Fin 8) (t : Fin 2048) (n : Fin 1024) : rX (leave m c) b t n = (inp m c).X b t n := by
  unfold rX
  rw [leave_arg0, entry_arg m c main_arg0 (by decide)]
  rfl

/-- `rM` after the loop. -/
theorem rM_leave (b : Fin 8) (n : Fin 1024) : rM (leave m c) b n = (inp m c).M b 2 n := by
  unfold rM
  rw [leave_arg1, entry_arg m c main_arg1 (by decide)]
  rfl

/-- `rQ` after the loop. -/
theorem rQ_leave (n : Fin 1024) : rQ (leave m c) n = (inp m c).GQ n := by
  unfold rQ
  rw [leave_arg3, entry_arg m c main_arg3 (by decide)]
  rfl

/-- `rS` after the loop. -/
theorem rS_leave (hI : (inp m c).Real) (b : Fin 8) (h : Fin 4) (d : Fin 256) (e : Fin 512) :
    rS (leave m c) b h d e = Ret.S (inp m c) b h 2048 d e := by
  unfold rS
  rw [(leave_inv m c hI).s b h d e]

/-- The contents the last operations start from. -/
def pre3 : Valuation τ sig (Elt Ideal) := after hostOps0_2 (after hostOps0_1 (leave m c))

/-- The group norm before the last operations. -/
theorem rN_pre3 (hI : (inp m c).Real) (b : Fin 8) (t : Fin 2048) (j : Fin 2048) :
    rN (pre3 m c) b t j = Ret.gn (Ret.O (inp m c) b ⟨j.val / 512, by omega⟩ t) ⟨j.val % 512, by omega⟩ := by
  rw [pre3, rN_past2, tail_gn]
  rw [show stackOut (leave m c) b ⟨j.val / 512, by omega⟩ t = Ret.O (inp m c) b ⟨j.val / 512, by omega⟩ t from
    funext fun e => leave_out m c hI b _ t e]

/-- The activation before the last operations. -/
theorem rA_pre3 (b : Fin 8) (t : Fin 2048) (j : Fin 2048) :
    rA (pre3 m c) b t j = Ret.silu (Ret.G (inp m c) b t ⟨j.val / 512 * 512 + j.val % 512, by omega⟩) := by
  rw [pre3, tail_silu, rG_past1, rG_leave]
  rw [show j = (⟨j.val / 512 * 512 + j.val % 512, by omega⟩ : Fin 2048) from
    Fin.ext (by show j.val = j.val / 512 * 512 + j.val % 512; omega)]
  congr 2
  exact Fin.ext (by show j.val / 512 * 512 + j.val % 512 = (j.val / 512 * 512 + j.val % 512) / 512 * 512 + (j.val / 512 * 512 + j.val % 512) % 512; omega)

/-- The output projection, at a lane. -/
theorem proj_eq (hI : (inp m c).Real) (b : Fin 8) (t : Fin 2048) (n : Fin 1024) :
    projOf (pre3 m c) b t n = Ret.Y (inp m c) (Ret.O (inp m c)) b t n := by
  unfold projOf Ret.Y Ret.gated
  refine Finset.sum_congr rfl fun j _ => ?_
  rw [rN_pre3 m c hI, rA_pre3 m c, pre3, rW_past2, rW_past1, rW_leave]

/-- The loop's contents, then the operations after it. -/
theorem final_eq : finalContents condOps preI bodyI postI 16 m c = after hostOps0_3 (pre3 m c) := by
  simp only [finalContents, afterL_cons, afterL_nil]
  rfl

/-- The reference's first result: the sublayer's output. -/
theorem final_out (hI : (inp m c).Real) (b : Fin 8) (t : Fin 2048) (n : Fin 1024) :
    rO (finalContents condOps preI bodyI postI 16 m c) b t n = Ret.tail (inp m c) (Ret.O (inp m c)) b t n := by
  rw [final_eq, tail_last, show projOf (pre3 m c) b t = Ret.Y (inp m c) (Ret.O (inp m c)) b t from
    funext fun n => proj_eq m c hI b t n]
  rw [pre3, rX_past2, rX_past1, rX_leave, rM_past2, rM_past1, rM_leave, rQ_past2, rQ_past1, rQ_leave]
  rfl

/-- The reference's second result: the states after all the tokens. -/
theorem final_state (hI : (inp m c).Real) (b : Fin 8) (h : Fin 4) (d : Fin 256) (e : Fin 512) :
    rS (finalContents condOps preI bodyI postI 16 m c) b h d e = Ret.S (inp m c) b h 2048 d e := by
  rw [final_eq, rS_past3, pre3, rS_past2, rS_past1, rS_leave m c hI]
end Cert.ReferenceIdeal.Value
-- ==== Proof.RefKept.lean ====
/-
  The reference's arguments at the end of its run: no operation writes one.
-/
module
public import proofs.«01_k».proof.Proof.RefTail
public import Idealize.ShloMosaic.Lib.StableHlo.ReadAt
public import Idealize.ShloMosaic.Lib.Claim
@[expose] public section
set_option maxRecDepth 16384
noncomputable section
namespace Cert.ReferenceIdeal.Value
open Idealize.ShloMosaic Idealize.ShloMosaic.TcCoe Idealize.SL.Sem Cert.ReferenceIdeal.Gen
open Idealize.ShloMosaic.Pipeline
open Idealize.ShloMosaic.StableHlo
open Cert.Ret (Inp)

variable (m : (ℓ : Loc nD τ sig) → Buf (Elt Ideal) ℓ) (c : Dev nD)

/-- Argument 0 through the tail's part 1. -/
theorem past1_arg0 (W : Valuation τ sig (Elt Ideal)) :
    after hostOps0_1 W (Proc.devRef .tc main_arg0) = W (Proc.devRef .tc main_arg0) := by
  refine funext fun j => ?_
  have e : j = ix3 (j 0 : Fin 8) (j 1 : Fin 2048) (j 2 : Fin 1024) := by
    funext a; match a with
    | ⟨0, _⟩ => rfl
    | ⟨1, _⟩ => rfl
    | ⟨2, _⟩ => rfl
  rw [e]
  after_reads_at

/-- Argument 0 through the tail's part 2. -/
theorem past2_arg0 (W : Valuation τ sig (Elt Ideal)) :
    after hostOps0_2 W (Proc.devRef .tc main_arg0) = W (Proc.devRef .tc main_arg0) := by
  refine funext fun j => ?_
  have e : j = ix3 (j 0 : Fin 8) (j 1 : Fin 2048) (j 2 : Fin 1024) := by
    funext a; match a with
    | ⟨0, _⟩ => rfl
    | ⟨1, _⟩ => rfl
    | ⟨2, _⟩ => rfl
  rw [e]
  after_reads_at

/-- Argument 0 through the tail's part 3. -/
theorem past3_arg0 (W : Valuation τ sig (Elt Ideal)) :
    after hostOps0_3 W (Proc.devRef .tc main_arg0) = W (Proc.devRef .tc main_arg0) := by
  refine funext fun j => ?_
  have e : j = ix3 (j 0 : Fin 8) (j 1 : Fin 2048) (j 2 : Fin 1024) := by
    funext a; match a with
    | ⟨0, _⟩ => rfl
    | ⟨1, _⟩ => rfl
    | ⟨2, _⟩ => rfl
  rw [e]
  after_reads_at

/-- Argument 0 at the end of the run. -/
theorem final_arg0 : finalContents condOps preI bodyI postI 16 m c (Proc.devRef .tc main_arg0) = m (c, Proc.devRef .tc main_arg0) := by
  rw [final_eq, past3_arg0, pre3, past2_arg0, past1_arg0,
    leave_keep m c main_arg0 (by decide) (by decide) (by decide) (by decide) (by decide) (by decide) (by decide) (by decide) (by decide),
    entry_arg m c main_arg0 (by decide)]

/-- Argument 1 through the tail's part 1. -/
theorem past1_arg1 (W : Valuation τ sig (Elt Ideal)) :
    after hostOps0_1 W (Proc.devRef .tc main_arg1) = W (Proc.devRef .tc main_arg1) := by
  refine funext fun j => ?_
  have e : j = ix3 (j 0 : Fin 8) (j 1 : Fin 3) (j 2 : Fin 1024) := by
    funext a; match a with
    | ⟨0, _⟩ => rfl
    | ⟨1, _⟩ => rfl
    | ⟨2, _⟩ => rfl
  rw [e]
  after_reads_at

/-- Argument 1 through the tail's part 2. -/
theorem past2_arg1 (W : Valuation τ sig (Elt Ideal)) :
    after hostOps0_2 W (Proc.devRef .tc main_arg1) = W (Proc.devRef .tc main_arg1) := by
  refine funext fun j => ?_
  have e : j = ix3 (j 0 : Fin 8) (j 1 : Fin 3) (j 2 : Fin 1024) := by
    funext a; match a with
    | ⟨0, _⟩ => rfl
    | ⟨1, _⟩ => rfl
    | ⟨2, _⟩ => rfl
  rw [e]
  after_reads_at

/-- Argument 1 through the tail's part 3. -/
theorem past3_arg1 (W : Valuation τ sig (Elt Ideal)) :
    after hostOps0_3 W (Proc.devRef .tc main_arg1) = W (Proc.devRef .tc main_arg1) := by
  refine funext fun j => ?_
  have e : j = ix3 (j 0 : Fin 8) (j 1 : Fin 3) (j 2 : Fin 1024) := by
    funext a; match a with
    | ⟨0, _⟩ => rfl
    | ⟨1, _⟩ => rfl
    | ⟨2, _⟩ => rfl
  rw [e]
  after_reads_at

/-- Argument 1 at the end of the run. -/
theorem final_arg1 : finalContents condOps preI bodyI postI 16 m c (Proc.devRef .tc main_arg1) = m (c, Proc.devRef .tc main_arg1) := by
  rw [final_eq, past3_arg1, pre3, past2_arg1, past1_arg1,
    leave_keep m c main_arg1 (by decide) (by decide) (by decide) (by decide) (by decide) (by decide) (by decide) (by decide) (by decide),
    entry_arg m c main_arg1 (by decide)]

/-- Argument 2 through the tail's part 1. -/
theorem past1_arg2 (W : Valuation τ sig (Elt Ideal)) :
    after hostOps0_1 W (Proc.devRef .tc main_arg2) = W (Proc.devRef .tc main_arg2) := by
  refine funext fun j => ?_
  have e : j = ix3 (j 0 : Fin 2) (j 1 : Fin 3) (j 2 : Fin 1024) := by
    funext a; match a with
    | ⟨0, _⟩ => rfl
    | ⟨1, _⟩ => rfl
    | ⟨2, _⟩ => rfl
  rw [e]
  after_reads_at

/-- Argument 2 through the tail's part 2. -/
theorem past2_arg2 (W : Valuation τ sig (Elt Ideal)) :
    after hostOps0_2 W (Proc.devRef .tc main_arg2) = W (Proc.devRef .tc main_arg2) := by
  refine funext fun j => ?_
  have e : j = ix3 (j 0 : Fin 2) (j 1 : Fin 3) (j 2 : Fin 1024) := by
    funext a; match a with
    | ⟨0, _⟩ => rfl
    | ⟨1, _⟩ => rfl
    | ⟨2, _⟩ => rfl
  rw [e]
  after_reads_at

/-- Argument 2 through the tail's part 3. -/
theorem past3_arg2 (W : Valuation τ sig (Elt Ideal)) :
    after hostOps0_3 W (Proc.devRef .tc main_arg2) = W (Proc.devRef .tc main_arg2) := by
  refine funext fun j => ?_
  have e : j = ix3 (j 0 : Fin 2) (j 1 : Fin 3) (j 2 : Fin 1024) := by
    funext a; match a with
    | ⟨0, _⟩ => rfl
    | ⟨1, _⟩ => rfl
    | ⟨2, _⟩ => rfl
  rw [e]
  after_reads_at

/-- Argument 2 at the end of the run. -/
theorem final_arg2 : finalContents condOps preI bodyI postI 16 m c (Proc.devRef .tc main_arg2) = m (c, Proc.devRef .tc main_arg2) := by
  rw [final_eq, past3_arg2, pre3, past2_arg2, past1_arg2,
    leave_keep m c main_arg2 (by decide) (by decide) (by decide) (by decide) (by decide) (by decide) (by decide) (by decide) (by decide),
    entry_arg m c main_arg2 (by decide)]

/-- Argument 3 through the tail's part 1. -/
theorem past1_arg3 (W : Valuation τ sig (Elt Ideal)) :
    after hostOps0_1 W (Proc.devRef .tc main_arg3) = W (Proc.devRef .tc main_arg3) := by
  refine funext fun j => ?_
  have e : j = ix3 (j 0 : Fin 2) (j 1 : Fin 3) (j 2 : Fin 1024) := by
    funext a; match a with
    | ⟨0, _⟩ => rfl
    | ⟨1, _⟩ => rfl
    | ⟨2, _⟩ => rfl
  rw [e]
  after_reads_at

/-- Argument 3 through the tail's part 2. -/
theorem past2_arg3 (W : Valuation τ sig (Elt Ideal)) :
    after hostOps0_2 W (Proc.devRef .tc main_arg3) = W (Proc.devRef .tc main_arg3) := by
  refine funext fun j => ?_
  have e : j = ix3 (j 0 : Fin 2) (j 1 : Fin 3) (j 2 : Fin 1024) := by
    funext a; match a with
    | ⟨0, _⟩ => rfl
    | ⟨1, _⟩ => rfl
    | ⟨2, _⟩ => rfl
  rw [e]
  after_reads_at

/-- Argument 3 through the tail's part 3. -/
theorem past3_arg3 (W : Valuation τ sig (Elt Ideal)) :
    after hostOps0_3 W (Proc.devRef .tc main_arg3) = W (Proc.devRef .tc main_arg3) := by
  refine funext fun j => ?_
  have e : j = ix3 (j 0 : Fin 2) (j 1 : Fin 3) (j 2 : Fin 1024) := by
    funext a; match a with
    | ⟨0, _⟩ => rfl
    | ⟨1, _⟩ => rfl
    | ⟨2, _⟩ => rfl
  rw [e]
  after_reads_at

/-- Argument 3 at the end of the run. -/
theorem final_arg3 : finalContents condOps preI bodyI postI 16 m c (Proc.devRef .tc main_arg3) = m (c, Proc.devRef .tc main_arg3) := by
  rw [final_eq, past3_arg3, pre3, past2_arg3, past1_arg3,
    leave_keep m c main_arg3 (by decide) (by decide) (by decide) (by decide) (by decide) (by decide) (by decide) (by decide) (by decide),
    entry_arg m c main_arg3 (by decide)]

/-- Argument 4 through the tail's part 1. -/
theorem past1_arg4 (W : Valuation τ sig (Elt Ideal)) :
    after hostOps0_1 W (Proc.devRef .tc main_arg4) = W (Proc.devRef .tc main_arg4) := by
  refine funext fun j => ?_
  have e : j = ix3 (j 0 : Fin 1) (j 1 : Fin 1024) (j 2 : Fin 6144) := by
    funext a; match a with
    | ⟨0, _⟩ => rfl
    | ⟨1, _⟩ => rfl
    | ⟨2, _⟩ => rfl
  rw [e]
  after_reads_at

/-- Argument 4 through the tail's part 2. -/
theorem past2_arg4 (W : Valuation τ sig (Elt Ideal)) :
    after hostOps0_2 W (Proc.devRef .tc main_arg4) = W (Proc.devRef .tc main_arg4) := by
  refine funext fun j => ?_
  have e : j = ix3 (j 0 : Fin 1) (j 1 : Fin 1024) (j 2 : Fin 6144) := by
    funext a; match a with
    | ⟨0, _⟩ => rfl
    | ⟨1, _⟩ => rfl
    | ⟨2, _⟩ => rfl
  rw [e]
  after_reads_at

/-- Argument 4 through the tail's part 3. -/
theorem past3_arg4 (W : Valuation τ sig (Elt Ideal)) :
    after hostOps0_3 W (Proc.devRef .tc main_arg4) = W (Proc.devRef .tc main_arg4) := by
  refine funext fun j => ?_
  have e : j = ix3 (j 0 : Fin 1) (j 1 : Fin 1024) (j 2 : Fin 6144) := by
    funext a; match a with
    | ⟨0, _⟩ => rfl
    | ⟨1, _⟩ => rfl
    | ⟨2, _⟩ => rfl
  rw [e]
  after_reads_at

/-- Argument 4 at the end of the run. -/
theorem final_arg4 : finalContents condOps preI bodyI postI 16 m c (Proc.devRef .tc main_arg4) = m (c, Proc.devRef .tc main_arg4) := by
  rw [final_eq, past3_arg4, pre3, past2_arg4, past1_arg4,
    leave_keep m c main_arg4 (by decide) (by decide) (by decide) (by decide) (by decide) (by decide) (by decide) (by decide) (by decide),
    entry_arg m c main_arg4 (by decide)]

/-- Argument 5 through the tail's part 1. -/
theorem past1_arg5 (W : Valuation τ sig (Elt Ideal)) :
    after hostOps0_1 W (Proc.devRef .tc main_arg5) = W (Proc.devRef .tc main_arg5) := by
  refine funext fun j => ?_
  have e : j = ix3 (j 0 : Fin 1) (j 1 : Fin 2048) (j 2 : Fin 1024) := by
    funext a; match a with
    | ⟨0, _⟩ => rfl
    | ⟨1, _⟩ => rfl
    | ⟨2, _⟩ => rfl
  rw [e]
  after_reads_at

/-- Argument 5 through the tail's part 2. -/
theorem past2_arg5 (W : Valuation τ sig (Elt Ideal)) :
    after hostOps0_2 W (Proc.devRef .tc main_arg5) = W (Proc.devRef .tc main_arg5) := by
  refine funext fun j => ?_
  have e : j = ix3 (j 0 : Fin 1) (j 1 : Fin 2048) (j 2 : Fin 1024) := by
    funext a; match a with
    | ⟨0, _⟩ => rfl
    | ⟨1, _⟩ => rfl
    | ⟨2, _⟩ => rfl
  rw [e]
  after_reads_at

/-- Argument 5 through the tail's part 3. -/
theorem past3_arg5 (W : Valuation τ sig (Elt Ideal)) :
    after hostOps0_3 W (Proc.devRef .tc main_arg5) = W (Proc.devRef .tc main_arg5) := by
  refine funext fun j => ?_
  have e : j = ix3 (j 0 : Fin 1) (j 1 : Fin 2048) (j 2 : Fin 1024) := by
    funext a; match a with
    | ⟨0, _⟩ => rfl
    | ⟨1, _⟩ => rfl
    | ⟨2, _⟩ => rfl
  rw [e]
  after_reads_at

/-- Argument 5 at the end of the run. -/
theorem final_arg5 : finalContents condOps preI bodyI postI 16 m c (Proc.devRef .tc main_arg5) = m (c, Proc.devRef .tc main_arg5) := by
  rw [final_eq, past3_arg5, pre3, past2_arg5, past1_arg5,
    leave_keep m c main_arg5 (by decide) (by decide) (by decide) (by decide) (by decide) (by decide) (by decide) (by decide) (by decide),
    entry_arg m c main_arg5 (by decide)]

end Cert.ReferenceIdeal.Value
-- ==== Proof.Ffn.lean ====
/-
  The feed-forward sublayer's mathematics at one index: the normalised and modulated row, the joint projection to the
  gate and the value, their product, the output projection, and the residual with the gated norm. Both programs are
  shown to compute these.
-/
module

public import proofs.«01_k».proof.Proof.Layer

@[expose] public section

noncomputable section

namespace Cert.Ffn

open Idealize.ShloMosaic

/-- The sublayer's inputs, entry by entry. -/
structure Inp (B T : ℕ) where
  /-- the hidden states: batch, token, lane -/
  X : Fin B → Fin T → Fin 1024 → EReal
  /-- shift, scale and gate: batch, which of the three, lane -/
  M : Fin B → Fin 3 → Fin 1024 → EReal
  /-- the weight of the norm before the sublayer -/
  GP : Fin 1024 → EReal
  /-- the weight of the norm after the sublayer -/
  GQ : Fin 1024 → EReal
  /-- the projection to the gate's 2816 lanes and the value's 2816 lanes -/
  WI : Fin 1024 → Fin 5632 → EReal
  /-- the output projection -/
  WO : Fin 2816 → Fin 1024 → EReal

/-- The inputs of a sublayer over the prompts, from a program's six arguments: the row `(l, s)` of the norms' weights and
    the member `(l, h)` of the projections. -/
def Inp.of (l : Fin 2) (s : Fin 3) (h : Fin 2) (x : (⟨3, ![8, 2048, 1024]⟩ : Shape).Idx → EReal)
    (m : (⟨3, ![8, 3, 1024]⟩ : Shape).Idx → EReal) (gp gq : (⟨3, ![2, 3, 1024]⟩ : Shape).Idx → EReal)
    (wi : (⟨4, ![2, 2, 1024, 5632]⟩ : Shape).Idx → EReal) (wo : (⟨4, ![2, 2, 2816, 1024]⟩ : Shape).Idx → EReal) :
    Inp 8 2048 where
  X b t n := x (ix3 b t n)
  M b i n := m (ix3 b i n)
  GP n := gp (ix3 l s n)
  GQ n := gq (ix3 l s n)
  WI n c := wi (ix4 l h n c)
  WO j n := wo (ix4 l h j n)

/-- The same over the samples, each a sequence of one token: the modulation is stored with the three vectors first. -/
def Inp.ofRows (l : Fin 2) (s : Fin 3) (h : Fin 2) (x : (⟨3, ![128, 1, 1024]⟩ : Shape).Idx → EReal)
    (m : (⟨3, ![3, 128, 1024]⟩ : Shape).Idx → EReal) (gp gq : (⟨3, ![2, 3, 1024]⟩ : Shape).Idx → EReal)
    (wi : (⟨4, ![2, 2, 1024, 5632]⟩ : Shape).Idx → EReal) (wo : (⟨4, ![2, 2, 2816, 1024]⟩ : Shape).Idx → EReal) :
    Inp 128 1 where
  X b t n := x (ix3 b t n)
  M b i n := m (ix3 i b n)
  GP n := gp (ix3 l s n)
  GQ n := gq (ix3 l s n)
  WI n c := wi (ix4 l h n c)
  WO j n := wo (ix4 l h j n)

/-- The normalised and modulated row. -/
def H {B T : ℕ} (I : Inp B T) (b : Fin B) (t : Fin T) (n : Fin 1024) : EReal :=
  I.X b t n * Ret.rinv (I.X b t) * I.GP n * (1 + I.M b 1 n) + I.M b 0 n

/-- The joint projection. -/
def P {B T : ℕ} (I : Inp B T) (b : Fin B) (t : Fin T) (col : Fin 5632) : EReal := ∑ x, H I b t x * I.WI x col

/-- The activated gate times the value. -/
def A {B T : ℕ} (I : Inp B T) (b : Fin B) (t : Fin T) (j : Fin 2816) : EReal :=
  Ret.silu (P I b t ⟨j, by omega⟩) * P I b t ⟨2816 + j, by omega⟩

/-- The output projection. -/
def Y {B T : ℕ} (I : Inp B T) (b : Fin B) (t : Fin T) (n : Fin 1024) : EReal := ∑ j, A I b t j * I.WO j n

/-- The sublayer's result: the residual plus half of the gated norm of the output projection. -/
def out {B T : ℕ} (I : Inp B T) (b : Fin B) (t : Fin T) (n : Fin 1024) : EReal :=
  I.X b t n + Ideal.ofBits FTy.f32 0x3F000000#32 * I.M b 2 n * (Y I b t n * Ret.rinv (Y I b t) * I.GQ n)

/-- The sublayer's result, as an array. -/
def outG {B T : ℕ} (I : Inp B T) : (⟨3, ![B, T, 1024]⟩ : Shape).Idx → EReal := fun i => out I (i 0) (i 1) (i 2)

/-- The result over the samples, as an array of rows. -/
def rowsG (I : Inp 128 1) : (⟨3, ![1, 128, 1024]⟩ : Shape).Idx → EReal := fun i => out I (i 1) 0 (i 2)

end Cert.Ffn
-- ==== Proof.FfnKernel.lean ====
/-
  The feed-forward call: what a grid point reads, what it writes back, and the array that the call leaves.
-/
module
public import proofs.«01_k».proof.Proof.Ffn
public import proofs.«01_k».proof.Proof.Gen.Kernel2Ideal.Value
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel2Ideal.Value
open Idealize.ShloMosaic Idealize.ShloMosaic.TcCoe Idealize.SL.Sem Cert.Kernel2Ideal.Gen
open Idealize.ShloMosaic.StableHlo
open Idealize.ShloMosaic.Pipeline (Dat)
open Cert.Ffn (Inp)

/-! ### One block -/

/-- A block's operands, read against the sublayer's inputs: sequence `b`, tokens from `n`. -/
structure Blk (I : Inp 8 2048) (b : Fin 8) (n : ℕ) (hn : n + 512 ≤ 2048) (x0 : Vec Ideal S1x512x1024 .f32)
    (x1 : Vec Ideal S1x3x1x1024 .f32) (x2 x3 : Vec Ideal S1x1024 .f32) (x4 : Vec Ideal S1x1x1024x5632 .bf16)
    (x5 : Vec Ideal S1x1x2816x1024 .bf16) : Prop where
  rows : ∀ (r : Fin 512) (k : Fin 1024), x0 (ix3 0 r k) = I.X b ⟨n + r, by omega⟩ k
  mods : ∀ (s : Fin 3) (k : Fin 1024), x1 (ix4 0 s 0 k) = I.M b s k
  pre : ∀ k : Fin 1024, x2 (ix2 0 k) = I.GP k
  post : ∀ k : Fin 1024, x3 (ix2 0 k) = I.GQ k
  win : ∀ (k : Fin 1024) (l : Fin 5632), x4 (ix4 0 0 k l) = I.WI k l
  wout : ∀ (k : Fin 2816) (l : Fin 1024), x5 (ix4 0 0 k l) = I.WO k l

section block
variable {I : Inp 8 2048} {b : Fin 8} {n : ℕ} {hn : n + 512 ≤ 2048} {x0 : Vec Ideal S1x512x1024 .f32}
    {x1 : Vec Ideal S1x3x1x1024 .f32} {x2 x3 : Vec Ideal S1x1024 .f32} {x4 : Vec Ideal S1x1x1024x5632 .bf16}
    {x5 : Vec Ideal S1x1x2816x1024 .bf16} (B : Blk I b n hn x0 x1 x2 x3 x4 x5)

/-- The block's gated lanes. -/
def aF (x0 : Vec Ideal S1x512x1024 .f32) (x1 : Vec Ideal S1x3x1x1024 .f32) (x2 : Vec Ideal S1x1024 .f32)
    (x4 : Vec Ideal S1x1x1024x5632 .bf16) : FVec Ideal S512x2816 .bf16 :=
  k0_pay3 (View.ld x0 r0_0) (View.ld x2 r0_1) (View.ld x1 r0_2) (View.ld x1 r0_3) (View.ld x4 r0_4)

include B

set_option maxHeartbeats 4000000 in
/-- The block's gated lanes are the sublayer's. -/
theorem Blk.a_eq (r : Fin 512) (j : Fin 2816) : aF x0 x1 x2 x4 (ix2 r j) = Ffn.A I b ⟨n + r, by omega⟩ j := by
  unfold Ffn.A Ffn.P Ffn.H Ret.rinv Ret.silu
  simp only [← B.rows, ← B.mods, ← B.pre, ← B.win]
  pointwise [aF, k0_pay3, k0_pay2]
  try rfl

set_option maxHeartbeats 4000000 in
/-- The block's stored rows are the sublayer's result. -/
theorem Blk.out_eq (r : Fin 512) (k : Fin 1024) :
    k0_pay1 (k0_pay2 (View.ld x0 r0_0)) (aF x0 x1 x2 x4) (View.ld x5 r0_5) (View.ld x1 r0_6) (View.ld x3 r0_1) (ix3 0 r k)
      = Ffn.out I b ⟨n + r, by omega⟩ k := by
  unfold Ffn.out Ret.rinv Ffn.Y
  simp only [← B.rows, ← B.mods, ← B.post, ← B.wout, ← B.a_eq]
  pointwise [k0_pay1, k0_pay2]
  try rfl

end block

/-! ### What the grid points read -/

variable (m : (ℓ : Loc nD τ sig) → Buf (Elt Ideal) ℓ) (c : Dev nD)

/-- The sublayer's inputs of device `c`, from the kernel's arguments. -/
def inpK : Inp 8 2048 :=
  Inp.of 0 0 0 (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-- Where window 0's block stands at a point. -/
theorem idx0 : ∀ t : Fin grid0.N, win0_0.index t = ![t.val / 4, t.val % 4, 0] := by decide +kernel
/-- Where window 1's block stands at a point. -/
theorem idx1 : ∀ t : Fin grid0.N, win0_1.index t = ![t.val / 4, 0, 0, 0] := by decide +kernel
/-- Where window 2's block stands at a point. -/
theorem idx2 : ∀ t : Fin grid0.N, win0_2.index t = ![0, 0] := by decide +kernel
/-- Where window 3's block stands at a point. -/
theorem idx3 : ∀ t : Fin grid0.N, win0_3.index t = ![0, 0] := by decide +kernel
/-- Where window 4's block stands at a point. -/
theorem idx4 : ∀ t : Fin grid0.N, win0_4.index t = ![0, 0, 0, 0] := by decide +kernel
/-- Where window 5's block stands at a point. -/
theorem idx5 : ∀ t : Fin grid0.N, win0_5.index t = ![0, 0, 0, 0] := by decide +kernel
/-- Where the result window's block stands at a point. -/
theorem idx6 : ∀ t : Fin grid0.N, win0_6.index t = ![t.val / 4, t.val % 4, 0] := by decide +kernel

/-- A point's batch row. -/
theorem gB (t : Fin cfg0.N) : t.val / 4 < 8 := by have := t.isLt; have : cfg0.N = 32 := N_0; omega
/-- A point's rows are rows of the array. -/
theorem gN (t : Fin cfg0.N) : t.val % 4 * 512 + 512 ≤ 2048 := by omega
/-- A point's row is a row of the array. -/
theorem gR (t : Fin cfg0.N) (r : Fin 512) : t.val % 4 * 512 + r.val < 2048 := by omega

/-- Window 0's block, at an index. -/
theorem rd0 (t : Fin cfg0.N) (r : Fin 512) (k : Fin 1024) : iblk m c 0 t (ix3 0 r k) = V m c main_arg0 (ix3 ⟨t.val / 4, gB t⟩ ⟨t.val % 4 * 512 + r.val, gR t r⟩ k) := by
  blk_point [iblk, idx0 t]

/-- Window 1's block, at an index. -/
theorem rd1 (t : Fin cfg0.N) (s : Fin 3) (k : Fin 1024) : iblk m c 1 t (ix4 0 s 0 k) = V m c main_v0 (ix4 ⟨t.val / 4, gB t⟩ s 0 k) := by
  blk_point [iblk, idx1 t]

/-- Window 2's block, at an index. -/
theorem rd2 (t : Fin cfg0.N) (k : Fin 1024) : iblk m c 2 t (ix2 0 k) = V m c main_v3 (ix2 0 k) := by
  blk_point [iblk, idx2 t]

/-- Window 3's block, at an index. -/
theorem rd3 (t : Fin cfg0.N) (k : Fin 1024) : iblk m c 3 t (ix2 0 k) = V m c main_v6 (ix2 0 k) := by
  blk_point [iblk, idx3 t]

/-- Window 4's block, at an index. -/
theorem rd4 (t : Fin cfg0.N) (k : Fin 1024) (l : Fin 5632) : iblk m c 4 t (ix4 0 0 k l) = V m c main_v7 (ix4 0 0 k l) := by
  blk_point [iblk, idx4 t]

/-- Window 5's block, at an index. -/
theorem rd5 (t : Fin cfg0.N) (k : Fin 2816) (l : Fin 1024) : iblk m c 5 t (ix4 0 0 k l) = V m c main_v8 (ix4 0 0 k l) := by
  blk_point [iblk, idx5 t]

set_option maxHeartbeats 4000000 in
/-- The array window 1 reads, at an index. -/
theorem ar1 (b : Fin 8) (s : Fin 3) (k : Fin 1024) : V m c main_v0 (ix4 b s 0 k) = (inpK m c).M b s k := by
  unfold V
  after_reads_at
  rfl

set_option maxHeartbeats 4000000 in
/-- The array window 2 reads, at an index. -/
theorem ar2 (k : Fin 1024) : V m c main_v3 (ix2 0 k) = (inpK m c).GP k := by
  unfold V
  after_reads_at
  rfl

set_option maxHeartbeats 4000000 in
/-- The array window 3 reads, at an index. -/
theorem ar3 (k : Fin 1024) : V m c main_v6 (ix2 0 k) = (inpK m c).GQ k := by
  unfold V
  after_reads_at
  rfl

set_option maxHeartbeats 4000000 in
/-- The array window 4 reads, at an index. -/
theorem ar4 (k : Fin 1024) (l : Fin 5632) : V m c main_v7 (ix4 0 0 k l) = (inpK m c).WI k l := by
  unfold V
  after_reads_at
  rfl

set_option maxHeartbeats 4000000 in
/-- The array window 5 reads, at an index. -/
theorem ar5 (k : Fin 2816) (l : Fin 1024) : V m c main_v8 (ix4 0 0 k l) = (inpK m c).WO k l := by
  unfold V
  after_reads_at
  rfl

/-- What point `t` reads. -/
theorem blk (t : Fin cfg0.N) : Blk (inpK m c) ⟨t.val / 4, gB t⟩ (t.val % 4 * 512) (gN t) (iblk m c 0 t) (iblk m c 1 t)
    (iblk m c 2 t) (iblk m c 3 t) (iblk m c 4 t) (iblk m c 5 t) where
  rows r k := (rd0 m c t r k).trans (congrFun (V_main_arg0 m c) _)
  mods s k := (rd1 m c t s k).trans (ar1 m c _ s k)
  pre k := (rd2 m c t k).trans (ar2 m c k)
  post k := (rd3 m c t k).trans (ar3 m c k)
  win k l := (rd4 m c t k l).trans (ar4 m c k l)
  wout k l := (rd5 m c t k l).trans (ar5 m c k l)

/-! ### What the call leaves -/

/-- An index of a result block. -/
theorem ix_out (y : S1x512x1024.Idx) : y = ix3 (0 : Fin 1) (y 1 : Fin 512) (y 2 : Fin 1024) := by
  funext a; match a with
  | ⟨0, _⟩ => exact Subsingleton.elim (α := Fin 1) _ _
  | ⟨1, _⟩ => rfl
  | ⟨2, _⟩ => rfl

/-- A result block read through its placement. -/
theorem emb6 {α : Type} (f : S8x2048x1024.Idx → α) (t : Fin cfg0.N) (r : Fin 512) (k : Fin 1024) :
    f (((cfg0.win 6).blk t).view.emb (ix3 (0 : Fin 1) r k)) = f (ix3 ⟨t.val / 4, gB t⟩ ⟨t.val % 4 * 512 + r.val, gR t r⟩ k) := by
  blk_ext [idx6 t]

/-- What the body leaves in the result's buffer at a point. -/
def left (t : Fin cfg0.N) : S1x512x1024.Idx → EReal :=
  out0_6 (F := Ideal) (iblk m c 0 t) (iblk m c 1 t) (iblk m c 2 t) (iblk m c 3 t) (iblk m c 4 t) (iblk m c 5 t)

/-- A buffer stored whole holds what was stored. -/
theorem whole_at (p : Vec Ideal S1x512x1024 .f32) (r : Fin 512) (k : Fin 1024) :
    View.canon (Val := Elt Ideal) [⟨r0_0, p⟩] (ix3 0 r k) = p (ix3 0 r k) :=
  congrFun (View.canon_cons_unit_lit inb_S1x512x1024_S1x512x1024_0_0_0 p [] (by decide)) _

/-- The rows that the body leaves are the sublayer's result. -/
theorem left_at (t : Fin cfg0.N) (r : Fin 512) (k : Fin 1024) :
    left m c t (ix3 0 r k) = Ffn.out (inpK m c) ⟨t.val / 4, gB t⟩ ⟨t.val % 4 * 512 + r.val, gR t r⟩ k := by
  unfold left out0_6
  exact (whole_at _ r k).trans ((blk m c t).out_eq r k)

/-- What a point writes back to the result. -/
theorem flushed6_eq (t : Fin cfg0.N) (_hf : (cfg0.win 6).flush t = true) :
    (dats m 0 c).flushed 6 t = ((cfg0.win 6).blk t).view.read (Elt Ideal) (Ffn.outG (inpK m c)) := by
  rw [flushed6]
  funext y
  have hy := ix_out y
  refine Eq.trans (b := left m c t y) rfl (Eq.trans ?_ (rfl : Ffn.outG (inpK m c) (((cfg0.win 6).blk t).view.emb y) = _))
  rw [hy]
  refine (left_at m c t _ _).trans ?_
  exact (emb6 (Ffn.outG (inpK m c)) t _ _).symm

/-- Every index of the result is in the block of a point that writes it back. -/
theorem cover6 (i : S8x2048x1024.Idx) :
    ∃ t : Fin cfg0.N, (cfg0.win 6).flush t = true ∧ i ∈ ((cfg0.win 6).blk t).view.set := by
  have h0 : (i 0 : Nat) < 8 := (i 0).isLt
  have h1 : (i 1 : Nat) < 2048 := (i 1).isLt
  have hN : cfg0.N = 32 := N_0
  have ht : (i 0 : Nat) * 4 + (i 1 : Nat) / 512 < cfg0.N := by omega
  generalize hn : (i 0 : Nat) * 4 + (i 1 : Nat) / 512 = n at ht
  refine ⟨⟨n, ht⟩, flush0_6 _, ?_⟩
  have e := emb6 id ⟨n, ht⟩ ⟨(i 1 : Nat) % 512, by omega⟩ (i 2 : Fin 1024)
  have e' : i = ix3 (⟨n / 4, by omega⟩ : Fin 8) (⟨n % 4 * 512 + (i 1 : Nat) % 512, by omega⟩ : Fin 2048) (i 2 : Fin 1024) := by
    funext a
    match a with
    | ⟨0, _⟩ => exact Fin.ext (show (i 0 : Nat) = n / 4 by omega)
    | ⟨1, _⟩ => exact Fin.ext (show (i 1 : Nat) = n % 4 * 512 + (i 1 : Nat) % 512 by omega)
    | ⟨2, _⟩ => rfl
  exact (e.trans e'.symm) ▸ ((cfg0.win 6).blk ⟨n, ht⟩).view.emb_mem_set
    (ix3 (0 : Fin 1) (⟨(i 1 : Nat) % 512, by omega⟩ : Fin 512) (i 2 : Fin 1024))

/-- The call's result is the sublayer's. -/
theorem arr6 : (dats m 0 c).arrAt 6 cfg0.N = Ffn.outG (inpK m c) :=
  (dats m 0 c).arrAt_eq_of_cover 6 (Ffn.outG (inpK m c)) (flushed6_eq m c) cover6

end Cert.Kernel2Ideal.Value
-- ==== Proof.FfnRef.lean ====
/-
  The feed-forward sublayer's reference: its result, at an index, is the sublayer's mathematics.
-/
module
public import proofs.«01_k».proof.Proof.Ffn
public import proofs.«01_k».proof.Proof.Gen.Reference2Ideal.Run
public import Idealize.ShloMosaic.Lib.Pointwise
public import Idealize.ShloMosaic.Lib.Claim
@[expose] public section
set_option maxRecDepth 16384
noncomputable section
namespace Cert.Reference2Ideal.Value
open Idealize.ShloMosaic Idealize.ShloMosaic.TcCoe Idealize.SL.Sem Cert.Reference2Ideal.Gen
open Cert.Ffn (Inp)

/-- The joint projection of the normalised and modulated rows, as an array. -/
def projA (x0 : FVec Ideal S8x2048x1024 .f32) (x1 : FVec Ideal S8x3x1024 .f32) (x2 : FVec Ideal S2x3x1024 .f32)
    (x4 : FVec Ideal S2x2x1024x5632 .f32) : FVec Ideal S8x2048x5632 .f32 :=
  Host.dotGeneral dot_S8x2048x1024_S1024x5632_S8x2048x5632_2_0_01_1_n_n none (addf (mulf (mulf (mulf x0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf x0 x0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![0, 0, 0] x2 slices_S2x3x1024_S1x1x1024_0_0_0) shapeCasts_S1x1x1024_S1024)))) (broadcastInDim S8x2048x1024 ![0, 1, 2] bcast_S8x1x1024_S8x2048x1024_0_1_2 (addf (broadcastInDim S8x1x1024 ![] bcast_S_S8x1x1024 (constant S_ .f32 0x3F800000#32)) (broadcastInDim S8x1x1024 ![0, 2] bcast_S8x1024_S8x1x1024_0_2 (shapeCast _ (extractStridedSlice S8x1x1024 ![0, 1, 0] x1 slices_S8x3x1024_S8x1x1024_0_1_0) shapeCasts_S8x1x1024_S8x1024))))) (broadcastInDim S8x2048x1024 ![0, 1, 2] bcast_S8x1x1024_S8x2048x1024_0_1_2 (broadcastInDim S8x1x1024 ![0, 2] bcast_S8x1024_S8x1x1024_0_2 (shapeCast _ (extractStridedSlice S8x1x1024 ![0, 0, 0] x1 slices_S8x3x1024_S8x1x1024_0_0_0) shapeCasts_S8x1x1024_S8x1024)))) (shapeCast _ (extractStridedSlice S1x1x1024x5632 ![0, 0, 0, 0] x4 slices_S2x2x1024x5632_S1x1x1024x5632_0_0_0_0) shapeCasts_S1x1x1024x5632_S1024x5632)

/-- The output projection of the gated lanes, as an array. -/
def outA (G0 : FVec Ideal S8x2048x5632 .f32) (x5 : FVec Ideal S2x2x2816x1024 .f32) : FVec Ideal S8x2048x1024 .f32 :=
  Host.dotGeneral dot_S8x2048x2816_S2816x1024_S8x2048x1024_2_0_01_1_n_n none (mulf (mulf (extractStridedSlice S8x2048x2816 ![0, 0, 0] G0 slices_S8x2048x5632_S8x2048x2816_0_0_0) (Host.divf (broadcastInDim S8x2048x2816 ![] bcast_S_S8x2048x2816 (constant S_ .f32 0x3F800000#32)) (addf (broadcastInDim S8x2048x2816 ![] bcast_S_S8x2048x2816 (constant S_ .f32 0x3F800000#32)) (Host.exp (Host.negf (extractStridedSlice S8x2048x2816 ![0, 0, 0] G0 slices_S8x2048x5632_S8x2048x2816_0_0_0)))))) (extractStridedSlice S8x2048x2816 ![0, 0, 2816] G0 slices_S8x2048x5632_S8x2048x2816_0_0_2816)) (shapeCast _ (extractStridedSlice S1x1x2816x1024 ![0, 0, 0, 0] x5 slices_S2x2x2816x1024_S1x1x2816x1024_0_0_0_0) shapeCasts_S1x1x2816x1024_S2816x1024)

/-- The residual plus half of the gated norm, as an array. -/
def resA (x0 : FVec Ideal S8x2048x1024 .f32) (x1 : FVec Ideal S8x3x1024 .f32) (x3 : FVec Ideal S2x3x1024 .f32)
    (Y0 : FVec Ideal S8x2048x1024 .f32) : FVec Ideal S8x2048x1024 .f32 :=
  addf x0 (mulf (broadcastInDim S8x2048x1024 ![0, 1, 2] bcast_S8x1x1024_S8x2048x1024_0_1_2 (mulf (broadcastInDim S8x1x1024 ![] bcast_S_S8x1x1024 (constant S_ .f32 0x3F000000#32)) (broadcastInDim S8x1x1024 ![0, 2] bcast_S8x1024_S8x1x1024_0_2 (shapeCast _ (extractStridedSlice S8x1x1024 ![0, 2, 0] x1 slices_S8x3x1024_S8x1x1024_0_2_0) shapeCasts_S8x1x1024_S8x1024)))) (mulf (mulf Y0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf Y0 Y0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 (shapeCast _ (extractStridedSlice S1x1x1024 ![0, 0, 0] x3 slices_S2x3x1024_S1x1x1024_0_0_0) shapeCasts_S1x1x1024_S1024)))))

variable (m : (ℓ : Loc nD τ sig) → Buf (Elt Ideal) ℓ) (c : Dev nD)

/-- The sublayer's inputs of device `c`, from the reference's arguments. -/
def inp : Inp 8 2048 :=
  Inp.of 0 0 0 (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-- The joint projection of this run. -/
def projM : FVec Ideal S8x2048x5632 .f32 :=
  projA (m (c, Proc.devRef .tc main_arg0)) (m (c, Proc.devRef .tc main_arg1)) (m (c, Proc.devRef .tc main_arg2))
    (m (c, Proc.devRef .tc main_arg4))

/-- The output projection of this run. -/
def outM : FVec Ideal S8x2048x1024 .f32 := outA (projM m c) (m (c, Proc.devRef .tc main_arg5))

/-- The run's result in three steps. -/
theorem res_eq : res_out0 m c = resA (m (c, Proc.devRef .tc main_arg0)) (m (c, Proc.devRef .tc main_arg1))
    (m (c, Proc.devRef .tc main_arg3)) (outM m c) := rfl

set_option maxHeartbeats 4000000 in
/-- The joint projection at an index. -/
theorem projM_at (b : Fin 8) (t : Fin 2048) (l : Fin 5632) : projM m c (ix3 b t l) = Ffn.P (inp m c) b t l := by
  pointwise [projM, projA]
  rfl

set_option maxHeartbeats 4000000 in
/-- The output projection at an index. -/
theorem outM_at (b : Fin 8) (t : Fin 2048) (n : Fin 1024) : outM m c (ix3 b t n) = Ffn.Y (inp m c) b t n := by
  unfold Ffn.Y Ffn.A Ret.silu
  simp only [← projM_at]
  pointwise [outM, outA]
  rfl

set_option maxHeartbeats 4000000 in
/-- The result at an index. -/
theorem res_at (b : Fin 8) (t : Fin 2048) (n : Fin 1024) : res_out0 m c (ix3 b t n) = Ffn.out (inp m c) b t n := by
  rw [res_eq]
  unfold Ffn.out Ret.rinv
  simp only [← outM_at]
  pointwise [resA]
  rfl

/-- The reference's result is the sublayer's. -/
theorem res_arr : res_out0 m c = Ffn.outG (inp m c) := by
  refine funext fun j => ?_
  have e : j = ix3 (j 0 : Fin 8) (j 1 : Fin 2048) (j 2 : Fin 1024) := by
    funext a; match a with
    | ⟨0, _⟩ => rfl
    | ⟨1, _⟩ => rfl
    | ⟨2, _⟩ => rfl
  rw [e]
  exact res_at m c _ _ _

end Cert.Reference2Ideal.Value
-- ==== Proof.FfnLast.lean ====
/-
  The feed-forward call over the samples: what a grid point reads, what it writes back, and the array that the call leaves.
-/
module
public import proofs.«01_k».proof.Proof.Ffn
public import proofs.«01_k».proof.Proof.Gen.Kernel3Ideal.Value
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel3Ideal.Value
open Idealize.ShloMosaic Idealize.ShloMosaic.TcCoe Idealize.SL.Sem Cert.Kernel3Ideal.Gen
open Idealize.ShloMosaic.StableHlo
open Idealize.ShloMosaic.Pipeline (Dat)
open Cert.Ffn (Inp)

/-! ### One block -/

/-- A block's operands, read against the sublayer's inputs. -/
structure Blk (I : Inp 128 1) (x0 : Vec Ideal S1x128x1024 .f32)
    (x1 : Vec Ideal S1x3x128x1024 .f32) (x2 x3 : Vec Ideal S1x1024 .f32) (x4 : Vec Ideal S1x1x1024x5632 .bf16)
    (x5 : Vec Ideal S1x1x2816x1024 .bf16) : Prop where
  rows : ∀ (r : Fin 128) (k : Fin 1024), x0 (ix3 0 r k) = I.X r 0 k
  mods : ∀ (s : Fin 3) (r : Fin 128) (k : Fin 1024), x1 (ix4 0 s r k) = I.M r s k
  pre : ∀ k : Fin 1024, x2 (ix2 0 k) = I.GP k
  post : ∀ k : Fin 1024, x3 (ix2 0 k) = I.GQ k
  win : ∀ (k : Fin 1024) (l : Fin 5632), x4 (ix4 0 0 k l) = I.WI k l
  wout : ∀ (k : Fin 2816) (l : Fin 1024), x5 (ix4 0 0 k l) = I.WO k l

section block
variable {I : Inp 128 1} {x0 : Vec Ideal S1x128x1024 .f32}
    {x1 : Vec Ideal S1x3x128x1024 .f32} {x2 x3 : Vec Ideal S1x1024 .f32} {x4 : Vec Ideal S1x1x1024x5632 .bf16}
    {x5 : Vec Ideal S1x1x2816x1024 .bf16} (B : Blk I x0 x1 x2 x3 x4 x5)

/-- The block's gated lanes. -/
def aF (x0 : Vec Ideal S1x128x1024 .f32) (x1 : Vec Ideal S1x3x128x1024 .f32) (x2 : Vec Ideal S1x1024 .f32)
    (x4 : Vec Ideal S1x1x1024x5632 .bf16) : FVec Ideal S128x2816 .bf16 :=
  k0_pay3 (View.ld x0 r0_0) (View.ld x2 r0_1) (View.ld x1 r0_2) (View.ld x1 r0_3) (View.ld x4 r0_4)

include B

set_option maxHeartbeats 4000000 in
/-- The block's gated lanes are the sublayer's. -/
theorem Blk.a_eq (r : Fin 128) (j : Fin 2816) : aF x0 x1 x2 x4 (ix2 r j) = Ffn.A I r 0 j := by
  unfold Ffn.A Ffn.P Ffn.H Ret.rinv Ret.silu
  simp only [← B.rows, ← B.mods, ← B.pre, ← B.win]
  pointwise [aF, k0_pay3, k0_pay2]
  try rfl

set_option maxHeartbeats 4000000 in
/-- The block's stored rows are the sublayer's result. -/
theorem Blk.out_eq (r : Fin 128) (k : Fin 1024) :
    k0_pay1 (k0_pay2 (View.ld x0 r0_0)) (aF x0 x1 x2 x4) (View.ld x5 r0_5) (View.ld x1 r0_6) (View.ld x3 r0_1) (ix3 0 r k)
      = Ffn.out I r 0 k := by
  unfold Ffn.out Ret.rinv Ffn.Y
  simp only [← B.rows, ← B.mods, ← B.post, ← B.wout, ← B.a_eq]
  pointwise [k0_pay1, k0_pay2]
  try rfl

end block

/-! ### What the grid points read -/

variable (m : (ℓ : Loc nD τ sig) → Buf (Elt Ideal) ℓ) (c : Dev nD)

/-- The sublayer's inputs of device `c`, from the kernel's arguments. -/
def inpK : Inp 128 1 :=
  Inp.ofRows 1 2 1 (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-- Where window 0's block stands at a point. -/
theorem idx0 : ∀ t : Fin grid0.N, win0_0.index t = ![0, 0, 0] := by decide +kernel
/-- Where window 1's block stands at a point. -/
theorem idx1 : ∀ t : Fin grid0.N, win0_1.index t = ![0, 0, 0, 0] := by decide +kernel
/-- Where window 2's block stands at a point. -/
theorem idx2 : ∀ t : Fin grid0.N, win0_2.index t = ![0, 0] := by decide +kernel
/-- Where window 3's block stands at a point. -/
theorem idx3 : ∀ t : Fin grid0.N, win0_3.index t = ![0, 0] := by decide +kernel
/-- Where window 4's block stands at a point. -/
theorem idx4 : ∀ t : Fin grid0.N, win0_4.index t = ![1, 1, 0, 0] := by decide +kernel
/-- Where window 5's block stands at a point. -/
theorem idx5 : ∀ t : Fin grid0.N, win0_5.index t = ![1, 1, 0, 0] := by decide +kernel
/-- Where the result window's block stands at a point. -/
theorem idx6 : ∀ t : Fin grid0.N, win0_6.index t = ![0, 0, 0] := by decide +kernel

/-- Window 0's block, at an index. -/
theorem rd0 (t : Fin cfg0.N) (r : Fin 128) (k : Fin 1024) : iblk m c 0 t (ix3 0 r k) = V m c main_v1 (ix3 0 r k) := by
  blk_point [iblk, idx0 t]

/-- Window 1's block, at an index. -/
theorem rd1 (t : Fin cfg0.N) (s : Fin 3) (r : Fin 128) (k : Fin 1024) : iblk m c 1 t (ix4 0 s r k) = V m c main_v2 (ix4 0 s r k) := by
  blk_point [iblk, idx1 t]

/-- Window 2's block, at an index. -/
theorem rd2 (t : Fin cfg0.N) (k : Fin 1024) : iblk m c 2 t (ix2 0 k) = V m c main_v5 (ix2 0 k) := by
  blk_point [iblk, idx2 t]

/-- Window 3's block, at an index. -/
theorem rd3 (t : Fin cfg0.N) (k : Fin 1024) : iblk m c 3 t (ix2 0 k) = V m c main_v8 (ix2 0 k) := by
  blk_point [iblk, idx3 t]

/-- Window 4's block, at an index. -/
theorem rd4 (t : Fin cfg0.N) (k : Fin 1024) (l : Fin 5632) : iblk m c 4 t (ix4 0 0 k l) = V m c main_v9 (ix4 1 1 k l) := by
  blk_point [iblk, idx4 t]

/-- Window 5's block, at an index. -/
theorem rd5 (t : Fin cfg0.N) (k : Fin 2816) (l : Fin 1024) : iblk m c 5 t (ix4 0 0 k l) = V m c main_v10 (ix4 1 1 k l) := by
  blk_point [iblk, idx5 t]

set_option maxHeartbeats 4000000 in
/-- The array window 0 reads, at an index: the samples' rows. -/
theorem ar0 (r : Fin 128) (k : Fin 1024) : V m c main_v1 (ix3 0 r k) = (inpK m c).X r 0 k := by
  unfold V
  after_reads_at
  rfl

set_option maxHeartbeats 4000000 in
/-- The array window 1 reads, at an index. -/
theorem ar1 (s : Fin 3) (r : Fin 128) (k : Fin 1024) : V m c main_v2 (ix4 0 s r k) = (inpK m c).M r s k := by
  unfold V
  after_reads_at
  rfl

set_option maxHeartbeats 4000000 in
/-- The array window 2 reads, at an index. -/
theorem ar2 (k : Fin 1024) : V m c main_v5 (ix2 0 k) = (inpK m c).GP k := by
  unfold V
  after_reads_at
  rfl

set_option maxHeartbeats 4000000 in
/-- The array window 3 reads, at an index. -/
theorem ar3 (k : Fin 1024) : V m c main_v8 (ix2 0 k) = (inpK m c).GQ k := by
  unfold V
  after_reads_at
  rfl

set_option maxHeartbeats 4000000 in
/-- The array window 4 reads, at an index. -/
theorem ar4 (k : Fin 1024) (l : Fin 5632) : V m c main_v9 (ix4 1 1 k l) = (inpK m c).WI k l := by
  unfold V
  after_reads_at
  rfl

set_option maxHeartbeats 4000000 in
/-- The array window 5 reads, at an index. -/
theorem ar5 (k : Fin 2816) (l : Fin 1024) : V m c main_v10 (ix4 1 1 k l) = (inpK m c).WO k l := by
  unfold V
  after_reads_at
  rfl

/-- What point `t` reads. -/
theorem blk (t : Fin cfg0.N) : Blk (inpK m c) (iblk m c 0 t) (iblk m c 1 t)
    (iblk m c 2 t) (iblk m c 3 t) (iblk m c 4 t) (iblk m c 5 t) where
  rows r k := (rd0 m c t r k).trans (ar0 m c r k)
  mods s r k := (rd1 m c t s r k).trans (ar1 m c s r k)
  pre k := (rd2 m c t k).trans (ar2 m c k)
  post k := (rd3 m c t k).trans (ar3 m c k)
  win k l := (rd4 m c t k l).trans (ar4 m c k l)
  wout k l := (rd5 m c t k l).trans (ar5 m c k l)

/-! ### What the call leaves -/

/-- An index of a result block. -/
theorem ix_out (y : S1x128x1024.Idx) : y = ix3 (0 : Fin 1) (y 1 : Fin 128) (y 2 : Fin 1024) := by
  funext a; match a with
  | ⟨0, _⟩ => exact Subsingleton.elim (α := Fin 1) _ _
  | ⟨1, _⟩ => rfl
  | ⟨2, _⟩ => rfl

/-- A result block read through its placement. -/
theorem emb6 {α : Type} (f : S1x128x1024.Idx → α) (t : Fin cfg0.N) (r : Fin 128) (k : Fin 1024) :
    f (((cfg0.win 6).blk t).view.emb (ix3 (0 : Fin 1) r k)) = f (ix3 0 r k) := by
  blk_ext [idx6 t]

/-- What the body leaves in the result's buffer at a point. -/
def left (t : Fin cfg0.N) : S1x128x1024.Idx → EReal :=
  out0_6 (F := Ideal) (iblk m c 0 t) (iblk m c 1 t) (iblk m c 2 t) (iblk m c 3 t) (iblk m c 4 t) (iblk m c 5 t)

/-- A buffer stored whole holds what was stored. -/
theorem whole_at (p : Vec Ideal S1x128x1024 .f32) (r : Fin 128) (k : Fin 1024) :
    View.canon (Val := Elt Ideal) [⟨r0_0, p⟩] (ix3 0 r k) = p (ix3 0 r k) :=
  congrFun (View.canon_cons_unit_lit inb_S1x128x1024_S1x128x1024_0_0_0 p [] (by decide)) _

/-- The rows that the body leaves are the sublayer's result. -/
theorem left_at (t : Fin cfg0.N) (r : Fin 128) (k : Fin 1024) :
    left m c t (ix3 0 r k) = Ffn.out (inpK m c) r 0 k := by
  unfold left out0_6
  exact (whole_at _ r k).trans ((blk m c t).out_eq r k)

/-- What a point writes back to the result. -/
theorem flushed6_eq (t : Fin cfg0.N) (_hf : (cfg0.win 6).flush t = true) :
    (dats m 0 c).flushed 6 t = ((cfg0.win 6).blk t).view.read (Elt Ideal) (Ffn.rowsG (inpK m c)) := by
  rw [flushed6]
  funext y
  have hy := ix_out y
  refine Eq.trans (b := left m c t y) rfl (Eq.trans ?_ (rfl : Ffn.rowsG (inpK m c) (((cfg0.win 6).blk t).view.emb y) = _))
  rw [hy]
  refine (left_at m c t _ _).trans ?_
  exact (emb6 (Ffn.rowsG (inpK m c)) t _ _).symm

/-- Every index of the result is in the block of a point that writes it back. -/
theorem cover6 (i : S1x128x1024.Idx) :
    ∃ t : Fin cfg0.N, (cfg0.win 6).flush t = true ∧ i ∈ ((cfg0.win 6).blk t).view.set := by
  have ht : 0 < cfg0.N := lt_of_lt_of_eq Nat.one_pos N_0.symm
  refine ⟨⟨0, ht⟩, flush0_6 _, ?_⟩
  have e := emb6 id ⟨0, ht⟩ (i 1 : Fin 128) (i 2 : Fin 1024)
  exact (e.trans (ix_out i).symm) ▸ ((cfg0.win 6).blk ⟨0, ht⟩).view.emb_mem_set
    (ix3 (0 : Fin 1) (i 1 : Fin 128) (i 2 : Fin 1024))

/-- The call's result is the sublayer's. -/
theorem arr6 : (dats m 0 c).arrAt 6 cfg0.N = Ffn.rowsG (inpK m c) :=
  (dats m 0 c).arrAt_eq_of_cover 6 (Ffn.rowsG (inpK m c)) (flushed6_eq m c) cover6

end Cert.Kernel3Ideal.Value
-- ==== Proof.FfnLastRef.lean ====
/-
  The reference of the feed-forward sublayer over the samples: its result, at an index, is the sublayer's mathematics.
-/
module
public import proofs.«01_k».proof.Proof.Ffn
public import proofs.«01_k».proof.Proof.Gen.Reference3Ideal.Run
public import Idealize.ShloMosaic.Lib.Pointwise
public import Idealize.ShloMosaic.Lib.Claim
@[expose] public section
set_option maxRecDepth 16384
noncomputable section
namespace Cert.Reference3Ideal.Value
open Idealize.ShloMosaic Idealize.ShloMosaic.TcCoe Idealize.SL.Sem Cert.Reference3Ideal.Gen
open Cert.Ffn (Inp)

/-- The joint projection of the normalised and modulated rows, as an array. -/
def projA (x0 : FVec Ideal S128x1x1024 .f32) (x1 : FVec Ideal S3x128x1024 .f32) (x2 : FVec Ideal S2x3x1024 .f32)
    (x4 : FVec Ideal S2x2x1024x5632 .f32) : FVec Ideal S128x1x5632 .f32 :=
  Host.dotGeneral dot_S128x1x1024_S1024x5632_S128x1x5632_2_0_01_1_n_n none (addf (mulf (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ (extractStridedSlice S1x1x1024 ![1, 2, 0] x2 slices_S2x3x1024_S1x1x1024_1_2_0) shapeCasts_S1x1x1024_S1024)))) (addf (broadcastInDim S128x1x1024 ![] bcast_S_S128x1x1024 (constant S_ .f32 0x3F800000#32)) (broadcastInDim S128x1x1024 ![0, 2] bcast_S128x1024_S128x1x1024_0_2 (shapeCast _ (extractStridedSlice S128x1x1024 ![0, 1, 0] (transpose S128x3x1024 [1, 0, 2] x1 transposes_S3x128x1024_S128x3x1024_1_0_2) slices_S128x3x1024_S128x1x1024_0_1_0) shapeCasts_S128x1x1024_S128x1024)))) (broadcastInDim S128x1x1024 ![0, 2] bcast_S128x1024_S128x1x1024_0_2 (shapeCast _ (extractStridedSlice S128x1x1024 ![0, 0, 0] (transpose S128x3x1024 [1, 0, 2] x1 transposes_S3x128x1024_S128x3x1024_1_0_2) slices_S128x3x1024_S128x1x1024_0_0_0) shapeCasts_S128x1x1024_S128x1024))) (shapeCast _ (extractStridedSlice S1x1x1024x5632 ![1, 1, 0, 0] x4 slices_S2x2x1024x5632_S1x1x1024x5632_1_1_0_0) shapeCasts_S1x1x1024x5632_S1024x5632)

/-- The output projection of the gated lanes, as an array. -/
def outA (G0 : FVec Ideal S128x1x5632 .f32) (x5 : FVec Ideal S2x2x2816x1024 .f32) : FVec Ideal S128x1x1024 .f32 :=
  Host.dotGeneral dot_S128x1x2816_S2816x1024_S128x1x1024_2_0_01_1_n_n none (mulf (mulf (extractStridedSlice S128x1x2816 ![0, 0, 0] G0 slices_S128x1x5632_S128x1x2816_0_0_0) (Host.divf (broadcastInDim S128x1x2816 ![] bcast_S_S128x1x2816 (constant S_ .f32 0x3F800000#32)) (addf (broadcastInDim S128x1x2816 ![] bcast_S_S128x1x2816 (constant S_ .f32 0x3F800000#32)) (Host.exp (Host.negf (extractStridedSlice S128x1x2816 ![0, 0, 0] G0 slices_S128x1x5632_S128x1x2816_0_0_0)))))) (extractStridedSlice S128x1x2816 ![0, 0, 2816] G0 slices_S128x1x5632_S128x1x2816_0_0_2816)) (shapeCast _ (extractStridedSlice S1x1x2816x1024 ![1, 1, 0, 0] x5 slices_S2x2x2816x1024_S1x1x2816x1024_1_1_0_0) shapeCasts_S1x1x2816x1024_S2816x1024)

/-- The residual plus half of the gated norm, as an array. -/
def resA (x0 : FVec Ideal S128x1x1024 .f32) (x1 : FVec Ideal S3x128x1024 .f32) (x3 : FVec Ideal S2x3x1024 .f32)
    (Y0 : FVec Ideal S128x1x1024 .f32) : FVec Ideal S1x128x1024 .f32 :=
  shapeCast _ (addf x0 (mulf (mulf (broadcastInDim S128x1x1024 ![] bcast_S_S128x1x1024 (constant S_ .f32 0x3F000000#32)) (broadcastInDim S128x1x1024 ![0, 2] bcast_S128x1024_S128x1x1024_0_2 (shapeCast _ (extractStridedSlice S128x1x1024 ![0, 2, 0] (transpose S128x3x1024 [1, 0, 2] x1 transposes_S3x128x1024_S128x3x1024_1_0_2) slices_S128x3x1024_S128x1x1024_0_2_0) shapeCasts_S128x1x1024_S128x1024))) (mulf (mulf Y0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf Y0 Y0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ (extractStridedSlice S1x1x1024 ![1, 2, 0] x3 slices_S2x3x1024_S1x1x1024_1_2_0) shapeCasts_S1x1x1024_S1024)))))) shapeCasts_S128x1x1024_S1x128x1024

variable (m : (ℓ : Loc nD τ sig) → Buf (Elt Ideal) ℓ) (c : Dev nD)

/-- The sublayer's inputs of device `c`, from the reference's arguments. -/
def inp : Inp 128 1 :=
  Inp.ofRows 1 2 1 (m (c, Proc.devRef .tc main_arg0)) (m (c, Proc.devRef .tc main_arg1)) (m (c, Proc.devRef .tc main_arg2))
    (m (c, Proc.devRef .tc main_arg3)) (m (c, Proc.devRef .tc main_arg4)) (m (c, Proc.devRef .tc main_arg5))

/-- The joint projection of this run. -/
def projM : FVec Ideal S128x1x5632 .f32 :=
  projA (m (c, Proc.devRef .tc main_arg0)) (m (c, Proc.devRef .tc main_arg1)) (m (c, Proc.devRef .tc main_arg2))
    (m (c, Proc.devRef .tc main_arg4))

/-- The output projection of this run. -/
def outM : FVec Ideal S128x1x1024 .f32 := outA (projM m c) (m (c, Proc.devRef .tc main_arg5))

/-- The run's result in three steps. -/
theorem res_eq : res_out0 m c = resA (m (c, Proc.devRef .tc main_arg0)) (m (c, Proc.devRef .tc main_arg1))
    (m (c, Proc.devRef .tc main_arg3)) (outM m c) := rfl

set_option maxHeartbeats 4000000 in
/-- The joint projection at an index. -/
theorem projM_at (b : Fin 128) (t : Fin 1) (l : Fin 5632) : projM m c (ix3 b t l) = Ffn.P (inp m c) b t l := by
  obtain rfl : t = 0 := Subsingleton.elim _ _
  pointwise [projM, projA]
  rfl

set_option maxHeartbeats 4000000 in
/-- The output projection at an index. -/
theorem outM_at (b : Fin 128) (t : Fin 1) (n : Fin 1024) : outM m c (ix3 b t n) = Ffn.Y (inp m c) b t n := by
  obtain rfl : t = 0 := Subsingleton.elim _ _
  unfold Ffn.Y Ffn.A Ret.silu
  simp only [← projM_at]
  pointwise [outM, outA]
  rfl

set_option maxHeartbeats 4000000 in
/-- The result at an index. -/
theorem res_at (r : Fin 128) (n : Fin 1024) : res_out0 m c (ix3 0 r n) = Ffn.out (inp m c) r 0 n := by
  rw [res_eq]
  unfold Ffn.out Ret.rinv
  simp only [← outM_at]
  pointwise [resA]
  rfl

/-- The reference's result is the sublayer's. -/
theorem res_arr : res_out0 m c = Ffn.rowsG (inp m c) := by
  refine funext fun j => ?_
  have e : j = ix3 (0 : Fin 1) (j 1 : Fin 128) (j 2 : Fin 1024) := by
    funext a; match a with
    | ⟨0, _⟩ => exact Subsingleton.elim (α := Fin 1) _ _
    | ⟨1, _⟩ => rfl
    | ⟨2, _⟩ => rfl
  rw [e]
  exact res_at m c _ _

end Cert.Reference3Ideal.Value
-- ==== Proof.Pre.lean ====
/-
  The samples' pass before a pooling mixer: the normalised rows, their joint projection, and the arrays the mixer is given.
-/
module
public import proofs.«01_k».proof.Proof.Ffn
@[expose] public section
noncomputable section
namespace Cert.Pre
open Idealize.ShloMosaic

/-- The pass's inputs, entry by entry: the rows, the modulation, the norm's weight, the projection and the history. -/
structure Inp where
  /-- the rows -/
  X : Fin 128 → Fin 1024 → EReal
  /-- the modulation: a shift, then a scale -/
  M : Fin 3 → Fin 128 → Fin 1024 → EReal
  /-- the norm's weight -/
  G : Fin 1024 → EReal
  /-- the joint projection -/
  W : Fin 1024 → Fin 2048 → EReal
  /-- the last fifteen pooled rows of each sample -/
  U : Fin 128 → Fin 15 → Fin 512 → EReal

/-- The pass's inputs from a program's arguments. -/
def Inp.of (x : (⟨3, ![128, 1, 1024]⟩ : Shape).Idx → EReal) (m : (⟨3, ![3, 128, 1024]⟩ : Shape).Idx → EReal)
    (g : (⟨3, ![2, 3, 1024]⟩ : Shape).Idx → EReal) (w : (⟨3, ![1, 1024, 2048]⟩ : Shape).Idx → EReal)
    (u : (⟨4, ![1, 128, 15, 512]⟩ : Shape).Idx → EReal) : Inp where
  X r n := x (ix3 r 0 n)
  M s r n := m (ix3 s r n)
  G n := g (ix3 0 1 n)
  W n l := w (ix3 0 n l)
  U r j l := u (ix4 0 r j l)

/-- The normalised and modulated row. -/
def H (I : Inp) (r : Fin 128) (n : Fin 1024) : EReal := I.X r n * Ret.rinv (I.X r) * I.G n * (1 + I.M 1 r n) + I.M 0 r n

/-- The joint projection. -/
def P (I : Inp) (r : Fin 128) (l : Fin 2048) : EReal := ∑ x, H I r x * I.W x l

/-- A scaled query. -/
def Q (I : Inp) (r : Fin 128) (l : Fin 512) : EReal := P I r ⟨l, by omega⟩ * Ideal.ofBits .f32 0x3E000000#32

/-- A key. -/
def K (I : Inp) (l : Fin 512) (r : Fin 128) : EReal := P I r ⟨512 + l, by omega⟩

/-- A value. -/
def V (I : Inp) (l : Fin 512) (r : Fin 128) : EReal := P I r ⟨1024 + l, by omega⟩

/-- The scaled queries, as an array. -/
def qG (I : Inp) : (⟨2, ![128, 512]⟩ : Shape).Idx → EReal := fun i => Q I (i 0) (i 1)

/-- The keys, features first, as an array. -/
def kG (I : Inp) : (⟨2, ![512, 128]⟩ : Shape).Idx → EReal := fun i => K I (i 0) (i 1)

/-- The values, features first, as an array. -/
def vG (I : Inp) : (⟨2, ![512, 128]⟩ : Shape).Idx → EReal := fun i => V I (i 0) (i 1)

/-- The pooled rows to keep at place `j`: the history without its oldest row, then the new row. -/
def U' (I : Inp) (j : Fin 15) (r : Fin 128) (l : Fin 512) : EReal :=
  if h : 1 + j.val < 15 then I.U r ⟨1 + j, h⟩ l else P I r ⟨1536 + l, by omega⟩

/-- The pooled rows to keep, as an array. -/
def uG (I : Inp) : (⟨3, ![15, 128, 512]⟩ : Shape).Idx → EReal := fun i => U' I (i 0) (i 1) (i 2)

end Cert.Pre
-- ==== Proof.PreKernel.lean ====
/-
  The samples' pass before a pooling mixer: what the call reads, what it writes back, and the arrays that it leaves.
-/
module
public import proofs.«01_k».proof.Proof.Pre
public import proofs.«01_k».proof.Proof.Gen.Kernel4Ideal.Value
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel4Ideal.Value
open Idealize.ShloMosaic Idealize.ShloMosaic.TcCoe Idealize.SL.Sem Cert.Kernel4Ideal.Gen
open Idealize.ShloMosaic.StableHlo
open Idealize.ShloMosaic.Pipeline (Dat)
open Cert.Pre (Inp)

/-! ### What the body leaves, as its payloads -/

/-- The two pieces that the body stores in the pooled rows' buffer, last first: the new row, then the history from its
    second row on. -/
def poolL (x0 : Vec Ideal S128x1024 .f32) (x1 : Vec Ideal S1x3x128x1024 .f32) (x2 : Vec Ideal S1x1024 .f32)
    (x3 : Vec Ideal S1024x2048 .bf16) (x4 : Vec Ideal S15x128x512 .f32) : List (View.Piece (Elt Ideal) S15x128x512 .f32) :=
  [⟨Rect.unit ![14, 0, 0] ![1, 128, 512] inb_S15x128x512_S1x128x512_14_0_0, k0_pay3 (k0_pay8 (k0_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3))⟩, ⟨Rect.unit ![0, 0, 0] ![14, 128, 512] inb_S15x128x512_S14x128x512_0_0_0, k0_pay2 (View.ld x4 (Rect.unit ![1, 0, 0] ![14, 128, 512] inb_S15x128x512_S14x128x512_1_0_0))⟩]

/-- The kept pooled rows that the body stores. -/
def poolF (x0 : Vec Ideal S128x1024 .f32) (x1 : Vec Ideal S1x3x128x1024 .f32) (x2 : Vec Ideal S1x1024 .f32)
    (x3 : Vec Ideal S1024x2048 .bf16) (x4 : Vec Ideal S15x128x512 .f32) : FVec Ideal S15x128x512 .f32 :=
  View.canon (poolL x0 x1 x2 x3 x4)

/-- What the body leaves in the queries' buffer. -/
theorem out7_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out0_A_7 c arg0 harg0 arg1 harg1 arg2 harg2 arg3 harg3 arg4 harg4 arg5 harg5 arg6 harg6 arg7 harg7 arg8 harg8 arg9 harg9 arg10 harg10 arg11 harg11 x0 x1 x2 x3 x4 x5 x6 = k0_pay5 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3 := by
  frame_open
  frame_out

/-- What the body leaves in the keys' buffer. -/
theorem out8_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out0_A_8 c arg0 harg0 arg1 harg1 arg2 harg2 arg3 harg3 arg4 harg4 arg5 harg5 arg6 harg6 arg7 harg7 arg8 harg8 arg9 harg9 arg10 harg10 arg11 harg11 x0 x1 x2 x3 x4 x5 x6 = k0_pay6 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3 := by
  frame_open
  frame_out

/-- What the body leaves in the values' buffer. -/
theorem out9_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out0_A_9 c arg0 harg0 arg1 harg1 arg2 harg2 arg3 harg3 arg4 harg4 arg5 harg5 arg6 harg6 arg7 harg7 arg8 harg8 arg9 harg9 arg10 harg10 arg11 harg11 x0 x1 x2 x3 x4 x5 x6 = k0_pay7 (k0_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3) := by
  frame_open
  frame_out

/-- What the body leaves in the pooled rows' buffer. -/
theorem out10_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out0_A_10 c arg0 harg0 arg1 harg1 arg2 harg2 arg3 harg3 arg4 harg4 arg5 harg5 arg6 harg6 arg7 harg7 arg8 harg8 arg9 harg9 arg10 harg10 arg11 harg11 x0 x1 x2 x3 x4 x5 x6 = poolF x0 x1 x2 x3 x4 := by
  frame_open
  frame_out
  rfl

/-! ### What the call reads -/

/-- The call's operands, read against the pass's inputs. -/
structure Blk (I : Inp) (x0 : Vec Ideal S128x1024 .f32) (x1 : Vec Ideal S1x3x128x1024 .f32) (x2 : Vec Ideal S1x1024 .f32)
    (x3 : Vec Ideal S1024x2048 .bf16) (x4 : Vec Ideal S15x128x512 .f32) : Prop where
  rows : ∀ (r : Fin 128) (k : Fin 1024), x0 (ix2 r k) = I.X r k
  mods : ∀ (s : Fin 3) (r : Fin 128) (k : Fin 1024), x1 (ix4 0 s r k) = I.M s r k
  norm : ∀ k : Fin 1024, x2 (ix2 0 k) = I.G k
  win : ∀ (k : Fin 1024) (l : Fin 2048), x3 (ix2 k l) = I.W k l
  hist : ∀ (j : Fin 15) (r : Fin 128) (l : Fin 512), x4 (ix3 j r l) = I.U r j l

section block
variable {I : Inp} {x0 : Vec Ideal S128x1024 .f32} {x1 : Vec Ideal S1x3x128x1024 .f32} {x2 : Vec Ideal S1x1024 .f32}
    {x3 : Vec Ideal S1024x2048 .bf16} {x4 : Vec Ideal S15x128x512 .f32} (B : Blk I x0 x1 x2 x3 x4)

/-- The body's joint projection. -/
def pF (x0 : Vec Ideal S128x1024 .f32) (x1 : Vec Ideal S1x3x128x1024 .f32) (x2 : Vec Ideal S1x1024 .f32)
    (x3 : Vec Ideal S1024x2048 .bf16) : FVec Ideal S128x2048 .f32 :=
  k0_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3

include B

set_option maxHeartbeats 4000000 in
/-- The body's joint projection is the pass's. -/
theorem Blk.p_eq (r : Fin 128) (l : Fin 2048) : pF x0 x1 x2 x3 (ix2 r l) = Pre.P I r l := by
  unfold Pre.P Pre.H Ret.rinv
  simp only [← B.rows, ← B.mods, ← B.norm, ← B.win]
  pointwise [pF, k0_pay4]
  try rfl

/-- The stored queries are the pass's. -/
theorem Blk.q_eq (r : Fin 128) (l : Fin 512) : k0_pay5 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3 (ix2 r l) = Pre.Q I r l := by
  unfold Pre.Q
  rw [← B.p_eq]
  pointwise [k0_pay5, pF]
  try rfl

/-- The stored keys are the pass's. -/
theorem Blk.k_eq (l : Fin 512) (r : Fin 128) : k0_pay6 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3 (ix2 l r) = Pre.K I l r := by
  unfold Pre.K
  rw [← B.p_eq]
  pointwise [k0_pay6, pF]
  try rfl

/-- The stored values are the pass's. -/
theorem Blk.v_eq (l : Fin 512) (r : Fin 128) : k0_pay7 (k0_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3) (ix2 l r) = Pre.V I l r := by
  unfold Pre.V
  rw [← B.p_eq]
  pointwise [k0_pay7, pF]
  try rfl

/-- The new pooled row is the pass's. -/
theorem Blk.u_eq (r : Fin 128) (l : Fin 512) : k0_pay3 (k0_pay8 (k0_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3)) (ix3 0 r l) = Pre.P I r ⟨1536 + l, by omega⟩ := by
  rw [← B.p_eq]
  pointwise [k0_pay3, k0_pay8, pF]
  try rfl

/-- The kept pooled rows are the history's, one place on. -/
theorem Blk.h_eq (j : Fin 14) (r : Fin 128) (l : Fin 512) :
    k0_pay2 (View.ld x4 (Rect.unit ![1, 0, 0] ![14, 128, 512] inb_S15x128x512_S14x128x512_1_0_0)) (ix3 j r l)
      = I.U r ⟨1 + j, by omega⟩ l := by
  rw [← B.hist]
  pointwise [k0_pay2]
  try rfl

end block

variable (m : (ℓ : Loc nD τ sig) → Buf (Elt Ideal) ℓ) (c : Dev nD)

/-- The pass's inputs of device `c`, from the kernel's arguments. -/
def inpK : Inp :=
  Inp.of (m (c, Proc.devRef .tc main_arg0)) (m (c, Proc.devRef .tc main_arg1)) (m (c, Proc.devRef .tc main_arg2))
    (m (c, Proc.devRef .tc main_arg3)) (m (c, Proc.devRef .tc main_arg4))

/-- Where window 0's block stands. -/
theorem idx0 : ∀ t : Fin grid0.N, win0_0.index t = ![0, 0] := by decide +kernel

/-- Window 0's block, at an index. -/
theorem rd0 (t : Fin cfg0.N) (r : Fin 128) (k : Fin 1024) : iblk m c 0 t (ix2 r k) = V m c main_v0 (ix2 r k) := by
  blk_point [iblk, idx0 t]

set_option maxHeartbeats 4000000 in
/-- The array window 0 reads, at an index. -/
theorem ar0 (r : Fin 128) (k : Fin 1024) : V m c main_v0 (ix2 r k) = (inpK m c).X r k := by
  unfold V
  after_reads_at
  rfl

/-- Where window 1's block stands. -/
theorem idx1 : ∀ t : Fin grid0.N, win0_1.index t = ![0, 0, 0, 0] := by decide +kernel

/-- Window 1's block, at an index. -/
theorem rd1 (t : Fin cfg0.N) (s : Fin 3) (r : Fin 128) (k : Fin 1024) : iblk m c 1 t (ix4 0 s r k) = V m c main_v1 (ix4 0 s r k) := by
  blk_point [iblk, idx1 t]

set_option maxHeartbeats 4000000 in
/-- The array window 1 reads, at an index. -/
theorem ar1 (s : Fin 3) (r : Fin 128) (k : Fin 1024) : V m c main_v1 (ix4 0 s r k) = (inpK m c).M s r k := by
  unfold V
  after_reads_at
  rfl

/-- Where window 2's block stands. -/
theorem idx2 : ∀ t : Fin grid0.N, win0_2.index t = ![0, 0] := by decide +kernel

/-- Window 2's block, at an index. -/
theorem rd2 (t : Fin cfg0.N) (k : Fin 1024) : iblk m c 2 t (ix2 0 k) = V m c main_v4 (ix2 0 k) := by
  blk_point [iblk, idx2 t]

set_option maxHeartbeats 4000000 in
/-- The array window 2 reads, at an index. -/
theorem ar2 (k : Fin 1024) : V m c main_v4 (ix2 0 k) = (inpK m c).G k := by
  unfold V
  after_reads_at
  rfl

/-- Where window 3's block stands. -/
theorem idx3 : ∀ t : Fin grid0.N, win0_3.index t = ![0, 0] := by decide +kernel

/-- Window 3's block, at an index. -/
theorem rd3 (t : Fin cfg0.N) (k : Fin 1024) (l : Fin 2048) : iblk m c 3 t (ix2 k l) = V m c main_v6 (ix2 k l) := by
  blk_point [iblk, idx3 t]

set_option maxHeartbeats 4000000 in
/-- The array window 3 reads, at an index. -/
theorem ar3 (k : Fin 1024) (l : Fin 2048) : V m c main_v6 (ix2 k l) = (inpK m c).W k l := by
  unfold V
  after_reads_at
  rfl

/-- Where window 4's block stands. -/
theorem idx4 : ∀ t : Fin grid0.N, win0_4.index t = ![0, 0, 0] := by decide +kernel

/-- Window 4's block, at an index. -/
theorem rd4 (t : Fin cfg0.N) (j : Fin 15) (r : Fin 128) (l : Fin 512) : iblk m c 4 t (ix3 j r l) = V m c main_v8 (ix3 j r l) := by
  blk_point [iblk, idx4 t]

set_option maxHeartbeats 4000000 in
/-- The array window 4 reads, at an index. -/
theorem ar4 (j : Fin 15) (r : Fin 128) (l : Fin 512) : V m c main_v8 (ix3 j r l) = (inpK m c).U r j l := by
  unfold V
  after_reads_at
  rfl

/-- What the call reads. -/
theorem blk (t : Fin cfg0.N) : Blk (inpK m c) (iblk m c 0 t) (iblk m c 1 t) (iblk m c 2 t) (iblk m c 3 t) (iblk m c 4 t) where
  rows r k := (rd0 m c t r k).trans (ar0 m c r k)
  mods s r k := (rd1 m c t s r k).trans (ar1 m c s r k)
  norm k := (rd2 m c t k).trans (ar2 m c k)
  win k l := (rd3 m c t k l).trans (ar3 m c k l)
  hist j r l := (rd4 m c t j r l).trans (ar4 m c j r l)

/-! ### What the call leaves -/

/-- Two numbers as an index. -/
theorem ix_two {a b : ℕ} (y : (⟨2, ![a, b]⟩ : Shape).Idx) : y = ix2 (y 0 : Fin a) (y 1 : Fin b) := by
  funext i; match i with
  | ⟨0, _⟩ => rfl
  | ⟨1, _⟩ => rfl

/-- Three numbers as an index. -/
theorem ix_three {a b d : ℕ} (y : (⟨3, ![a, b, d]⟩ : Shape).Idx) : y = ix3 (y 0 : Fin a) (y 1 : Fin b) (y 2 : Fin d) := by
  funext i; match i with
  | ⟨0, _⟩ => rfl
  | ⟨1, _⟩ => rfl
  | ⟨2, _⟩ => rfl

/-- An index of the first piece of the pooled rows' buffer. -/
theorem emb_init (j : Fin 14) (r : Fin 128) (l : Fin 512) :
    (Rect.unit (s := S15x128x512) ![0, 0, 0] ![14, 128, 512] inb_S15x128x512_S14x128x512_0_0_0).emb (ix3 j r l)
      = (ix3 (⟨j, by omega⟩ : Fin 15) r l : S15x128x512.Idx) := by
  funext i; match i with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

/-- An index of the last piece of the pooled rows' buffer. -/
theorem emb_last (r : Fin 128) (l : Fin 512) :
    (Rect.unit (s := S15x128x512) ![14, 0, 0] ![1, 128, 512] inb_S15x128x512_S1x128x512_14_0_0).emb (ix3 (0 : Fin 1) r l)
      = (ix3 (14 : Fin 15) r l : S15x128x512.Idx) := by
  funext i; match i with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

/-- An index of the last piece, by its coordinates. -/
theorem ix_last (y : S1x128x512.Idx) : y = ix3 (0 : Fin 1) (y 1 : Fin 128) (y 2 : Fin 512) := by
  funext i; match i with
  | ⟨0, _⟩ => exact Subsingleton.elim (α := Fin 1) _ _
  | ⟨1, _⟩ => rfl
  | ⟨2, _⟩ => rfl

/-- The first fourteen of the pooled rows' indices lie in the first piece. -/
theorem mem_init (j : Fin 15) (h : j.val < 14) (r : Fin 128) (l : Fin 512) :
    (ix3 j r l : S15x128x512.Idx) ∈ (Rect.unit (s := S15x128x512) ![0, 0, 0] ![14, 128, 512] inb_S15x128x512_S14x128x512_0_0_0).set := by
  rw [Rect.mem_set_unit]
  intro i; fin_cases i <;> simp [h]

/-- The last pooled row's indices lie in the last piece. -/
theorem mem_last (r : Fin 128) (l : Fin 512) :
    (ix3 (14 : Fin 15) r l : S15x128x512.Idx) ∈ (Rect.unit (s := S15x128x512) ![14, 0, 0] ![1, 128, 512] inb_S15x128x512_S1x128x512_14_0_0).set := by
  rw [Rect.mem_set_unit]
  intro i; fin_cases i <;> simp

/-- A pooled row kept from before is the row after it. -/
theorem uG_init (I : Inp) (j : Fin 14) (r : Fin 128) (l : Fin 512) :
    Pre.uG I (ix3 (⟨j, by omega⟩ : Fin 15) r l) = I.U r ⟨1 + j.val, by omega⟩ l := by
  have h : 1 + (⟨j, by omega⟩ : Fin 15).val < 15 := by show 1 + j.val < 15; omega
  exact dif_pos h

/-- The last pooled row is the projection's last piece. -/
theorem uG_last (I : Inp) (r : Fin 128) (l : Fin 512) :
    Pre.uG I (ix3 (14 : Fin 15) r l) = Pre.P I r ⟨1536 + l, by omega⟩ := by
  show Pre.U' I (14 : Fin 15) r l = _
  unfold Pre.U'
  exact dif_neg (by decide)

/-- The kept pooled rows that the body leaves. -/
theorem Blk.pool_at {I : Inp} {x0 : Vec Ideal S128x1024 .f32} {x1 : Vec Ideal S1x3x128x1024 .f32} {x2 : Vec Ideal S1x1024 .f32}
    {x3 : Vec Ideal S1024x2048 .bf16} {x4 : Vec Ideal S15x128x512 .f32} (B : Blk I x0 x1 x2 x3 x4) (j : Fin 15) (r : Fin 128) (l : Fin 512) :
    poolF x0 x1 x2 x3 x4 (ix3 j r l) = Pre.U' I j r l := by
  refine (View.canon_append_of_piecesOf (Pre.uG I) [] (poolL x0 x1 x2 x3 x4) ?_ (ix3 j r l) ?_).trans rfl
  · refine ⟨fun x => ?_, fun x => ?_, trivial⟩
    · rw [ix_last x]
      exact (B.u_eq (x 1) (x 2)).trans ((uG_last I (x 1) (x 2)).symm.trans (congrArg (Pre.uG I) (emb_last (x 1) (x 2))).symm)
    · rw [ix_three x]
      exact (B.h_eq (x 0) (x 1) (x 2)).trans ((uG_init I (x 0) (x 1) (x 2)).symm.trans (congrArg (Pre.uG I) (emb_init (x 0) (x 1) (x 2))).symm)
  · by_cases h : j.val < 14
    · exact ⟨_, .tail _ (.head _), mem_init j h r l⟩
    · have e : j = 14 := Fin.ext (show j.val = 14 by omega)
      subst e
      exact ⟨_, .head _, mem_last r l⟩

/-- Where the queries' block stands. -/
theorem idx7 : ∀ t : Fin grid0.N, win0_7.index t = ![0, 0] := by decide +kernel

/-- The queries' block read through its placement. -/
theorem emb7 {α : Type} (f : S128x512.Idx → α) (t : Fin cfg0.N) (a : Fin 128) (b : Fin 512) :
    f (((cfg0.win 7).blk t).view.emb (ix2 a b)) = f (ix2 a b) := by
  blk_ext [idx7 t]

/-- What the body leaves in the queries' buffer. -/
def left7 (t : Fin cfg0.N) : S128x512.Idx → EReal :=
  k0_pay5 (iblk m c 0 t) (iblk m c 2 t) (View.ld (iblk m c 1 t) (Rect.unit ![0, 1, 0, 0] ![1, 1, 128, 1024] inb_S1x3x128x1024_S1x1x128x1024_0_1_0_0)) (View.ld (iblk m c 1 t) (Rect.unit ![0, 0, 0, 0] ![1, 1, 128, 1024] inb_S1x3x128x1024_S1x1x128x1024_0_0_0_0)) (iblk m c 3 t)

/-- What the body leaves in the queries' buffer is the pass's. -/
theorem left7_at (t : Fin cfg0.N) (y : S128x512.Idx) : left7 m c t y = Pre.qG (inpK m c) y := by
  rw [ix_two y]
  exact (blk m c t).q_eq _ _

/-- What the call writes back to the queries. -/
theorem flushed7_eq (t : Fin cfg0.N) (_hf : (cfg0.win 7).flush t = true) :
    (dats m 0 c).flushed 7 t = ((cfg0.win 7).blk t).view.read (Elt Ideal) (Pre.qG (inpK m c)) := by
  rw [flushed7_A, out7_eq]
  funext y
  refine Eq.trans (b := left7 m c t y) rfl (Eq.trans ?_ (rfl : Pre.qG (inpK m c) (((cfg0.win 7).blk t).view.emb y) = _))
  refine (left7_at m c t y).trans ?_
  rw [ix_two y]
  exact (emb7 (Pre.qG (inpK m c)) t _ _).symm

/-- Every index of the queries is written back. -/
theorem cover7 (i : S128x512.Idx) :
    ∃ t : Fin cfg0.N, (cfg0.win 7).flush t = true ∧ i ∈ ((cfg0.win 7).blk t).view.set := by
  have ht : 0 < cfg0.N := lt_of_lt_of_eq Nat.one_pos N_0.symm
  refine ⟨⟨0, ht⟩, flush0_7 _, ?_⟩
  have e := emb7 id ⟨0, ht⟩ (i 0 : Fin 128) (i 1 : Fin 512)
  exact (e.trans (ix_two i).symm) ▸ ((cfg0.win 7).blk ⟨0, ht⟩).view.emb_mem_set _

/-- The call's queries are the pass's. -/
theorem arr7 : (dats m 0 c).arrAt 7 cfg0.N = Pre.qG (inpK m c) :=
  (dats m 0 c).arrAt_eq_of_cover 7 (Pre.qG (inpK m c)) (flushed7_eq m c) cover7

/-- Where the keys' block stands. -/
theorem idx8 : ∀ t : Fin grid0.N, win0_8.index t = ![0, 0] := by decide +kernel

/-- The keys' block read through its placement. -/
theorem emb8 {α : Type} (f : S512x128.Idx → α) (t : Fin cfg0.N) (a : Fin 512) (b : Fin 128) :
    f (((cfg0.win 8).blk t).view.emb (ix2 a b)) = f (ix2 a b) := by
  blk_ext [idx8 t]

/-- What the body leaves in the keys' buffer. -/
def left8 (t : Fin cfg0.N) : S512x128.Idx → EReal :=
  k0_pay6 (iblk m c 0 t) (iblk m c 2 t) (View.ld (iblk m c 1 t) (Rect.unit ![0, 1, 0, 0] ![1, 1, 128, 1024] inb_S1x3x128x1024_S1x1x128x1024_0_1_0_0)) (View.ld (iblk m c 1 t) (Rect.unit ![0, 0, 0, 0] ![1, 1, 128, 1024] inb_S1x3x128x1024_S1x1x128x1024_0_0_0_0)) (iblk m c 3 t)

/-- What the body leaves in the keys' buffer is the pass's. -/
theorem left8_at (t : Fin cfg0.N) (y : S512x128.Idx) : left8 m c t y = Pre.kG (inpK m c) y := by
  rw [ix_two y]
  exact (blk m c t).k_eq _ _

/-- What the call writes back to the keys. -/
theorem flushed8_eq (t : Fin cfg0.N) (_hf : (cfg0.win 8).flush t = true) :
    (dats m 0 c).flushed 8 t = ((cfg0.win 8).blk t).view.read (Elt Ideal) (Pre.kG (inpK m c)) := by
  rw [flushed8_A, out8_eq]
  funext y
  refine Eq.trans (b := left8 m c t y) rfl (Eq.trans ?_ (rfl : Pre.kG (inpK m c) (((cfg0.win 8).blk t).view.emb y) = _))
  refine (left8_at m c t y).trans ?_
  rw [ix_two y]
  exact (emb8 (Pre.kG (inpK m c)) t _ _).symm

/-- Every index of the keys is written back. -/
theorem cover8 (i : S512x128.Idx) :
    ∃ t : Fin cfg0.N, (cfg0.win 8).flush t = true ∧ i ∈ ((cfg0.win 8).blk t).view.set := by
  have ht : 0 < cfg0.N := lt_of_lt_of_eq Nat.one_pos N_0.symm
  refine ⟨⟨0, ht⟩, flush0_8 _, ?_⟩
  have e := emb8 id ⟨0, ht⟩ (i 0 : Fin 512) (i 1 : Fin 128)
  exact (e.trans (ix_two i).symm) ▸ ((cfg0.win 8).blk ⟨0, ht⟩).view.emb_mem_set _

/-- The call's keys are the pass's. -/
theorem arr8 : (dats m 0 c).arrAt 8 cfg0.N = Pre.kG (inpK m c) :=
  (dats m 0 c).arrAt_eq_of_cover 8 (Pre.kG (inpK m c)) (flushed8_eq m c) cover8

/-- Where the values' block stands. -/
theorem idx9 : ∀ t : Fin grid0.N, win0_9.index t = ![0, 0] := by decide +kernel

/-- The values' block read through its placement. -/
theorem emb9 {α : Type} (f : S512x128.Idx → α) (t : Fin cfg0.N) (a : Fin 512) (b : Fin 128) :
    f (((cfg0.win 9).blk t).view.emb (ix2 a b)) = f (ix2 a b) := by
  blk_ext [idx9 t]

/-- What the body leaves in the values' buffer. -/
def left9 (t : Fin cfg0.N) : S512x128.Idx → EReal :=
  k0_pay7 (k0_pay4 (iblk m c 0 t) (iblk m c 2 t) (View.ld (iblk m c 1 t) (Rect.unit ![0, 1, 0, 0] ![1, 1, 128, 1024] inb_S1x3x128x1024_S1x1x128x1024_0_1_0_0)) (View.ld (iblk m c 1 t) (Rect.unit ![0, 0, 0, 0] ![1, 1, 128, 1024] inb_S1x3x128x1024_S1x1x128x1024_0_0_0_0)) (iblk m c 3 t))

/-- What the body leaves in the values' buffer is the pass's. -/
theorem left9_at (t : Fin cfg0.N) (y : S512x128.Idx) : left9 m c t y = Pre.vG (inpK m c) y := by
  rw [ix_two y]
  exact (blk m c t).v_eq _ _

/-- What the call writes back to the values. -/
theorem flushed9_eq (t : Fin cfg0.N) (_hf : (cfg0.win 9).flush t = true) :
    (dats m 0 c).flushed 9 t = ((cfg0.win 9).blk t).view.read (Elt Ideal) (Pre.vG (inpK m c)) := by
  rw [flushed9_A, out9_eq]
  funext y
  refine Eq.trans (b := left9 m c t y) rfl (Eq.trans ?_ (rfl : Pre.vG (inpK m c) (((cfg0.win 9).blk t).view.emb y) = _))
  refine (left9_at m c t y).trans ?_
  rw [ix_two y]
  exact (emb9 (Pre.vG (inpK m c)) t _ _).symm

/-- Every index of the values is written back. -/
theorem cover9 (i : S512x128.Idx) :
    ∃ t : Fin cfg0.N, (cfg0.win 9).flush t = true ∧ i ∈ ((cfg0.win 9).blk t).view.set := by
  have ht : 0 < cfg0.N := lt_of_lt_of_eq Nat.one_pos N_0.symm
  refine ⟨⟨0, ht⟩, flush0_9 _, ?_⟩
  have e := emb9 id ⟨0, ht⟩ (i 0 : Fin 512) (i 1 : Fin 128)
  exact (e.trans (ix_two i).symm) ▸ ((cfg0.win 9).blk ⟨0, ht⟩).view.emb_mem_set _

/-- The call's values are the pass's. -/
theorem arr9 : (dats m 0 c).arrAt 9 cfg0.N = Pre.vG (inpK m c) :=
  (dats m 0 c).arrAt_eq_of_cover 9 (Pre.vG (inpK m c)) (flushed9_eq m c) cover9

/-- Where the pooled rows' block stands. -/
theorem idx10 : ∀ t : Fin grid0.N, win0_10.index t = ![0, 0, 0] := by decide +kernel

/-- The pooled rows' block read through its placement. -/
theorem emb10 {α : Type} (f : S15x128x512.Idx → α) (t : Fin cfg0.N) (a : Fin 15) (b : Fin 128) (d : Fin 512) :
    f (((cfg0.win 10).blk t).view.emb (ix3 a b d)) = f (ix3 a b d) := by
  blk_ext [idx10 t]

/-- What the body leaves in the pooled rows' buffer. -/
def left10 (t : Fin cfg0.N) : S15x128x512.Idx → EReal :=
  poolF (iblk m c 0 t) (iblk m c 1 t) (iblk m c 2 t) (iblk m c 3 t) (iblk m c 4 t)

/-- What the body leaves in the pooled rows' buffer is the pass's. -/
theorem left10_at (t : Fin cfg0.N) (y : S15x128x512.Idx) : left10 m c t y = Pre.uG (inpK m c) y := by
  rw [ix_three y]
  exact (blk m c t).pool_at _ _ _

/-- What the call writes back to the pooled rows. -/
theorem flushed10_eq (t : Fin cfg0.N) (_hf : (cfg0.win 10).flush t = true) :
    (dats m 0 c).flushed 10 t = ((cfg0.win 10).blk t).view.read (Elt Ideal) (Pre.uG (inpK m c)) := by
  rw [flushed10_A, out10_eq]
  funext y
  refine Eq.trans (b := left10 m c t y) rfl (Eq.trans ?_ (rfl : Pre.uG (inpK m c) (((cfg0.win 10).blk t).view.emb y) = _))
  refine (left10_at m c t y).trans ?_
  rw [ix_three y]
  exact (emb10 (Pre.uG (inpK m c)) t _ _ _).symm

/-- Every index of the pooled rows is written back. -/
theorem cover10 (i : S15x128x512.Idx) :
    ∃ t : Fin cfg0.N, (cfg0.win 10).flush t = true ∧ i ∈ ((cfg0.win 10).blk t).view.set := by
  have ht : 0 < cfg0.N := lt_of_lt_of_eq Nat.one_pos N_0.symm
  refine ⟨⟨0, ht⟩, flush0_10 _, ?_⟩
  have e := emb10 id ⟨0, ht⟩ (i 0 : Fin 15) (i 1 : Fin 128) (i 2 : Fin 512)
  exact (e.trans (ix_three i).symm) ▸ ((cfg0.win 10).blk ⟨0, ht⟩).view.emb_mem_set _

/-- The call's pooled rows are the pass's. -/
theorem arr10 : (dats m 0 c).arrAt 10 cfg0.N = Pre.uG (inpK m c) :=
  (dats m 0 c).arrAt_eq_of_cover 10 (Pre.uG (inpK m c)) (flushed10_eq m c) cover10

end Cert.Kernel4Ideal.Value
-- ==== Proof.PreRef.lean ====
/-
  The reference of the samples' pass before a pooling mixer: its results, at an index, are the pass's mathematics.
-/
module
public import proofs.«01_k».proof.Proof.Pre
public import proofs.«01_k».proof.Proof.Gen.Reference4Ideal.Run
public import Idealize.ShloMosaic.Lib.Pointwise
public import Idealize.ShloMosaic.Lib.Claim
@[expose] public section
set_option maxRecDepth 16384
noncomputable section
namespace Cert.Reference4Ideal.Value
open Idealize.ShloMosaic Idealize.ShloMosaic.TcCoe Idealize.SL.Sem Cert.Reference4Ideal.Gen
open Cert.Pre (Inp)

/-- The joint projection of the normalised and modulated rows, as an array. -/
def projA (x0 : FVec Ideal S128x1x1024 .f32) (x1 : FVec Ideal S3x128x1024 .f32) (x2 : FVec Ideal S2x3x1024 .f32)
    (x3 : FVec Ideal S1x1024x2048 .f32) : FVec Ideal S128x1x2048 .f32 :=
  Host.dotGeneral dot_S128x1x1024_S1024x2048_S128x1x2048_2_0_01_1_n_n none (addf (mulf (mulf (mulf x0 (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf x0 x0) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ (extractStridedSlice S1x1x1024 ![0, 1, 0] x2 slices_S2x3x1024_S1x1x1024_0_1_0) shapeCasts_S1x1x1024_S1024)))) (addf (broadcastInDim S128x1x1024 ![] bcast_S_S128x1x1024 (constant S_ .f32 0x3F800000#32)) (broadcastInDim S128x1x1024 ![0, 2] bcast_S128x1024_S128x1x1024_0_2 (shapeCast _ (extractStridedSlice S128x1x1024 ![0, 1, 0] (transpose S128x3x1024 [1, 0, 2] x1 transposes_S3x128x1024_S128x3x1024_1_0_2) slices_S128x3x1024_S128x1x1024_0_1_0) shapeCasts_S128x1x1024_S128x1024)))) (broadcastInDim S128x1x1024 ![0, 2] bcast_S128x1024_S128x1x1024_0_2 (shapeCast _ (extractStridedSlice S128x1x1024 ![0, 0, 0] (transpose S128x3x1024 [1, 0, 2] x1 transposes_S3x128x1024_S128x3x1024_1_0_2) slices_S128x3x1024_S128x1x1024_0_0_0) shapeCasts_S128x1x1024_S128x1024))) (shapeCast _ x3 shapeCasts_S1x1024x2048_S1024x2048)

/-- The scaled queries from the projection, as an array. -/
def qA (P0 : FVec Ideal S128x1x2048 .f32) : FVec Ideal S128x512 .f32 := mulf (shapeCast _ (extractStridedSlice S128x1x512 ![0, 0, 0] P0 slices_S128x1x2048_S128x1x512_0_0_0) shapeCasts_S128x1x512_S128x512) (broadcastInDim S128x512 ![] bcast_S_S128x512 (constant S_ .f32 0x3E000000#32))

/-- The keys from the projection, as an array. -/
def kA (P0 : FVec Ideal S128x1x2048 .f32) : FVec Ideal S512x128 .f32 := transpose S512x128 [1, 0] (shapeCast _ (extractStridedSlice S128x1x512 ![0, 0, 512] P0 slices_S128x1x2048_S128x1x512_0_0_512) shapeCasts_S128x1x512_S128x512) transposes_S128x512_S512x128_1_0

/-- The values from the projection, as an array. -/
def vA (P0 : FVec Ideal S128x1x2048 .f32) : FVec Ideal S512x128 .f32 := transpose S512x128 [1, 0] (shapeCast _ (extractStridedSlice S128x1x512 ![0, 0, 1024] P0 slices_S128x1x2048_S128x1x512_0_0_1024) shapeCasts_S128x1x512_S128x512) transposes_S128x512_S512x128_1_0

/-- The pooled rows to keep, from the history and the projection, as an array. -/
def uA (x4 : FVec Ideal S1x128x15x512 .f32) (P0 : FVec Ideal S128x1x2048 .f32) : FVec Ideal S15x128x512 .f32 :=
  transpose S15x128x512 [1, 0, 2] (extractStridedSlice S128x15x512 ![0, 1, 0] (concatenate S128x16x512 1 [⟨S128x15x512, (shapeCast _ x4 shapeCasts_S1x128x15x512_S128x15x512)⟩, ⟨S128x1x512, (extractStridedSlice S128x1x512 ![0, 0, 1536] P0 slices_S128x1x2048_S128x1x512_0_0_1536)⟩] concatenates_S128x15x512_S128x1x512_S128x16x512_d1) slices_S128x16x512_S128x15x512_0_1_0) transposes_S128x15x512_S15x128x512_1_0_2

variable (m : (ℓ : Loc nD τ sig) → Buf (Elt Ideal) ℓ) (c : Dev nD)

/-- The pass's inputs of device `c`, from the reference's arguments. -/
def inp : Inp :=
  Inp.of (m (c, Proc.devRef .tc main_arg0)) (m (c, Proc.devRef .tc main_arg1)) (m (c, Proc.devRef .tc main_arg2))
    (m (c, Proc.devRef .tc main_arg3)) (m (c, Proc.devRef .tc main_arg4))

/-- The joint projection of this run. -/
def projM : FVec Ideal S128x1x2048 .f32 :=
  projA (m (c, Proc.devRef .tc main_arg0)) (m (c, Proc.devRef .tc main_arg1)) (m (c, Proc.devRef .tc main_arg2))
    (m (c, Proc.devRef .tc main_arg3))

/-- The pooled rows to keep of this run. -/
def uM : FVec Ideal S15x128x512 .f32 := uA (m (c, Proc.devRef .tc main_arg4)) (projM m c)

set_option maxHeartbeats 4000000 in
/-- The joint projection at an index. -/
theorem projM_at (r : Fin 128) (l : Fin 2048) : projM m c (ix3 r 0 l) = Pre.P (inp m c) r l := by
  pointwise [projM, projA]
  rfl

set_option maxHeartbeats 4000000 in
/-- The queries at an index. -/
theorem q_at (r : Fin 128) (l : Fin 512) : qA (projM m c) (ix2 r l) = Pre.Q (inp m c) r l := by
  unfold Pre.Q
  rw [← projM_at]
  pointwise [qA]
  try rfl

set_option maxHeartbeats 4000000 in
/-- The keys at an index. -/
theorem k_at (l : Fin 512) (r : Fin 128) : kA (projM m c) (ix2 l r) = Pre.K (inp m c) l r := by
  unfold Pre.K
  rw [← projM_at]
  pointwise [kA]
  try rfl

set_option maxHeartbeats 4000000 in
/-- The values at an index. -/
theorem v_at (l : Fin 512) (r : Fin 128) : vA (projM m c) (ix2 l r) = Pre.V (inp m c) l r := by
  unfold Pre.V
  rw [← projM_at]
  pointwise [vA]
  try rfl

set_option maxHeartbeats 4000000 in
/-- The pooled rows to keep at an index. -/
theorem u_at (j : Fin 15) (r : Fin 128) (l : Fin 512) : uM m c (ix3 j r l) = Pre.U' (inp m c) j r l := by
  unfold Pre.U'
  rw [← projM_at]
  pointwise [uM, uA]
  split
  · rfl
  · congr 2
    exact Subsingleton.elim (α := Fin 1) _ _

/-- The reference's queries are the pass's. -/
theorem q_arr : qA (projM m c) = Pre.qG (inp m c) := by
  refine funext fun j => ?_
  have e : j = ix2 (j 0 : Fin 128) (j 1 : Fin 512) := by
    funext a; match a with
    | ⟨0, _⟩ => rfl
    | ⟨1, _⟩ => rfl
  rw [e]
  exact q_at m c _ _

/-- The reference's keys are the pass's. -/
theorem k_arr : kA (projM m c) = Pre.kG (inp m c) := by
  refine funext fun j => ?_
  have e : j = ix2 (j 0 : Fin 512) (j 1 : Fin 128) := by
    funext a; match a with
    | ⟨0, _⟩ => rfl
    | ⟨1, _⟩ => rfl
  rw [e]
  exact k_at m c _ _

/-- The reference's values are the pass's. -/
theorem v_arr : vA (projM m c) = Pre.vG (inp m c) := by
  refine funext fun j => ?_
  have e : j = ix2 (j 0 : Fin 512) (j 1 : Fin 128) := by
    funext a; match a with
    | ⟨0, _⟩ => rfl
    | ⟨1, _⟩ => rfl
  rw [e]
  exact v_at m c _ _

/-- The reference's pooled rows are the pass's. -/
theorem u_arr : uM m c = Pre.uG (inp m c) := by
  refine funext fun j => ?_
  have e : j = ix3 (j 0 : Fin 15) (j 1 : Fin 128) (j 2 : Fin 512) := by
    funext a; match a with
    | ⟨0, _⟩ => rfl
    | ⟨1, _⟩ => rfl
    | ⟨2, _⟩ => rfl
  rw [e]
  exact u_at m c _ _ _

/-- The run, with its results named and its arguments kept. -/
theorem run_named (ρ : Dev nD → PrngReg) :
    θ_run defs (onTc (τ := τ) (main (F := Ideal))) ⟨m, fun _ => 0, ρ⟩ fun r => ∀ c : Dev nD,
      r.2.mem (c, Proc.devRef .tc main_v36) = Pre.qG (inp m c)
      ∧ r.2.mem (c, Proc.devRef .tc main_v38) = Pre.kG (inp m c)
      ∧ r.2.mem (c, Proc.devRef .tc main_v40) = Pre.vG (inp m c)
      ∧ r.2.mem (c, Proc.devRef .tc main_v42) = Pre.uG (inp m c) :=
  (θ_run _ _ _).mono (fun _ h c =>
      ⟨Eq.trans (b := qA (projM m c)) (h c).1 (q_arr m c), Eq.trans (b := kA (projM m c)) (h c).2.1 (k_arr m c),
        Eq.trans (b := vA (projM m c)) (h c).2.2.1 (v_arr m c), Eq.trans (b := uM m c) (h c).2.2.2.1 (u_arr m c)⟩)
    (run m ρ)

end Cert.Reference4Ideal.Value
-- ==== Proof.KeptMath.lean ====
/-
  From a call's own inputs to what the samples' trunk keeps: the modulation, the first feed-forward sublayer on it, and the
  pass before the pooling mixer on its result.
-/
module
public import proofs.«01_k».proof.Proof.Pre
public import proofs.«01_k».proof.Proof.Ffn
@[expose] public section
noncomputable section
namespace Cert.Kept
open Idealize.ShloMosaic

/-- The arrays that the chain reads. -/
structure Args where
  /-- the hidden states -/
  x : (⟨3, ![128, 1, 1024]⟩ : Shape).Idx → EReal
  /-- the conditioning -/
  cs : (⟨2, ![128, 1024]⟩ : Shape).Idx → EReal
  /-- the modulation's projection -/
  w : (⟨3, ![2, 1024, 9216]⟩ : Shape).Idx → EReal
  /-- the modulation's bias -/
  b : (⟨2, ![2, 9216]⟩ : Shape).Idx → EReal
  /-- the weights of the norms before a sublayer -/
  gp : (⟨3, ![2, 3, 1024]⟩ : Shape).Idx → EReal
  /-- the weights of the norms after a sublayer -/
  gq : (⟨3, ![2, 3, 1024]⟩ : Shape).Idx → EReal
  /-- the feed-forward sublayers' joint projections -/
  wi : (⟨4, ![2, 2, 1024, 5632]⟩ : Shape).Idx → EReal
  /-- the feed-forward sublayers' output projections -/
  wo : (⟨4, ![2, 2, 2816, 1024]⟩ : Shape).Idx → EReal
  /-- the mixer's joint projection -/
  we : (⟨3, ![1, 1024, 2048]⟩ : Shape).Idx → EReal
  /-- the last fifteen pooled rows of each sample -/
  u : (⟨4, ![1, 128, 15, 512]⟩ : Shape).Idx → EReal

/-- The modulation of layer `l`, vector `j` of nine, of sample `r`. -/
def modAt (a : Args) (l : Fin 2) (j : Fin 9) (r : Fin 128) (n : Fin 1024) : EReal :=
  (∑ x : Fin 1024, Ret.silu (a.cs (ix2 r x)) * a.w (ix3 l x ⟨j.val * 1024 + n.val, by omega⟩))
    + a.b (ix2 l ⟨j.val * 1024 + n.val, by omega⟩)

/-- The modulation, as an array. -/
def modG (a : Args) : (⟨4, ![2, 9, 128, 1024]⟩ : Shape).Idx → EReal := fun i => modAt a (i 0) (i 1) (i 2) (i 3)

/-- The first feed-forward sublayer's inputs: the first three vectors of layer 0's modulation. -/
def ffn (a : Args) : Ffn.Inp 128 1 where
  X r t n := a.x (ix3 r t n)
  M r i n := modAt a 0 ⟨i.val, by omega⟩ r n
  GP n := a.gp (ix3 0 0 n)
  GQ n := a.gq (ix3 0 0 n)
  WI n c := a.wi (ix4 0 0 n c)
  WO j n := a.wo (ix4 0 0 j n)

/-- The inputs of the pass before the mixer: the sublayer's result and the next three vectors. -/
def pre (a : Args) : Pre.Inp where
  X r n := Ffn.out (ffn a) r 0 n
  M s r n := modAt a 0 ⟨3 + s.val, by omega⟩ r n
  G n := a.gp (ix3 0 1 n)
  W n l := a.we (ix3 0 n l)
  U r j l := a.u (ix4 0 r j l)

end Cert.Kept
-- ==== Proof.KeptMod.lean ====
/-
  The modulation's call over the samples: what a grid point reads, what it writes back, and the array that the call leaves.
-/
module
public import proofs.«01_k».proof.Proof.KeptMath
public import proofs.«01_k».proof.Proof.Gen.Kernel5Ideal.Frame
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel5Ideal.Value
open Idealize.ShloMosaic Idealize.ShloMosaic.TcCoe Idealize.SL.Sem Cert.Kernel5Ideal.Gen
open Idealize.ShloMosaic.StableHlo
open Idealize.ShloMosaic.Pipeline (Dat)

variable (m : (ℓ : Loc nD τ sig) → Buf (Elt Ideal) ℓ) (ρ : Dev nD → PrngReg) (c : Dev nD)

/-- The arrays that the chain reads, from the kernel's arguments of device `c`. -/
def args : Kept.Args where
  x := m (c, Proc.devRef .tc main_arg0)
  cs := m (c, Proc.devRef .tc main_arg2)
  w := m (c, Proc.devRef .tc main_arg3)
  b := m (c, Proc.devRef .tc main_arg4)
  gp := m (c, Proc.devRef .tc main_arg5)
  gq := m (c, Proc.devRef .tc main_arg6)
  wi := m (c, Proc.devRef .tc main_arg7)
  wo := m (c, Proc.devRef .tc main_arg8)
  we := m (c, Proc.devRef .tc main_arg9)
  u := m (c, Proc.devRef .tc main_arg10)

/-! ### One block -/

set_option maxHeartbeats 4000000 in
/-- The block's stored rows are the modulation's. -/
theorem mod_block (a : Kept.Args) (l : Fin 2) (j : Fin 9) {x1 : Vec Ideal S128x1024 .f32} {x2 : Vec Ideal S1x1024x1024 .f32}
    {x3 : Vec Ideal S1x1x1x1024 .f32} (h1 : ∀ (r : Fin 128) (k : Fin 1024), x1 (ix2 r k) = a.cs (ix2 r k))
    (h2 : ∀ (k n : Fin 1024), x2 (ix3 0 k n) = a.w (ix3 l k ⟨j.val * 1024 + n.val, by omega⟩))
    (h3 : ∀ n : Fin 1024, x3 (ix4 0 0 0 n) = a.b (ix2 l ⟨j.val * 1024 + n.val, by omega⟩)) (r : Fin 128) (n : Fin 1024) :
    k0_pay4 (View.ld x2 r0_0) (View.ld x3 r0_1) (View.ld x1 r0_4) (ix4 0 0 r n) = Kept.modAt a l j r n := by
  unfold Kept.modAt Ret.silu
  simp only [← h1, ← h2, ← h3]
  pointwise [k0_pay4, k0_pay1, k0_pay2]
  try rfl

/-! ### What the grid points read -/

/-- A point's layer. -/
def lay (t : Fin cfg0.N) : Fin 2 := ⟨t.val / 9, by have h := lt_of_lt_of_eq t.isLt N_0; omega⟩

/-- A point's vector. -/
def vec (t : Fin cfg0.N) : Fin 9 := ⟨t.val % 9, Nat.mod_lt _ (by decide)⟩

/-- Where the conditioning's block stands at a point. -/
theorem idx0_1 : ∀ t : Fin grid0.N, win0_1.index t = ![0, 0] := by decide +kernel
/-- Where the projection's block stands at a point. -/
theorem idx0_2 : ∀ t : Fin grid0.N, win0_2.index t = ![t.val / 9, 0, t.val % 9] := by decide +kernel
/-- Where the bias's block stands at a point. -/
theorem idx0_3 : ∀ t : Fin grid0.N, win0_3.index t = ![t.val / 9, t.val % 9, 0, 0] := by decide +kernel
/-- Where the result's block stands at a point. -/
theorem idx0_5 : ∀ t : Fin grid0.N, win0_5.index t = ![t.val / 9, t.val % 9, 0, 0] := by decide +kernel

/-- The conditioning's block, at an index. -/
theorem rd0_1 (t : Fin cfg0.N) (r : Fin 128) (k : Fin 1024) :
    iblk0 (V1 m ρ) c 1 t (ix2 r k) = V1 m ρ c main_arg2 (ix2 r k) := by
  blk_point [iblk0, idx0_1 t]

/-- The projection's block, at an index. -/
theorem rd0_2 (t : Fin cfg0.N) (k n : Fin 1024) :
    iblk0 (V1 m ρ) c 2 t (ix3 0 k n) = V1 m ρ c main_arg3 (ix3 (lay t) k ⟨(vec t).val * 1024 + n.val, by omega⟩) := by
  blk_point [iblk0, idx0_2 t, lay, vec]

/-- The bias's block, at an index. -/
theorem rd0_3 (t : Fin cfg0.N) (n : Fin 1024) :
    iblk0 (V1 m ρ) c 3 t (ix4 0 0 0 n) = V1 m ρ c main_v0 (ix4 (lay t) (vec t) 0 n) := by
  blk_point [iblk0, idx0_3 t, lay, vec]

/-- The bias's array, at an index: the bias with its columns parted by vector. -/
theorem ar0_3 (l : Fin 2) (j : Fin 9) (n : Fin 1024) :
    V1 m ρ c main_v0 (ix4 l j 0 n) = (args m c).b (ix2 l ⟨j.val * 1024 + n.val, by omega⟩) := by
  show StableHlo.after hostOps0 (W0 m ρ c) (Proc.devRef .tc main_v0) (ix4 l j 0 n) = _
  after_reads_at
  rfl

/-! ### What the call leaves -/

/-- An index of a result block. -/
theorem ix_mod (y : S1x1x128x1024.Idx) : y = ix4 (0 : Fin 1) (0 : Fin 1) (y 2 : Fin 128) (y 3 : Fin 1024) := by
  funext a; match a with
  | ⟨0, _⟩ => exact Subsingleton.elim (α := Fin 1) _ _
  | ⟨1, _⟩ => exact Subsingleton.elim (α := Fin 1) _ _
  | ⟨2, _⟩ => rfl
  | ⟨3, _⟩ => rfl

/-- A result block read through its placement. -/
theorem emb0_5 {α : Type} (f : S2x9x128x1024.Idx → α) (t : Fin cfg0.N) (r : Fin 128) (n : Fin 1024) :
    f (((cfg0.win 5).blk t).view.emb (ix4 (0 : Fin 1) (0 : Fin 1) r n)) = f (ix4 (lay t) (vec t) r n) := by
  blk_ext [idx0_5 t, lay, vec]

/-- What the body leaves in the result's buffer at a point. -/
def left0_5 (t : Fin cfg0.N) : S1x1x128x1024.Idx → EReal :=
  out0_5 (F := Ideal) (iblk0 (V1 m ρ) c 0 t) (iblk0 (V1 m ρ) c 1 t) (iblk0 (V1 m ρ) c 2 t) (iblk0 (V1 m ρ) c 3 t)

/-- A buffer stored whole holds what was stored. -/
theorem mod_whole (p : Vec Ideal S1x1x128x1024 .f32) (r : Fin 128) (n : Fin 1024) :
    View.canon (Val := Elt Ideal) [⟨r0_5, p⟩] (ix4 0 0 r n) = p (ix4 0 0 r n) :=
  congrFun (View.canon_cons_unit_lit inb_S1x1x128x1024_S1x1x128x1024_0_0_0_0 p [] (by decide)) _

/-- The rows that the body leaves are the modulation's. -/
theorem left0_5_at (t : Fin cfg0.N) (r : Fin 128) (n : Fin 1024) :
    left0_5 m ρ c t (ix4 0 0 r n) = Kept.modAt (args m c) (lay t) (vec t) r n := by
  unfold left0_5 out0_5
  refine (mod_whole _ r n).trans (mod_block (args m c) (lay t) (vec t) (fun r k => ?_) (fun k n => ?_) (fun n => ?_) r n)
  · exact (rd0_1 m ρ c t r k).trans (congrFun (W1_args m ρ c main_arg2 (by decide)) _)
  · exact (rd0_2 m ρ c t k n).trans (congrFun (W1_args m ρ c main_arg3 (by decide)) _)
  · exact (rd0_3 m ρ c t n).trans (ar0_3 m ρ c _ _ n)

/-- What a point writes back, as the body leaves it. -/
theorem flushed0_5 (t : Fin cfg0.N) : (dat0 (V1 m ρ) c).flushed 5 t = (cfg0.win 5).cut (grid0.coords t) (left0_5 m ρ c t) := by
  show (cfg0.win 5).cut (grid0.coords t) ((dat0 (V1 m ρ) c).after 5 t) = _
  rw [after0_5]
  rfl

/-- What a point writes back to the result. -/
theorem flushed0_5_eq (t : Fin cfg0.N) (_hf : (cfg0.win 5).flush t = true) :
    (dat0 (V1 m ρ) c).flushed 5 t = ((cfg0.win 5).blk t).view.read (Elt Ideal) (Kept.modG (args m c)) := by
  rw [flushed0_5]
  funext y
  have hy := ix_mod y
  refine Eq.trans (b := left0_5 m ρ c t y) rfl (Eq.trans ?_ (rfl : Kept.modG (args m c) (((cfg0.win 5).blk t).view.emb y) = _))
  rw [hy]
  refine (left0_5_at m ρ c t _ _).trans ?_
  exact (emb0_5 (Kept.modG (args m c)) t _ _).symm

/-- A point's result block holds its layer's and vector's rows. -/
theorem mem0_5 (t : Fin cfg0.N) (r : Fin 128) (n : Fin 1024) :
    (ix4 (lay t) (vec t) r n : S2x9x128x1024.Idx) ∈ ((cfg0.win 5).blk t).view.set := by
  have e : ((cfg0.win 5).blk t).view.emb (ix4 (0 : Fin 1) (0 : Fin 1) r n) = ix4 (lay t) (vec t) r n := emb0_5 id t r n
  exact e ▸ ((cfg0.win 5).blk t).view.emb_mem_set (ix4 (0 : Fin 1) (0 : Fin 1) r n)

/-- Every layer and vector has its point. -/
theorem point_of (l : Fin 2) (j : Fin 9) : ∃ t : Fin cfg0.N, lay t = l ∧ vec t = j :=
  ⟨⟨l.val * 9 + j.val, lt_of_lt_of_eq (by omega) N_0.symm⟩, Fin.ext (show (l.val * 9 + j.val) / 9 = l.val by omega),
    Fin.ext (show (l.val * 9 + j.val) % 9 = j.val by omega)⟩

/-- An index of the result, by its coordinates. -/
theorem ix_four (i : S2x9x128x1024.Idx) : i = ix4 (i 0 : Fin 2) (i 1 : Fin 9) (i 2 : Fin 128) (i 3 : Fin 1024) := by
  funext a; match a with
  | ⟨0, _⟩ => rfl
  | ⟨1, _⟩ => rfl
  | ⟨2, _⟩ => rfl
  | ⟨3, _⟩ => rfl

/-- Every index of the result is in the block of a point that writes it back. -/
theorem cov0_5 (i : S2x9x128x1024.Idx) :
    ∃ t : Fin cfg0.N, (cfg0.win 5).flush t = true ∧ i ∈ ((cfg0.win 5).blk t).view.set := by
  obtain ⟨t, hl, hj⟩ := point_of (i 0) (i 1)
  refine ⟨t, flush0_5 t, ?_⟩
  have h := mem0_5 t (i 2) (i 3)
  rw [hl, hj] at h
  rw [ix_four i]
  exact h

/-- The call's result is the modulation. -/
theorem arr0_5 : (dat0 (V1 m ρ) c).arrAt 5 cfg0.N = Kept.modG (args m c) :=
  (dat0 (V1 m ρ) c).arrAt_eq_of_cover 5 (Kept.modG (args m c)) (flushed0_5_eq m ρ c) cov0_5

/-- The modulation, as the host reads it after the call. -/
theorem W2_mod : W2 m ρ c (Proc.devRef .tc main_v1_1) = Kept.modG (args m c) := (W2_arr m ρ c 5).trans (arr0_5 m ρ c)

end Cert.Kernel5Ideal.Value
-- ==== Proof.KeptFfn.lean ====
/-
  The first feed-forward call over the samples, entered with the modulation's result: what a grid point reads, what it
  writes back, and the array that the call leaves.
-/
module
public import proofs.«01_k».proof.Proof.KeptMod
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel5Ideal.Value.Rows
open Idealize.ShloMosaic Idealize.ShloMosaic.TcCoe Idealize.SL.Sem Cert.Kernel5Ideal.Gen
open Idealize.ShloMosaic.StableHlo
open Idealize.ShloMosaic.Pipeline (Dat)
open Cert.Ffn (Inp)

/-! ### One block -/

/-- A block's operands, read against the sublayer's inputs. -/
structure Blk (I : Inp 128 1) (x0 : Vec Ideal S1x128x1024 .f32)
    (x1 : Vec Ideal S1x3x128x1024 .f32) (x2 x3 : Vec Ideal S1x1024 .f32) (x4 : Vec Ideal S1x1x1024x5632 .bf16)
    (x5 : Vec Ideal S1x1x2816x1024 .bf16) : Prop where
  rows : ∀ (r : Fin 128) (k : Fin 1024), x0 (ix3 0 r k) = I.X r 0 k
  mods : ∀ (s : Fin 3) (r : Fin 128) (k : Fin 1024), x1 (ix4 0 s r k) = I.M r s k
  pre : ∀ k : Fin 1024, x2 (ix2 0 k) = I.GP k
  post : ∀ k : Fin 1024, x3 (ix2 0 k) = I.GQ k
  win : ∀ (k : Fin 1024) (l : Fin 5632), x4 (ix4 0 0 k l) = I.WI k l
  wout : ∀ (k : Fin 2816) (l : Fin 1024), x5 (ix4 0 0 k l) = I.WO k l

section block
variable {I : Inp 128 1} {x0 : Vec Ideal S1x128x1024 .f32}
    {x1 : Vec Ideal S1x3x128x1024 .f32} {x2 x3 : Vec Ideal S1x1024 .f32} {x4 : Vec Ideal S1x1x1024x5632 .bf16}
    {x5 : Vec Ideal S1x1x2816x1024 .bf16} (B : Blk I x0 x1 x2 x3 x4 x5)

/-- The block's gated lanes. -/
def aF (x0 : Vec Ideal S1x128x1024 .f32) (x1 : Vec Ideal S1x3x128x1024 .f32) (x2 : Vec Ideal S1x1024 .f32)
    (x4 : Vec Ideal S1x1x1024x5632 .bf16) : FVec Ideal S128x2816 .bf16 :=
  k1_pay3 (View.ld x0 r1_0) (View.ld x2 r1_1) (View.ld x1 r1_2) (View.ld x1 r1_3) (View.ld x4 r1_4)

include B

set_option maxHeartbeats 4000000 in
/-- The block's gated lanes are the sublayer's. -/
theorem Blk.a_eq (r : Fin 128) (j : Fin 2816) : aF x0 x1 x2 x4 (ix2 r j) = Ffn.A I r 0 j := by
  unfold Ffn.A Ffn.P Ffn.H Ret.rinv Ret.silu
  simp only [← B.rows, ← B.mods, ← B.pre, ← B.win]
  pointwise [aF, k1_pay3, k1_pay2]
  try rfl

set_option maxHeartbeats 4000000 in
/-- The block's stored rows are the sublayer's result. -/
theorem Blk.out_eq (r : Fin 128) (k : Fin 1024) :
    k1_pay1 (k1_pay2 (View.ld x0 r1_0)) (aF x0 x1 x2 x4) (View.ld x5 r1_5) (View.ld x1 r1_6) (View.ld x3 r1_1) (ix3 0 r k)
      = Ffn.out I r 0 k := by
  unfold Ffn.out Ret.rinv Ffn.Y
  simp only [← B.rows, ← B.mods, ← B.post, ← B.wout, ← B.a_eq]
  pointwise [k1_pay1, k1_pay2]
  try rfl

end block

/-! ### What the grid points read -/

variable (m : (ℓ : Loc nD τ sig) → Buf (Elt Ideal) ℓ) (ρ : Dev nD → PrngReg) (c : Dev nD)

/-- Where window 0's block stands at a point. -/
theorem idx0 : ∀ t : Fin grid1.N, win1_0.index t = ![0, 0, 0] := by decide +kernel
/-- Where window 1's block stands at a point. -/
theorem idx1 : ∀ t : Fin grid1.N, win1_1.index t = ![0, 0, 0, 0] := by decide +kernel
/-- Where window 2's block stands at a point. -/
theorem idx2 : ∀ t : Fin grid1.N, win1_2.index t = ![0, 0] := by decide +kernel
/-- Where window 3's block stands at a point. -/
theorem idx3 : ∀ t : Fin grid1.N, win1_3.index t = ![0, 0] := by decide +kernel
/-- Where window 4's block stands at a point. -/
theorem idx4 : ∀ t : Fin grid1.N, win1_4.index t = ![0, 0, 0, 0] := by decide +kernel
/-- Where window 5's block stands at a point. -/
theorem idx5 : ∀ t : Fin grid1.N, win1_5.index t = ![0, 0, 0, 0] := by decide +kernel
/-- Where the result window's block stands at a point. -/
theorem idx6 : ∀ t : Fin grid1.N, win1_6.index t = ![0, 0, 0] := by decide +kernel

/-- Window 0's block, at an index. -/
theorem rd0 (t : Fin cfg1.N) (r : Fin 128) (k : Fin 1024) : iblk1 (V3 m ρ) c 0 t (ix3 0 r k) = V3 m ρ c main_v3 (ix3 0 r k) := by
  blk_point [iblk1, idx0 t]

/-- Window 1's block, at an index. -/
theorem rd1 (t : Fin cfg1.N) (s : Fin 3) (r : Fin 128) (k : Fin 1024) : iblk1 (V3 m ρ) c 1 t (ix4 0 s r k) = V3 m ρ c main_v6 (ix4 0 s r k) := by
  blk_point [iblk1, idx1 t]

/-- Window 2's block, at an index. -/
theorem rd2 (t : Fin cfg1.N) (k : Fin 1024) : iblk1 (V3 m ρ) c 2 t (ix2 0 k) = V3 m ρ c main_v9 (ix2 0 k) := by
  blk_point [iblk1, idx2 t]

/-- Window 3's block, at an index. -/
theorem rd3 (t : Fin cfg1.N) (k : Fin 1024) : iblk1 (V3 m ρ) c 3 t (ix2 0 k) = V3 m ρ c main_v12 (ix2 0 k) := by
  blk_point [iblk1, idx3 t]

/-- Window 4's block, at an index. -/
theorem rd4 (t : Fin cfg1.N) (k : Fin 1024) (l : Fin 5632) : iblk1 (V3 m ρ) c 4 t (ix4 0 0 k l) = V3 m ρ c main_v13 (ix4 0 0 k l) := by
  blk_point [iblk1, idx4 t]

/-- Window 5's block, at an index. -/
theorem rd5 (t : Fin cfg1.N) (k : Fin 2816) (l : Fin 1024) : iblk1 (V3 m ρ) c 5 t (ix4 0 0 k l) = V3 m ρ c main_v14 (ix4 0 0 k l) := by
  blk_point [iblk1, idx5 t]

set_option maxHeartbeats 4000000 in
/-- The array window 0 reads, at an index: the samples' rows. -/
theorem ar0 (r : Fin 128) (k : Fin 1024) : V3 m ρ c main_v3 (ix3 0 r k) = (Kept.ffn (args m c)).X r 0 k := by
  show StableHlo.after hostOps1 (W2 m ρ c) (Proc.devRef .tc main_v3) (ix3 0 r k) = _
  after_reads_at
  exact congrFun (W2_args m ρ c main_arg0 (by decide)) _

set_option maxHeartbeats 4000000 in
/-- The array window 1 reads, at an index. -/
theorem ar1 (s : Fin 3) (r : Fin 128) (k : Fin 1024) : V3 m ρ c main_v6 (ix4 0 s r k) = (Kept.ffn (args m c)).M r s k := by
  show StableHlo.after hostOps1 (W2 m ρ c) (Proc.devRef .tc main_v6) (ix4 0 s r k) = _
  after_reads_at
  exact congrFun (W2_mod m ρ c) _

set_option maxHeartbeats 4000000 in
/-- The array window 2 reads, at an index. -/
theorem ar2 (k : Fin 1024) : V3 m ρ c main_v9 (ix2 0 k) = (Kept.ffn (args m c)).GP k := by
  show StableHlo.after hostOps1 (W2 m ρ c) (Proc.devRef .tc main_v9) (ix2 0 k) = _
  after_reads_at
  exact congrFun (W2_args m ρ c main_arg5 (by decide)) _

set_option maxHeartbeats 4000000 in
/-- The array window 3 reads, at an index. -/
theorem ar3 (k : Fin 1024) : V3 m ρ c main_v12 (ix2 0 k) = (Kept.ffn (args m c)).GQ k := by
  show StableHlo.after hostOps1 (W2 m ρ c) (Proc.devRef .tc main_v12) (ix2 0 k) = _
  after_reads_at
  exact congrFun (W2_args m ρ c main_arg6 (by decide)) _

set_option maxHeartbeats 4000000 in
/-- The array window 4 reads, at an index. -/
theorem ar4 (k : Fin 1024) (l : Fin 5632) : V3 m ρ c main_v13 (ix4 0 0 k l) = (Kept.ffn (args m c)).WI k l := by
  show StableHlo.after hostOps1 (W2 m ρ c) (Proc.devRef .tc main_v13) (ix4 0 0 k l) = _
  after_reads_at
  exact congrFun (W2_args m ρ c main_arg7 (by decide)) _

set_option maxHeartbeats 4000000 in
/-- The array window 5 reads, at an index. -/
theorem ar5 (k : Fin 2816) (l : Fin 1024) : V3 m ρ c main_v14 (ix4 0 0 k l) = (Kept.ffn (args m c)).WO k l := by
  show StableHlo.after hostOps1 (W2 m ρ c) (Proc.devRef .tc main_v14) (ix4 0 0 k l) = _
  after_reads_at
  exact congrFun (W2_args m ρ c main_arg8 (by decide)) _

/-- What point `t` reads. -/
theorem blk (t : Fin cfg1.N) : Blk (Kept.ffn (args m c)) (iblk1 (V3 m ρ) c 0 t) (iblk1 (V3 m ρ) c 1 t)
    (iblk1 (V3 m ρ) c 2 t) (iblk1 (V3 m ρ) c 3 t) (iblk1 (V3 m ρ) c 4 t) (iblk1 (V3 m ρ) c 5 t) where
  rows r k := (rd0 m ρ c t r k).trans (ar0 m ρ c r k)
  mods s r k := (rd1 m ρ c t s r k).trans (ar1 m ρ c s r k)
  pre k := (rd2 m ρ c t k).trans (ar2 m ρ c k)
  post k := (rd3 m ρ c t k).trans (ar3 m ρ c k)
  win k l := (rd4 m ρ c t k l).trans (ar4 m ρ c k l)
  wout k l := (rd5 m ρ c t k l).trans (ar5 m ρ c k l)

/-! ### What the call leaves -/

/-- An index of a result block. -/
theorem ix_out (y : S1x128x1024.Idx) : y = ix3 (0 : Fin 1) (y 1 : Fin 128) (y 2 : Fin 1024) := by
  funext a; match a with
  | ⟨0, _⟩ => exact Subsingleton.elim (α := Fin 1) _ _
  | ⟨1, _⟩ => rfl
  | ⟨2, _⟩ => rfl

/-- A result block read through its placement. -/
theorem emb6 {α : Type} (f : S1x128x1024.Idx → α) (t : Fin cfg1.N) (r : Fin 128) (k : Fin 1024) :
    f (((cfg1.win 6).blk t).view.emb (ix3 (0 : Fin 1) r k)) = f (ix3 0 r k) := by
  blk_ext [idx6 t]

/-- What the body leaves in the result's buffer at a point. -/
def left (t : Fin cfg1.N) : S1x128x1024.Idx → EReal :=
  out1_6 (F := Ideal) (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t)

/-- A buffer stored whole holds what was stored. -/
theorem whole_at (p : Vec Ideal S1x128x1024 .f32) (r : Fin 128) (k : Fin 1024) :
    View.canon (Val := Elt Ideal) [⟨r1_0, p⟩] (ix3 0 r k) = p (ix3 0 r k) :=
  congrFun (View.canon_cons_unit_lit inb_S1x128x1024_S1x128x1024_0_0_0 p [] (by decide)) _

/-- The rows that the body leaves are the sublayer's result. -/
theorem left_at (t : Fin cfg1.N) (r : Fin 128) (k : Fin 1024) :
    left m ρ c t (ix3 0 r k) = Ffn.out (Kept.ffn (args m c)) r 0 k := by
  unfold left out1_6
  exact (whole_at _ r k).trans ((blk m ρ c t).out_eq r k)

/-- What a point writes back, as the body leaves it. -/
theorem flushed6 (t : Fin cfg1.N) : (dat1 (V3 m ρ) c).flushed 6 t = (cfg1.win 6).cut (grid1.coords t) (left m ρ c t) := by
  show (cfg1.win 6).cut (grid1.coords t) ((dat1 (V3 m ρ) c).after 6 t) = _
  rw [after1_6]
  rfl

/-- What a point writes back to the result. -/
theorem flushed6_eq (t : Fin cfg1.N) (_hf : (cfg1.win 6).flush t = true) :
    (dat1 (V3 m ρ) c).flushed 6 t = ((cfg1.win 6).blk t).view.read (Elt Ideal) (Ffn.rowsG (Kept.ffn (args m c))) := by
  rw [flushed6]
  funext y
  have hy := ix_out y
  refine Eq.trans (b := left m ρ c t y) rfl (Eq.trans ?_ (rfl : Ffn.rowsG (Kept.ffn (args m c)) (((cfg1.win 6).blk t).view.emb y) = _))
  rw [hy]
  refine (left_at m ρ c t _ _).trans ?_
  exact (emb6 (Ffn.rowsG (Kept.ffn (args m c))) t _ _).symm

/-- Every index of the result is in the block of a point that writes it back. -/
theorem cover6 (i : S1x128x1024.Idx) :
    ∃ t : Fin cfg1.N, (cfg1.win 6).flush t = true ∧ i ∈ ((cfg1.win 6).blk t).view.set := by
  have ht : 0 < cfg1.N := lt_of_lt_of_eq Nat.one_pos N_1.symm
  refine ⟨⟨0, ht⟩, flush1_6 _, ?_⟩
  have e := emb6 id ⟨0, ht⟩ (i 1 : Fin 128) (i 2 : Fin 1024)
  exact (e.trans (ix_out i).symm) ▸ ((cfg1.win 6).blk ⟨0, ht⟩).view.emb_mem_set
    (ix3 (0 : Fin 1) (i 1 : Fin 128) (i 2 : Fin 1024))

/-- The call's result is the sublayer's. -/
theorem arr6 : (dat1 (V3 m ρ) c).arrAt 6 cfg1.N = Ffn.rowsG (Kept.ffn (args m c)) :=
  (dat1 (V3 m ρ) c).arrAt_eq_of_cover 6 (Ffn.rowsG (Kept.ffn (args m c))) (flushed6_eq m ρ c) cover6

/-- The sublayer's result, as the host reads it after the call. -/
theorem W4_rows : W4 m ρ c (Proc.devRef .tc main_v15) = Ffn.rowsG (Kept.ffn (args m c)) := (W4_arr m ρ c 6).trans (arr6 m ρ c)

/-- The modulation, as the host reads it after the sublayer's call. -/
theorem W4_mod : W4 m ρ c (Proc.devRef .tc main_v1_1) = Kept.modG (args m c) :=
  (W4_of m ρ c main_v1_1 (by decide +kernel)).trans ((W3_of m ρ c main_v1_1 (by decide +kernel)).trans (W2_mod m ρ c))

end Cert.Kernel5Ideal.Value.Rows
-- ==== Proof.KeptPre.lean ====
/-
  The samples' pass before the pooling mixer, entered with the feed-forward call's result: what the call reads, what it
  writes back, and the arrays that it leaves.
-/
module
public import proofs.«01_k».proof.Proof.KeptFfn
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel5Ideal.Value.Mix
open Idealize.ShloMosaic Idealize.ShloMosaic.TcCoe Idealize.SL.Sem Cert.Kernel5Ideal.Gen
open Idealize.ShloMosaic.StableHlo
open Idealize.ShloMosaic.Pipeline (Dat)
open Cert.Pre (Inp)

/-! ### What the body leaves, as its payloads -/

/-- The two pieces that the body stores in the pooled rows' buffer, last first: the new row, then the history from its
    second row on. -/
def poolL (x0 : Vec Ideal S128x1024 .f32) (x1 : Vec Ideal S1x3x128x1024 .f32) (x2 : Vec Ideal S1x1024 .f32)
    (x3 : Vec Ideal S1024x2048 .bf16) (x4 : Vec Ideal S15x128x512 .f32) : List (View.Piece (Elt Ideal) S15x128x512 .f32) :=
  [⟨Rect.unit ![14, 0, 0] ![1, 128, 512] inb_S15x128x512_S1x128x512_14_0_0, k2_pay3 (k2_pay8 (k2_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3))⟩, ⟨Rect.unit ![0, 0, 0] ![14, 128, 512] inb_S15x128x512_S14x128x512_0_0_0, k2_pay2 (View.ld x4 (Rect.unit ![1, 0, 0] ![14, 128, 512] inb_S15x128x512_S14x128x512_1_0_0))⟩]

/-- The kept pooled rows that the body stores. -/
def poolF (x0 : Vec Ideal S128x1024 .f32) (x1 : Vec Ideal S1x3x128x1024 .f32) (x2 : Vec Ideal S1x1024 .f32)
    (x3 : Vec Ideal S1024x2048 .bf16) (x4 : Vec Ideal S15x128x512 .f32) : FVec Ideal S15x128x512 .f32 :=
  View.canon (poolL x0 x1 x2 x3 x4)

/-- What the body leaves in the keys' buffer. -/
theorem out8_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out2_A_8 c arg0 harg0 arg1 harg1 arg2 harg2 arg3 harg3 arg4 harg4 arg5 harg5 arg6 harg6 arg7 harg7 arg8 harg8 arg9 harg9 arg10 harg10 arg11 harg11 x0 x1 x2 x3 x4 x5 x6 = k2_pay6 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3 := by
  frame_open
  frame_out

/-- What the body leaves in the values' buffer. -/
theorem out9_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out2_A_9 c arg0 harg0 arg1 harg1 arg2 harg2 arg3 harg3 arg4 harg4 arg5 harg5 arg6 harg6 arg7 harg7 arg8 harg8 arg9 harg9 arg10 harg10 arg11 harg11 x0 x1 x2 x3 x4 x5 x6 = k2_pay7 (k2_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3) := by
  frame_open
  frame_out

/-- What the body leaves in the pooled rows' buffer. -/
theorem out10_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S1024x2048 .bf16) (harg3 : arg3.IsWhole) (arg4 : Memref sig .tc .vmem S15x128x512 .f32) (harg4 : arg4.IsWhole) (arg5 : Memref sig .tc .vmem S4x128x128 .bf16) (harg5 : arg5.IsWhole) (arg6 : Memref sig .tc .vmem S1x512 .f32) (harg6 : arg6.IsWhole) (arg7 : Memref sig .tc .vmem S128x512 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S15x128x512 .f32) (harg10 : arg10.IsWhole) (arg11 : Memref sig .tc .vmem S128x512 .bf16) (harg11 : arg11.IsWhole)
    (x0 : Vec Ideal S128x1024 .f32) (x1 : Vec Ideal S1x3x128x1024 .f32) (x2 : Vec Ideal S1x1024 .f32) (x3 : Vec Ideal S1024x2048 .bf16) (x4 : Vec Ideal S15x128x512 .f32) (x5 : Vec Ideal S4x128x128 .bf16) (x6 : Vec Ideal S1x512 .f32) :
    out2_A_10 c arg0 harg0 arg1 harg1 arg2 harg2 arg3 harg3 arg4 harg4 arg5 harg5 arg6 harg6 arg7 harg7 arg8 harg8 arg9 harg9 arg10 harg10 arg11 harg11 x0 x1 x2 x3 x4 x5 x6 = poolF x0 x1 x2 x3 x4 := by
  frame_open
  frame_out
  rfl

/-! ### What the call reads -/

/-- The call's operands, read against the pass's inputs. -/
structure Blk (I : Inp) (x0 : Vec Ideal S128x1024 .f32) (x1 : Vec Ideal S1x3x128x1024 .f32) (x2 : Vec Ideal S1x1024 .f32)
    (x3 : Vec Ideal S1024x2048 .bf16) (x4 : Vec Ideal S15x128x512 .f32) : Prop where
  rows : ∀ (r : Fin 128) (k : Fin 1024), x0 (ix2 r k) = I.X r k
  mods : ∀ (s : Fin 3) (r : Fin 128) (k : Fin 1024), x1 (ix4 0 s r k) = I.M s r k
  norm : ∀ k : Fin 1024, x2 (ix2 0 k) = I.G k
  win : ∀ (k : Fin 1024) (l : Fin 2048), x3 (ix2 k l) = I.W k l
  hist : ∀ (j : Fin 15) (r : Fin 128) (l : Fin 512), x4 (ix3 j r l) = I.U r j l

section block
variable {I : Inp} {x0 : Vec Ideal S128x1024 .f32} {x1 : Vec Ideal S1x3x128x1024 .f32} {x2 : Vec Ideal S1x1024 .f32}
    {x3 : Vec Ideal S1024x2048 .bf16} {x4 : Vec Ideal S15x128x512 .f32} (B : Blk I x0 x1 x2 x3 x4)

/-- The body's joint projection. -/
def pF (x0 : Vec Ideal S128x1024 .f32) (x1 : Vec Ideal S1x3x128x1024 .f32) (x2 : Vec Ideal S1x1024 .f32)
    (x3 : Vec Ideal S1024x2048 .bf16) : FVec Ideal S128x2048 .f32 :=
  k2_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3

include B

set_option maxHeartbeats 4000000 in
/-- The body's joint projection is the pass's. -/
theorem Blk.p_eq (r : Fin 128) (l : Fin 2048) : pF x0 x1 x2 x3 (ix2 r l) = Pre.P I r l := by
  unfold Pre.P Pre.H Ret.rinv
  simp only [← B.rows, ← B.mods, ← B.norm, ← B.win]
  pointwise [pF, k2_pay4]
  try rfl

/-- The stored keys are the pass's. -/
theorem Blk.k_eq (l : Fin 512) (r : Fin 128) : k2_pay6 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3 (ix2 l r) = Pre.K I l r := by
  unfold Pre.K
  rw [← B.p_eq]
  pointwise [k2_pay6, pF]
  try rfl

/-- The stored values are the pass's. -/
theorem Blk.v_eq (l : Fin 512) (r : Fin 128) : k2_pay7 (k2_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3) (ix2 l r) = Pre.V I l r := by
  unfold Pre.V
  rw [← B.p_eq]
  pointwise [k2_pay7, pF]
  try rfl

/-- The new pooled row is the pass's. -/
theorem Blk.u_eq (r : Fin 128) (l : Fin 512) : k2_pay3 (k2_pay8 (k2_pay4 x0 x2 (View.ld x1 (Rect.unit ![0, 1, 0, 0] ![1, 1, 128, 1024] inb_S1x3x128x1024_S1x1x128x1024_0_1_0_0)) (View.ld x1 (Rect.unit ![0, 0, 0, 0] ![1, 1, 128, 1024] inb_S1x3x128x1024_S1x1x128x1024_0_0_0_0)) x3)) (ix3 0 r l) = Pre.P I r ⟨1536 + l, by omega⟩ := by
  rw [← B.p_eq]
  pointwise [k2_pay3, k2_pay8, pF]
  try rfl

/-- The kept pooled rows are the history's, one place on. -/
theorem Blk.h_eq (j : Fin 14) (r : Fin 128) (l : Fin 512) :
    k2_pay2 (View.ld x4 (Rect.unit ![1, 0, 0] ![14, 128, 512] inb_S15x128x512_S14x128x512_1_0_0)) (ix3 j r l)
      = I.U r ⟨1 + j, by omega⟩ l := by
  rw [← B.hist]
  pointwise [k2_pay2]
  try rfl

end block

variable (m : (ℓ : Loc nD τ sig) → Buf (Elt Ideal) ℓ) (ρ : Dev nD → PrngReg) (c : Dev nD)

/-- Where window 0's block stands. -/
theorem idx0 : ∀ t : Fin grid2.N, win2_0.index t = ![0, 0] := by decide +kernel

/-- Window 0's block, at an index. -/
theorem rd0 (t : Fin cfg2.N) (r : Fin 128) (k : Fin 1024) : iblk2 (V5 m ρ) c 0 t (ix2 r k) = V5 m ρ c main_v16 (ix2 r k) := by
  blk_point [iblk2, idx0 t]

set_option maxHeartbeats 4000000 in
/-- The array window 0 reads, at an index. -/
theorem ar0 (r : Fin 128) (k : Fin 1024) : V5 m ρ c main_v16 (ix2 r k) = (Kept.pre (args m c)).X r k := by
  show StableHlo.after hostOps2 (W4 m ρ c) (Proc.devRef .tc main_v16) (ix2 r k) = _
  after_reads_at
  exact congrFun (Rows.W4_rows m ρ c) _

/-- Where window 1's block stands. -/
theorem idx1 : ∀ t : Fin grid2.N, win2_1.index t = ![0, 0, 0, 0] := by decide +kernel

/-- Window 1's block, at an index. -/
theorem rd1 (t : Fin cfg2.N) (s : Fin 3) (r : Fin 128) (k : Fin 1024) : iblk2 (V5 m ρ) c 1 t (ix4 0 s r k) = V5 m ρ c main_v19 (ix4 0 s r k) := by
  blk_point [iblk2, idx1 t]

set_option maxHeartbeats 4000000 in
/-- The array window 1 reads, at an index. -/
theorem ar1 (s : Fin 3) (r : Fin 128) (k : Fin 1024) : V5 m ρ c main_v19 (ix4 0 s r k) = (Kept.pre (args m c)).M s r k := by
  show StableHlo.after hostOps2 (W4 m ρ c) (Proc.devRef .tc main_v19) (ix4 0 s r k) = _
  after_reads_at
  exact congrFun (Rows.W4_mod m ρ c) _

/-- Where window 2's block stands. -/
theorem idx2 : ∀ t : Fin grid2.N, win2_2.index t = ![0, 0] := by decide +kernel

/-- Window 2's block, at an index. -/
theorem rd2 (t : Fin cfg2.N) (k : Fin 1024) : iblk2 (V5 m ρ) c 2 t (ix2 0 k) = V5 m ρ c main_v22 (ix2 0 k) := by
  blk_point [iblk2, idx2 t]

set_option maxHeartbeats 4000000 in
/-- The array window 2 reads, at an index. -/
theorem ar2 (k : Fin 1024) : V5 m ρ c main_v22 (ix2 0 k) = (Kept.pre (args m c)).G k := by
  show StableHlo.after hostOps2 (W4 m ρ c) (Proc.devRef .tc main_v22) (ix2 0 k) = _
  after_reads_at
  exact congrFun (W4_args m ρ c main_arg5 (by decide)) _

/-- Where window 3's block stands. -/
theorem idx3 : ∀ t : Fin grid2.N, win2_3.index t = ![0, 0] := by decide +kernel

/-- Window 3's block, at an index. -/
theorem rd3 (t : Fin cfg2.N) (k : Fin 1024) (l : Fin 2048) : iblk2 (V5 m ρ) c 3 t (ix2 k l) = V5 m ρ c main_v24 (ix2 k l) := by
  blk_point [iblk2, idx3 t]

set_option maxHeartbeats 4000000 in
/-- The array window 3 reads, at an index. -/
theorem ar3 (k : Fin 1024) (l : Fin 2048) : V5 m ρ c main_v24 (ix2 k l) = (Kept.pre (args m c)).W k l := by
  show StableHlo.after hostOps2 (W4 m ρ c) (Proc.devRef .tc main_v24) (ix2 k l) = _
  after_reads_at
  exact congrFun (W4_args m ρ c main_arg9 (by decide)) _

/-- Where window 4's block stands. -/
theorem idx4 : ∀ t : Fin grid2.N, win2_4.index t = ![0, 0, 0] := by decide +kernel

/-- Window 4's block, at an index. -/
theorem rd4 (t : Fin cfg2.N) (j : Fin 15) (r : Fin 128) (l : Fin 512) : iblk2 (V5 m ρ) c 4 t (ix3 j r l) = V5 m ρ c main_v26 (ix3 j r l) := by
  blk_point [iblk2, idx4 t]

set_option maxHeartbeats 4000000 in
/-- The array window 4 reads, at an index. -/
theorem ar4 (j : Fin 15) (r : Fin 128) (l : Fin 512) : V5 m ρ c main_v26 (ix3 j r l) = (Kept.pre (args m c)).U r j l := by
  show StableHlo.after hostOps2 (W4 m ρ c) (Proc.devRef .tc main_v26) (ix3 j r l) = _
  after_reads_at
  exact congrFun (W4_args m ρ c main_arg10 (by decide)) _

/-- What the call reads. -/
theorem blk (t : Fin cfg2.N) : Blk (Kept.pre (args m c)) (iblk2 (V5 m ρ) c 0 t) (iblk2 (V5 m ρ) c 1 t) (iblk2 (V5 m ρ) c 2 t) (iblk2 (V5 m ρ) c 3 t) (iblk2 (V5 m ρ) c 4 t) where
  rows r k := (rd0 m ρ c t r k).trans (ar0 m ρ c r k)
  mods s r k := (rd1 m ρ c t s r k).trans (ar1 m ρ c s r k)
  norm k := (rd2 m ρ c t k).trans (ar2 m ρ c k)
  win k l := (rd3 m ρ c t k l).trans (ar3 m ρ c k l)
  hist j r l := (rd4 m ρ c t j r l).trans (ar4 m ρ c j r l)

/-! ### What the call leaves -/

/-- Two numbers as an index. -/
theorem ix_two {a b : ℕ} (y : (⟨2, ![a, b]⟩ : Shape).Idx) : y = ix2 (y 0 : Fin a) (y 1 : Fin b) := by
  funext i; match i with
  | ⟨0, _⟩ => rfl
  | ⟨1, _⟩ => rfl

/-- Three numbers as an index. -/
theorem ix_three {a b d : ℕ} (y : (⟨3, ![a, b, d]⟩ : Shape).Idx) : y = ix3 (y 0 : Fin a) (y 1 : Fin b) (y 2 : Fin d) := by
  funext i; match i with
  | ⟨0, _⟩ => rfl
  | ⟨1, _⟩ => rfl
  | ⟨2, _⟩ => rfl

/-- An index of the first piece of the pooled rows' buffer. -/
theorem emb_init (j : Fin 14) (r : Fin 128) (l : Fin 512) :
    (Rect.unit (s := S15x128x512) ![0, 0, 0] ![14, 128, 512] inb_S15x128x512_S14x128x512_0_0_0).emb (ix3 j r l)
      = (ix3 (⟨j, by omega⟩ : Fin 15) r l : S15x128x512.Idx) := by
  funext i; match i with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

/-- An index of the last piece of the pooled rows' buffer. -/
theorem emb_last (r : Fin 128) (l : Fin 512) :
    (Rect.unit (s := S15x128x512) ![14, 0, 0] ![1, 128, 512] inb_S15x128x512_S1x128x512_14_0_0).emb (ix3 (0 : Fin 1) r l)
      = (ix3 (14 : Fin 15) r l : S15x128x512.Idx) := by
  funext i; match i with
  | ⟨0, _⟩ => exact Fin.ext (by simp [Rect.emb, Rect.unit])
  | ⟨1, _⟩ => exact Fin.ext (by simp [Rect.emb, Rect.unit])
  | ⟨2, _⟩ => exact Fin.ext (by simp [Rect.emb, Rect.unit])

/-- An index of the last piece, by its coordinates. -/
theorem ix_last (y : S1x128x512.Idx) : y = ix3 (0 : Fin 1) (y 1 : Fin 128) (y 2 : Fin 512) := by
  funext i; match i with
  | ⟨0, _⟩ => exact Subsingleton.elim (α := Fin 1) _ _
  | ⟨1, _⟩ => rfl
  | ⟨2, _⟩ => rfl

/-- The first fourteen of the pooled rows' indices lie in the first piece. -/
theorem mem_init (j : Fin 15) (h : j.val < 14) (r : Fin 128) (l : Fin 512) :
    (ix3 j r l : S15x128x512.Idx) ∈ (Rect.unit (s := S15x128x512) ![0, 0, 0] ![14, 128, 512] inb_S15x128x512_S14x128x512_0_0_0).set := by
  rw [Rect.mem_set_unit]
  intro i; fin_cases i <;> simp [h]

/-- The last pooled row's indices lie in the last piece. -/
theorem mem_last (r : Fin 128) (l : Fin 512) :
    (ix3 (14 : Fin 15) r l : S15x128x512.Idx) ∈ (Rect.unit (s := S15x128x512) ![14, 0, 0] ![1, 128, 512] inb_S15x128x512_S1x128x512_14_0_0).set := by
  rw [Rect.mem_set_unit]
  intro i; fin_cases i <;> simp

/-- A pooled row kept from before is the row after it. -/
theorem uG_init (I : Inp) (j : Fin 14) (r : Fin 128) (l : Fin 512) :
    Pre.uG I (ix3 (⟨j, by omega⟩ : Fin 15) r l) = I.U r ⟨1 + j.val, by omega⟩ l := by
  have h : 1 + (⟨j, by omega⟩ : Fin 15).val < 15 := by show 1 + j.val < 15; omega
  exact dif_pos h

/-- The last pooled row is the projection's last piece. -/
theorem uG_last (I : Inp) (r : Fin 128) (l : Fin 512) :
    Pre.uG I (ix3 (14 : Fin 15) r l) = Pre.P I r ⟨1536 + l, by omega⟩ := by
  show Pre.U' I (14 : Fin 15) r l = _
  unfold Pre.U'
  exact dif_neg (by decide)

/-- The kept pooled rows that the body leaves. -/
theorem Blk.pool_at {I : Inp} {x0 : Vec Ideal S128x1024 .f32} {x1 : Vec Ideal S1x3x128x1024 .f32} {x2 : Vec Ideal S1x1024 .f32}
    {x3 : Vec Ideal S1024x2048 .bf16} {x4 : Vec Ideal S15x128x512 .f32} (B : Blk I x0 x1 x2 x3 x4) (j : Fin 15) (r : Fin 128) (l : Fin 512) :
    poolF x0 x1 x2 x3 x4 (ix3 j r l) = Pre.U' I j r l := by
  refine (View.canon_append_of_piecesOf (Pre.uG I) [] (poolL x0 x1 x2 x3 x4) ?_ (ix3 j r l) ?_).trans rfl
  · refine ⟨fun x => ?_, fun x => ?_, trivial⟩
    · rw [ix_last x]
      exact (B.u_eq (x 1) (x 2)).trans ((uG_last I (x 1) (x 2)).symm.trans (congrArg (Pre.uG I) (emb_last (x 1) (x 2))).symm)
    · rw [ix_three x]
      exact (B.h_eq (x 0) (x 1) (x 2)).trans ((uG_init I (x 0) (x 1) (x 2)).symm.trans (congrArg (Pre.uG I) (emb_init (x 0) (x 1) (x 2))).symm)
  · by_cases h : j.val < 14
    · exact ⟨_, .tail _ (.head _), mem_init j h r l⟩
    · have e : j = 14 := Fin.ext (show j.val = 14 by omega)
      subst e
      exact ⟨_, .head _, mem_last r l⟩

/-- Where the keys' block stands. -/
theorem idx8 : ∀ t : Fin grid2.N, win2_8.index t = ![0, 0] := by decide +kernel

/-- The keys' block read through its placement. -/
theorem emb8 {α : Type} (f : S512x128.Idx → α) (t : Fin cfg2.N) (a : Fin 512) (b : Fin 128) :
    f (((cfg2.win 8).blk t).view.emb (ix2 a b)) = f (ix2 a b) := by
  blk_ext [idx8 t]

/-- What the body leaves in the keys' buffer. -/
def left8 (t : Fin cfg2.N) : S512x128.Idx → EReal :=
  k2_pay6 (iblk2 (V5 m ρ) c 0 t) (iblk2 (V5 m ρ) c 2 t) (View.ld (iblk2 (V5 m ρ) c 1 t) (Rect.unit ![0, 1, 0, 0] ![1, 1, 128, 1024] inb_S1x3x128x1024_S1x1x128x1024_0_1_0_0)) (View.ld (iblk2 (V5 m ρ) c 1 t) (Rect.unit ![0, 0, 0, 0] ![1, 1, 128, 1024] inb_S1x3x128x1024_S1x1x128x1024_0_0_0_0)) (iblk2 (V5 m ρ) c 3 t)

/-- What the body leaves in the keys' buffer is the pass's. -/
theorem left8_at (t : Fin cfg2.N) (y : S512x128.Idx) : left8 m ρ c t y = Pre.kG (Kept.pre (args m c)) y := by
  rw [ix_two y]
  exact (blk m ρ c t).k_eq _ _

/-- What the call writes back to the keys, as the body leaves it. -/
theorem flushed8 (t : Fin cfg2.N) : (dat2 (V5 m ρ) c).flushed 8 t = (cfg2.win 8).cut (grid2.coords t) (left8 m ρ c t) := by
  show (cfg2.win 8).cut (grid2.coords t) ((dat2 (V5 m ρ) c).after 8 t) = _
  rw [after2_8]
  simp only [outsAt2]
  rw [out8_eq]
  rfl

/-- What the call writes back to the keys. -/
theorem flushed8_eq (t : Fin cfg2.N) (_hf : (cfg2.win 8).flush t = true) :
    (dat2 (V5 m ρ) c).flushed 8 t = ((cfg2.win 8).blk t).view.read (Elt Ideal) (Pre.kG (Kept.pre (args m c))) := by
  rw [flushed8]
  funext y
  refine Eq.trans (b := left8 m ρ c t y) rfl (Eq.trans ?_ (rfl : Pre.kG (Kept.pre (args m c)) (((cfg2.win 8).blk t).view.emb y) = _))
  refine (left8_at m ρ c t y).trans ?_
  rw [ix_two y]
  exact (emb8 (Pre.kG (Kept.pre (args m c))) t _ _).symm

/-- Every index of the keys is written back. -/
theorem cover8 (i : S512x128.Idx) :
    ∃ t : Fin cfg2.N, (cfg2.win 8).flush t = true ∧ i ∈ ((cfg2.win 8).blk t).view.set := by
  have ht : 0 < cfg2.N := lt_of_lt_of_eq Nat.one_pos N_2.symm
  refine ⟨⟨0, ht⟩, flush2_8 _, ?_⟩
  have e := emb8 id ⟨0, ht⟩ (i 0 : Fin 512) (i 1 : Fin 128)
  exact (e.trans (ix_two i).symm) ▸ ((cfg2.win 8).blk ⟨0, ht⟩).view.emb_mem_set _

/-- The call's keys are the pass's. -/
theorem arr8 : (dat2 (V5 m ρ) c).arrAt 8 cfg2.N = Pre.kG (Kept.pre (args m c)) :=
  (dat2 (V5 m ρ) c).arrAt_eq_of_cover 8 (Pre.kG (Kept.pre (args m c))) (flushed8_eq m ρ c) cover8

/-- Where the values' block stands. -/
theorem idx9 : ∀ t : Fin grid2.N, win2_9.index t = ![0, 0] := by decide +kernel

/-- The values' block read through its placement. -/
theorem emb9 {α : Type} (f : S512x128.Idx → α) (t : Fin cfg2.N) (a : Fin 512) (b : Fin 128) :
    f (((cfg2.win 9).blk t).view.emb (ix2 a b)) = f (ix2 a b) := by
  blk_ext [idx9 t]

/-- What the body leaves in the values' buffer. -/
def left9 (t : Fin cfg2.N) : S512x128.Idx → EReal :=
  k2_pay7 (k2_pay4 (iblk2 (V5 m ρ) c 0 t) (iblk2 (V5 m ρ) c 2 t) (View.ld (iblk2 (V5 m ρ) c 1 t) (Rect.unit ![0, 1, 0, 0] ![1, 1, 128, 1024] inb_S1x3x128x1024_S1x1x128x1024_0_1_0_0)) (View.ld (iblk2 (V5 m ρ) c 1 t) (Rect.unit ![0, 0, 0, 0] ![1, 1, 128, 1024] inb_S1x3x128x1024_S1x1x128x1024_0_0_0_0)) (iblk2 (V5 m ρ) c 3 t))

/-- What the body leaves in the values' buffer is the pass's. -/
theorem left9_at (t : Fin cfg2.N) (y : S512x128.Idx) : left9 m ρ c t y = Pre.vG (Kept.pre (args m c)) y := by
  rw [ix_two y]
  exact (blk m ρ c t).v_eq _ _

/-- What the call writes back to the values, as the body leaves it. -/
theorem flushed9 (t : Fin cfg2.N) : (dat2 (V5 m ρ) c).flushed 9 t = (cfg2.win 9).cut (grid2.coords t) (left9 m ρ c t) := by
  show (cfg2.win 9).cut (grid2.coords t) ((dat2 (V5 m ρ) c).after 9 t) = _
  rw [after2_9]
  simp only [outsAt2]
  rw [out9_eq]
  rfl

/-- What the call writes back to the values. -/
theorem flushed9_eq (t : Fin cfg2.N) (_hf : (cfg2.win 9).flush t = true) :
    (dat2 (V5 m ρ) c).flushed 9 t = ((cfg2.win 9).blk t).view.read (Elt Ideal) (Pre.vG (Kept.pre (args m c))) := by
  rw [flushed9]
  funext y
  refine Eq.trans (b := left9 m ρ c t y) rfl (Eq.trans ?_ (rfl : Pre.vG (Kept.pre (args m c)) (((cfg2.win 9).blk t).view.emb y) = _))
  refine (left9_at m ρ c t y).trans ?_
  rw [ix_two y]
  exact (emb9 (Pre.vG (Kept.pre (args m c))) t _ _).symm

/-- Every index of the values is written back. -/
theorem cover9 (i : S512x128.Idx) :
    ∃ t : Fin cfg2.N, (cfg2.win 9).flush t = true ∧ i ∈ ((cfg2.win 9).blk t).view.set := by
  have ht : 0 < cfg2.N := lt_of_lt_of_eq Nat.one_pos N_2.symm
  refine ⟨⟨0, ht⟩, flush2_9 _, ?_⟩
  have e := emb9 id ⟨0, ht⟩ (i 0 : Fin 512) (i 1 : Fin 128)
  exact (e.trans (ix_two i).symm) ▸ ((cfg2.win 9).blk ⟨0, ht⟩).view.emb_mem_set _

/-- The call's values are the pass's. -/
theorem arr9 : (dat2 (V5 m ρ) c).arrAt 9 cfg2.N = Pre.vG (Kept.pre (args m c)) :=
  (dat2 (V5 m ρ) c).arrAt_eq_of_cover 9 (Pre.vG (Kept.pre (args m c))) (flushed9_eq m ρ c) cover9

/-- Where the pooled rows' block stands. -/
theorem idx10 : ∀ t : Fin grid2.N, win2_10.index t = ![0, 0, 0] := by decide +kernel

/-- The pooled rows' block read through its placement. -/
theorem emb10 {α : Type} (f : S15x128x512.Idx → α) (t : Fin cfg2.N) (a : Fin 15) (b : Fin 128) (d : Fin 512) :
    f (((cfg2.win 10).blk t).view.emb (ix3 a b d)) = f (ix3 a b d) := by
  blk_ext [idx10 t]

/-- What the body leaves in the pooled rows' buffer. -/
def left10 (t : Fin cfg2.N) : S15x128x512.Idx → EReal :=
  poolF (iblk2 (V5 m ρ) c 0 t) (iblk2 (V5 m ρ) c 1 t) (iblk2 (V5 m ρ) c 2 t) (iblk2 (V5 m ρ) c 3 t) (iblk2 (V5 m ρ) c 4 t)

/-- What the body leaves in the pooled rows' buffer is the pass's. -/
theorem left10_at (t : Fin cfg2.N) (y : S15x128x512.Idx) : left10 m ρ c t y = Pre.uG (Kept.pre (args m c)) y := by
  rw [ix_three y]
  exact (blk m ρ c t).pool_at _ _ _

/-- What the call writes back to the pooled rows, as the body leaves it. -/
theorem flushed10 (t : Fin cfg2.N) : (dat2 (V5 m ρ) c).flushed 10 t = (cfg2.win 10).cut (grid2.coords t) (left10 m ρ c t) := by
  show (cfg2.win 10).cut (grid2.coords t) ((dat2 (V5 m ρ) c).after 10 t) = _
  rw [after2_10]
  simp only [outsAt2]
  rw [out10_eq]
  rfl

/-- What the call writes back to the pooled rows. -/
theorem flushed10_eq (t : Fin cfg2.N) (_hf : (cfg2.win 10).flush t = true) :
    (dat2 (V5 m ρ) c).flushed 10 t = ((cfg2.win 10).blk t).view.read (Elt Ideal) (Pre.uG (Kept.pre (args m c))) := by
  rw [flushed10]
  funext y
  refine Eq.trans (b := left10 m ρ c t y) rfl (Eq.trans ?_ (rfl : Pre.uG (Kept.pre (args m c)) (((cfg2.win 10).blk t).view.emb y) = _))
  refine (left10_at m ρ c t y).trans ?_
  rw [ix_three y]
  exact (emb10 (Pre.uG (Kept.pre (args m c))) t _ _ _).symm

/-- Every index of the pooled rows is written back. -/
theorem cover10 (i : S15x128x512.Idx) :
    ∃ t : Fin cfg2.N, (cfg2.win 10).flush t = true ∧ i ∈ ((cfg2.win 10).blk t).view.set := by
  have ht : 0 < cfg2.N := lt_of_lt_of_eq Nat.one_pos N_2.symm
  refine ⟨⟨0, ht⟩, flush2_10 _, ?_⟩
  have e := emb10 id ⟨0, ht⟩ (i 0 : Fin 15) (i 1 : Fin 128) (i 2 : Fin 512)
  exact (e.trans (ix_three i).symm) ▸ ((cfg2.win 10).blk ⟨0, ht⟩).view.emb_mem_set _

/-- The call's pooled rows are the pass's. -/
theorem arr10 : (dat2 (V5 m ρ) c).arrAt 10 cfg2.N = Pre.uG (Kept.pre (args m c)) :=
  (dat2 (V5 m ρ) c).arrAt_eq_of_cover 10 (Pre.uG (Kept.pre (args m c))) (flushed10_eq m ρ c) cover10

end Cert.Kernel5Ideal.Value.Mix
-- ==== Proof.Kept.lean ====
/-
  The kernel's run of the three calls, with the arrays to keep named and the arguments kept.
-/
module
public import proofs.«01_k».proof.Proof.KeptPre
public import proofs.«01_k».proof.Proof.Gen.Kernel5.Frame
public import Idealize.ShloMosaic.Lib.Claim
@[expose] public section
set_option maxRecDepth 16384
noncomputable section
namespace Cert.Kernel5Ideal.Value
open Idealize.ShloMosaic Idealize.ShloMosaic.TcCoe Idealize.ShloMosaic.Tactic Cert.Kernel5Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the three calls ends with the keys, the values and the pooled rows of the mathematics, whatever the
    schedule. -/
theorem run_named : θ_run defs (onTc (τ := τ) (main (F := Ideal))) ⟨m, fun _ => 0, ρ⟩ (fun r => ∀ c : Dev nD,
      r.2.mem (c, Proc.devRef .tc main_v31_1) = Pre.kG (Kept.pre (args m c))
      ∧ r.2.mem (c, Proc.devRef .tc main_v31_2) = Pre.vG (Kept.pre (args m c))
      ∧ r.2.mem (c, Proc.devRef .tc main_v31_3) = Pre.uG (Kept.pre (args m c))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v31_1 (by decide))).trans ((W6_arr m ρ c 8).trans (Mix.arr8 m ρ c)),
       (h c _ (mem_uc main_v31_2 (by decide))).trans ((W6_arr m ρ c 9).trans (Mix.arr9 m ρ c)),
       (h c _ (mem_uc main_v31_3 (by decide))).trans ((W6_arr m ρ c 10).trans (Mix.arr10 m ρ c))⟩)

end Cert.Kernel5Ideal.Value
-- ==== Proof.KeptRef.lean ====
/-
  The reference of what the samples' trunk keeps: each stage, at an index, is the mathematics.
-/
module
public import proofs.«01_k».proof.Proof.KeptMath
public import proofs.«01_k».proof.Proof.Gen.Reference5Ideal.Run
public import Idealize.ShloMosaic.Lib.Pointwise
public import Idealize.ShloMosaic.Lib.Claim
@[expose] public section
set_option maxRecDepth 16384
noncomputable section
namespace Cert.Reference5Ideal.Value
open Idealize.ShloMosaic Idealize.ShloMosaic.TcCoe Idealize.SL.Sem Cert.Reference5Ideal.Gen
open Idealize.ShloMosaic.StableHlo

/-- The keys from the projection, as an array. -/
def kA (P0 : FVec Ideal S128x1x2048 .f32) : FVec Ideal S512x128 .f32 := transpose S512x128 [1, 0] (shapeCast _ (extractStridedSlice S128x1x512 ![0, 0, 512] P0 slices_S128x1x2048_S128x1x512_0_0_512) shapeCasts_S128x1x512_S128x512) transposes_S128x512_S512x128_1_0

/-- The values from the projection, as an array. -/
def vA (P0 : FVec Ideal S128x1x2048 .f32) : FVec Ideal S512x128 .f32 := transpose S512x128 [1, 0] (shapeCast _ (extractStridedSlice S128x1x512 ![0, 0, 1024] P0 slices_S128x1x2048_S128x1x512_0_0_1024) shapeCasts_S128x1x512_S128x512) transposes_S128x512_S512x128_1_0

/-- The pooled rows to keep, from the history and the projection, as an array. -/
def uA (x4 : FVec Ideal S1x128x15x512 .f32) (P0 : FVec Ideal S128x1x2048 .f32) : FVec Ideal S15x128x512 .f32 :=
  transpose S15x128x512 [1, 0, 2] (extractStridedSlice S128x15x512 ![0, 1, 0] (concatenate S128x16x512 1 [⟨S128x15x512, (shapeCast _ x4 shapeCasts_S1x128x15x512_S128x15x512)⟩, ⟨S128x1x512, (extractStridedSlice S128x1x512 ![0, 0, 1536] P0 slices_S128x1x2048_S128x1x512_0_0_1536)⟩] concatenates_S128x15x512_S128x1x512_S128x16x512_d1) slices_S128x16x512_S128x15x512_0_1_0) transposes_S128x15x512_S15x128x512_1_0_2

variable (m : (ℓ : Loc nD τ sig) → Buf (Elt Ideal) ℓ) (c : Dev nD)

/-- The arrays that the chain reads, from the reference's arguments of device `c`. -/
def args : Kept.Args where
  x := m (c, Proc.devRef .tc main_arg0)
  cs := m (c, Proc.devRef .tc main_arg2)
  w := m (c, Proc.devRef .tc main_arg3)
  b := m (c, Proc.devRef .tc main_arg4)
  gp := m (c, Proc.devRef .tc main_arg5)
  gq := m (c, Proc.devRef .tc main_arg6)
  wi := m (c, Proc.devRef .tc main_arg7)
  wo := m (c, Proc.devRef .tc main_arg8)
  we := m (c, Proc.devRef .tc main_arg9)
  u := m (c, Proc.devRef .tc main_arg10)

/-- Layer 0's modulation of this run: sample, sublayer, vector, lane. -/
def mods : FVec Ideal S128x3x3x1024 .f32 := res_main_v9 (F := Ideal) (launchContents m c)
/-- The feed-forward sublayer's modulation. -/
def mods0 : FVec Ideal S128x3x1024 .f32 := res_main_v11 (F := Ideal) (launchContents m c)
/-- The mixer's modulation. -/
def mods1 : FVec Ideal S128x3x1024 .f32 := res_main_v72 (F := Ideal) (launchContents m c)
/-- The feed-forward sublayer's joint projection. -/
def gates : FVec Ideal S128x1x5632 .f32 := res_main_v41 (F := Ideal) (launchContents m c)
/-- The feed-forward sublayer's output projection. -/
def outs : FVec Ideal S128x1x1024 .f32 := res_main_v46 (F := Ideal) (launchContents m c)
/-- The feed-forward sublayer's result. -/
def rows : FVec Ideal S128x1x1024 .f32 := res_main_v70 (F := Ideal) (launchContents m c)
/-- The mixer's joint projection. -/
def proj : FVec Ideal S128x1x2048 .f32 := res_main_v99 (F := Ideal) (launchContents m c)
/-- The pooled rows to keep of this run. -/
def uM : FVec Ideal S15x128x512 .f32 := uA (m (c, Proc.devRef .tc main_arg10)) (proj m c)

set_option maxHeartbeats 4000000 in
/-- The modulation at an index. -/
theorem mods_at (r : Fin 128) (i s : Fin 3) (n : Fin 1024) :
    mods m c (ix4 r i s n) = Kept.modAt (args m c) 0 ⟨i.val * 3 + s.val, by omega⟩ r n := by
  unfold Kept.modAt Ret.silu
  have e : (⟨(i.val * 3 + s.val) * 1024 + n.val, by omega⟩ : Fin 9216) = ⟨i.val * 3072 + s.val * 1024 + n.val, by omega⟩ :=
    Fin.ext (show (i.val * 3 + s.val) * 1024 + n.val = i.val * 3072 + s.val * 1024 + n.val by omega)
  pointwise [mods, res_main_v9]
  simp only [e]
  rfl

set_option maxHeartbeats 4000000 in
/-- The feed-forward sublayer's modulation at an index. -/
theorem mods0_at (r : Fin 128) (s : Fin 3) (n : Fin 1024) : mods0 m c (ix3 r s n) = (Kept.ffn (args m c)).M r s n := by
  have h : mods0 m c (ix3 r s n) = mods m c (ix4 r 0 s n) := by
    pointwise [mods0, res_main_v11]
    try rfl
  rw [h, mods_at]
  exact congrArg (fun j => Kept.modAt (args m c) 0 j r n) (Fin.ext (show 0 * 3 + s.val = s.val by omega))

set_option maxHeartbeats 4000000 in
/-- The mixer's modulation at an index. -/
theorem mods1_at (r : Fin 128) (s : Fin 3) (n : Fin 1024) : mods1 m c (ix3 r s n) = (Kept.pre (args m c)).M s r n := by
  have h : mods1 m c (ix3 r s n) = mods m c (ix4 r 1 s n) := by
    pointwise [mods1, res_main_v72]
    try rfl
  rw [h, mods_at]
  exact congrArg (fun j => Kept.modAt (args m c) 0 j r n) (Fin.ext (show 1 * 3 + s.val = 3 + s.val by omega))

set_option maxHeartbeats 4000000 in
/-- The feed-forward sublayer's joint projection at an index. -/
theorem gates_at (b : Fin 128) (t : Fin 1) (l : Fin 5632) : gates m c (ix3 b t l) = Ffn.P (Kept.ffn (args m c)) b t l := by
  obtain rfl : t = 0 := Subsingleton.elim _ _
  unfold Ffn.P Ffn.H Ret.rinv
  simp only [← mods0_at]
  pointwise [gates, res_main_v41]
  rfl

set_option maxHeartbeats 4000000 in
/-- The feed-forward sublayer's output projection at an index. -/
theorem outs_at (b : Fin 128) (t : Fin 1) (n : Fin 1024) : outs m c (ix3 b t n) = Ffn.Y (Kept.ffn (args m c)) b t n := by
  obtain rfl : t = 0 := Subsingleton.elim _ _
  unfold Ffn.Y Ffn.A Ret.silu
  simp only [← gates_at]
  pointwise [outs, res_main_v46, res_main_v42]
  rfl

set_option maxHeartbeats 4000000 in
/-- The feed-forward sublayer's result at an index. -/
theorem rows_at (r : Fin 128) (n : Fin 1024) : rows m c (ix3 r 0 n) = (Kept.pre (args m c)).X r n := by
  show _ = Ffn.out (Kept.ffn (args m c)) r 0 n
  unfold Ffn.out Ret.rinv
  simp only [← outs_at, ← mods0_at]
  pointwise [rows, res_main_v70, mods0, res_main_v11]
  rfl

set_option maxHeartbeats 4000000 in
/-- The mixer's joint projection at an index. -/
theorem proj_at (r : Fin 128) (l : Fin 2048) : proj m c (ix3 r 0 l) = Pre.P (Kept.pre (args m c)) r l := by
  unfold Pre.P Pre.H Ret.rinv
  simp only [← rows_at, ← mods1_at]
  pointwise [proj, res_main_v99]
  rfl

set_option maxHeartbeats 4000000 in
/-- The keys at an index. -/
theorem k_at (l : Fin 512) (r : Fin 128) : kA (proj m c) (ix2 l r) = Pre.K (Kept.pre (args m c)) l r := by
  unfold Pre.K
  rw [← proj_at]
  pointwise [kA]
  try rfl

set_option maxHeartbeats 4000000 in
/-- The values at an index. -/
theorem v_at (l : Fin 512) (r : Fin 128) : vA (proj m c) (ix2 l r) = Pre.V (Kept.pre (args m c)) l r := by
  unfold Pre.V
  rw [← proj_at]
  pointwise [vA]
  try rfl

set_option maxHeartbeats 4000000 in
/-- The pooled rows to keep at an index. -/
theorem u_at (j : Fin 15) (r : Fin 128) (l : Fin 512) : uM m c (ix3 j r l) = Pre.U' (Kept.pre (args m c)) j r l := by
  unfold Pre.U'
  rw [← proj_at]
  pointwise [uM, uA]
  split
  · rfl
  · congr 2
    exact Subsingleton.elim (α := Fin 1) _ _

/-- The reference's keys are the pass's. -/
theorem k_arr : kA (proj m c) = Pre.kG (Kept.pre (args m c)) := by
  refine funext fun j => ?_
  have e : j = ix2 (j 0 : Fin 512) (j 1 : Fin 128) := by
    funext a; match a with
    | ⟨0, _⟩ => rfl
    | ⟨1, _⟩ => rfl
  rw [e]
  exact k_at m c _ _

/-- The reference's values are the pass's. -/
theorem v_arr : vA (proj m c) = Pre.vG (Kept.pre (args m c)) := by
  refine funext fun j => ?_
  have e : j = ix2 (j 0 : Fin 512) (j 1 : Fin 128) := by
    funext a; match a with
    | ⟨0, _⟩ => rfl
    | ⟨1, _⟩ => rfl
  rw [e]
  exact v_at m c _ _

/-- The reference's pooled rows are the pass's. -/
theorem u_arr : uM m c = Pre.uG (Kept.pre (args m c)) := by
  refine funext fun j => ?_
  have e : j = ix3 (j 0 : Fin 15) (j 1 : Fin 128) (j 2 : Fin 512) := by
    funext a; match a with
    | ⟨0, _⟩ => rfl
    | ⟨1, _⟩ => rfl
    | ⟨2, _⟩ => rfl
  rw [e]
  exact u_at m c _ _ _

/-- The run, with its results named. -/
theorem run_named (ρ : Dev nD → PrngReg) :
    θ_run defs (onTc (τ := τ) (main (F := Ideal))) ⟨m, fun _ => 0, ρ⟩ fun r => ∀ c : Dev nD,
      r.2.mem (c, Proc.devRef .tc main_v107) = Pre.kG (Kept.pre (args m c))
      ∧ r.2.mem (c, Proc.devRef .tc main_v109) = Pre.vG (Kept.pre (args m c))
      ∧ r.2.mem (c, Proc.devRef .tc main_v111) = Pre.uG (Kept.pre (args m c)) :=
  (θ_run _ _ _).mono (fun _ h c =>
      ⟨Eq.trans (b := kA (proj m c)) (h c).1 (k_arr m c), Eq.trans (b := vA (proj m c)) (h c).2.1 (v_arr m c),
        Eq.trans (b := uM m c) (h c).2.2.1 (u_arr m c)⟩)
    (run m ρ)

end Cert.Reference5Ideal.Value
-- ==== Proof.CloseMath.lean ====
/-
  The samples' end of the layer, from the retention read-out on: the gate, the heads' group norm, the output projection
  with its residual, and the last feed-forward sublayer on the result.
-/
module
public import proofs.«01_k».proof.Proof.Ffn
@[expose] public section
noncomputable section
namespace Cert.Close
open Idealize.ShloMosaic

/-- The arrays that the chain reads. -/
structure Args where
  /-- the hidden states -/
  x : (⟨3, ![128, 1, 1024]⟩ : Shape).Idx → EReal
  /-- the retention's read-out, heads side by side -/
  o : (⟨2, ![128, 2048]⟩ : Shape).Idx → EReal
  /-- the retention sublayer's modulation: a shift, a scale, a gate -/
  m : (⟨3, ![3, 128, 1024]⟩ : Shape).Idx → EReal
  /-- the feed-forward sublayer's modulation -/
  mf : (⟨3, ![3, 128, 1024]⟩ : Shape).Idx → EReal
  /-- the weights of the norms before a sublayer -/
  gp : (⟨3, ![2, 3, 1024]⟩ : Shape).Idx → EReal
  /-- the weights of the norms after a sublayer -/
  gq : (⟨3, ![2, 3, 1024]⟩ : Shape).Idx → EReal
  /-- the retention sublayer's joint projection -/
  win : (⟨3, ![1, 1024, 6144]⟩ : Shape).Idx → EReal
  /-- the retention sublayer's output projection -/
  wout : (⟨3, ![1, 2048, 1024]⟩ : Shape).Idx → EReal
  /-- the feed-forward sublayers' joint projections -/
  wi : (⟨4, ![2, 2, 1024, 5632]⟩ : Shape).Idx → EReal
  /-- the feed-forward sublayers' output projections -/
  wo : (⟨4, ![2, 2, 2816, 1024]⟩ : Shape).Idx → EReal

/-- The normalised and modulated row. -/
def H (a : Args) (r : Fin 128) (n : Fin 1024) : EReal :=
  a.x (ix3 r 0 n) * Ret.rinv (fun k => a.x (ix3 r 0 k)) * a.gp (ix3 1 1 n) * (1 + a.m (ix3 1 r n)) + a.m (ix3 0 r n)

/-- The gate: the joint projection's last 2048 lanes. -/
def G (a : Args) (r : Fin 128) (j : Fin 2048) : EReal := ∑ k : Fin 1024, H a r k * a.win (ix3 0 k ⟨4096 + j.val, by omega⟩)

/-- The gate, as an array. -/
def gG (a : Args) : (⟨2, ![128, 2048]⟩ : Shape).Idx → EReal := fun i => G a (i 0) (i 1)

/-- The group norm of the lane's head, gated. -/
def N (a : Args) (r : Fin 128) (j : Fin 2048) : EReal :=
  Ret.gn (fun e => a.o (ix2 r ⟨j.val / 512 * 512 + e.val, by omega⟩)) ⟨j.val % 512, by omega⟩ * Ret.silu (G a r j)

/-- The output projection. -/
def Y (a : Args) (r : Fin 128) (n : Fin 1024) : EReal := ∑ j : Fin 2048, N a r j * a.wout (ix3 0 j n)

/-- The retention sublayer's result: the residual plus the gated norm of the output projection. -/
def X (a : Args) (r : Fin 128) (n : Fin 1024) : EReal :=
  a.x (ix3 r 0 n) + a.m (ix3 2 r n) * (Y a r n * Ret.rinv (Y a r) * a.gq (ix3 1 1 n))

/-- The retention sublayer's result, as an array. -/
def xG (a : Args) : (⟨2, ![128, 1024]⟩ : Shape).Idx → EReal := fun i => X a (i 0) (i 1)

/-- The inputs of the last feed-forward sublayer. -/
def ffn (a : Args) : Ffn.Inp 128 1 where
  X r _ n := X a r n
  M r i n := a.mf (ix3 i r n)
  GP n := a.gp (ix3 1 2 n)
  GQ n := a.gq (ix3 1 2 n)
  WI n c := a.wi (ix4 1 1 n c)
  WO j n := a.wo (ix4 1 1 j n)

end Cert.Close
-- ==== Proof.ClosePre.lean ====
/-
  The samples' pass before retention: what the call reads, and the gate that it leaves.
-/
module
public import proofs.«01_k».proof.Proof.CloseMath
public import proofs.«01_k».proof.Proof.Gen.Kernel6Ideal.Frame
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel6Ideal.Value
open Idealize.ShloMosaic Idealize.ShloMosaic.TcCoe Idealize.SL.Sem Cert.Kernel6Ideal.Gen
open Idealize.ShloMosaic.StableHlo
open Idealize.ShloMosaic.Pipeline (Dat)

variable (m : (ℓ : Loc nD τ sig) → Buf (Elt Ideal) ℓ) (ρ : Dev nD → PrngReg) (c : Dev nD)

/-- The arrays that the chain reads, from the kernel's arguments of device `c`. -/
def args : Close.Args where
  x := m (c, Proc.devRef .tc main_arg0)
  o := m (c, Proc.devRef .tc main_arg1)
  m := m (c, Proc.devRef .tc main_arg2)
  mf := m (c, Proc.devRef .tc main_arg3)
  gp := m (c, Proc.devRef .tc main_arg4)
  gq := m (c, Proc.devRef .tc main_arg5)
  win := m (c, Proc.devRef .tc main_arg6)
  wout := m (c, Proc.devRef .tc main_arg7)
  wi := m (c, Proc.devRef .tc main_arg8)
  wo := m (c, Proc.devRef .tc main_arg9)

/-- Two numbers as an index. -/
theorem ix_two {a b : ℕ} (y : (⟨2, ![a, b]⟩ : Shape).Idx) : y = ix2 (y 0 : Fin a) (y 1 : Fin b) := by
  funext i; match i with
  | ⟨0, _⟩ => rfl
  | ⟨1, _⟩ => rfl

/-! ### What the call reads -/

set_option maxHeartbeats 4000000 in
/-- The samples' rows, as the call finds them. -/
theorem W1_x (r : Fin 128) (k : Fin 1024) : W1 m ρ c (Proc.devRef .tc main_v0) (ix2 r k) = (args m c).x (ix3 r 0 k) := by
  show StableHlo.after hostOps0 (W0 m ρ c) (Proc.devRef .tc main_v0) (ix2 r k) = _
  after_reads_at
  exact congrFun (W0_args m ρ c main_arg0 (by decide)) _

set_option maxHeartbeats 4000000 in
/-- The modulation, as the call finds it. -/
theorem W1_m (s : Fin 3) (r : Fin 128) (k : Fin 1024) : W1 m ρ c (Proc.devRef .tc main_v1) (ix4 0 s r k) = (args m c).m (ix3 s r k) := by
  show StableHlo.after hostOps0 (W0 m ρ c) (Proc.devRef .tc main_v1) (ix4 0 s r k) = _
  after_reads_at
  exact congrFun (W0_args m ρ c main_arg2 (by decide)) _

set_option maxHeartbeats 4000000 in
/-- The norm's weight, as the call finds it. -/
theorem W1_gp (k : Fin 1024) : W1 m ρ c (Proc.devRef .tc main_v17) (ix2 0 k) = (args m c).gp (ix3 1 1 k) := by
  show StableHlo.after hostOps0 (W0 m ρ c) (Proc.devRef .tc main_v17) (ix2 0 k) = _
  after_reads_at
  exact congrFun (W0_args m ρ c main_arg4 (by decide)) _

set_option maxHeartbeats 4000000 in
/-- The joint projection's weights, as the call finds them. -/
theorem W1_win (k : Fin 1024) (l : Fin 6144) : W1 m ρ c (Proc.devRef .tc main_v19) (ix2 k l) = (args m c).win (ix3 0 k l) := by
  show StableHlo.after hostOps0 (W0 m ρ c) (Proc.devRef .tc main_v19) (ix2 k l) = _
  after_reads_at
  exact congrFun (W0_args m ρ c main_arg6 (by decide)) _

/-- Where window 0's block stands. -/
theorem idx0_0 : ∀ t : Fin grid0.N, win0_0.index t = ![0, 0] := by decide +kernel
/-- Where window 1's block stands. -/
theorem idx0_1 : ∀ t : Fin grid0.N, win0_1.index t = ![0, 0, 0, 0] := by decide +kernel
/-- Where window 2's block stands. -/
theorem idx0_2 : ∀ t : Fin grid0.N, win0_2.index t = ![0, 0] := by decide +kernel
/-- Where window 5's block stands. -/
theorem idx0_5 : ∀ t : Fin grid0.N, win0_5.index t = ![0, 0] := by decide +kernel
/-- Where the gate's block stands. -/
theorem idx0_9 : ∀ t : Fin grid0.N, win0_9.index t = ![0, 0] := by decide +kernel

/-- The rows' block, at an index. -/
theorem rd0_0 (t : Fin cfg0.N) (r : Fin 128) (k : Fin 1024) : iblk0 (V1 m ρ) c 0 t (ix2 r k) = V1 m ρ c main_v0 (ix2 r k) := by
  blk_point [iblk0, idx0_0 t]

/-- The modulation's block, at an index. -/
theorem rd0_1 (t : Fin cfg0.N) (s : Fin 3) (r : Fin 128) (k : Fin 1024) :
    iblk0 (V1 m ρ) c 1 t (ix4 0 s r k) = V1 m ρ c main_v1 (ix4 0 s r k) := by
  blk_point [iblk0, idx0_1 t]

/-- The norm's weight's block, at an index. -/
theorem rd0_2 (t : Fin cfg0.N) (k : Fin 1024) : iblk0 (V1 m ρ) c 2 t (ix2 0 k) = V1 m ρ c main_v17 (ix2 0 k) := by
  blk_point [iblk0, idx0_2 t]

/-- The joint projection's block, at an index. -/
theorem rd0_5 (t : Fin cfg0.N) (k : Fin 1024) (l : Fin 6144) : iblk0 (V1 m ρ) c 5 t (ix2 k l) = V1 m ρ c main_v19 (ix2 k l) := by
  blk_point [iblk0, idx0_5 t]

/-! ### One block -/

set_option maxHeartbeats 4000000 in
/-- The stored gate is the chain's. -/
theorem gate_block (a : Close.Args) {x0 : Vec Ideal S128x1024 .f32} {x1 : Vec Ideal S1x3x128x1024 .f32} {x2 : Vec Ideal S1x1024 .f32}
    {x3 x4 : Vec Ideal S1x128 .f32} {x5 : Vec Ideal S1024x6144 .bf16}
    (h0 : ∀ (r : Fin 128) (k : Fin 1024), x0 (ix2 r k) = a.x (ix3 r 0 k))
    (h1 : ∀ (s : Fin 3) (r : Fin 128) (k : Fin 1024), x1 (ix4 0 s r k) = a.m (ix3 s r k))
    (h2 : ∀ k : Fin 1024, x2 (ix2 0 k) = a.gp (ix3 1 1 k))
    (h5 : ∀ (k : Fin 1024) (l : Fin 6144), x5 (ix2 k l) = a.win (ix3 0 k l)) (r : Fin 128) (j : Fin 2048) :
    k0_pay3 (k0_pay25 x0 x1 x2 x3 x4 x5) (View.ld x5 r0_19) (ix2 r j) = Close.G a r j := by
  unfold Close.G Close.H Ret.rinv
  simp only [← h0, ← h1, ← h2, ← h5]
  pointwise [k0_pay3, k0_pay25, k0_pay4]
  try rfl

/-! ### What the call leaves -/

/-- The gate's block read through its placement. -/
theorem emb0_9 {α : Type} (f : S128x2048.Idx → α) (t : Fin cfg0.N) (r : Fin 128) (j : Fin 2048) :
    f (((cfg0.win 9).blk t).view.emb (ix2 r j)) = f (ix2 r j) := by
  blk_ext [idx0_9 t]

/-- What the body leaves in the gate's buffer. -/
def left0_9 (t : Fin cfg0.N) : S128x2048.Idx → EReal :=
  out0_9 (F := Ideal) (iblk0 (V1 m ρ) c 0 t) (iblk0 (V1 m ρ) c 1 t) (iblk0 (V1 m ρ) c 2 t) (iblk0 (V1 m ρ) c 3 t)
    (iblk0 (V1 m ρ) c 4 t) (iblk0 (V1 m ρ) c 5 t)

/-- A buffer stored whole holds what was stored. -/
theorem whole_gate (p : Vec Ideal S128x2048 .f32) (r : Fin 128) (j : Fin 2048) :
    View.canon (Val := Elt Ideal) [⟨r0_18, p⟩] (ix2 r j) = p (ix2 r j) :=
  congrFun (View.canon_cons_unit_lit inb_S128x2048_S128x2048_0_0 p [] (by decide)) _

/-- The gate that the body leaves is the chain's. -/
theorem left0_9_at (t : Fin cfg0.N) (r : Fin 128) (j : Fin 2048) : left0_9 m ρ c t (ix2 r j) = Close.G (args m c) r j := by
  unfold left0_9 out0_9
  refine (whole_gate _ r j).trans (gate_block (args m c) ?_ ?_ ?_ ?_ r j)
  · exact fun r k => (rd0_0 m ρ c t r k).trans (W1_x m ρ c r k)
  · exact fun s r k => (rd0_1 m ρ c t s r k).trans (W1_m m ρ c s r k)
  · exact fun k => (rd0_2 m ρ c t k).trans (W1_gp m ρ c k)
  · exact fun k l => (rd0_5 m ρ c t k l).trans (W1_win m ρ c k l)

/-- What the call writes back to the gate, as the body leaves it. -/
theorem flushed0_9 (t : Fin cfg0.N) :
    (dat0 (V1 m ρ) c).flushed 9 t = (cfg0.win 9).cut (grid0.coords t) (left0_9 m ρ c t) := by
  show (cfg0.win 9).cut (grid0.coords t) ((dat0 (V1 m ρ) c).after 9 t) = _
  rw [after0_9]
  rfl

/-- What the call writes back to the gate. -/
theorem flushed0_9_eq (t : Fin cfg0.N) (_hf : (cfg0.win 9).flush t = true) :
    (dat0 (V1 m ρ) c).flushed 9 t = ((cfg0.win 9).blk t).view.read (Elt Ideal) (Close.gG (args m c)) := by
  rw [flushed0_9]
  funext y
  refine Eq.trans (b := left0_9 m ρ c t y) rfl (Eq.trans ?_ (rfl : Close.gG (args m c) (((cfg0.win 9).blk t).view.emb y) = _))
  rw [ix_two y]
  refine (left0_9_at m ρ c t _ _).trans ?_
  exact (emb0_9 (Close.gG (args m c)) t _ _).symm

/-- Every index of the gate is written back. -/
theorem cover0_9 (i : S128x2048.Idx) :
    ∃ t : Fin cfg0.N, (cfg0.win 9).flush t = true ∧ i ∈ ((cfg0.win 9).blk t).view.set := by
  have ht : 0 < cfg0.N := lt_of_lt_of_eq Nat.one_pos N_0.symm
  refine ⟨⟨0, ht⟩, flush0_9 _, ?_⟩
  have e := emb0_9 id ⟨0, ht⟩ (i 0 : Fin 128) (i 1 : Fin 2048)
  exact (e.trans (ix_two i).symm) ▸ ((cfg0.win 9).blk ⟨0, ht⟩).view.emb_mem_set _

/-- The call's gate is the chain's. -/
theorem arr0_9 : (dat0 (V1 m ρ) c).arrAt 9 cfg0.N = Close.gG (args m c) :=
  (dat0 (V1 m ρ) c).arrAt_eq_of_cover 9 (Close.gG (args m c)) (flushed0_9_eq m ρ c) cover0_9

/-- The gate, as the host reads it after the call. -/
theorem W2_g : W2 m ρ c (Proc.devRef .tc main_v20_3) = Close.gG (args m c) := (W2_arr m ρ c 9).trans (arr0_9 m ρ c)

end Cert.Kernel6Ideal.Value
-- ==== Proof.CloseMix.lean ====
/-
  The samples' pass after retention, entered with the gate: what the call reads, and the rows that it leaves.
-/
module
public import proofs.«01_k».proof.Proof.ClosePre
@[expose] public section
set_option maxRecDepth 16384
noncomputable section
namespace Cert.Kernel6Ideal.Value.Mix
open Idealize.ShloMosaic Idealize.ShloMosaic.TcCoe Idealize.SL.Sem Cert.Kernel6Ideal.Gen
open Idealize.ShloMosaic.StableHlo
open Idealize.ShloMosaic.Pipeline (Dat)

/-! ### What the body leaves, as its payloads -/

/-- The four heads that the body stores in the scratch array, last first. -/
def nL (x3 x4 : Vec Ideal S128x2048 .f32) : List (View.Piece (Elt Ideal) S128x2048 .bf16) :=
  [⟨Rect.unit ![0, 1536] ![128, 512] inb_S128x2048_S128x512_0_1536, k1_pay8 (View.ld x3 (Rect.unit ![0, 1536] ![128, 512] inb_S128x2048_S128x512_0_1536)) (View.ld x4 (Rect.unit ![0, 1536] ![128, 512] inb_S128x2048_S128x512_0_1536))⟩,
   ⟨Rect.unit ![0, 1024] ![128, 512] inb_S128x2048_S128x512_0_1024, k1_pay7 (View.ld x3 (Rect.unit ![0, 1024] ![128, 512] inb_S128x2048_S128x512_0_1024)) (View.ld x4 (Rect.unit ![0, 1024] ![128, 512] inb_S128x2048_S128x512_0_1024))⟩,
   ⟨Rect.unit ![0, 512] ![128, 512] inb_S128x2048_S128x512_0_512, k1_pay6 (k1_pay3 (View.ld x4 (Rect.unit ![0, 512] ![128, 512] inb_S128x2048_S128x512_0_512))) (k1_pay4 (View.ld x3 (Rect.unit ![0, 512] ![128, 512] inb_S128x2048_S128x512_0_512))) (k1_pay5 (View.ld x3 (Rect.unit ![0, 512] ![128, 512] inb_S128x2048_S128x512_0_512)))⟩,
   ⟨Rect.unit ![0, 0] ![128, 512] inb_S128x2048_S128x512_0_0, k1_pay2 (View.ld x3 (Rect.unit ![0, 0] ![128, 512] inb_S128x2048_S128x512_0_0)) (View.ld x4 (Rect.unit ![0, 0] ![128, 512] inb_S128x2048_S128x512_0_0))⟩]

/-- The normed and gated heads, as the body reads them back. -/
def nF (x3 x4 : Vec Ideal S128x2048 .f32) : FVec Ideal S128x2048 .bf16 := View.canon (nL x3 x4)

/-- The rows that the body stores, from the normed and gated heads. -/
def xF (x0 : Vec Ideal S128x1024 .f32) (x1 : Vec Ideal S1x3x128x1024 .f32) (x2 : Vec Ideal S1x1024 .f32)
    (x5 : Vec Ideal S2048x1024 .bf16) (n : FVec Ideal S128x2048 .bf16) : FVec Ideal S128x1024 .f32 :=
  k1_pay1 (k1_pay9 n x5) (k1_pay10 x0)
    (k1_pay11 (View.ld x1 (Rect.unit ![0, 2, 0, 0] ![1, 1, 128, 1024] inb_S1x3x128x1024_S1x1x128x1024_0_2_0_0)))
    (k1_pay12 x2) (k1_pay13 n x5) (Scalar.ofBits .f32 0x44800000#32)

/-- A load of the whole scratch array reads what its writes leave. -/
theorem readCov_all {sig : RefSig} {κ : Kind} {sp : Space} (v : View sig κ sp S128x2048 .bf16)
    (L : List (View.Piece (Elt Ideal) S128x2048 .bf16)) :
    v.readCov L (Rect.unit ![0, 0] ![128, 2048] inb_S128x2048_S128x2048_0_0).toLoadRect = View.canon L := by
  rw [View.readCov_eq_canon']
  funext j
  congr 1
  funext a
  apply Fin.ext
  fin_cases a <;> simp [LoadRect.idx, Rect.toLoadRect, Rect.unit]

set_option maxHeartbeats 2000000 in
/-- What the body leaves in the rows' buffer. -/
theorem out6_eq (c : Dev nD) (arg0 : Memref sig .tc .vmem S128x1024 .f32) (harg0 : arg0.IsWhole) (arg1 : Memref sig .tc .vmem S1x3x128x1024 .f32) (harg1 : arg1.IsWhole) (arg2 : Memref sig .tc .vmem S1x1024 .f32) (harg2 : arg2.IsWhole) (arg3 : Memref sig .tc .vmem S128x2048 .f32) (harg3 : arg3.IsWhole) (arg4 : Memref sig .tc .vmem S128x2048 .f32) (harg4 : arg4.IsWhole) (arg5 : Memref sig .tc .vmem S2048x1024 .bf16) (harg5 : arg5.IsWhole) (arg6 : Memref sig .tc .vmem S128x1024 .f32) (harg6 : arg6.IsWhole) (arg7 : Memref sig .tc .vmem S128x2048 .bf16) (harg7 : arg7.IsWhole)
    (x0 : Vec Ideal S128x1024 .f32) (x1 : Vec Ideal S1x3x128x1024 .f32) (x2 : Vec Ideal S1x1024 .f32) (x3 : Vec Ideal S128x2048 .f32) (x4 : Vec Ideal S128x2048 .f32) (x5 : Vec Ideal S2048x1024 .bf16) :
    out1_A_6 c arg0 harg0 arg1 harg1 arg2 harg2 arg3 harg3 arg4 harg4 arg5 harg5 arg6 harg6 arg7 harg7 x0 x1 x2 x3 x4 x5
      = xF x0 x1 x2 x5 (nF x3 x4) := by
  frame_open
  frame_out
  simp only [readCov_all]
  rfl

/-! ### The heads in the scratch array -/

/-- Where head 0's lanes stand in the scratch array. -/
theorem emb_head0 (r : Fin 128) (e : Fin 512) :
    (Rect.unit (s := S128x2048) ![0, 0] ![128, 512] inb_S128x2048_S128x512_0_0).emb (ix2 r e) = ix2 r ⟨0 + e.val, by omega⟩ := by
  funext a
  apply Fin.ext
  fin_cases a <;> simp [Rect.emb, Rect.unit]

/-- Head 0's lanes are in its piece. -/
theorem mem_head0 (r : Fin 128) (j : Fin 2048) (hj : 0 ≤ j.val ∧ j.val < 512) :
    ix2 r j ∈ (Rect.unit (s := S128x2048) ![0, 0] ![128, 512] inb_S128x2048_S128x512_0_0).set := by
  rw [Rect.mem_set_unit]
  intro a
  fin_cases a
  · show 0 ≤ r.val ∧ r.val < 0 + 128
    omega
  · show 0 ≤ j.val ∧ j.val < 0 + 512
    omega

/-- Where head 1's lanes stand in the scratch array. -/
theorem emb_head1 (r : Fin 128) (e : Fin 512) :
    (Rect.unit (s := S128x2048) ![0, 512] ![128, 512] inb_S128x2048_S128x512_0_512).emb (ix2 r e) = ix2 r ⟨512 + e.val, by omega⟩ := by
  funext a
  apply Fin.ext
  fin_cases a <;> simp [Rect.emb, Rect.unit]

/-- Head 1's lanes are in its piece. -/
theorem mem_head1 (r : Fin 128) (j : Fin 2048) (hj : 512 ≤ j.val ∧ j.val < 1024) :
    ix2 r j ∈ (Rect.unit (s := S128x2048) ![0, 512] ![128, 512] inb_S128x2048_S128x512_0_512).set := by
  rw [Rect.mem_set_unit]
  intro a
  fin_cases a
  · show 0 ≤ r.val ∧ r.val < 0 + 128
    omega
  · show 512 ≤ j.val ∧ j.val < 512 + 512
    omega

/-- Where head 2's lanes stand in the scratch array. -/
theorem emb_head2 (r : Fin 128) (e : Fin 512) :
    (Rect.unit (s := S128x2048) ![0, 1024] ![128, 512] inb_S128x2048_S128x512_0_1024).emb (ix2 r e) = ix2 r ⟨1024 + e.val, by omega⟩ := by
  funext a
  apply Fin.ext
  fin_cases a <;> simp [Rect.emb, Rect.unit]

/-- Head 2's lanes are in its piece. -/
theorem mem_head2 (r : Fin 128) (j : Fin 2048) (hj : 1024 ≤ j.val ∧ j.val < 1536) :
    ix2 r j ∈ (Rect.unit (s := S128x2048) ![0, 1024] ![128, 512] inb_S128x2048_S128x512_0_1024).set := by
  rw [Rect.mem_set_unit]
  intro a
  fin_cases a
  · show 0 ≤ r.val ∧ r.val < 0 + 128
    omega
  · show 1024 ≤ j.val ∧ j.val < 1024 + 512
    omega

/-- Where head 3's lanes stand in the scratch array. -/
theorem emb_head3 (r : Fin 128) (e : Fin 512) :
    (Rect.unit (s := S128x2048) ![0, 1536] ![128, 512] inb_S128x2048_S128x512_0_1536).emb (ix2 r e) = ix2 r ⟨1536 + e.val, by omega⟩ := by
  funext a
  apply Fin.ext
  fin_cases a <;> simp [Rect.emb, Rect.unit]

/-- Head 3's lanes are in its piece. -/
theorem mem_head3 (r : Fin 128) (j : Fin 2048) (hj : 1536 ≤ j.val ∧ j.val < 2048) :
    ix2 r j ∈ (Rect.unit (s := S128x2048) ![0, 1536] ![128, 512] inb_S128x2048_S128x512_0_1536).set := by
  rw [Rect.mem_set_unit]
  intro a
  fin_cases a
  · show 0 ≤ r.val ∧ r.val < 0 + 128
    omega
  · show 1536 ≤ j.val ∧ j.val < 1536 + 512
    omega

/-- The normed and gated lanes, as an array. -/
def nG (a : Close.Args) : S128x2048.Idx → EReal := fun i => Close.N a (i 0) (i 1)

/-- The normed and gated lanes at a head's lane. -/
theorem nG_at (a : Close.Args) (r : Fin 128) (o : ℕ) (ho : o % 512 = 0) (hl : o + 512 ≤ 2048) (e : Fin 512) :
    nG a (ix2 r ⟨o + e.val, by omega⟩)
      = Ret.gn (fun k : Fin 512 => a.o (ix2 r ⟨o + k.val, by omega⟩)) e * Ret.silu (Close.G a r ⟨o + e.val, by omega⟩) := by
  show Close.N a r ⟨o + e.val, _⟩ = _
  unfold Close.N
  have h1 : ∀ k : Fin 512, (⟨(o + e.val) / 512 * 512 + k.val, by omega⟩ : Fin 2048) = ⟨o + k.val, by omega⟩ := fun k =>
    Fin.ext (show (o + e.val) / 512 * 512 + k.val = o + k.val by omega)
  have h2 : (⟨(o + e.val) % 512, Nat.mod_lt _ (by decide)⟩ : Fin 512) = e := Fin.ext (show (o + e.val) % 512 = e.val by omega)
  simp only [h1, h2]

section heads
variable {a : Close.Args} {x3 x4 : Vec Ideal S128x2048 .f32} (h3 : ∀ (r : Fin 128) (j : Fin 2048), x3 (ix2 r j) = a.o (ix2 r j))
    (h4 : ∀ (r : Fin 128) (j : Fin 2048), x4 (ix2 r j) = Close.G a r j)
include h3 h4

set_option maxHeartbeats 4000000 in
/-- What is stored for head 0. -/
theorem head0 (r : Fin 128) (e : Fin 512) :
    k1_pay2 (View.ld x3 (Rect.unit ![0, 0] ![128, 512] inb_S128x2048_S128x512_0_0)) (View.ld x4 (Rect.unit ![0, 0] ![128, 512] inb_S128x2048_S128x512_0_0)) (ix2 r e)
      = nG a (ix2 r ⟨0 + e.val, by omega⟩) := by
  rw [nG_at a r 0 (by decide) (by decide) e]
  unfold Ret.gn Ret.mean Ret.silu
  simp only [← h3, ← h4]
  pointwise [k1_pay2]
  try rfl

set_option maxHeartbeats 4000000 in
/-- What is stored for head 1. -/
theorem head1 (r : Fin 128) (e : Fin 512) :
    k1_pay6 (k1_pay3 (View.ld x4 (Rect.unit ![0, 512] ![128, 512] inb_S128x2048_S128x512_0_512))) (k1_pay4 (View.ld x3 (Rect.unit ![0, 512] ![128, 512] inb_S128x2048_S128x512_0_512))) (k1_pay5 (View.ld x3 (Rect.unit ![0, 512] ![128, 512] inb_S128x2048_S128x512_0_512))) (ix2 r e)
      = nG a (ix2 r ⟨512 + e.val, by omega⟩) := by
  rw [nG_at a r 512 (by decide) (by decide) e]
  unfold Ret.gn Ret.mean Ret.silu
  simp only [← h3, ← h4]
  pointwise [k1_pay6, k1_pay3, k1_pay4, k1_pay5]
  try rfl

set_option maxHeartbeats 4000000 in
/-- What is stored for head 2. -/
theorem head2 (r : Fin 128) (e : Fin 512) :
    k1_pay7 (View.ld x3 (Rect.unit ![0, 1024] ![128, 512] inb_S128x2048_S128x512_0_1024)) (View.ld x4 (Rect.unit ![0, 1024] ![128, 512] inb_S128x2048_S128x512_0_1024)) (ix2 r e)
      = nG a (ix2 r ⟨1024 + e.val, by omega⟩) := by
  rw [nG_at a r 1024 (by decide) (by decide) e]
  unfold Ret.gn Ret.mean Ret.silu
  simp only [← h3, ← h4]
  pointwise [k1_pay7]
  try rfl

set_option maxHeartbeats 4000000 in
/-- What is stored for head 3. -/
theorem head3 (r : Fin 128) (e : Fin 512) :
    k1_pay8 (View.ld x3 (Rect.unit ![0, 1536] ![128, 512] inb_S128x2048_S128x512_0_1536)) (View.ld x4 (Rect.unit ![0, 1536] ![128, 512] inb_S128x2048_S128x512_0_1536)) (ix2 r e)
      = nG a (ix2 r ⟨1536 + e.val, by omega⟩) := by
  rw [nG_at a r 1536 (by decide) (by decide) e]
  unfold Ret.gn Ret.mean Ret.silu
  simp only [← h3, ← h4]
  pointwise [k1_pay8]
  try rfl

/-- The scratch array after the four stores. -/
theorem nF_at (r : Fin 128) (j : Fin 2048) : nF x3 x4 (ix2 r j) = Close.N a r j := by
  refine (View.canon_append_of_piecesOf (nG a) [] (nL x3 x4) ?_ (ix2 r j) ?_).trans rfl
  · refine ⟨fun x => ?_, fun x => ?_, fun x => ?_, fun x => ?_, trivial⟩
    · rw [ix_two x]
      exact (head3 h3 h4 (x 0) (x 1)).trans (congrArg (nG a) (emb_head3 (x 0) (x 1))).symm
    · rw [ix_two x]
      exact (head2 h3 h4 (x 0) (x 1)).trans (congrArg (nG a) (emb_head2 (x 0) (x 1))).symm
    · rw [ix_two x]
      exact (head1 h3 h4 (x 0) (x 1)).trans (congrArg (nG a) (emb_head1 (x 0) (x 1))).symm
    · rw [ix_two x]
      exact (head0 h3 h4 (x 0) (x 1)).trans (congrArg (nG a) (emb_head0 (x 0) (x 1))).symm
  · by_cases q1 : j.val < 512
    · exact ⟨_, .tail _ (.tail _ (.tail _ (.head _))), mem_head0 r j ⟨by omega, q1⟩⟩
    by_cases q2 : j.val < 1024
    · exact ⟨_, .tail _ (.tail _ (.head _)), mem_head1 r j ⟨by omega, q2⟩⟩
    by_cases q3 : j.val < 1536
    · exact ⟨_, .tail _ (.head _), mem_head2 r j ⟨by omega, q3⟩⟩
    · exact ⟨_, .head _, mem_head3 r j ⟨by omega, j.isLt⟩⟩

end heads

set_option maxHeartbeats 4000000 in
/-- The stored rows are the chain's. -/
theorem rows_block (a : Close.Args) {x0 : Vec Ideal S128x1024 .f32} {x1 : Vec Ideal S1x3x128x1024 .f32} {x2 : Vec Ideal S1x1024 .f32}
    {x5 : Vec Ideal S2048x1024 .bf16} {n : FVec Ideal S128x2048 .bf16}
    (h0 : ∀ (r : Fin 128) (k : Fin 1024), x0 (ix2 r k) = a.x (ix3 r 0 k))
    (h1 : ∀ (s : Fin 3) (r : Fin 128) (k : Fin 1024), x1 (ix4 0 s r k) = a.m (ix3 s r k))
    (h2 : ∀ k : Fin 1024, x2 (ix2 0 k) = a.gq (ix3 1 1 k))
    (h5 : ∀ (j : Fin 2048) (k : Fin 1024), x5 (ix2 j k) = a.wout (ix3 0 j k))
    (hn : ∀ (r : Fin 128) (j : Fin 2048), n (ix2 r j) = Close.N a r j) (r : Fin 128) (k : Fin 1024) :
    xF x0 x1 x2 x5 n (ix2 r k) = Close.X a r k := by
  unfold Close.X Ret.rinv Close.Y
  simp only [← h0, ← h1, ← h2, ← h5, ← hn]
  pointwise [xF, k1_pay1, k1_pay9, k1_pay10, k1_pay11, k1_pay12, k1_pay13]
  try rfl

/-! ### What the call reads -/

variable (m : (ℓ : Loc nD τ sig) → Buf (Elt Ideal) ℓ) (ρ : Dev nD → PrngReg) (c : Dev nD)

/-- The samples' rows, as the call finds them. -/
theorem W3_x (r : Fin 128) (k : Fin 1024) : W3 m ρ c (Proc.devRef .tc main_v0) (ix2 r k) = (args m c).x (ix3 r 0 k) :=
  (congrFun ((W3_of m ρ c main_v0 (by decide +kernel)).trans (W2_of m ρ c main_v0 (by decide +kernel))) _).trans (W1_x m ρ c r k)

/-- The modulation, as the call finds it. -/
theorem W3_m (s : Fin 3) (r : Fin 128) (k : Fin 1024) : W3 m ρ c (Proc.devRef .tc main_v1) (ix4 0 s r k) = (args m c).m (ix3 s r k) :=
  (congrFun ((W3_of m ρ c main_v1 (by decide +kernel)).trans (W2_of m ρ c main_v1 (by decide +kernel))) _).trans (W1_m m ρ c s r k)

set_option maxHeartbeats 4000000 in
/-- The norm's weight, as the call finds it. -/
theorem W3_gq (k : Fin 1024) : W3 m ρ c (Proc.devRef .tc main_v23) (ix2 0 k) = (args m c).gq (ix3 1 1 k) := by
  show StableHlo.after hostOps1 (W2 m ρ c) (Proc.devRef .tc main_v23) (ix2 0 k) = _
  after_reads_at
  exact congrFun (W2_args m ρ c main_arg5 (by decide)) _

/-- The read-out, as the call finds it. -/
theorem W3_o (r : Fin 128) (j : Fin 2048) : W3 m ρ c (Proc.devRef .tc main_arg1) (ix2 r j) = (args m c).o (ix2 r j) :=
  congrFun (W3_args m ρ c main_arg1 (by decide)) _

/-- The gate, as the call finds it. -/
theorem W3_g (r : Fin 128) (j : Fin 2048) : W3 m ρ c (Proc.devRef .tc main_v20_3) (ix2 r j) = Close.G (args m c) r j :=
  congrFun ((W3_of m ρ c main_v20_3 (by decide +kernel)).trans (W2_g m ρ c)) _

set_option maxHeartbeats 4000000 in
/-- The output projection's weights, as the call finds them. -/
theorem W3_wout (j : Fin 2048) (k : Fin 1024) : W3 m ρ c (Proc.devRef .tc main_v25) (ix2 j k) = (args m c).wout (ix3 0 j k) := by
  show StableHlo.after hostOps1 (W2 m ρ c) (Proc.devRef .tc main_v25) (ix2 j k) = _
  after_reads_at
  exact congrFun (W2_args m ρ c main_arg7 (by decide)) _

/-- Where window 0's block stands. -/
theorem idx0 : ∀ t : Fin grid1.N, win1_0.index t = ![0, 0] := by decide +kernel
/-- Where window 1's block stands. -/
theorem idx1 : ∀ t : Fin grid1.N, win1_1.index t = ![0, 0, 0, 0] := by decide +kernel
/-- Where window 2's block stands. -/
theorem idx2 : ∀ t : Fin grid1.N, win1_2.index t = ![0, 0] := by decide +kernel
/-- Where window 3's block stands. -/
theorem idx3 : ∀ t : Fin grid1.N, win1_3.index t = ![0, 0] := by decide +kernel
/-- Where window 4's block stands. -/
theorem idx4 : ∀ t : Fin grid1.N, win1_4.index t = ![0, 0] := by decide +kernel
/-- Where window 5's block stands. -/
theorem idx5 : ∀ t : Fin grid1.N, win1_5.index t = ![0, 0] := by decide +kernel
/-- Where window 6's block stands. -/
theorem idx6 : ∀ t : Fin grid1.N, win1_6.index t = ![0, 0] := by decide +kernel

/-- Window 0's block, at an index. -/
theorem rd0 (t : Fin cfg1.N) (r : Fin 128) (k : Fin 1024) : iblk1 (V3 m ρ) c 0 t (ix2 r k) = V3 m ρ c main_v0 (ix2 r k) := by
  blk_point [iblk1, idx0 t]

/-- Window 1's block, at an index. -/
theorem rd1 (t : Fin cfg1.N) (s : Fin 3) (r : Fin 128) (k : Fin 1024) : iblk1 (V3 m ρ) c 1 t (ix4 0 s r k) = V3 m ρ c main_v1 (ix4 0 s r k) := by
  blk_point [iblk1, idx1 t]

/-- Window 2's block, at an index. -/
theorem rd2 (t : Fin cfg1.N) (k : Fin 1024) : iblk1 (V3 m ρ) c 2 t (ix2 0 k) = V3 m ρ c main_v23 (ix2 0 k) := by
  blk_point [iblk1, idx2 t]

/-- Window 3's block, at an index. -/
theorem rd3 (t : Fin cfg1.N) (r : Fin 128) (j : Fin 2048) : iblk1 (V3 m ρ) c 3 t (ix2 r j) = V3 m ρ c main_arg1 (ix2 r j) := by
  blk_point [iblk1, idx3 t]

/-- Window 4's block, at an index. -/
theorem rd4 (t : Fin cfg1.N) (r : Fin 128) (j : Fin 2048) : iblk1 (V3 m ρ) c 4 t (ix2 r j) = V3 m ρ c main_v20_3 (ix2 r j) := by
  blk_point [iblk1, idx4 t]

/-- Window 5's block, at an index. -/
theorem rd5 (t : Fin cfg1.N) (j : Fin 2048) (k : Fin 1024) : iblk1 (V3 m ρ) c 5 t (ix2 j k) = V3 m ρ c main_v25 (ix2 j k) := by
  blk_point [iblk1, idx5 t]

/-! ### What the call leaves -/

/-- The rows' block read through its placement. -/
theorem emb6 {α : Type} (f : S128x1024.Idx → α) (t : Fin cfg1.N) (r : Fin 128) (k : Fin 1024) :
    f (((cfg1.win 6).blk t).view.emb (ix2 r k)) = f (ix2 r k) := by
  blk_ext [idx6 t]

/-- What the body leaves in the rows' buffer. -/
def left (t : Fin cfg1.N) : S128x1024.Idx → EReal :=
  xF (iblk1 (V3 m ρ) c 0 t) (iblk1 (V3 m ρ) c 1 t) (iblk1 (V3 m ρ) c 2 t) (iblk1 (V3 m ρ) c 5 t)
    (nF (iblk1 (V3 m ρ) c 3 t) (iblk1 (V3 m ρ) c 4 t))

/-- The rows that the body leaves are the chain's. -/
theorem left_at (t : Fin cfg1.N) (r : Fin 128) (k : Fin 1024) : left m ρ c t (ix2 r k) = Close.X (args m c) r k := by
  unfold left
  refine rows_block (args m c) ?_ ?_ ?_ ?_ ?_ r k
  · exact fun r k => (rd0 m ρ c t r k).trans (W3_x m ρ c r k)
  · exact fun s r k => (rd1 m ρ c t s r k).trans (W3_m m ρ c s r k)
  · exact fun k => (rd2 m ρ c t k).trans (W3_gq m ρ c k)
  · exact fun j k => (rd5 m ρ c t j k).trans (W3_wout m ρ c j k)
  · exact nF_at (fun r j => (rd3 m ρ c t r j).trans (W3_o m ρ c r j)) (fun r j => (rd4 m ρ c t r j).trans (W3_g m ρ c r j))

/-- What the call writes back, as the body leaves it. -/
theorem flushed6 (t : Fin cfg1.N) : (dat1 (V3 m ρ) c).flushed 6 t = (cfg1.win 6).cut (grid1.coords t) (left m ρ c t) := by
  show (cfg1.win 6).cut (grid1.coords t) ((dat1 (V3 m ρ) c).after 6 t) = _
  rw [after1_6]
  simp only [outsAt1]
  rw [out6_eq]
  rfl

/-- What the call writes back. -/
theorem flushed6_eq (t : Fin cfg1.N) (_hf : (cfg1.win 6).flush t = true) :
    (dat1 (V3 m ρ) c).flushed 6 t = ((cfg1.win 6).blk t).view.read (Elt Ideal) (Close.xG (args m c)) := by
  rw [flushed6]
  funext y
  refine Eq.trans (b := left m ρ c t y) rfl (Eq.trans ?_ (rfl : Close.xG (args m c) (((cfg1.win 6).blk t).view.emb y) = _))
  rw [ix_two y]
  refine (left_at m ρ c t _ _).trans ?_
  exact (emb6 (Close.xG (args m c)) t _ _).symm

/-- Every index of the rows is written back. -/
theorem cover6 (i : S128x1024.Idx) :
    ∃ t : Fin cfg1.N, (cfg1.win 6).flush t = true ∧ i ∈ ((cfg1.win 6).blk t).view.set := by
  have ht : 0 < cfg1.N := lt_of_lt_of_eq Nat.one_pos N_1.symm
  refine ⟨⟨0, ht⟩, flush1_6 _, ?_⟩
  have e := emb6 id ⟨0, ht⟩ (i 0 : Fin 128) (i 1 : Fin 1024)
  exact (e.trans (ix_two i).symm) ▸ ((cfg1.win 6).blk ⟨0, ht⟩).view.emb_mem_set _

/-- The call's rows are the chain's. -/
theorem arr6 : (dat1 (V3 m ρ) c).arrAt 6 cfg1.N = Close.xG (args m c) :=
  (dat1 (V3 m ρ) c).arrAt_eq_of_cover 6 (Close.xG (args m c)) (flushed6_eq m ρ c) cover6

/-- The rows, as the host reads them after the call. -/
theorem W4_x : W4 m ρ c (Proc.devRef .tc main_v26) = Close.xG (args m c) := (W4_arr m ρ c 6).trans (arr6 m ρ c)

end Cert.Kernel6Ideal.Value.Mix
-- ==== Proof.CloseFfn.lean ====
/-
  The last feed-forward call over the samples, entered with the retention sublayer's result: what a grid point reads, what
  it writes back, and the array that the call leaves.
-/
module
public import proofs.«01_k».proof.Proof.CloseMix
public import Idealize.ShloMosaic.Lib.Pointwise
public import Idealize.ShloMosaic.Lib.Pipeline.ValueKit
public import Idealize.ShloMosaic.Lib.Pipeline.ReadBack
public import Idealize.ShloMosaic.Lib.StableHlo.ReadAt
public import Idealize.ShloMosaic.Lib.Claim
@[expose] public section
set_option maxRecDepth 16384
noncomputable section
namespace Cert.Kernel6Ideal.Value.Rows
open Idealize.ShloMosaic Idealize.ShloMosaic.TcCoe Idealize.SL.Sem Cert.Kernel6Ideal.Gen
open Idealize.ShloMosaic.StableHlo
open Idealize.ShloMosaic.Pipeline (Dat)
open Cert.Ffn (Inp)

/-! ### One block -/

/-- A block's operands, read against the sublayer's inputs. -/
structure Blk (I : Inp 128 1) (x0 : Vec Ideal S1x128x1024 .f32)
    (x1 : Vec Ideal S1x3x128x1024 .f32) (x2 x3 : Vec Ideal S1x1024 .f32) (x4 : Vec Ideal S1x1x1024x5632 .bf16)
    (x5 : Vec Ideal S1x1x2816x1024 .bf16) : Prop where
  rows : ∀ (r : Fin 128) (k : Fin 1024), x0 (ix3 0 r k) = I.X r 0 k
  mods : ∀ (s : Fin 3) (r : Fin 128) (k : Fin 1024), x1 (ix4 0 s r k) = I.M r s k
  pre : ∀ k : Fin 1024, x2 (ix2 0 k) = I.GP k
  post : ∀ k : Fin 1024, x3 (ix2 0 k) = I.GQ k
  win : ∀ (k : Fin 1024) (l : Fin 5632), x4 (ix4 0 0 k l) = I.WI k l
  wout : ∀ (k : Fin 2816) (l : Fin 1024), x5 (ix4 0 0 k l) = I.WO k l

section block
variable {I : Inp 128 1} {x0 : Vec Ideal S1x128x1024 .f32}
    {x1 : Vec Ideal S1x3x128x1024 .f32} {x2 x3 : Vec Ideal S1x1024 .f32} {x4 : Vec Ideal S1x1x1024x5632 .bf16}
    {x5 : Vec Ideal S1x1x2816x1024 .bf16} (B : Blk I x0 x1 x2 x3 x4 x5)

/-- The block's gated lanes. -/
def aF (x0 : Vec Ideal S1x128x1024 .f32) (x1 : Vec Ideal S1x3x128x1024 .f32) (x2 : Vec Ideal S1x1024 .f32)
    (x4 : Vec Ideal S1x1x1024x5632 .bf16) : FVec Ideal S128x2816 .bf16 :=
  k2_pay3 (View.ld x0 r2_0) (View.ld x2 r2_1) (View.ld x1 r2_2) (View.ld x1 r2_3) (View.ld x4 r2_4)

include B

set_option maxHeartbeats 4000000 in
/-- The block's gated lanes are the sublayer's. -/
theorem Blk.a_eq (r : Fin 128) (j : Fin 2816) : aF x0 x1 x2 x4 (ix2 r j) = Ffn.A I r 0 j := by
  unfold Ffn.A Ffn.P Ffn.H Ret.rinv Ret.silu
  simp only [← B.rows, ← B.mods, ← B.pre, ← B.win]
  pointwise [aF, k2_pay3, k2_pay2]
  try rfl

set_option maxHeartbeats 4000000 in
/-- The block's stored rows are the sublayer's result. -/
theorem Blk.out_eq (r : Fin 128) (k : Fin 1024) :
    k2_pay1 (k2_pay2 (View.ld x0 r2_0)) (aF x0 x1 x2 x4) (View.ld x5 r2_5) (View.ld x1 r2_6) (View.ld x3 r2_1) (ix3 0 r k)
      = Ffn.out I r 0 k := by
  unfold Ffn.out Ret.rinv Ffn.Y
  simp only [← B.rows, ← B.mods, ← B.post, ← B.wout, ← B.a_eq]
  pointwise [k2_pay1, k2_pay2]
  try rfl

end block

/-! ### What the grid points read -/

variable (m : (ℓ : Loc nD τ sig) → Buf (Elt Ideal) ℓ) (ρ : Dev nD → PrngReg) (c : Dev nD)

/-- Where window 0's block stands at a point. -/
theorem idx0 : ∀ t : Fin grid2.N, win2_0.index t = ![0, 0, 0] := by decide +kernel
/-- Where window 1's block stands at a point. -/
theorem idx1 : ∀ t : Fin grid2.N, win2_1.index t = ![0, 0, 0, 0] := by decide +kernel
/-- Where window 2's block stands at a point. -/
theorem idx2 : ∀ t : Fin grid2.N, win2_2.index t = ![0, 0] := by decide +kernel
/-- Where window 3's block stands at a point. -/
theorem idx3 : ∀ t : Fin grid2.N, win2_3.index t = ![0, 0] := by decide +kernel
/-- Where window 4's block stands at a point. -/
theorem idx4 : ∀ t : Fin grid2.N, win2_4.index t = ![1, 1, 0, 0] := by decide +kernel
/-- Where window 5's block stands at a point. -/
theorem idx5 : ∀ t : Fin grid2.N, win2_5.index t = ![1, 1, 0, 0] := by decide +kernel
/-- Where the result window's block stands at a point. -/
theorem idx6 : ∀ t : Fin grid2.N, win2_6.index t = ![0, 0, 0] := by decide +kernel

/-- Window 0's block, at an index. -/
theorem rd0 (t : Fin cfg2.N) (r : Fin 128) (k : Fin 1024) : iblk2 (V5 m ρ) c 0 t (ix3 0 r k) = V5 m ρ c main_v27 (ix3 0 r k) := by
  blk_point [iblk2, idx0 t]

/-- Window 1's block, at an index. -/
theorem rd1 (t : Fin cfg2.N) (s : Fin 3) (r : Fin 128) (k : Fin 1024) : iblk2 (V5 m ρ) c 1 t (ix4 0 s r k) = V5 m ρ c main_v28 (ix4 0 s r k) := by
  blk_point [iblk2, idx1 t]

/-- Window 2's block, at an index. -/
theorem rd2 (t : Fin cfg2.N) (k : Fin 1024) : iblk2 (V5 m ρ) c 2 t (ix2 0 k) = V5 m ρ c main_v31 (ix2 0 k) := by
  blk_point [iblk2, idx2 t]

/-- Window 3's block, at an index. -/
theorem rd3 (t : Fin cfg2.N) (k : Fin 1024) : iblk2 (V5 m ρ) c 3 t (ix2 0 k) = V5 m ρ c main_v34 (ix2 0 k) := by
  blk_point [iblk2, idx3 t]

/-- Window 4's block, at an index. -/
theorem rd4 (t : Fin cfg2.N) (k : Fin 1024) (l : Fin 5632) : iblk2 (V5 m ρ) c 4 t (ix4 0 0 k l) = V5 m ρ c main_v35 (ix4 1 1 k l) := by
  blk_point [iblk2, idx4 t]

/-- Window 5's block, at an index. -/
theorem rd5 (t : Fin cfg2.N) (k : Fin 2816) (l : Fin 1024) : iblk2 (V5 m ρ) c 5 t (ix4 0 0 k l) = V5 m ρ c main_v36 (ix4 1 1 k l) := by
  blk_point [iblk2, idx5 t]

set_option maxHeartbeats 4000000 in
/-- The array window 0 reads, at an index: the samples' rows. -/
theorem ar0 (r : Fin 128) (k : Fin 1024) : V5 m ρ c main_v27 (ix3 0 r k) = (Close.ffn (args m c)).X r 0 k := by
  show StableHlo.after hostOps2 (W4 m ρ c) (Proc.devRef .tc main_v27) (ix3 0 r k) = _
  after_reads_at
  exact congrFun (Mix.W4_x m ρ c) _

set_option maxHeartbeats 4000000 in
/-- The array window 1 reads, at an index. -/
theorem ar1 (s : Fin 3) (r : Fin 128) (k : Fin 1024) : V5 m ρ c main_v28 (ix4 0 s r k) = (Close.ffn (args m c)).M r s k := by
  show StableHlo.after hostOps2 (W4 m ρ c) (Proc.devRef .tc main_v28) (ix4 0 s r k) = _
  after_reads_at
  exact congrFun (W4_args m ρ c main_arg3 (by decide)) _

set_option maxHeartbeats 4000000 in
/-- The array window 2 reads, at an index. -/
theorem ar2 (k : Fin 1024) : V5 m ρ c main_v31 (ix2 0 k) = (Close.ffn (args m c)).GP k := by
  show StableHlo.after hostOps2 (W4 m ρ c) (Proc.devRef .tc main_v31) (ix2 0 k) = _
  after_reads_at
  exact congrFun (W4_args m ρ c main_arg4 (by decide)) _

set_option maxHeartbeats 4000000 in
/-- The array window 3 reads, at an index. -/
theorem ar3 (k : Fin 1024) : V5 m ρ c main_v34 (ix2 0 k) = (Close.ffn (args m c)).GQ k := by
  show StableHlo.after hostOps2 (W4 m ρ c) (Proc.devRef .tc main_v34) (ix2 0 k) = _
  after_reads_at
  exact congrFun (W4_args m ρ c main_arg5 (by decide)) _

set_option maxHeartbeats 4000000 in
/-- The array window 4 reads, at an index. -/
theorem ar4 (k : Fin 1024) (l : Fin 5632) : V5 m ρ c main_v35 (ix4 1 1 k l) = (Close.ffn (args m c)).WI k l := by
  show StableHlo.after hostOps2 (W4 m ρ c) (Proc.devRef .tc main_v35) (ix4 1 1 k l) = _
  after_reads_at
  exact congrFun (W4_args m ρ c main_arg8 (by decide)) _

set_option maxHeartbeats 4000000 in
/-- The array window 5 reads, at an index. -/
theorem ar5 (k : Fin 2816) (l : Fin 1024) : V5 m ρ c main_v36 (ix4 1 1 k l) = (Close.ffn (args m c)).WO k l := by
  show StableHlo.after hostOps2 (W4 m ρ c) (Proc.devRef .tc main_v36) (ix4 1 1 k l) = _
  after_reads_at
  exact congrFun (W4_args m ρ c main_arg9 (by decide)) _

/-- What point `t` reads. -/
theorem blk (t : Fin cfg2.N) : Blk (Close.ffn (args m c)) (iblk2 (V5 m ρ) c 0 t) (iblk2 (V5 m ρ) c 1 t)
    (iblk2 (V5 m ρ) c 2 t) (iblk2 (V5 m ρ) c 3 t) (iblk2 (V5 m ρ) c 4 t) (iblk2 (V5 m ρ) c 5 t) where
  rows r k := (rd0 m ρ c t r k).trans (ar0 m ρ c r k)
  mods s r k := (rd1 m ρ c t s r k).trans (ar1 m ρ c s r k)
  pre k := (rd2 m ρ c t k).trans (ar2 m ρ c k)
  post k := (rd3 m ρ c t k).trans (ar3 m ρ c k)
  win k l := (rd4 m ρ c t k l).trans (ar4 m ρ c k l)
  wout k l := (rd5 m ρ c t k l).trans (ar5 m ρ c k l)

/-! ### What the call leaves -/

/-- An index of a result block. -/
theorem ix_out (y : S1x128x1024.Idx) : y = ix3 (0 : Fin 1) (y 1 : Fin 128) (y 2 : Fin 1024) := by
  funext a; match a with
  | ⟨0, _⟩ => exact Subsingleton.elim (α := Fin 1) _ _
  | ⟨1, _⟩ => rfl
  | ⟨2, _⟩ => rfl

/-- A result block read through its placement. -/
theorem emb6 {α : Type} (f : S1x128x1024.Idx → α) (t : Fin cfg2.N) (r : Fin 128) (k : Fin 1024) :
    f (((cfg2.win 6).blk t).view.emb (ix3 (0 : Fin 1) r k)) = f (ix3 0 r k) := by
  blk_ext [idx6 t]

/-- What the body leaves in the result's buffer at a point. -/
def left (t : Fin cfg2.N) : S1x128x1024.Idx → EReal :=
  out2_6 (F := Ideal) (iblk2 (V5 m ρ) c 0 t) (iblk2 (V5 m ρ) c 1 t) (iblk2 (V5 m ρ) c 2 t) (iblk2 (V5 m ρ) c 3 t) (iblk2 (V5 m ρ) c 4 t) (iblk2 (V5 m ρ) c 5 t)

/-- A buffer stored whole holds what was stored. -/
theorem whole_at (p : Vec Ideal S1x128x1024 .f32) (r : Fin 128) (k : Fin 1024) :
    View.canon (Val := Elt Ideal) [⟨r2_0, p⟩] (ix3 0 r k) = p (ix3 0 r k) :=
  congrFun (View.canon_cons_unit_lit inb_S1x128x1024_S1x128x1024_0_0_0 p [] (by decide)) _

/-- The rows that the body leaves are the sublayer's result. -/
theorem left_at (t : Fin cfg2.N) (r : Fin 128) (k : Fin 1024) :
    left m ρ c t (ix3 0 r k) = Ffn.out (Close.ffn (args m c)) r 0 k := by
  unfold left out2_6
  exact (whole_at _ r k).trans ((blk m ρ c t).out_eq r k)

/-- What a point writes back, as the body leaves it. -/
theorem flushed6 (t : Fin cfg2.N) : (dat2 (V5 m ρ) c).flushed 6 t = (cfg2.win 6).cut (grid2.coords t) (left m ρ c t) := by
  show (cfg2.win 6).cut (grid2.coords t) ((dat2 (V5 m ρ) c).after 6 t) = _
  rw [after2_6]
  rfl

/-- What a point writes back to the result. -/
theorem flushed6_eq (t : Fin cfg2.N) (_hf : (cfg2.win 6).flush t = true) :
    (dat2 (V5 m ρ) c).flushed 6 t = ((cfg2.win 6).blk t).view.read (Elt Ideal) (Ffn.rowsG (Close.ffn (args m c))) := by
  rw [flushed6]
  funext y
  have hy := ix_out y
  refine Eq.trans (b := left m ρ c t y) rfl (Eq.trans ?_ (rfl : Ffn.rowsG (Close.ffn (args m c)) (((cfg2.win 6).blk t).view.emb y) = _))
  rw [hy]
  refine (left_at m ρ c t _ _).trans ?_
  exact (emb6 (Ffn.rowsG (Close.ffn (args m c))) t _ _).symm

/-- Every index of the result is in the block of a point that writes it back. -/
theorem cover6 (i : S1x128x1024.Idx) :
    ∃ t : Fin cfg2.N, (cfg2.win 6).flush t = true ∧ i ∈ ((cfg2.win 6).blk t).view.set := by
  have ht : 0 < cfg2.N := lt_of_lt_of_eq Nat.one_pos N_2.symm
  refine ⟨⟨0, ht⟩, flush2_6 _, ?_⟩
  have e := emb6 id ⟨0, ht⟩ (i 1 : Fin 128) (i 2 : Fin 1024)
  exact (e.trans (ix_out i).symm) ▸ ((cfg2.win 6).blk ⟨0, ht⟩).view.emb_mem_set
    (ix3 (0 : Fin 1) (i 1 : Fin 128) (i 2 : Fin 1024))

/-- The call's result is the sublayer's. -/
theorem arr6 : (dat2 (V5 m ρ) c).arrAt 6 cfg2.N = Ffn.rowsG (Close.ffn (args m c)) :=
  (dat2 (V5 m ρ) c).arrAt_eq_of_cover 6 (Ffn.rowsG (Close.ffn (args m c))) (flushed6_eq m ρ c) cover6

end Cert.Kernel6Ideal.Value.Rows
-- ==== Proof.Close.lean ====
/-
  The kernel's run of the three calls, with its result named.
-/
module
public import proofs.«01_k».proof.Proof.CloseFfn
public import proofs.«01_k».proof.Proof.Gen.Kernel6.Frame
public import Idealize.ShloMosaic.Lib.Claim
@[expose] public section
set_option maxRecDepth 16384
noncomputable section
namespace Cert.Kernel6Ideal.Value
open Idealize.ShloMosaic Idealize.ShloMosaic.TcCoe Idealize.ShloMosaic.Tactic Cert.Kernel6Ideal.Gen
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

set_option backward.isDefEq.respectTransparency.types false in
/-- Every run of the three calls ends with the rows of the mathematics, whatever the schedule. -/
theorem run_named : θ_run defs (onTc (τ := τ) (main (F := Ideal))) ⟨m, fun _ => 0, ρ⟩ (fun r => ∀ c : Dev nD,
      r.2.mem (c, Proc.devRef .tc main_v37) = Ffn.rowsG (Close.ffn (args m c))) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      (h c _ (mem_uc main_v37 (by decide))).trans ((W6_arr m ρ c 6).trans (Rows.arr6 m ρ c)))

end Cert.Kernel6Ideal.Value
-- ==== Proof.CloseRef.lean ====
/-
  The reference of the samples' end of the layer: each stage, at an index, is the mathematics.
-/
module
public import proofs.«01_k».proof.Proof.CloseMath
public import proofs.«01_k».proof.Proof.Gen.Reference6Ideal.Run
public import Idealize.ShloMosaic.Lib.Pointwise
public import Idealize.ShloMosaic.Lib.Claim
@[expose] public section
set_option maxRecDepth 16384
noncomputable section
namespace Cert.Reference6Ideal.Value
open Idealize.ShloMosaic Idealize.ShloMosaic.TcCoe Idealize.SL.Sem Cert.Reference6Ideal.Gen
open Idealize.ShloMosaic.StableHlo

variable (m : (ℓ : Loc nD τ sig) → Buf (Elt Ideal) ℓ) (c : Dev nD)

/-- The arrays that the chain reads, from the reference's arguments of device `c`. -/
def args : Close.Args where
  x := m (c, Proc.devRef .tc main_arg0)
  o := m (c, Proc.devRef .tc main_arg1)
  m := m (c, Proc.devRef .tc main_arg2)
  mf := m (c, Proc.devRef .tc main_arg3)
  gp := m (c, Proc.devRef .tc main_arg4)
  gq := m (c, Proc.devRef .tc main_arg5)
  win := m (c, Proc.devRef .tc main_arg6)
  wout := m (c, Proc.devRef .tc main_arg7)
  wi := m (c, Proc.devRef .tc main_arg8)
  wo := m (c, Proc.devRef .tc main_arg9)

/-- The retention sublayer's modulation of this run. -/
def mods0 : FVec Ideal S128x3x1024 .f32 := res_main_v0 (F := Ideal) (launchContents m c)
/-- The gate of this run. -/
def gate : FVec Ideal S128x1x2048 .f32 := res_main_v31 (F := Ideal) (launchContents m c)
/-- The read-out of this run, by head. -/
def heads : FVec Ideal S128x1x4x512 .f32 := res_main_v32 (F := Ideal) (launchContents m c)
/-- The retention sublayer's output projection of this run. -/
def proj : FVec Ideal S128x1x1024 .f32 := res_main_v55 (F := Ideal) (launchContents m c)
/-- The retention sublayer's result of this run. -/
def rows : FVec Ideal S128x1x1024 .f32 := res_main_v77 (F := Ideal) (launchContents m c)
/-- The feed-forward sublayer's modulation of this run. -/
def mods1 : FVec Ideal S128x3x1024 .f32 := res_main_v78 (F := Ideal) (launchContents m c)
/-- The feed-forward sublayer's joint projection of this run. -/
def gates : FVec Ideal S128x1x5632 .f32 := res_main_v108 (F := Ideal) (launchContents m c)
/-- The feed-forward sublayer's output projection of this run. -/
def outs : FVec Ideal S128x1x1024 .f32 := res_main_v113 (F := Ideal) (launchContents m c)

/-- The residual plus half of the gated norm, as an array. -/
def resA (x : FVec Ideal S128x1x1024 .f32) (m1 : FVec Ideal S128x3x1024 .f32) (g : FVec Ideal S2x3x1024 .f32)
    (y : FVec Ideal S128x1x1024 .f32) : FVec Ideal S1x128x1024 .f32 :=
  shapeCast _ (addf x (mulf (mulf (broadcastInDim S128x1x1024 ![] bcast_S_S128x1x1024 (constant S_ .f32 0x3F000000#32)) (broadcastInDim S128x1x1024 ![0, 2] bcast_S128x1024_S128x1x1024_0_2 (shapeCast _ (extractStridedSlice S128x1x1024 ![0, 2, 0] m1 slices_S128x3x1024_S128x1x1024_0_2_0) shapeCasts_S128x1x1024_S128x1024))) (mulf (mulf y (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf y y) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 (shapeCast _ (extractStridedSlice S1x1x1024 ![1, 2, 0] g slices_S2x3x1024_S1x1x1024_1_2_0) shapeCasts_S1x1x1024_S1024)))))) shapeCasts_S128x1x1024_S1x128x1024

set_option maxHeartbeats 4000000 in
/-- The retention sublayer's modulation at an index. -/
theorem mods0_at (r : Fin 128) (s : Fin 3) (n : Fin 1024) : mods0 m c (ix3 r s n) = (args m c).m (ix3 s r n) := by
  pointwise [mods0, res_main_v0]
  try rfl

set_option maxHeartbeats 4000000 in
/-- The gate at an index. -/
theorem gate_at (r : Fin 128) (j : Fin 2048) : gate m c (ix3 r 0 j) = Close.G (args m c) r j := by
  unfold Close.G Close.H Ret.rinv
  pointwise [gate, res_main_v31, res_main_v27, res_main_v0]
  rfl

set_option maxHeartbeats 4000000 in
/-- The read-out by head at an index. -/
theorem heads_at (r : Fin 128) (h : Fin 4) (e : Fin 512) :
    heads m c (ix4 r 0 h e) = (args m c).o (ix2 r ⟨h.val * 512 + e.val, by omega⟩) := by
  pointwise [heads, res_main_v32]
  try rfl

set_option maxHeartbeats 4000000 in
/-- The retention sublayer's output projection at an index. -/
theorem proj_at (r : Fin 128) (n : Fin 1024) : proj m c (ix3 r 0 n) = Close.Y (args m c) r n := by
  unfold Close.Y Close.N Ret.gn Ret.mean Ret.silu
  simp only [← gate_at]
  pointwise [proj, res_main_v55, res_main_v38, res_main_v36, res_main_v32, gate]
  rfl

set_option maxHeartbeats 4000000 in
/-- The retention sublayer's result at an index. -/
theorem rows_at (r : Fin 128) (n : Fin 1024) : rows m c (ix3 r 0 n) = Close.X (args m c) r n := by
  unfold Close.X Ret.rinv
  simp only [← proj_at]
  pointwise [rows, res_main_v77, res_main_v0, proj]
  try simp only [one_mul]
  try rfl

set_option maxHeartbeats 4000000 in
/-- The feed-forward sublayer's joint projection at an index. -/
theorem gates_at (b : Fin 128) (t : Fin 1) (l : Fin 5632) : gates m c (ix3 b t l) = Ffn.P (Close.ffn (args m c)) b t l := by
  obtain rfl : t = 0 := Subsingleton.elim _ _
  have hx : ∀ n, (Close.ffn (args m c)).X b 0 n = rows m c (ix3 b 0 n) := fun n => (rows_at m c b n).symm
  unfold Ffn.P Ffn.H Ret.rinv
  simp only [hx]
  pointwise [gates, res_main_v108, res_main_v78]
  rfl

set_option maxHeartbeats 4000000 in
/-- The feed-forward sublayer's output projection at an index. -/
theorem outs_at (b : Fin 128) (t : Fin 1) (n : Fin 1024) : outs m c (ix3 b t n) = Ffn.Y (Close.ffn (args m c)) b t n := by
  obtain rfl : t = 0 := Subsingleton.elim _ _
  unfold Ffn.Y Ffn.A Ret.silu
  simp only [← gates_at]
  pointwise [outs, res_main_v113, res_main_v109]
  rfl

set_option maxHeartbeats 4000000 in
/-- The result at an index. -/
theorem res_at (r : Fin 128) (n : Fin 1024) :
    resA (rows m c) (mods1 m c) (m (c, Proc.devRef .tc main_arg5)) (outs m c) (ix3 0 r n) = Ffn.out (Close.ffn (args m c)) r 0 n := by
  have hx : (Close.ffn (args m c)).X r 0 n = rows m c (ix3 r 0 n) := (rows_at m c r n).symm
  unfold Ffn.out Ret.rinv
  simp only [← outs_at, hx]
  pointwise [resA, mods1, res_main_v78]
  rfl

/-- The reference's result is the chain's. -/
theorem res_arr : resA (rows m c) (mods1 m c) (m (c, Proc.devRef .tc main_arg5)) (outs m c) = Ffn.rowsG (Close.ffn (args m c)) := by
  refine funext fun j => ?_
  have e : j = ix3 (0 : Fin 1) (j 1 : Fin 128) (j 2 : Fin 1024) := by
    funext a; match a with
    | ⟨0, _⟩ => exact Subsingleton.elim (α := Fin 1) _ _
    | ⟨1, _⟩ => rfl
    | ⟨2, _⟩ => rfl
  rw [e]
  exact res_at m c _ _

/-- The run, with its result named. -/
theorem run_named (ρ : Dev nD → PrngReg) :
    θ_run defs (onTc (τ := τ) (main (F := Ideal))) ⟨m, fun _ => 0, ρ⟩ fun r => ∀ c : Dev nD,
      r.2.mem (c, Proc.devRef .tc main_v136) = Ffn.rowsG (Close.ffn (args m c)) :=
  (θ_run _ _ _).mono (fun _ h c =>
      Eq.trans (b := resA (rows m c) (mods1 m c) (m (c, Proc.devRef .tc main_arg5)) (outs m c)) (h c).1 (res_arr m c))
    (run m ρ)

end Cert.Reference6Ideal.Value
-- ==== Proof.FiniteInputs.lean ====
/-
  The precondition, read back: every entry of the inputs that reach the retention state is a real number.
-/
module
public import proofs.«01_k».proof.Pre_finite_inputs
public import proofs.«01_k».proof.Proof.Layer
public import Idealize.ShloMosaic.Lib.ReduceAll
public import Idealize.ShloMosaic.Lib.Pointwise
@[expose] public section
set_option maxRecDepth 16384
noncomputable section
namespace Cert.Finite
open Idealize.ShloMosaic Cert.Pre_finite_inputs
open Cert.Ret (Inp R)

/-- The predicate's shapes fit. -/
theorem facts : Cert.Pre_finite_inputs.Facts where
  bcast_S_S8x2048x1024 := by decide
  reducesTo_S8x2048x1024_S_d0_1_2 := by decide
  h_S_ := by decide
  bcast_S_S8x3x1024 := by decide
  reducesTo_S8x3x1024_S_d0_1_2 := by decide
  bcast_S_S2x3x1024 := by decide
  reducesTo_S2x3x1024_S_d0_1_2 := by decide
  bcast_S_S1x1024x6144 := by decide
  reducesTo_S1x1024x6144_S_d0_1_2 := by decide

/-- The pattern of the positive infinity. -/
theorem ofBits_inf : Ideal.ofBits FTy.f32 0x7F800000#32 = (⊤ : EReal) := by
  simp [Ideal.ofBits, Ideal.ieee]

/-- A number whose absolute value is below infinity is a real one. -/
theorem real_of_lt (x : EReal) (h : BitVec.ofBool (decide (max x (-x) < (⊤ : EReal))) = 1#1) : R x := by
  have hlt : max x (-x) < (⊤ : EReal) := by
    by_contra hn
    rw [decide_eq_false hn] at h
    exact absurd h (by decide)
  obtain ⟨h1, h2⟩ := max_lt_iff.mp hlt
  induction x with
  | bot => exact absurd h2 (by simp)
  | top => exact absurd h1 (by simp)
  | coe r => exact ⟨r, rfl⟩

/-- One element of the predicate: its comparison came out true, so it is a real number. -/
theorem real_of_cmp {s : Shape} (x : FVec Ideal s .f32) (b : FVec Ideal s .f32) (i : s.Idx) (hb : b i = Ideal.ofBits FTy.f32 0x7F800000#32)
    (h : cmpf CmpFPredicate.olt (Host.absf x) b i = 1#1) : R (x i) := by
  have h' : FloatOps.cmpf (F := Ideal) (φ := FTy.f32) CmpFPredicate.olt (FloatOps.absf (F := Ideal) (φ := FTy.f32) (x i)) (b i) = 1#1 := h
  rw [hb, ofBits_inf] at h'
  refine real_of_lt (x i) ?_
  exact h'

/-- The predicate's one index. -/
instance : Subsingleton S_.Idx := ⟨fun a b => funext fun i => i.elim0⟩

variable [Cert.Pre_finite_inputs.Facts]

/-- Where the predicate holds, the inputs that reach the state are real. -/
theorem real_of_pre (x : FVec Ideal S8x2048x1024 .f32) (m : FVec Ideal S8x3x1024 .f32) (gp gq : FVec Ideal S2x3x1024 .f32)
    (wi : FVec Ideal S1x1024x6144 .f32) (wo : FVec Ideal S1x2048x1024 .f32)
    (h : fn x m gp gq wi wo = fun _ => 1#1) : (Inp.of x m gp gq wi wo).Real := by
  have h0 := congrFun h ix0
  dsimp only [fn, fn_part1] at h0
  change IntOp.andi (IntOp.andi (IntOp.andi (Host.reduce _ _ _ _ _ ix0) (Host.reduce _ _ _ _ _ ix0)) (Host.reduce _ _ _ _ _ ix0)) (Host.reduce _ _ _ _ _ ix0) = 1#1 at h0
  rw [IntOp.andi_eq_one, IntOp.andi_eq_one, IntOp.andi_eq_one] at h0
  obtain ⟨⟨⟨hx, hm⟩, hg⟩, hw⟩ := h0
  exact {
    X := fun b t n => real_of_cmp x _ _ rfl (Host.reduce_andi_all _ _ _ _ _ hx (ix3 b t n))
    M := fun b i n => real_of_cmp m _ _ rfl (Host.reduce_andi_all _ _ _ _ _ hm (ix3 b i n))
    GP := fun n => real_of_cmp gp _ _ rfl (Host.reduce_andi_all _ _ _ _ _ hg (ix3 1 1 n))
    WI := fun n c => real_of_cmp wi _ _ rfl (Host.reduce_andi_all _ _ _ _ _ hw (ix3 0 n c)) }
end Cert.Finite
-- ==== Proof.lean ====
/- The certificate of six programs: the retention and the feed-forward sublayers over the prompts, the feed-forward
   sublayer over the samples, the samples' pass before a pooling mixer, the samples' chain of three calls that ends in
   that pass (the modulation, the first feed-forward sublayer, the pass), and the samples' chain of three calls that ends the
   layer (the passes before and after retention, the last feed-forward sublayer). For each, the kernel, at its bits and
   with exact floats, and the reference run, leave their arguments unchanged and their counters at zero; and the exact
   kernel is the kernel's own text. On finite inputs the exact retention kernel and its exact reference end with the same
   two results, both equal to the recurrence over the tokens stated in `Proof.Layer`. On every input the exact
   feed-forward kernels and their exact references end with the same result, the arrays stated in `Proof.Ffn`, and the
   exact kernel of the samples' pass and its exact reference with the same results, the arrays stated in `Proof.Pre`; and so the
   first exact chain and its exact reference, the same arrays of the chain's own inputs, stated in `Proof.KeptMath`, and the
   second exact chain and its exact reference, the array stated in `Proof.CloseMath`. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import Idealize.ShloMosaic.Adequacy
public import Idealize.ShloMosaic.Init
public import proofs.«01_k».proof.Proof.KernelArr
public import proofs.«01_k».proof.Proof.RefKept
public import proofs.«01_k».proof.Proof.FfnKernel
public import proofs.«01_k».proof.Proof.FfnRef
public import proofs.«01_k».proof.Proof.FfnLast
public import proofs.«01_k».proof.Proof.FfnLastRef
public import proofs.«01_k».proof.Proof.PreKernel
public import proofs.«01_k».proof.Proof.PreRef
public import proofs.«01_k».proof.Proof.Kept
public import proofs.«01_k».proof.Proof.KeptRef
public import proofs.«01_k».proof.Proof.Close
public import proofs.«01_k».proof.Proof.CloseRef
public import proofs.«01_k».proof.Proof.FiniteInputs
public import Idealize.ShloMosaic.Lib.Quiescent

@[expose] public section

set_option maxRecDepth 16384

noncomputable section

namespace Cert.Proof

open Idealize.ShloMosaic Idealize.ShloMosaic.TcCoe Idealize.SL.Sem
open Idealize.ShloMosaic.Pipeline Idealize.ShloMosaic.StableHlo

/-! ## The reference -/

section reference
open Cert.ReferenceIdeal Cert.ReferenceIdeal.Gen Cert.ReferenceIdeal.Value

variable (m : (ℓ : Loc nD τ sig) → Buf (Elt Ideal) ℓ) (g : Dev nD → PrngReg)

/-- The reference's run, each buffer at the value its operations leave. -/
theorem ref_args : θ_run (defs (F := Ideal)) (onTc (τ := τ) (main (F := Ideal))) ⟨m, fun _ => 0, g⟩ (fun r => ∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)) :=
  (θ_run _ _ _).mono (fun _ h c => ⟨(h c main_arg0 rfl).trans (final_arg0 m c), (h c main_arg1 rfl).trans (final_arg1 m c),
    (h c main_arg2 rfl).trans (final_arg2 m c), (h c main_arg3 rfl).trans (final_arg3 m c),
    (h c main_arg4 rfl).trans (final_arg4 m c), (h c main_arg5 rfl).trans (final_arg5 m c)⟩) (run_fold m g)

/-- The reference's frame: it has no counters. -/
theorem ref_frame : Cert.quiescent_ReferenceIdeal (hReferenceIdeal := facts) := fun m g _ =>
  (θ_run _ _ _).mono (fun r h => ⟨h, sem_eq_zero_of_no_sems rfl r.2⟩) (ref_args m g)

/-- The reference's first result, as an array. -/
theorem ref_out (c : Dev nD) (hI : (inp m c).Real) :
    finalContents condOps preI bodyI postI 16 m c (Proc.devRef .tc main_v162) = Cert.KernelIdeal.Value.xoG (inp m c) := by
  refine funext fun j => ?_
  have e : j = ix3 (j 0 : Fin 8) (j 1 : Fin 2048) (j 2 : Fin 1024) := by
    funext a; match a with
    | ⟨0, _⟩ => rfl
    | ⟨1, _⟩ => rfl
    | ⟨2, _⟩ => rfl
  rw [e]
  exact final_out m c hI _ _ _

/-- The reference's second result, as an array. -/
theorem ref_state (c : Dev nD) (hI : (inp m c).Real) :
    finalContents condOps preI bodyI postI 16 m c (Proc.devRef .tc main_v115_5) = Cert.KernelIdeal.Value.finG (inp m c) := by
  refine funext fun j => ?_
  have e : j = ix4 (j 0 : Fin 8) (j 1 : Fin 4) (j 2 : Fin 256) (j 3 : Fin 512) := by
    funext a; match a with
    | ⟨0, _⟩ => rfl
    | ⟨1, _⟩ => rfl
    | ⟨2, _⟩ => rfl
    | ⟨3, _⟩ => rfl
  rw [e]
  exact final_state m c hI _ _ _ _

end reference

/-! ## The two runs -/

/-- On finite inputs the exact kernel and the exact reference end with the same results. -/
theorem equal : Cert.algebraic_KernelIdeal_ReferenceIdeal_pre_finite_inputs (hKernelIdeal := Cert.KernelIdeal.Gen.facts)
    (hReferenceIdeal := Cert.ReferenceIdeal.Gen.facts) (hPre_finite_inputs := Cert.Finite.facts) := by
  intro m g m' g' hpre hargs
  have hsame : ∀ c, Cert.ReferenceIdeal.Value.inp m' c = Cert.KernelIdeal.Value.inpK m c := fun c => by
    obtain ⟨h0, h1, h2, h3, h4, h5⟩ := hargs c
    unfold Cert.ReferenceIdeal.Value.inp Cert.KernelIdeal.Value.inpK
    congr 1
  have hI : ∀ c, (Cert.KernelIdeal.Value.inpK m c).Real := fun c =>
    @Cert.Finite.real_of_pre Cert.Finite.facts _ _ _ _ _ _ (hpre c)
  refine ⟨fun c => Cert.KernelIdeal.Value.xoG (Cert.KernelIdeal.Value.inpK m c),
    fun c => Cert.KernelIdeal.Value.finG (Cert.KernelIdeal.Value.inpK m c), ?_, ?_⟩
  · exact (θ_run _ _ _).mono (fun r h c => ⟨(h c).1.trans (Cert.KernelIdeal.Value.arr12 m c (hI c)),
      (h c).2.1.trans (Cert.KernelIdeal.Value.arr13 m c (hI c)), (h c).2.2⟩) (Cert.KernelIdeal.Value.run_blocks m g)
  · refine (θ_run _ _ _).mono (fun r h c => ?_) (θ_run_and (Cert.ReferenceIdeal.Value.run_fold m' g') (ref_args m' g'))
    have hR : (Cert.ReferenceIdeal.Value.inp m' c).Real := (hsame c) ▸ hI c
    exact ⟨(h.1 c Cert.ReferenceIdeal.main_v162 rfl).trans ((ref_out m' c hR).trans (congrArg Cert.KernelIdeal.Value.xoG (hsame c))),
      (h.1 c Cert.ReferenceIdeal.main_v115_5 rfl).trans ((ref_state m' c hR).trans (congrArg Cert.KernelIdeal.Value.finG (hsame c))),
      h.2 c⟩

/-! ## The feed-forward sublayer -/

/-- The feed-forward reference's frame: it has no counters. -/
theorem ref2_frame : Cert.quiescent_Reference2Ideal (hReference2Ideal := Cert.Reference2Ideal.Gen.facts) := fun m g _ =>
  (θ_run _ _ _).mono (fun r h => ⟨fun c => (h c).2, sem_eq_zero_of_no_sems rfl r.2⟩) (Cert.Reference2Ideal.Value.run m g)

/-- The exact feed-forward kernel and the exact reference end with the same result. -/
theorem equal2 : Cert.algebraic_Kernel2Ideal_Reference2Ideal (hKernel2Ideal := Cert.Kernel2Ideal.Gen.facts)
    (hReference2Ideal := Cert.Reference2Ideal.Gen.facts) := by
  intro m g m' g' _ hargs
  have hsame : ∀ c, Cert.Reference2Ideal.Value.inp m' c = Cert.Kernel2Ideal.Value.inpK m c := fun c => by
    obtain ⟨h0, h1, h2, h3, h4, h5⟩ := hargs c
    unfold Cert.Reference2Ideal.Value.inp Cert.Kernel2Ideal.Value.inpK
    congr 1
  refine ⟨fun c => Cert.Ffn.outG (Cert.Kernel2Ideal.Value.inpK m c), ?_, ?_⟩
  · exact (θ_run _ _ _).mono (fun r h c => ⟨(h c).1.trans (Cert.Kernel2Ideal.Value.arr6 m c), (h c).2⟩)
      (Cert.Kernel2Ideal.Value.run_blocks m g)
  · exact (θ_run _ _ _).mono (fun r h c => ⟨(h c).1.trans ((Cert.Reference2Ideal.Value.res_arr m' c).trans
      (congrArg Cert.Ffn.outG (hsame c))), (h c).2⟩) (Cert.Reference2Ideal.Value.run m' g')

/-! ## The feed-forward sublayer over the samples -/

/-- The frame of the feed-forward reference over the samples: it has no counters. -/
theorem ref3_frame : Cert.quiescent_Reference3Ideal (hReference3Ideal := Cert.Reference3Ideal.Gen.facts) := fun m g _ =>
  (θ_run _ _ _).mono (fun r h => ⟨fun c => (h c).2, sem_eq_zero_of_no_sems rfl r.2⟩) (Cert.Reference3Ideal.Value.run m g)

/-- Over the samples the exact feed-forward kernel and the exact reference end with the same result. -/
theorem equal3 : Cert.algebraic_Kernel3Ideal_Reference3Ideal (hKernel3Ideal := Cert.Kernel3Ideal.Gen.facts)
    (hReference3Ideal := Cert.Reference3Ideal.Gen.facts) := by
  intro m g m' g' _ hargs
  have hsame : ∀ c, Cert.Reference3Ideal.Value.inp m' c = Cert.Kernel3Ideal.Value.inpK m c := fun c => by
    obtain ⟨h0, h1, h2, h3, h4, h5⟩ := hargs c
    unfold Cert.Reference3Ideal.Value.inp Cert.Kernel3Ideal.Value.inpK
    congr 1
  refine ⟨fun c => Cert.Ffn.rowsG (Cert.Kernel3Ideal.Value.inpK m c), ?_, ?_⟩
  · exact (θ_run _ _ _).mono (fun r h c => ⟨(h c).1.trans (Cert.Kernel3Ideal.Value.arr6 m c), (h c).2⟩)
      (Cert.Kernel3Ideal.Value.run_blocks m g)
  · exact (θ_run _ _ _).mono (fun r h c => ⟨(h c).1.trans ((Cert.Reference3Ideal.Value.res_arr m' c).trans
      (congrArg Cert.Ffn.rowsG (hsame c))), (h c).2⟩) (Cert.Reference3Ideal.Value.run m' g')

/-! ## The samples' pass before a pooling mixer -/

/-- The frame of the pass's reference: it has no counters. -/
theorem ref4_frame : Cert.quiescent_Reference4Ideal (hReference4Ideal := Cert.Reference4Ideal.Gen.facts) := fun m g _ =>
  (θ_run _ _ _).mono (fun r h => ⟨fun c => (h c).2.2.2.2, sem_eq_zero_of_no_sems rfl r.2⟩) (Cert.Reference4Ideal.Value.run m g)

/-- The exact kernel of the pass and its exact reference end with the same four results. -/
theorem equal4 : Cert.algebraic_Kernel4Ideal_Reference4Ideal (hKernel4Ideal := Cert.Kernel4Ideal.Gen.facts)
    (hReference4Ideal := Cert.Reference4Ideal.Gen.facts) := by
  intro m g m' g' _ hargs
  have hsame : ∀ c, Cert.Reference4Ideal.Value.inp m' c = Cert.Kernel4Ideal.Value.inpK m c := fun c => by
    obtain ⟨h0, h1, h2, h3, h4, _⟩ := hargs c
    unfold Cert.Reference4Ideal.Value.inp Cert.Kernel4Ideal.Value.inpK
    congr 1
  refine ⟨fun c => Cert.Pre.qG (Cert.Kernel4Ideal.Value.inpK m c), fun c => Cert.Pre.kG (Cert.Kernel4Ideal.Value.inpK m c),
    fun c => Cert.Pre.vG (Cert.Kernel4Ideal.Value.inpK m c), fun c => Cert.Pre.uG (Cert.Kernel4Ideal.Value.inpK m c), ?_, ?_⟩
  · exact (θ_run _ _ _).mono (fun r h c => ⟨(h c).1.trans (Cert.Kernel4Ideal.Value.arr7 m c),
      (h c).2.1.trans (Cert.Kernel4Ideal.Value.arr8 m c), (h c).2.2.1.trans (Cert.Kernel4Ideal.Value.arr9 m c),
      (h c).2.2.2.1.trans (Cert.Kernel4Ideal.Value.arr10 m c), (h c).2.2.2.2.2⟩) (Cert.Kernel4Ideal.Value.run_blocks m g)
  · exact (θ_run _ _ _).mono (fun r h c => ⟨(h.1 c).1.trans (congrArg Cert.Pre.qG (hsame c)),
      (h.1 c).2.1.trans (congrArg Cert.Pre.kG (hsame c)), (h.1 c).2.2.1.trans (congrArg Cert.Pre.vG (hsame c)),
      (h.1 c).2.2.2.trans (congrArg Cert.Pre.uG (hsame c)), (h.2 c).2.2.2.2⟩)
      (θ_run_and (Cert.Reference4Ideal.Value.run_named m' g') (Cert.Reference4Ideal.Value.run m' g'))

/-! ## The samples' chain from its own inputs to the arrays it keeps -/

/-- The frame of the chain's reference: it has no counters. -/
theorem ref5_frame : Cert.quiescent_Reference5Ideal (hReference5Ideal := Cert.Reference5Ideal.Gen.facts) := fun m g _ =>
  (θ_run _ _ _).mono (fun r h => ⟨fun c => (h c).2.2.2, sem_eq_zero_of_no_sems rfl r.2⟩) (Cert.Reference5Ideal.Value.run m g)

/-- The exact chain of three calls and its exact reference end with the same three results. -/
theorem equal5 : Cert.algebraic_Kernel5Ideal_Reference5Ideal (hKernel5Ideal := Cert.Kernel5Ideal.Gen.facts)
    (hReference5Ideal := Cert.Reference5Ideal.Gen.facts) := by
  intro m g m' g' _ hargs
  have hsame : ∀ c, Cert.Kept.pre (Cert.Reference5Ideal.Value.args m' c) = Cert.Kept.pre (Cert.Kernel5Ideal.Value.args m c) :=
    fun c => by
      obtain ⟨h0, h1, h2, h3, h4, h5, h6, h7, h8, h9, h10, _⟩ := hargs c
      refine congrArg Cert.Kept.pre ?_
      unfold Cert.Reference5Ideal.Value.args Cert.Kernel5Ideal.Value.args
      congr 1
  refine ⟨fun c => Cert.Pre.kG (Cert.Kept.pre (Cert.Kernel5Ideal.Value.args m c)),
    fun c => Cert.Pre.vG (Cert.Kept.pre (Cert.Kernel5Ideal.Value.args m c)),
    fun c => Cert.Pre.uG (Cert.Kept.pre (Cert.Kernel5Ideal.Value.args m c)), ?_, ?_⟩
  · exact (θ_run _ _ _).mono (fun r h c => ⟨(h.1 c).1, (h.1 c).2.1, (h.1 c).2.2, h.2.1 c⟩)
      (θ_run_and (Cert.Kernel5Ideal.Value.run_named m g) (Cert.Kernel5Ideal.Gen.frame m g))
  · exact (θ_run _ _ _).mono (fun r h c => ⟨(h.1 c).1.trans (congrArg Cert.Pre.kG (hsame c)),
      (h.1 c).2.1.trans (congrArg Cert.Pre.vG (hsame c)), (h.1 c).2.2.trans (congrArg Cert.Pre.uG (hsame c)),
      (h.2 c).2.2.2⟩)
      (θ_run_and (Cert.Reference5Ideal.Value.run_named m' g') (Cert.Reference5Ideal.Value.run m' g'))

/-- The reference of the samples' closing chain keeps its arguments and settles. -/
theorem ref6_frame : Cert.quiescent_Reference6Ideal (hReference6Ideal := Cert.Reference6Ideal.Gen.facts) := fun m g _ =>
  (θ_run _ _ _).mono (fun r h => ⟨fun c => (h c).2, sem_eq_zero_of_no_sems rfl r.2⟩) (Cert.Reference6Ideal.Value.run m g)

/-- The exact closing chain of three calls and its exact reference end with the same result. -/
theorem equal6 : Cert.algebraic_Kernel6Ideal_Reference6Ideal (hKernel6Ideal := Cert.Kernel6Ideal.Gen.facts)
    (hReference6Ideal := Cert.Reference6Ideal.Gen.facts) := by
  intro m g m' g' _ hargs
  have hsame : ∀ c, Cert.Close.ffn (Cert.Reference6Ideal.Value.args m' c) = Cert.Close.ffn (Cert.Kernel6Ideal.Value.args m c) :=
    fun c => by
      obtain ⟨h0, h1, h2, h3, h4, h5, h6, h7, h8, h9⟩ := hargs c
      refine congrArg Cert.Close.ffn ?_
      unfold Cert.Reference6Ideal.Value.args Cert.Kernel6Ideal.Value.args
      congr 1
  refine ⟨fun c => Cert.Ffn.rowsG (Cert.Close.ffn (Cert.Kernel6Ideal.Value.args m c)), ?_, ?_⟩
  · exact (θ_run _ _ _).mono (fun r h c => ⟨h.1 c, h.2.1 c⟩)
      (θ_run_and (Cert.Kernel6Ideal.Value.run_named m g) (Cert.Kernel6Ideal.Gen.frame m g))
  · exact (θ_run _ _ _).mono (fun r h c => ⟨(h.1 c).trans (congrArg Cert.Ffn.rowsG (hsame c)), (h.2 c).2⟩)
      (θ_run_and (Cert.Reference6Ideal.Value.run_named m' g') (Cert.Reference6Ideal.Value.run m' g'))

/-- Everything the certificate claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Finite.facts,
    fun m g _ => Cert.Kernel.Gen.frame m g, fun m g _ => Cert.KernelIdeal.Gen.frame m g,
    fun m g _ => Cert.KernelIdeal.Gen.frame m g, ref_frame, fun m g _ => ref_frame m g trivial,
    fun m g _ => Cert.Kernel2.Gen.frame m g, fun m g _ => Cert.Kernel2Ideal.Gen.frame m g, ref2_frame,
    fun m g _ => Cert.Kernel3.Gen.frame m g, fun m g _ => Cert.Kernel3Ideal.Gen.frame m g, ref3_frame,
    fun m g _ => Cert.Kernel4.Gen.frame m g, fun m g _ => Cert.Kernel4Ideal.Gen.frame m g, ref4_frame,
    fun m g _ => Cert.Kernel5.Gen.frame m g, fun m g _ => Cert.Kernel5Ideal.Gen.frame m g, ref5_frame,
    fun m g _ => Cert.Kernel6.Gen.frame m g, fun m g _ => Cert.Kernel6Ideal.Gen.frame m g, ref6_frame,
    trivial, equal, trivial, equal2, trivial, equal3, trivial, equal4, trivial, equal5, trivial, equal6⟩

end Cert.Proof

end
